-- ==== Defs.lean ====
def Pre_Retention (m : (ℓ : Loc Cert.Retention.nD Cert.Retention.τ Cert.Retention.sig) → Buf (Elt Bits) ℓ) : Prop :=
  True

def Pre_RetentionIdeal (m : (ℓ : Loc Cert.RetentionIdeal.nD Cert.RetentionIdeal.τ Cert.RetentionIdeal.sig) → Buf (Elt Ideal) ℓ) : Prop :=
  True

def Pre_RetentionRefIdeal (m : (ℓ : Loc Cert.RetentionRefIdeal.nD Cert.RetentionRefIdeal.τ Cert.RetentionRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_RetV (m : (ℓ : Loc Cert.RetV.nD Cert.RetV.τ Cert.RetV.sig) → Buf (Elt Bits) ℓ) : Prop :=
  True

def Pre_RetVIdeal (m : (ℓ : Loc Cert.RetVIdeal.nD Cert.RetVIdeal.τ Cert.RetVIdeal.sig) → Buf (Elt Ideal) ℓ) : Prop :=
  True

def Pre_RetVRefIdeal (m : (ℓ : Loc Cert.RetVRefIdeal.nD Cert.RetVRefIdeal.τ Cert.RetVRefIdeal.sig) → Buf (Elt Ideal) ℓ) : Prop :=
  True

def Pre_RetGate (m : (ℓ : Loc Cert.RetGate.nD Cert.RetGate.τ Cert.RetGate.sig) → Buf (Elt Bits) ℓ) : Prop :=
  True

def Pre_RetGateIdeal (m : (ℓ : Loc Cert.RetGateIdeal.nD Cert.RetGateIdeal.τ Cert.RetGateIdeal.sig) → Buf (Elt Ideal) ℓ) : Prop :=
  True

def Pre_RetGateRefIdeal (m : (ℓ : Loc Cert.RetGateRefIdeal.nD Cert.RetGateRefIdeal.τ Cert.RetGateRefIdeal.sig) → Buf (Elt Ideal) ℓ) : Prop :=
  True

def Pre_RetQ (m : (ℓ : Loc Cert.RetQ.nD Cert.RetQ.τ Cert.RetQ.sig) → Buf (Elt Bits) ℓ) : Prop :=
  True

def Pre_RetQIdeal (m : (ℓ : Loc Cert.RetQIdeal.nD Cert.RetQIdeal.τ Cert.RetQIdeal.sig) → Buf (Elt Ideal) ℓ) : Prop :=
  True

def Pre_RetQRefIdeal (m : (ℓ : Loc Cert.RetQRefIdeal.nD Cert.RetQRefIdeal.τ Cert.RetQRefIdeal.sig) → Buf (Elt Ideal) ℓ) : Prop :=
  True

def Pre_RetK (m : (ℓ : Loc Cert.RetK.nD Cert.RetK.τ Cert.RetK.sig) → Buf (Elt Bits) ℓ) : Prop :=
  True

def Pre_RetKIdeal (m : (ℓ : Loc Cert.RetKIdeal.nD Cert.RetKIdeal.τ Cert.RetKIdeal.sig) → Buf (Elt Ideal) ℓ) : Prop :=
  True

def Pre_RetKRefIdeal (m : (ℓ : Loc Cert.RetKRefIdeal.nD Cert.RetKRefIdeal.τ Cert.RetKRefIdeal.sig) → Buf (Elt Ideal) ℓ) : Prop :=
  True

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetOutRefIdeal (m : (ℓ : Loc Cert.RetOutRefIdeal.nD Cert.RetOutRefIdeal.τ Cert.RetOutRefIdeal.sig) → Buf (Elt Ideal) ℓ) : Prop :=
  True

def Pre_MobaOut (m : (ℓ : Loc Cert.MobaOut.nD Cert.MobaOut.τ Cert.MobaOut.sig) → Buf (Elt Bits) ℓ) : Prop :=
  True

def Pre_MobaOutIdeal (m : (ℓ : Loc Cert.MobaOutIdeal.nD Cert.MobaOutIdeal.τ Cert.MobaOutIdeal.sig) → Buf (Elt Ideal) ℓ) : Prop :=
  True

def Pre_MobaOutRefIdeal (m : (ℓ : Loc Cert.MobaOutRefIdeal.nD Cert.MobaOutRefIdeal.τ Cert.MobaOutRefIdeal.sig) → Buf (Elt Ideal) ℓ) : Prop :=
  True

def Pre_MobaQkv (m : (ℓ : Loc Cert.MobaQkv.nD Cert.MobaQkv.τ Cert.MobaQkv.sig) → Buf (Elt Bits) ℓ) : Prop :=
  True

def Pre_MobaQkvIdeal (m : (ℓ : Loc Cert.MobaQkvIdeal.nD Cert.MobaQkvIdeal.τ Cert.MobaQkvIdeal.sig) → Buf (Elt Ideal) ℓ) : Prop :=
  True

def Pre_MobaQkvRefIdeal (m : (ℓ : Loc Cert.MobaQkvRefIdeal.nD Cert.MobaQkvRefIdeal.τ Cert.MobaQkvRefIdeal.sig) → Buf (Elt Ideal) ℓ) : Prop :=
  True

def quiescent_Retention [hRetention : Cert.Retention.Facts] : Prop :=
  ∀ (m : (ℓ : Loc Cert.Retention.nD Cert.Retention.τ Cert.Retention.sig) → Buf (Elt Bits) ℓ) (g : Dev Cert.Retention.nD → PrngReg), Pre_Retention m →
    θ_run (Cert.Retention.defs (F := Bits)) (onTc (τ := Cert.Retention.τ) (Cert.Retention.main (F := Bits))) ⟨m, fun _ => 0, g⟩ (fun r => (∀ c : Dev Cert.Retention.nD,
      r.2.mem ((c.tc : Thread Cert.Retention.nD Cert.Retention.τ).loc Cert.Retention.main_arg0) = m ((c.tc : Thread Cert.Retention.nD Cert.Retention.τ).loc Cert.Retention.main_arg0)
      ∧ r.2.mem ((c.tc : Thread Cert.Retention.nD Cert.Retention.τ).loc Cert.Retention.main_arg1) = m ((c.tc : Thread Cert.Retention.nD Cert.Retention.τ).loc Cert.Retention.main_arg1)
      ∧ r.2.mem ((c.tc : Thread Cert.Retention.nD Cert.Retention.τ).loc Cert.Retention.main_arg2) = m ((c.tc : Thread Cert.Retention.nD Cert.Retention.τ).loc Cert.Retention.main_arg2)
      ∧ r.2.mem ((c.tc : Thread Cert.Retention.nD Cert.Retention.τ).loc Cert.Retention.main_arg3) = m ((c.tc : Thread Cert.Retention.nD Cert.Retention.τ).loc Cert.Retention.main_arg3))
      ∧ r.2.sem = fun _ => 0)

def quiescent_RetentionIdeal [hRetentionIdeal : Cert.RetentionIdeal.Facts] : Prop :=
  ∀ (m : (ℓ : Loc Cert.RetentionIdeal.nD Cert.RetentionIdeal.τ Cert.RetentionIdeal.sig) → Buf (Elt Ideal) ℓ) (g : Dev Cert.RetentionIdeal.nD → PrngReg), Pre_RetentionIdeal m →
    θ_run (Cert.RetentionIdeal.defs (F := Ideal)) (onTc (τ := Cert.RetentionIdeal.τ) (Cert.RetentionIdeal.main (F := Ideal))) ⟨m, fun _ => 0, g⟩ (fun r => (∀ c : Dev Cert.RetentionIdeal.nD,
      r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0)
      ∧ r.2.mem ((c.tc : Thread Cert.RetentionIdeal.nD Cert.RetentionIdeal.τ).loc Cert.RetentionIdeal.main_arg1) = m ((c.tc : Thread Cert.RetentionIdeal.nD Cert.RetentionIdeal.τ).loc Cert.RetentionIdeal.main_arg1)
      ∧ r.2.mem ((c.tc : Thread Cert.RetentionIdeal.nD Cert.RetentionIdeal.τ).loc Cert.RetentionIdeal.main_arg2) = m ((c.tc : Thread Cert.RetentionIdeal.nD Cert.RetentionIdeal.τ).loc Cert.RetentionIdeal.main_arg2)
      ∧ r.2.mem ((c.tc : Thread Cert.RetentionIdeal.nD Cert.RetentionIdeal.τ).loc Cert.RetentionIdeal.main_arg3) = m ((c.tc : Thread Cert.RetentionIdeal.nD Cert.RetentionIdeal.τ).loc Cert.RetentionIdeal.main_arg3))
      ∧ r.2.sem = fun _ => 0)

def quiescent_RetentionRefIdeal [hRetentionRefIdeal : Cert.RetentionRefIdeal.Facts] : Prop :=
  ∀ (m : (ℓ : Loc Cert.RetentionRefIdeal.nD Cert.RetentionRefIdeal.τ Cert.RetentionRefIdeal.sig) → Buf (Elt Ideal) ℓ) (g : Dev Cert.RetentionRefIdeal.nD → PrngReg), Pre_RetentionRefIdeal m →
    θ_run (Cert.RetentionRefIdeal.defs (F := Ideal)) (onTc (τ := Cert.RetentionRefIdeal.τ) (Cert.RetentionRefIdeal.main (F := Ideal))) ⟨m, fun _ => 0, g⟩ (fun r => (∀ c : Dev Cert.RetentionRefIdeal.nD,
      r.2.mem ((c.tc : Thread Cert.RetentionRefIdeal.nD Cert.RetentionRefIdeal.τ).loc Cert.RetentionRefIdeal.main_arg0) = m ((c.tc : Thread Cert.RetentionRefIdeal.nD Cert.RetentionRefIdeal.τ).loc Cert.RetentionRefIdeal.main_arg0)
      ∧ r.2.mem ((c.tc : Thread Cert.RetentionRefIdeal.nD Cert.RetentionRefIdeal.τ).loc Cert.RetentionRefIdeal.main_arg1) = m ((c.tc : Thread Cert.RetentionRefIdeal.nD Cert.RetentionRefIdeal.τ).loc Cert.RetentionRefIdeal.main_arg1)
      ∧ r.2.mem ((c.tc : Thread Cert.RetentionRefIdeal.nD Cert.RetentionRefIdeal.τ).loc Cert.RetentionRefIdeal.main_arg2) = m ((c.tc : Thread Cert.RetentionRefIdeal.nD Cert.RetentionRefIdeal.τ).loc Cert.RetentionRefIdeal.main_arg2)
      ∧ r.2.mem ((c.tc : Thread Cert.RetentionRefIdeal.nD Cert.RetentionRefIdeal.τ).loc Cert.RetentionRefIdeal.main_arg3) = m ((c.tc : Thread Cert.RetentionRefIdeal.nD Cert.RetentionRefIdeal.τ).loc Cert.RetentionRefIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4))
      ∧ r.2.sem = fun _ => 0)

def quiescent_RetV [hRetV : Cert.RetV.Facts] : Prop :=
  ∀ (m : (ℓ : Loc Cert.RetV.nD Cert.RetV.τ Cert.RetV.sig) → Buf (Elt Bits) ℓ) (g : Dev Cert.RetV.nD → PrngReg), Pre_RetV m →
    θ_run (Cert.RetV.defs (F := Bits)) (onTc (τ := Cert.RetV.τ) (Cert.RetV.main (F := Bits))) ⟨m, fun _ => 0, g⟩ (fun r => (∀ c : Dev Cert.RetV.nD,
      r.2.mem ((c.tc : Thread Cert.RetV.nD Cert.RetV.τ).loc Cert.RetV.main_arg0) = m ((c.tc : Thread Cert.RetV.nD Cert.RetV.τ).loc Cert.RetV.main_arg0)
      ∧ r.2.mem ((c.tc : Thread Cert.RetV.nD Cert.RetV.τ).loc Cert.RetV.main_arg1) = m ((c.tc : Thread Cert.RetV.nD Cert.RetV.τ).loc Cert.RetV.main_arg1))
      ∧ r.2.sem = fun _ => 0)

def quiescent_RetVIdeal [hRetVIdeal : Cert.RetVIdeal.Facts] : Prop :=
  ∀ (m : (ℓ : Loc Cert.RetVIdeal.nD Cert.RetVIdeal.τ Cert.RetVIdeal.sig) → Buf (Elt Ideal) ℓ) (g : Dev Cert.RetVIdeal.nD → PrngReg), Pre_RetVIdeal m →
    θ_run (Cert.RetVIdeal.defs (F := Ideal)) (onTc (τ := Cert.RetVIdeal.τ) (Cert.RetVIdeal.main (F := Ideal))) ⟨m, fun _ => 0, g⟩ (fun r => (∀ c : Dev Cert.RetVIdeal.nD,
      r.2.mem ((c.tc : Thread Cert.RetVIdeal.nD Cert.RetVIdeal.τ).loc Cert.RetVIdeal.main_arg0) = m ((c.tc : Thread Cert.RetVIdeal.nD Cert.RetVIdeal.τ).loc Cert.RetVIdeal.main_arg0)
      ∧ r.2.mem ((c.tc : Thread Cert.RetVIdeal.nD Cert.RetVIdeal.τ).loc Cert.RetVIdeal.main_arg1) = m ((c.tc : Thread Cert.RetVIdeal.nD Cert.RetVIdeal.τ).loc Cert.RetVIdeal.main_arg1))
      ∧ r.2.sem = fun _ => 0)

def quiescent_RetVRefIdeal [hRetVRefIdeal : Cert.RetVRefIdeal.Facts] : Prop :=
  ∀ (m : (ℓ : Loc Cert.RetVRefIdeal.nD Cert.RetVRefIdeal.τ Cert.RetVRefIdeal.sig) → Buf (Elt Ideal) ℓ) (g : Dev Cert.RetVRefIdeal.nD → PrngReg), Pre_RetVRefIdeal m →
    θ_run (Cert.RetVRefIdeal.defs (F := Ideal)) (onTc (τ := Cert.RetVRefIdeal.τ) (Cert.RetVRefIdeal.main (F := Ideal))) ⟨m, fun _ => 0, g⟩ (fun r => (∀ c : Dev Cert.RetVRefIdeal.nD,
      r.2.mem ((c.tc : Thread Cert.RetVRefIdeal.nD Cert.RetVRefIdeal.τ).loc Cert.RetVRefIdeal.main_arg0) = m ((c.tc : Thread Cert.RetVRefIdeal.nD Cert.RetVRefIdeal.τ).loc Cert.RetVRefIdeal.main_arg0)
      ∧ r.2.mem ((c.tc : Thread Cert.RetVRefIdeal.nD Cert.RetVRefIdeal.τ).loc Cert.RetVRefIdeal.main_arg1) = m ((c.tc : Thread Cert.RetVRefIdeal.nD Cert.RetVRefIdeal.τ).loc Cert.RetVRefIdeal.main_arg1))
      ∧ r.2.sem = fun _ => 0)

def quiescent_RetGate [hRetGate : Cert.RetGate.Facts] : Prop :=
  ∀ (m : (ℓ : Loc Cert.RetGate.nD Cert.RetGate.τ Cert.RetGate.sig) → Buf (Elt Bits) ℓ) (g : Dev Cert.RetGate.nD → PrngReg), Pre_RetGate m →
    θ_run (Cert.RetGate.defs (F := Bits)) (onTc (τ := Cert.RetGate.τ) (Cert.RetGate.main (F := Bits))) ⟨m, fun _ => 0, g⟩ (fun r => (∀ c : Dev Cert.RetGate.nD,
      r.2.mem ((c.tc : Thread Cert.RetGate.nD Cert.RetGate.τ).loc Cert.RetGate.main_arg0) = m ((c.tc : Thread Cert.RetGate.nD Cert.RetGate.τ).loc Cert.RetGate.main_arg0)
      ∧ r.2.mem ((c.tc : Thread Cert.RetGate.nD Cert.RetGate.τ).loc Cert.RetGate.main_arg1) = m ((c.tc : Thread Cert.RetGate.nD Cert.RetGate.τ).loc Cert.RetGate.main_arg1))
      ∧ r.2.sem = fun _ => 0)

def quiescent_RetGateIdeal [hRetGateIdeal : Cert.RetGateIdeal.Facts] : Prop :=
  ∀ (m : (ℓ : Loc Cert.RetGateIdeal.nD Cert.RetGateIdeal.τ Cert.RetGateIdeal.sig) → Buf (Elt Ideal) ℓ) (g : Dev Cert.RetGateIdeal.nD → PrngReg), Pre_RetGateIdeal m →
    θ_run (Cert.RetGateIdeal.defs (F := Ideal)) (onTc (τ := Cert.RetGateIdeal.τ) (Cert.RetGateIdeal.main (F := Ideal))) ⟨m, fun _ => 0, g⟩ (fun r => (∀ c : Dev Cert.RetGateIdeal.nD,
      r.2.mem ((c.tc : Thread Cert.RetGateIdeal.nD Cert.RetGateIdeal.τ).loc Cert.RetGateIdeal.main_arg0) = m ((c.tc : Thread Cert.RetGateIdeal.nD Cert.RetGateIdeal.τ).loc Cert.RetGateIdeal.main_arg0)
      ∧ r.2.mem ((c.tc : Thread Cert.RetGateIdeal.nD Cert.RetGateIdeal.τ).loc Cert.RetGateIdeal.main_arg1) = m ((c.tc : Thread Cert.RetGateIdeal.nD Cert.RetGateIdeal.τ).loc Cert.RetGateIdeal.main_arg1))
      ∧ r.2.sem = fun _ => 0)

def quiescent_RetGateRefIdeal [hRetGateRefIdeal : Cert.RetGateRefIdeal.Facts] : Prop :=
  ∀ (m : (ℓ : Loc Cert.RetGateRefIdeal.nD Cert.RetGateRefIdeal.τ Cert.RetGateRefIdeal.sig) → Buf (Elt Ideal) ℓ) (g : Dev Cert.RetGateRefIdeal.nD → PrngReg), Pre_RetGateRefIdeal m →
    θ_run (Cert.RetGateRefIdeal.defs (F := Ideal)) (onTc (τ := Cert.RetGateRefIdeal.τ) (Cert.RetGateRefIdeal.main (F := Ideal))) ⟨m, fun _ => 0, g⟩ (fun r => (∀ c : Dev Cert.RetGateRefIdeal.nD,
      r.2.mem ((c.tc : Thread Cert.RetGateRefIdeal.nD Cert.RetGateRefIdeal.τ).loc Cert.RetGateRefIdeal.main_arg0) = m ((c.tc : Thread Cert.RetGateRefIdeal.nD Cert.RetGateRefIdeal.τ).loc Cert.RetGateRefIdeal.main_arg0)
      ∧ r.2.mem ((c.tc : Thread Cert.RetGateRefIdeal.nD Cert.RetGateRefIdeal.τ).loc Cert.RetGateRefIdeal.main_arg1) = m ((c.tc : Thread Cert.RetGateRefIdeal.nD Cert.RetGateRefIdeal.τ).loc Cert.RetGateRefIdeal.main_arg1))
      ∧ r.2.sem = fun _ => 0)

def quiescent_RetQ [hRetQ : Cert.RetQ.Facts] : Prop :=
  ∀ (m : (ℓ : Loc Cert.RetQ.nD Cert.RetQ.τ Cert.RetQ.sig) → Buf (Elt Bits) ℓ) (g : Dev Cert.RetQ.nD → PrngReg), Pre_RetQ m →
    θ_run (Cert.RetQ.defs (F := Bits)) (onTc (τ := Cert.RetQ.τ) (Cert.RetQ.main (F := Bits))) ⟨m, fun _ => 0, g⟩ (fun r => (∀ c : Dev Cert.RetQ.nD,
      r.2.mem ((c.tc : Thread Cert.RetQ.nD Cert.RetQ.τ).loc Cert.RetQ.main_arg0) = m ((c.tc : Thread Cert.RetQ.nD Cert.RetQ.τ).loc Cert.RetQ.main_arg0)
      ∧ r.2.mem ((c.tc : Thread Cert.RetQ.nD Cert.RetQ.τ).loc Cert.RetQ.main_arg1) = m ((c.tc : Thread Cert.RetQ.nD Cert.RetQ.τ).loc Cert.RetQ.main_arg1))
      ∧ r.2.sem = fun _ => 0)

def quiescent_RetQIdeal [hRetQIdeal : Cert.RetQIdeal.Facts] : Prop :=
  ∀ (m : (ℓ : Loc Cert.RetQIdeal.nD Cert.RetQIdeal.τ Cert.RetQIdeal.sig) → Buf (Elt Ideal) ℓ) (g : Dev Cert.RetQIdeal.nD → PrngReg), Pre_RetQIdeal m →
    θ_run (Cert.RetQIdeal.defs (F := Ideal)) (onTc (τ := Cert.RetQIdeal.τ) (Cert.RetQIdeal.main (F := Ideal))) ⟨m, fun _ => 0, g⟩ (fun r => (∀ c : Dev Cert.RetQIdeal.nD,
      r.2.mem ((c.tc : Thread Cert.RetQIdeal.nD Cert.RetQIdeal.τ).loc Cert.RetQIdeal.main_arg0) = m ((c.tc : Thread Cert.RetQIdeal.nD Cert.RetQIdeal.τ).loc Cert.RetQIdeal.main_arg0)
      ∧ r.2.mem ((c.tc : Thread Cert.RetQIdeal.nD Cert.RetQIdeal.τ).loc Cert.RetQIdeal.main_arg1) = m ((c.tc : Thread Cert.RetQIdeal.nD Cert.RetQIdeal.τ).loc Cert.RetQIdeal.main_arg1))
      ∧ r.2.sem = fun _ => 0)

def quiescent_RetQRefIdeal [hRetQRefIdeal : Cert.RetQRefIdeal.Facts] : Prop :=
  ∀ (m : (ℓ : Loc Cert.RetQRefIdeal.nD Cert.RetQRefIdeal.τ Cert.RetQRefIdeal.sig) → Buf (Elt Ideal) ℓ) (g : Dev Cert.RetQRefIdeal.nD → PrngReg), Pre_RetQRefIdeal m →
    θ_run (Cert.RetQRefIdeal.defs (F := Ideal)) (onTc (τ := Cert.RetQRefIdeal.τ) (Cert.RetQRefIdeal.main (F := Ideal))) ⟨m, fun _ => 0, g⟩ (fun r => (∀ c : Dev Cert.RetQRefIdeal.nD,
      r.2.mem ((c.tc : Thread Cert.RetQRefIdeal.nD Cert.RetQRefIdeal.τ).loc Cert.RetQRefIdeal.main_arg0) = m ((c.tc : Thread Cert.RetQRefIdeal.nD Cert.RetQRefIdeal.τ).loc Cert.RetQRefIdeal.main_arg0)
      ∧ r.2.mem ((c.tc : Thread Cert.RetQRefIdeal.nD Cert.RetQRefIdeal.τ).loc Cert.RetQRefIdeal.main_arg1) = m ((c.tc : Thread Cert.RetQRefIdeal.nD Cert.RetQRefIdeal.τ).loc Cert.RetQRefIdeal.main_arg1))
      ∧ r.2.sem = fun _ => 0)

def quiescent_RetK [hRetK : Cert.RetK.Facts] : Prop :=
  ∀ (m : (ℓ : Loc Cert.RetK.nD Cert.RetK.τ Cert.RetK.sig) → Buf (Elt Bits) ℓ) (g : Dev Cert.RetK.nD → PrngReg), Pre_RetK m →
    θ_run (Cert.RetK.defs (F := Bits)) (onTc (τ := Cert.RetK.τ) (Cert.RetK.main (F := Bits))) ⟨m, fun _ => 0, g⟩ (fun r => (∀ c : Dev Cert.RetK.nD,
      r.2.mem ((c.tc : Thread Cert.RetK.nD Cert.RetK.τ).loc Cert.RetK.main_arg0) = m ((c.tc : Thread Cert.RetK.nD Cert.RetK.τ).loc Cert.RetK.main_arg0)
      ∧ r.2.mem ((c.tc : Thread Cert.RetK.nD Cert.RetK.τ).loc Cert.RetK.main_arg1) = m ((c.tc : Thread Cert.RetK.nD Cert.RetK.τ).loc Cert.RetK.main_arg1))
      ∧ r.2.sem = fun _ => 0)

def quiescent_RetKIdeal [hRetKIdeal : Cert.RetKIdeal.Facts] : Prop :=
  ∀ (m : (ℓ : Loc Cert.RetKIdeal.nD Cert.RetKIdeal.τ Cert.RetKIdeal.sig) → Buf (Elt Ideal) ℓ) (g : Dev Cert.RetKIdeal.nD → PrngReg), Pre_RetKIdeal m →
    θ_run (Cert.RetKIdeal.defs (F := Ideal)) (onTc (τ := Cert.RetKIdeal.τ) (Cert.RetKIdeal.main (F := Ideal))) ⟨m, fun _ => 0, g⟩ (fun r => (∀ c : Dev Cert.RetKIdeal.nD,
      r.2.mem ((c.tc : Thread Cert.RetKIdeal.nD Cert.RetKIdeal.τ).loc Cert.RetKIdeal.main_arg0) = m ((c.tc : Thread Cert.RetKIdeal.nD Cert.RetKIdeal.τ).loc Cert.RetKIdeal.main_arg0)
      ∧ r.2.mem ((c.tc : Thread Cert.RetKIdeal.nD Cert.RetKIdeal.τ).loc Cert.RetKIdeal.main_arg1) = m ((c.tc : Thread Cert.RetKIdeal.nD Cert.RetKIdeal.τ).loc Cert.RetKIdeal.main_arg1))
      ∧ r.2.sem = fun _ => 0)

def quiescent_RetKRefIdeal [hRetKRefIdeal : Cert.RetKRefIdeal.Facts] : Prop :=
  ∀ (m : (ℓ : Loc Cert.RetKRefIdeal.nD Cert.RetKRefIdeal.τ Cert.RetKRefIdeal.sig) → Buf (Elt Ideal) ℓ) (g : Dev Cert.RetKRefIdeal.nD → PrngReg), Pre_RetKRefIdeal m →
    θ_run (Cert.RetKRefIdeal.defs (F := Ideal)) (onTc (τ := Cert.RetKRefIdeal.τ) (Cert.RetKRefIdeal.main (F := Ideal))) ⟨m, fun _ => 0, g⟩ (fun r => (∀ c : Dev Cert.RetKRefIdeal.nD,
      r.2.mem ((c.tc : Thread Cert.RetKRefIdeal.nD Cert.RetKRefIdeal.τ).loc Cert.RetKRefIdeal.main_arg0) = m ((c.tc : Thread Cert.RetKRefIdeal.nD Cert.RetKRefIdeal.τ).loc Cert.RetKRefIdeal.main_arg0)
      ∧ r.2.mem ((c.tc : Thread Cert.RetKRefIdeal.nD Cert.RetKRefIdeal.τ).loc Cert.RetKRefIdeal.main_arg1) = m ((c.tc : Thread Cert.RetKRefIdeal.nD Cert.RetKRefIdeal.τ).loc Cert.RetKRefIdeal.main_arg1))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1)
      ∧ r.2.mem ((c.tc : Thread Cert.RetOut.nD Cert.RetOut.τ).loc Cert.RetOut.main_arg2) = m ((c.tc : Thread Cert.RetOut.nD Cert.RetOut.τ).loc Cert.RetOut.main_arg2)
      ∧ r.2.mem ((c.tc : Thread Cert.RetOut.nD Cert.RetOut.τ).loc Cert.RetOut.main_arg3) = m ((c.tc : Thread Cert.RetOut.nD Cert.RetOut.τ).loc Cert.RetOut.main_arg3)
      ∧ r.2.mem ((c.tc : Thread Cert.RetOut.nD Cert.RetOut.τ).loc Cert.RetOut.main_arg4) = m ((c.tc : Thread Cert.RetOut.nD Cert.RetOut.τ).loc Cert.RetOut.main_arg4))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
      ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
      ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3)
      ∧ r.2.mem ((c.tc : Thread Cert.RetOutIdeal.nD Cert.RetOutIdeal.τ).loc Cert.RetOutIdeal.main_arg4) = m ((c.tc : Thread Cert.RetOutIdeal.nD Cert.RetOutIdeal.τ).loc Cert.RetOutIdeal.main_arg4))
      ∧ r.2.sem = fun _ => 0)

def quiescent_RetOutRefIdeal [hRetOutRefIdeal : Cert.RetOutRefIdeal.Facts] : Prop :=
  ∀ (m : (ℓ : Loc Cert.RetOutRefIdeal.nD Cert.RetOutRefIdeal.τ Cert.RetOutRefIdeal.sig) → Buf (Elt Ideal) ℓ) (g : Dev Cert.RetOutRefIdeal.nD → PrngReg), Pre_RetOutRefIdeal m →
    θ_run (Cert.RetOutRefIdeal.defs (F := Ideal)) (onTc (τ := Cert.RetOutRefIdeal.τ) (Cert.RetOutRefIdeal.main (F := Ideal))) ⟨m, fun _ => 0, g⟩ (fun r => (∀ c : Dev Cert.RetOutRefIdeal.nD,
      r.2.mem ((c.tc : Thread Cert.RetOutRefIdeal.nD Cert.RetOutRefIdeal.τ).loc Cert.RetOutRefIdeal.main_arg0) = m ((c.tc : Thread Cert.RetOutRefIdeal.nD Cert.RetOutRefIdeal.τ).loc Cert.RetOutRefIdeal.main_arg0)
      ∧ r.2.mem ((c.tc : Thread Cert.RetOutRefIdeal.nD Cert.RetOutRefIdeal.τ).loc Cert.RetOutRefIdeal.main_arg1) = m ((c.tc : Thread Cert.RetOutRefIdeal.nD Cert.RetOutRefIdeal.τ).loc Cert.RetOutRefIdeal.main_arg1)
      ∧ r.2.mem ((c.tc : Thread Cert.RetOutRefIdeal.nD Cert.RetOutRefIdeal.τ).loc Cert.RetOutRefIdeal.main_arg2) = m ((c.tc : Thread Cert.RetOutRefIdeal.nD Cert.RetOutRefIdeal.τ).loc Cert.RetOutRefIdeal.main_arg2)
      ∧ r.2.mem ((c.tc : Thread Cert.RetOutRefIdeal.nD Cert.RetOutRefIdeal.τ).loc Cert.RetOutRefIdeal.main_arg3) = m ((c.tc : Thread Cert.RetOutRefIdeal.nD Cert.RetOutRefIdeal.τ).loc Cert.RetOutRefIdeal.main_arg3)
      ∧ r.2.mem ((c.tc : Thread Cert.RetOutRefIdeal.nD Cert.RetOutRefIdeal.τ).loc Cert.RetOutRefIdeal.main_arg4) = m ((c.tc : Thread Cert.RetOutRefIdeal.nD Cert.RetOutRefIdeal.τ).loc Cert.RetOutRefIdeal.main_arg4))
      ∧ r.2.sem = fun _ => 0)

def quiescent_MobaOut [hMobaOut : Cert.MobaOut.Facts] : Prop :=
  ∀ (m : (ℓ : Loc Cert.MobaOut.nD Cert.MobaOut.τ Cert.MobaOut.sig) → Buf (Elt Bits) ℓ) (g : Dev Cert.MobaOut.nD → PrngReg), Pre_MobaOut m →
    θ_run (Cert.MobaOut.defs (F := Bits)) (onTc (τ := Cert.MobaOut.τ) (Cert.MobaOut.main (F := Bits))) ⟨m, fun _ => 0, g⟩ (fun r => (∀ c : Dev Cert.MobaOut.nD,
      r.2.mem ((c.tc : Thread Cert.MobaOut.nD Cert.MobaOut.τ).loc Cert.MobaOut.main_arg0) = m ((c.tc : Thread Cert.MobaOut.nD Cert.MobaOut.τ).loc Cert.MobaOut.main_arg0)
      ∧ r.2.mem ((c.tc : Thread Cert.MobaOut.nD Cert.MobaOut.τ).loc Cert.MobaOut.main_arg1) = m ((c.tc : Thread Cert.MobaOut.nD Cert.MobaOut.τ).loc Cert.MobaOut.main_arg1)
      ∧ r.2.mem ((c.tc : Thread Cert.MobaOut.nD Cert.MobaOut.τ).loc Cert.MobaOut.main_arg2) = m ((c.tc : Thread Cert.MobaOut.nD Cert.MobaOut.τ).loc Cert.MobaOut.main_arg2)
      ∧ r.2.mem ((c.tc : Thread Cert.MobaOut.nD Cert.MobaOut.τ).loc Cert.MobaOut.main_arg3) = m ((c.tc : Thread Cert.MobaOut.nD Cert.MobaOut.τ).loc Cert.MobaOut.main_arg3)
      ∧ r.2.mem ((c.tc : Thread Cert.MobaOut.nD Cert.MobaOut.τ).loc Cert.MobaOut.main_arg4) = m ((c.tc : Thread Cert.MobaOut.nD Cert.MobaOut.τ).loc Cert.MobaOut.main_arg4))
      ∧ r.2.sem = fun _ => 0)

def quiescent_MobaOutIdeal [hMobaOutIdeal : Cert.MobaOutIdeal.Facts] : Prop :=
  ∀ (m : (ℓ : Loc Cert.MobaOutIdeal.nD Cert.MobaOutIdeal.τ Cert.MobaOutIdeal.sig) → Buf (Elt Ideal) ℓ) (g : Dev Cert.MobaOutIdeal.nD → PrngReg), Pre_MobaOutIdeal m →
    θ_run (Cert.MobaOutIdeal.defs (F := Ideal)) (onTc (τ := Cert.MobaOutIdeal.τ) (Cert.MobaOutIdeal.main (F := Ideal))) ⟨m, fun _ => 0, g⟩ (fun r => (∀ c : Dev Cert.MobaOutIdeal.nD,
      r.2.mem ((c.tc : Thread Cert.MobaOutIdeal.nD Cert.MobaOutIdeal.τ).loc Cert.MobaOutIdeal.main_arg0) = m ((c.tc : Thread Cert.MobaOutIdeal.nD Cert.MobaOutIdeal.τ).loc Cert.MobaOutIdeal.main_arg0)
      ∧ r.2.mem ((c.tc : Thread Cert.MobaOutIdeal.nD Cert.MobaOutIdeal.τ).loc Cert.MobaOutIdeal.main_arg1) = m ((c.tc : Thread Cert.MobaOutIdeal.nD Cert.MobaOutIdeal.τ).loc Cert.MobaOutIdeal.main_arg1)
      ∧ r.2.mem ((c.tc : Thread Cert.MobaOutIdeal.nD Cert.MobaOutIdeal.τ).loc Cert.MobaOutIdeal.main_arg2) = m ((c.tc : Thread Cert.MobaOutIdeal.nD Cert.MobaOutIdeal.τ).loc Cert.MobaOutIdeal.main_arg2)
      ∧ r.2.mem ((c.tc : Thread Cert.MobaOutIdeal.nD Cert.MobaOutIdeal.τ).loc Cert.MobaOutIdeal.main_arg3) = m ((c.tc : Thread Cert.MobaOutIdeal.nD Cert.MobaOutIdeal.τ).loc Cert.MobaOutIdeal.main_arg3)
      ∧ r.2.mem ((c.tc : Thread Cert.MobaOutIdeal.nD Cert.MobaOutIdeal.τ).loc Cert.MobaOutIdeal.main_arg4) = m ((c.tc : Thread Cert.MobaOutIdeal.nD Cert.MobaOutIdeal.τ).loc Cert.MobaOutIdeal.main_arg4))
      ∧ r.2.sem = fun _ => 0)

def quiescent_MobaOutRefIdeal [hMobaOutRefIdeal : Cert.MobaOutRefIdeal.Facts] : Prop :=
  ∀ (m : (ℓ : Loc Cert.MobaOutRefIdeal.nD Cert.MobaOutRefIdeal.τ Cert.MobaOutRefIdeal.sig) → Buf (Elt Ideal) ℓ) (g : Dev Cert.MobaOutRefIdeal.nD → PrngReg), Pre_MobaOutRefIdeal m →
    θ_run (Cert.MobaOutRefIdeal.defs (F := Ideal)) (onTc (τ := Cert.MobaOutRefIdeal.τ) (Cert.MobaOutRefIdeal.main (F := Ideal))) ⟨m, fun _ => 0, g⟩ (fun r => (∀ c : Dev Cert.MobaOutRefIdeal.nD,
      r.2.mem ((c.tc : Thread Cert.MobaOutRefIdeal.nD Cert.MobaOutRefIdeal.τ).loc Cert.MobaOutRefIdeal.main_arg0) = m ((c.tc : Thread Cert.MobaOutRefIdeal.nD Cert.MobaOutRefIdeal.τ).loc Cert.MobaOutRefIdeal.main_arg0)
      ∧ r.2.mem ((c.tc : Thread Cert.MobaOutRefIdeal.nD Cert.MobaOutRefIdeal.τ).loc Cert.MobaOutRefIdeal.main_arg1) = m ((c.tc : Thread Cert.MobaOutRefIdeal.nD Cert.MobaOutRefIdeal.τ).loc Cert.MobaOutRefIdeal.main_arg1)
      ∧ r.2.mem ((c.tc : Thread Cert.MobaOutRefIdeal.nD Cert.MobaOutRefIdeal.τ).loc Cert.MobaOutRefIdeal.main_arg2) = m ((c.tc : Thread Cert.MobaOutRefIdeal.nD Cert.MobaOutRefIdeal.τ).loc Cert.MobaOutRefIdeal.main_arg2)
      ∧ r.2.mem ((c.tc : Thread Cert.MobaOutRefIdeal.nD Cert.MobaOutRefIdeal.τ).loc Cert.MobaOutRefIdeal.main_arg3) = m ((c.tc : Thread Cert.MobaOutRefIdeal.nD Cert.MobaOutRefIdeal.τ).loc Cert.MobaOutRefIdeal.main_arg3)
      ∧ r.2.mem ((c.tc : Thread Cert.MobaOutRefIdeal.nD Cert.MobaOutRefIdeal.τ).loc Cert.MobaOutRefIdeal.main_arg4) = m ((c.tc : Thread Cert.MobaOutRefIdeal.nD Cert.MobaOutRefIdeal.τ).loc Cert.MobaOutRefIdeal.main_arg4))
      ∧ r.2.sem = fun _ => 0)

def quiescent_MobaQkv [hMobaQkv : Cert.MobaQkv.Facts] : Prop :=
  ∀ (m : (ℓ : Loc Cert.MobaQkv.nD Cert.MobaQkv.τ Cert.MobaQkv.sig) → Buf (Elt Bits) ℓ) (g : Dev Cert.MobaQkv.nD → PrngReg), Pre_MobaQkv m →
    θ_run (Cert.MobaQkv.defs (F := Bits)) (onTc (τ := Cert.MobaQkv.τ) (Cert.MobaQkv.main (F := Bits))) ⟨m, fun _ => 0, g⟩ (fun r => (∀ c : Dev Cert.MobaQkv.nD,
      r.2.mem ((c.tc : Thread Cert.MobaQkv.nD Cert.MobaQkv.τ).loc Cert.MobaQkv.main_arg0) = m ((c.tc : Thread Cert.MobaQkv.nD Cert.MobaQkv.τ).loc Cert.MobaQkv.main_arg0)
      ∧ r.2.mem ((c.tc : Thread Cert.MobaQkv.nD Cert.MobaQkv.τ).loc Cert.MobaQkv.main_arg1) = m ((c.tc : Thread Cert.MobaQkv.nD Cert.MobaQkv.τ).loc Cert.MobaQkv.main_arg1))
      ∧ r.2.sem = fun _ => 0)

def quiescent_MobaQkvIdeal [hMobaQkvIdeal : Cert.MobaQkvIdeal.Facts] : Prop :=
  ∀ (m : (ℓ : Loc Cert.MobaQkvIdeal.nD Cert.MobaQkvIdeal.τ Cert.MobaQkvIdeal.sig) → Buf (Elt Ideal) ℓ) (g : Dev Cert.MobaQkvIdeal.nD → PrngReg), Pre_MobaQkvIdeal m →
    θ_run (Cert.MobaQkvIdeal.defs (F := Ideal)) (onTc (τ := Cert.MobaQkvIdeal.τ) (Cert.MobaQkvIdeal.main (F := Ideal))) ⟨m, fun _ => 0, g⟩ (fun r => (∀ c : Dev Cert.MobaQkvIdeal.nD,
      r.2.mem ((c.tc : Thread Cert.MobaQkvIdeal.nD Cert.MobaQkvIdeal.τ).loc Cert.MobaQkvIdeal.main_arg0) = m ((c.tc : Thread Cert.MobaQkvIdeal.nD Cert.MobaQkvIdeal.τ).loc Cert.MobaQkvIdeal.main_arg0)
      ∧ r.2.mem ((c.tc : Thread Cert.MobaQkvIdeal.nD Cert.MobaQkvIdeal.τ).loc Cert.MobaQkvIdeal.main_arg1) = m ((c.tc : Thread Cert.MobaQkvIdeal.nD Cert.MobaQkvIdeal.τ).loc Cert.MobaQkvIdeal.main_arg1))
      ∧ r.2.sem = fun _ => 0)

def quiescent_MobaQkvRefIdeal [hMobaQkvRefIdeal : Cert.MobaQkvRefIdeal.Facts] : Prop :=
  ∀ (m : (ℓ : Loc Cert.MobaQkvRefIdeal.nD Cert.MobaQkvRefIdeal.τ Cert.MobaQkvRefIdeal.sig) → Buf (Elt Ideal) ℓ) (g : Dev Cert.MobaQkvRefIdeal.nD → PrngReg), Pre_MobaQkvRefIdeal m →
    θ_run (Cert.MobaQkvRefIdeal.defs (F := Ideal)) (onTc (τ := Cert.MobaQkvRefIdeal.τ) (Cert.MobaQkvRefIdeal.main (F := Ideal))) ⟨m, fun _ => 0, g⟩ (fun r => (∀ c : Dev Cert.MobaQkvRefIdeal.nD,
      r.2.mem ((c.tc : Thread Cert.MobaQkvRefIdeal.nD Cert.MobaQkvRefIdeal.τ).loc Cert.MobaQkvRefIdeal.main_arg0) = m ((c.tc : Thread Cert.MobaQkvRefIdeal.nD Cert.MobaQkvRefIdeal.τ).loc Cert.MobaQkvRefIdeal.main_arg0)
      ∧ r.2.mem ((c.tc : Thread Cert.MobaQkvRefIdeal.nD Cert.MobaQkvRefIdeal.τ).loc Cert.MobaQkvRefIdeal.main_arg1) = m ((c.tc : Thread Cert.MobaQkvRefIdeal.nD Cert.MobaQkvRefIdeal.τ).loc Cert.MobaQkvRefIdeal.main_arg1))
      ∧ r.2.sem = fun _ => 0)

def preserves_Retention_RetentionIdeal : Prop :=
  True

def algebraic_RetentionIdeal_RetentionRefIdeal [hRetentionIdeal : Cert.RetentionIdeal.Facts] [hRetentionRefIdeal : Cert.RetentionRefIdeal.Facts] : Prop :=
  ∀ (m : (ℓ : Loc Cert.RetentionIdeal.nD Cert.RetentionIdeal.τ Cert.RetentionIdeal.sig) → Buf (Elt Ideal) ℓ) (g : Dev Cert.RetentionIdeal.nD → PrngReg)
    (m' : (ℓ : Loc Cert.RetentionRefIdeal.nD Cert.RetentionRefIdeal.τ Cert.RetentionRefIdeal.sig) → Buf (Elt Ideal) ℓ) (g' : Dev Cert.RetentionRefIdeal.nD → PrngReg), Pre_RetentionIdeal m →
    (∀ c : Dev Cert.RetentionIdeal.nD,
      m' ((c.tc : Thread Cert.RetentionRefIdeal.nD Cert.RetentionRefIdeal.τ).loc Cert.RetentionRefIdeal.main_arg0) = m ((c.tc : Thread Cert.RetentionIdeal.nD Cert.RetentionIdeal.τ).loc Cert.RetentionIdeal.main_arg0)
      ∧ m' ((c.tc : Thread Cert.RetentionRefIdeal.nD Cert.RetentionRefIdeal.τ).loc Cert.RetentionRefIdeal.main_arg1) = m ((c.tc : Thread Cert.RetentionIdeal.nD Cert.RetentionIdeal.τ).loc Cert.RetentionIdeal.main_arg1)
      ∧ m' ((c.tc : Thread Cert.RetentionRefIdeal.nD Cert.RetentionRefIdeal.τ).loc Cert.RetentionRefIdeal.main_arg2) = m ((c.tc : Thread Cert.RetentionIdeal.nD Cert.RetentionIdeal.τ).loc Cert.RetentionIdeal.main_arg2)
      ∧ m' ((c.tc : Thread Cert.RetentionRefIdeal.nD Cert.RetentionRefIdeal.τ).loc Cert.RetentionRefIdeal.main_arg3) = m ((c.tc : Thread Cert.RetentionIdeal.nD Cert.RetentionIdeal.τ).loc Cert.RetentionIdeal.main_arg3)) →
    ∃ (v0 : (c : Dev Cert.RetentionIdeal.nD) → Buf (Elt Ideal) ((c.tc : Thread Cert.RetentionIdeal.nD Cert.RetentionIdeal.τ).loc Cert.RetentionIdeal.main_v47)),
      θ_run (Cert.RetentionIdeal.defs (F := Ideal)) (onTc (τ := Cert.RetentionIdeal.τ) (Cert.RetentionIdeal.main (F := Ideal))) ⟨m, fun _ => 0, g⟩ (fun r => ∀ c : Dev Cert.RetentionIdeal.nD,
          r.2.mem ((c.tc : Thread Cert.RetentionIdeal.nD Cert.RetentionIdeal.τ).loc Cert.RetentionIdeal.main_v47) = v0 c
          ∧ r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0)
          ∧ r.2.mem ((c.tc : Thread Cert.RetentionIdeal.nD Cert.RetentionIdeal.τ).loc Cert.RetentionIdeal.main_arg1) = m ((c.tc : Thread Cert.RetentionIdeal.nD Cert.RetentionIdeal.τ).loc Cert.RetentionIdeal.main_arg1)
          ∧ r.2.mem ((c.tc : Thread Cert.RetentionIdeal.nD Cert.RetentionIdeal.τ).loc Cert.RetentionIdeal.main_arg2) = m ((c.tc : Thread Cert.RetentionIdeal.nD Cert.RetentionIdeal.τ).loc Cert.RetentionIdeal.main_arg2)
          ∧ r.2.mem ((c.tc : Thread Cert.RetentionIdeal.nD Cert.RetentionIdeal.τ).loc Cert.RetentionIdeal.main_arg3) = m ((c.tc : Thread Cert.RetentionIdeal.nD Cert.RetentionIdeal.τ).loc Cert.RetentionIdeal.main_arg3))
      ∧ θ_run (Cert.RetentionRefIdeal.defs (F := Ideal)) (onTc (τ := Cert.RetentionRefIdeal.τ) (Cert.RetentionRefIdeal.main (F := Ideal))) ⟨m', fun _ => 0, g'⟩ (fun r => ∀ c : Dev Cert.RetentionRefIdeal.nD,
          r.2.mem ((c.tc : Thread Cert.RetentionRefIdeal.nD Cert.RetentionRefIdeal.τ).loc Cert.RetentionRefIdeal.main_v86) = v0 c
          ∧ r.2.mem ((c.tc : Thread Cert.RetentionRefIdeal.nD Cert.RetentionRefIdeal.τ).loc Cert.RetentionRefIdeal.main_arg0) = m' ((c.tc : Thread Cert.RetentionRefIdeal.nD Cert.RetentionRefIdeal.τ).loc Cert.RetentionRefIdeal.main_arg0)
          ∧ r.2.mem ((c.tc : Thread Cert.RetentionRefIdeal.nD Cert.RetentionRefIdeal.τ).loc Cert.RetentionRefIdeal.main_arg1) = m' ((c.tc : Thread Cert.RetentionRefIdeal.nD Cert.RetentionRefIdeal.τ).loc Cert.RetentionRefIdeal.main_arg1)
          ∧ r.2.mem ((c.tc : Thread Cert.RetentionRefIdeal.nD Cert.RetentionRefIdeal.τ).loc Cert.RetentionRefIdeal.main_arg2) = m' ((c.tc : Thread Cert.RetentionRefIdeal.nD Cert.RetentionRefIdeal.τ).loc Cert.RetentionRefIdeal.main_arg2)
          ∧ r.2.mem ((c.tc : Thread Cert.RetentionRefIdeal.nD Cert.RetentionRefIdeal.τ).loc Cert.RetentionRefIdeal.main_arg3) = m' ((c.tc : Thread Cert.RetentionRefIdeal.nD Cert.RetentionRefIdeal.τ).loc Cert.RetentionRefIdeal.main_arg3))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v1) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v50) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)
      ∧ m' ((c.tc : Thread Cert.FfnDownRefIdeal.nD Cert.FfnDownRefIdeal.τ).loc Cert.FfnDownRefIdeal.main_arg4) = m ((c.tc : Thread Cert.FfnDownIdeal.nD Cert.FfnDownIdeal.τ).loc Cert.FfnDownIdeal.main_arg4)) →
    ∃ (v0 : (c : Dev Cert.FfnDownIdeal.nD) → Buf (Elt Ideal) ((c.tc : Thread Cert.FfnDownIdeal.nD Cert.FfnDownIdeal.τ).loc Cert.FfnDownIdeal.main_v2_0)) (v1 : (c : Dev Cert.FfnDownIdeal.nD) → Buf (Elt Ideal) ((c.tc : Thread Cert.FfnDownIdeal.nD Cert.FfnDownIdeal.τ).loc Cert.FfnDownIdeal.main_v2_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v2_0) = v0 c
          ∧ r.2.mem ((c.tc : Thread Cert.FfnDownIdeal.nD Cert.FfnDownIdeal.τ).loc Cert.FfnDownIdeal.main_v2_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v29) = v0 c
          ∧ r.2.mem ((c.tc : Thread Cert.FfnDownRefIdeal.nD Cert.FfnDownRefIdeal.τ).loc Cert.FfnDownRefIdeal.main_v30) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4))

def preserves_RetV_RetVIdeal : Prop :=
  True

def algebraic_RetVIdeal_RetVRefIdeal [hRetVIdeal : Cert.RetVIdeal.Facts] [hRetVRefIdeal : Cert.RetVRefIdeal.Facts] : Prop :=
  ∀ (m : (ℓ : Loc Cert.RetVIdeal.nD Cert.RetVIdeal.τ Cert.RetVIdeal.sig) → Buf (Elt Ideal) ℓ) (g : Dev Cert.RetVIdeal.nD → PrngReg)
    (m' : (ℓ : Loc Cert.RetVRefIdeal.nD Cert.RetVRefIdeal.τ Cert.RetVRefIdeal.sig) → Buf (Elt Ideal) ℓ) (g' : Dev Cert.RetVRefIdeal.nD → PrngReg), Pre_RetVIdeal m →
    (∀ c : Dev Cert.RetVIdeal.nD,
      m' ((c.tc : Thread Cert.RetVRefIdeal.nD Cert.RetVRefIdeal.τ).loc Cert.RetVRefIdeal.main_arg0) = m ((c.tc : Thread Cert.RetVIdeal.nD Cert.RetVIdeal.τ).loc Cert.RetVIdeal.main_arg0)
      ∧ m' ((c.tc : Thread Cert.RetVRefIdeal.nD Cert.RetVRefIdeal.τ).loc Cert.RetVRefIdeal.main_arg1) = m ((c.tc : Thread Cert.RetVIdeal.nD Cert.RetVIdeal.τ).loc Cert.RetVIdeal.main_arg1)) →
    ∃ (v0 : (c : Dev Cert.RetVIdeal.nD) → Buf (Elt Ideal) ((c.tc : Thread Cert.RetVIdeal.nD Cert.RetVIdeal.τ).loc Cert.RetVIdeal.main_v18)),
      θ_run (Cert.RetVIdeal.defs (F := Ideal)) (onTc (τ := Cert.RetVIdeal.τ) (Cert.RetVIdeal.main (F := Ideal))) ⟨m, fun _ => 0, g⟩ (fun r => ∀ c : Dev Cert.RetVIdeal.nD,
          r.2.mem ((c.tc : Thread Cert.RetVIdeal.nD Cert.RetVIdeal.τ).loc Cert.RetVIdeal.main_v18) = v0 c
          ∧ r.2.mem ((c.tc : Thread Cert.RetVIdeal.nD Cert.RetVIdeal.τ).loc Cert.RetVIdeal.main_arg0) = m ((c.tc : Thread Cert.RetVIdeal.nD Cert.RetVIdeal.τ).loc Cert.RetVIdeal.main_arg0)
          ∧ r.2.mem ((c.tc : Thread Cert.RetVIdeal.nD Cert.RetVIdeal.τ).loc Cert.RetVIdeal.main_arg1) = m ((c.tc : Thread Cert.RetVIdeal.nD Cert.RetVIdeal.τ).loc Cert.RetVIdeal.main_arg1))
      ∧ θ_run (Cert.RetVRefIdeal.defs (F := Ideal)) (onTc (τ := Cert.RetVRefIdeal.τ) (Cert.RetVRefIdeal.main (F := Ideal))) ⟨m', fun _ => 0, g'⟩ (fun r => ∀ c : Dev Cert.RetVRefIdeal.nD,
          r.2.mem ((c.tc : Thread Cert.RetVRefIdeal.nD Cert.RetVRefIdeal.τ).loc Cert.RetVRefIdeal.main_v6) = v0 c
          ∧ r.2.mem ((c.tc : Thread Cert.RetVRefIdeal.nD Cert.RetVRefIdeal.τ).loc Cert.RetVRefIdeal.main_arg0) = m' ((c.tc : Thread Cert.RetVRefIdeal.nD Cert.RetVRefIdeal.τ).loc Cert.RetVRefIdeal.main_arg0)
          ∧ r.2.mem ((c.tc : Thread Cert.RetVRefIdeal.nD Cert.RetVRefIdeal.τ).loc Cert.RetVRefIdeal.main_arg1) = m' ((c.tc : Thread Cert.RetVRefIdeal.nD Cert.RetVRefIdeal.τ).loc Cert.RetVRefIdeal.main_arg1))

def preserves_RetGate_RetGateIdeal : Prop :=
  True

def algebraic_RetGateIdeal_RetGateRefIdeal [hRetGateIdeal : Cert.RetGateIdeal.Facts] [hRetGateRefIdeal : Cert.RetGateRefIdeal.Facts] : Prop :=
  ∀ (m : (ℓ : Loc Cert.RetGateIdeal.nD Cert.RetGateIdeal.τ Cert.RetGateIdeal.sig) → Buf (Elt Ideal) ℓ) (g : Dev Cert.RetGateIdeal.nD → PrngReg)
    (m' : (ℓ : Loc Cert.RetGateRefIdeal.nD Cert.RetGateRefIdeal.τ Cert.RetGateRefIdeal.sig) → Buf (Elt Ideal) ℓ) (g' : Dev Cert.RetGateRefIdeal.nD → PrngReg), Pre_RetGateIdeal m →
    (∀ c : Dev Cert.RetGateIdeal.nD,
      m' ((c.tc : Thread Cert.RetGateRefIdeal.nD Cert.RetGateRefIdeal.τ).loc Cert.RetGateRefIdeal.main_arg0) = m ((c.tc : Thread Cert.RetGateIdeal.nD Cert.RetGateIdeal.τ).loc Cert.RetGateIdeal.main_arg0)
      ∧ m' ((c.tc : Thread Cert.RetGateRefIdeal.nD Cert.RetGateRefIdeal.τ).loc Cert.RetGateRefIdeal.main_arg1) = m ((c.tc : Thread Cert.RetGateIdeal.nD Cert.RetGateIdeal.τ).loc Cert.RetGateIdeal.main_arg1)) →
    ∃ (v0 : (c : Dev Cert.RetGateIdeal.nD) → Buf (Elt Ideal) ((c.tc : Thread Cert.RetGateIdeal.nD Cert.RetGateIdeal.τ).loc Cert.RetGateIdeal.main_v18)),
      θ_run (Cert.RetGateIdeal.defs (F := Ideal)) (onTc (τ := Cert.RetGateIdeal.τ) (Cert.RetGateIdeal.main (F := Ideal))) ⟨m, fun _ => 0, g⟩ (fun r => ∀ c : Dev Cert.RetGateIdeal.nD,
          r.2.mem ((c.tc : Thread Cert.RetGateIdeal.nD Cert.RetGateIdeal.τ).loc Cert.RetGateIdeal.main_v18) = v0 c
          ∧ r.2.mem ((c.tc : Thread Cert.RetGateIdeal.nD Cert.RetGateIdeal.τ).loc Cert.RetGateIdeal.main_arg0) = m ((c.tc : Thread Cert.RetGateIdeal.nD Cert.RetGateIdeal.τ).loc Cert.RetGateIdeal.main_arg0)
          ∧ r.2.mem ((c.tc : Thread Cert.RetGateIdeal.nD Cert.RetGateIdeal.τ).loc Cert.RetGateIdeal.main_arg1) = m ((c.tc : Thread Cert.RetGateIdeal.nD Cert.RetGateIdeal.τ).loc Cert.RetGateIdeal.main_arg1))
      ∧ θ_run (Cert.RetGateRefIdeal.defs (F := Ideal)) (onTc (τ := Cert.RetGateRefIdeal.τ) (Cert.RetGateRefIdeal.main (F := Ideal))) ⟨m', fun _ => 0, g'⟩ (fun r => ∀ c : Dev Cert.RetGateRefIdeal.nD,
          r.2.mem ((c.tc : Thread Cert.RetGateRefIdeal.nD Cert.RetGateRefIdeal.τ).loc Cert.RetGateRefIdeal.main_v7) = v0 c
          ∧ r.2.mem ((c.tc : Thread Cert.RetGateRefIdeal.nD Cert.RetGateRefIdeal.τ).loc Cert.RetGateRefIdeal.main_arg0) = m' ((c.tc : Thread Cert.RetGateRefIdeal.nD Cert.RetGateRefIdeal.τ).loc Cert.RetGateRefIdeal.main_arg0)
          ∧ r.2.mem ((c.tc : Thread Cert.RetGateRefIdeal.nD Cert.RetGateRefIdeal.τ).loc Cert.RetGateRefIdeal.main_arg1) = m' ((c.tc : Thread Cert.RetGateRefIdeal.nD Cert.RetGateRefIdeal.τ).loc Cert.RetGateRefIdeal.main_arg1))

def preserves_RetQ_RetQIdeal : Prop :=
  True

def algebraic_RetQIdeal_RetQRefIdeal [hRetQIdeal : Cert.RetQIdeal.Facts] [hRetQRefIdeal : Cert.RetQRefIdeal.Facts] : Prop :=
  ∀ (m : (ℓ : Loc Cert.RetQIdeal.nD Cert.RetQIdeal.τ Cert.RetQIdeal.sig) → Buf (Elt Ideal) ℓ) (g : Dev Cert.RetQIdeal.nD → PrngReg)
    (m' : (ℓ : Loc Cert.RetQRefIdeal.nD Cert.RetQRefIdeal.τ Cert.RetQRefIdeal.sig) → Buf (Elt Ideal) ℓ) (g' : Dev Cert.RetQRefIdeal.nD → PrngReg), Pre_RetQIdeal m →
    (∀ c : Dev Cert.RetQIdeal.nD,
      m' ((c.tc : Thread Cert.RetQRefIdeal.nD Cert.RetQRefIdeal.τ).loc Cert.RetQRefIdeal.main_arg0) = m ((c.tc : Thread Cert.RetQIdeal.nD Cert.RetQIdeal.τ).loc Cert.RetQIdeal.main_arg0)
      ∧ m' ((c.tc : Thread Cert.RetQRefIdeal.nD Cert.RetQRefIdeal.τ).loc Cert.RetQRefIdeal.main_arg1) = m ((c.tc : Thread Cert.RetQIdeal.nD Cert.RetQIdeal.τ).loc Cert.RetQIdeal.main_arg1)) →
    ∃ (v0 : (c : Dev Cert.RetQIdeal.nD) → Buf (Elt Ideal) ((c.tc : Thread Cert.RetQIdeal.nD Cert.RetQIdeal.τ).loc Cert.RetQIdeal.main_v18)),
      θ_run (Cert.RetQIdeal.defs (F := Ideal)) (onTc (τ := Cert.RetQIdeal.τ) (Cert.RetQIdeal.main (F := Ideal))) ⟨m, fun _ => 0, g⟩ (fun r => ∀ c : Dev Cert.RetQIdeal.nD,
          r.2.mem ((c.tc : Thread Cert.RetQIdeal.nD Cert.RetQIdeal.τ).loc Cert.RetQIdeal.main_v18) = v0 c
          ∧ r.2.mem ((c.tc : Thread Cert.RetQIdeal.nD Cert.RetQIdeal.τ).loc Cert.RetQIdeal.main_arg0) = m ((c.tc : Thread Cert.RetQIdeal.nD Cert.RetQIdeal.τ).loc Cert.RetQIdeal.main_arg0)
          ∧ r.2.mem ((c.tc : Thread Cert.RetQIdeal.nD Cert.RetQIdeal.τ).loc Cert.RetQIdeal.main_arg1) = m ((c.tc : Thread Cert.RetQIdeal.nD Cert.RetQIdeal.τ).loc Cert.RetQIdeal.main_arg1))
      ∧ θ_run (Cert.RetQRefIdeal.defs (F := Ideal)) (onTc (τ := Cert.RetQRefIdeal.τ) (Cert.RetQRefIdeal.main (F := Ideal))) ⟨m', fun _ => 0, g'⟩ (fun r => ∀ c : Dev Cert.RetQRefIdeal.nD,
          r.2.mem ((c.tc : Thread Cert.RetQRefIdeal.nD Cert.RetQRefIdeal.τ).loc Cert.RetQRefIdeal.main_v44) = v0 c
          ∧ r.2.mem ((c.tc : Thread Cert.RetQRefIdeal.nD Cert.RetQRefIdeal.τ).loc Cert.RetQRefIdeal.main_arg0) = m' ((c.tc : Thread Cert.RetQRefIdeal.nD Cert.RetQRefIdeal.τ).loc Cert.RetQRefIdeal.main_arg0)
          ∧ r.2.mem ((c.tc : Thread Cert.RetQRefIdeal.nD Cert.RetQRefIdeal.τ).loc Cert.RetQRefIdeal.main_arg1) = m' ((c.tc : Thread Cert.RetQRefIdeal.nD Cert.RetQRefIdeal.τ).loc Cert.RetQRefIdeal.main_arg1))

def preserves_RetK_RetKIdeal : Prop :=
  True

def algebraic_RetKIdeal_RetKRefIdeal [hRetKIdeal : Cert.RetKIdeal.Facts] [hRetKRefIdeal : Cert.RetKRefIdeal.Facts] : Prop :=
  ∀ (m : (ℓ : Loc Cert.RetKIdeal.nD Cert.RetKIdeal.τ Cert.RetKIdeal.sig) → Buf (Elt Ideal) ℓ) (g : Dev Cert.RetKIdeal.nD → PrngReg)
    (m' : (ℓ : Loc Cert.RetKRefIdeal.nD Cert.RetKRefIdeal.τ Cert.RetKRefIdeal.sig) → Buf (Elt Ideal) ℓ) (g' : Dev Cert.RetKRefIdeal.nD → PrngReg), Pre_RetKIdeal m →
    (∀ c : Dev Cert.RetKIdeal.nD,
      m' ((c.tc : Thread Cert.RetKRefIdeal.nD Cert.RetKRefIdeal.τ).loc Cert.RetKRefIdeal.main_arg0) = m ((c.tc : Thread Cert.RetKIdeal.nD Cert.RetKIdeal.τ).loc Cert.RetKIdeal.main_arg0)
      ∧ m' ((c.tc : Thread Cert.RetKRefIdeal.nD Cert.RetKRefIdeal.τ).loc Cert.RetKRefIdeal.main_arg1) = m ((c.tc : Thread Cert.RetKIdeal.nD Cert.RetKIdeal.τ).loc Cert.RetKIdeal.main_arg1)) →
    ∃ (v0 : (c : Dev Cert.RetKIdeal.nD) → Buf (Elt Ideal) ((c.tc : Thread Cert.RetKIdeal.nD Cert.RetKIdeal.τ).loc Cert.RetKIdeal.main_v18)),
      θ_run (Cert.RetKIdeal.defs (F := Ideal)) (onTc (τ := Cert.RetKIdeal.τ) (Cert.RetKIdeal.main (F := Ideal))) ⟨m, fun _ => 0, g⟩ (fun r => ∀ c : Dev Cert.RetKIdeal.nD,
          r.2.mem ((c.tc : Thread Cert.RetKIdeal.nD Cert.RetKIdeal.τ).loc Cert.RetKIdeal.main_v18) = v0 c
          ∧ r.2.mem ((c.tc : Thread Cert.RetKIdeal.nD Cert.RetKIdeal.τ).loc Cert.RetKIdeal.main_arg0) = m ((c.tc : Thread Cert.RetKIdeal.nD Cert.RetKIdeal.τ).loc Cert.RetKIdeal.main_arg0)
          ∧ r.2.mem ((c.tc : Thread Cert.RetKIdeal.nD Cert.RetKIdeal.τ).loc Cert.RetKIdeal.main_arg1) = m ((c.tc : Thread Cert.RetKIdeal.nD Cert.RetKIdeal.τ).loc Cert.RetKIdeal.main_arg1))
      ∧ θ_run (Cert.RetKRefIdeal.defs (F := Ideal)) (onTc (τ := Cert.RetKRefIdeal.τ) (Cert.RetKRefIdeal.main (F := Ideal))) ⟨m', fun _ => 0, g'⟩ (fun r => ∀ c : Dev Cert.RetKRefIdeal.nD,
          r.2.mem ((c.tc : Thread Cert.RetKRefIdeal.nD Cert.RetKRefIdeal.τ).loc Cert.RetKRefIdeal.main_v46) = v0 c
          ∧ r.2.mem ((c.tc : Thread Cert.RetKRefIdeal.nD Cert.RetKRefIdeal.τ).loc Cert.RetKRefIdeal.main_arg0) = m' ((c.tc : Thread Cert.RetKRefIdeal.nD Cert.RetKRefIdeal.τ).loc Cert.RetKRefIdeal.main_arg0)
          ∧ r.2.mem ((c.tc : Thread Cert.RetKRefIdeal.nD Cert.RetKRefIdeal.τ).loc Cert.RetKRefIdeal.main_arg1) = m' ((c.tc : Thread Cert.RetKRefIdeal.nD Cert.RetKRefIdeal.τ).loc Cert.RetKRefIdeal.main_arg1))

def preserves_RetOut_RetOutIdeal : Prop :=
  True

def algebraic_RetOutIdeal_RetOutRefIdeal [hRetOutIdeal : Cert.RetOutIdeal.Facts] [hRetOutRefIdeal : Cert.RetOutRefIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutRefIdeal.nD Cert.RetOutRefIdeal.τ Cert.RetOutRefIdeal.sig) → Buf (Elt Ideal) ℓ) (g' : Dev Cert.RetOutRefIdeal.nD → PrngReg), Pre_RetOutIdeal m →
    (∀ c : Dev Cert.RetOutIdeal.nD,
      m' ((c.tc : Thread Cert.RetOutRefIdeal.nD Cert.RetOutRefIdeal.τ).loc Cert.RetOutRefIdeal.main_arg0) = m ((c.tc : Thread Cert.RetOutIdeal.nD Cert.RetOutIdeal.τ).loc Cert.RetOutIdeal.main_arg0)
      ∧ m' ((c.tc : Thread Cert.RetOutRefIdeal.nD Cert.RetOutRefIdeal.τ).loc Cert.RetOutRefIdeal.main_arg1) = m ((c.tc : Thread Cert.RetOutIdeal.nD Cert.RetOutIdeal.τ).loc Cert.RetOutIdeal.main_arg1)
      ∧ m' ((c.tc : Thread Cert.RetOutRefIdeal.nD Cert.RetOutRefIdeal.τ).loc Cert.RetOutRefIdeal.main_arg2) = m ((c.tc : Thread Cert.RetOutIdeal.nD Cert.RetOutIdeal.τ).loc Cert.RetOutIdeal.main_arg2)
      ∧ m' ((c.tc : Thread Cert.RetOutRefIdeal.nD Cert.RetOutRefIdeal.τ).loc Cert.RetOutRefIdeal.main_arg3) = m ((c.tc : Thread Cert.RetOutIdeal.nD Cert.RetOutIdeal.τ).loc Cert.RetOutIdeal.main_arg3)
      ∧ m' ((c.tc : Thread Cert.RetOutRefIdeal.nD Cert.RetOutRefIdeal.τ).loc Cert.RetOutRefIdeal.main_arg4) = m ((c.tc : Thread Cert.RetOutIdeal.nD Cert.RetOutIdeal.τ).loc Cert.RetOutIdeal.main_arg4)) →
    ∃ (v0 : (c : Dev Cert.RetOutIdeal.nD) → Buf (Elt Ideal) ((c.tc : Thread Cert.RetOutIdeal.nD Cert.RetOutIdeal.τ).loc Cert.RetOutIdeal.main_v2_0)) (v1 : (c : Dev Cert.RetOutIdeal.nD) → Buf (Elt Ideal) ((c.tc : Thread Cert.RetOutIdeal.nD Cert.RetOutIdeal.τ).loc Cert.RetOutIdeal.main_v2_1)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v2_0) = v0 c
          ∧ r.2.mem ((c.tc : Thread Cert.RetOutIdeal.nD Cert.RetOutIdeal.τ).loc Cert.RetOutIdeal.main_v2_1) = v1 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
          ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
          ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3)
          ∧ r.2.mem ((c.tc : Thread Cert.RetOutIdeal.nD Cert.RetOutIdeal.τ).loc Cert.RetOutIdeal.main_arg4) = m ((c.tc : Thread Cert.RetOutIdeal.nD Cert.RetOutIdeal.τ).loc Cert.RetOutIdeal.main_arg4))
      ∧ θ_run (Cert.RetOutRefIdeal.defs (F := Ideal)) (onTc (τ := Cert.RetOutRefIdeal.τ) (Cert.RetOutRefIdeal.main (F := Ideal))) ⟨m', fun _ => 0, g'⟩ (fun r => ∀ c : Dev Cert.RetOutRefIdeal.nD,
          r.2.mem ((c.tc : Thread Cert.RetOutRefIdeal.nD Cert.RetOutRefIdeal.τ).loc Cert.RetOutRefIdeal.main_v29) = v0 c
          ∧ r.2.mem ((c.tc : Thread Cert.RetOutRefIdeal.nD Cert.RetOutRefIdeal.τ).loc Cert.RetOutRefIdeal.main_v30) = v1 c
          ∧ r.2.mem ((c.tc : Thread Cert.RetOutRefIdeal.nD Cert.RetOutRefIdeal.τ).loc Cert.RetOutRefIdeal.main_arg0) = m' ((c.tc : Thread Cert.RetOutRefIdeal.nD Cert.RetOutRefIdeal.τ).loc Cert.RetOutRefIdeal.main_arg0)
          ∧ r.2.mem ((c.tc : Thread Cert.RetOutRefIdeal.nD Cert.RetOutRefIdeal.τ).loc Cert.RetOutRefIdeal.main_arg1) = m' ((c.tc : Thread Cert.RetOutRefIdeal.nD Cert.RetOutRefIdeal.τ).loc Cert.RetOutRefIdeal.main_arg1)
          ∧ r.2.mem ((c.tc : Thread Cert.RetOutRefIdeal.nD Cert.RetOutRefIdeal.τ).loc Cert.RetOutRefIdeal.main_arg2) = m' ((c.tc : Thread Cert.RetOutRefIdeal.nD Cert.RetOutRefIdeal.τ).loc Cert.RetOutRefIdeal.main_arg2)
          ∧ r.2.mem ((c.tc : Thread Cert.RetOutRefIdeal.nD Cert.RetOutRefIdeal.τ).loc Cert.RetOutRefIdeal.main_arg3) = m' ((c.tc : Thread Cert.RetOutRefIdeal.nD Cert.RetOutRefIdeal.τ).loc Cert.RetOutRefIdeal.main_arg3)
          ∧ r.2.mem ((c.tc : Thread Cert.RetOutRefIdeal.nD Cert.RetOutRefIdeal.τ).loc Cert.RetOutRefIdeal.main_arg4) = m' ((c.tc : Thread Cert.RetOutRefIdeal.nD Cert.RetOutRefIdeal.τ).loc Cert.RetOutRefIdeal.main_arg4))

def preserves_MobaOut_MobaOutIdeal : Prop :=
  True

def algebraic_MobaOutIdeal_MobaOutRefIdeal [hMobaOutIdeal : Cert.MobaOutIdeal.Facts] [hMobaOutRefIdeal : Cert.MobaOutRefIdeal.Facts] : Prop :=
  ∀ (m : (ℓ : Loc Cert.MobaOutIdeal.nD Cert.MobaOutIdeal.τ Cert.MobaOutIdeal.sig) → Buf (Elt Ideal) ℓ) (g : Dev Cert.MobaOutIdeal.nD → PrngReg)
    (m' : (ℓ : Loc Cert.MobaOutRefIdeal.nD Cert.MobaOutRefIdeal.τ Cert.MobaOutRefIdeal.sig) → Buf (Elt Ideal) ℓ) (g' : Dev Cert.MobaOutRefIdeal.nD → PrngReg), Pre_MobaOutIdeal m →
    (∀ c : Dev Cert.MobaOutIdeal.nD,
      m' ((c.tc : Thread Cert.MobaOutRefIdeal.nD Cert.MobaOutRefIdeal.τ).loc Cert.MobaOutRefIdeal.main_arg0) = m ((c.tc : Thread Cert.MobaOutIdeal.nD Cert.MobaOutIdeal.τ).loc Cert.MobaOutIdeal.main_arg0)
      ∧ m' ((c.tc : Thread Cert.MobaOutRefIdeal.nD Cert.MobaOutRefIdeal.τ).loc Cert.MobaOutRefIdeal.main_arg1) = m ((c.tc : Thread Cert.MobaOutIdeal.nD Cert.MobaOutIdeal.τ).loc Cert.MobaOutIdeal.main_arg1)
      ∧ m' ((c.tc : Thread Cert.MobaOutRefIdeal.nD Cert.MobaOutRefIdeal.τ).loc Cert.MobaOutRefIdeal.main_arg2) = m ((c.tc : Thread Cert.MobaOutIdeal.nD Cert.MobaOutIdeal.τ).loc Cert.MobaOutIdeal.main_arg2)
      ∧ m' ((c.tc : Thread Cert.MobaOutRefIdeal.nD Cert.MobaOutRefIdeal.τ).loc Cert.MobaOutRefIdeal.main_arg3) = m ((c.tc : Thread Cert.MobaOutIdeal.nD Cert.MobaOutIdeal.τ).loc Cert.MobaOutIdeal.main_arg3)
      ∧ m' ((c.tc : Thread Cert.MobaOutRefIdeal.nD Cert.MobaOutRefIdeal.τ).loc Cert.MobaOutRefIdeal.main_arg4) = m ((c.tc : Thread Cert.MobaOutIdeal.nD Cert.MobaOutIdeal.τ).loc Cert.MobaOutIdeal.main_arg4)) →
    ∃ (v0 : (c : Dev Cert.MobaOutIdeal.nD) → Buf (Elt Ideal) ((c.tc : Thread Cert.MobaOutIdeal.nD Cert.MobaOutIdeal.τ).loc Cert.MobaOutIdeal.main_v2_0)) (v1 : (c : Dev Cert.MobaOutIdeal.nD) → Buf (Elt Ideal) ((c.tc : Thread Cert.MobaOutIdeal.nD Cert.MobaOutIdeal.τ).loc Cert.MobaOutIdeal.main_v2_1)),
      θ_run (Cert.MobaOutIdeal.defs (F := Ideal)) (onTc (τ := Cert.MobaOutIdeal.τ) (Cert.MobaOutIdeal.main (F := Ideal))) ⟨m, fun _ => 0, g⟩ (fun r => ∀ c : Dev Cert.MobaOutIdeal.nD,
          r.2.mem ((c.tc : Thread Cert.MobaOutIdeal.nD Cert.MobaOutIdeal.τ).loc Cert.MobaOutIdeal.main_v2_0) = v0 c
          ∧ r.2.mem ((c.tc : Thread Cert.MobaOutIdeal.nD Cert.MobaOutIdeal.τ).loc Cert.MobaOutIdeal.main_v2_1) = v1 c
          ∧ r.2.mem ((c.tc : Thread Cert.MobaOutIdeal.nD Cert.MobaOutIdeal.τ).loc Cert.MobaOutIdeal.main_arg0) = m ((c.tc : Thread Cert.MobaOutIdeal.nD Cert.MobaOutIdeal.τ).loc Cert.MobaOutIdeal.main_arg0)
          ∧ r.2.mem ((c.tc : Thread Cert.MobaOutIdeal.nD Cert.MobaOutIdeal.τ).loc Cert.MobaOutIdeal.main_arg1) = m ((c.tc : Thread Cert.MobaOutIdeal.nD Cert.MobaOutIdeal.τ).loc Cert.MobaOutIdeal.main_arg1)
          ∧ r.2.mem ((c.tc : Thread Cert.MobaOutIdeal.nD Cert.MobaOutIdeal.τ).loc Cert.MobaOutIdeal.main_arg2) = m ((c.tc : Thread Cert.MobaOutIdeal.nD Cert.MobaOutIdeal.τ).loc Cert.MobaOutIdeal.main_arg2)
          ∧ r.2.mem ((c.tc : Thread Cert.MobaOutIdeal.nD Cert.MobaOutIdeal.τ).loc Cert.MobaOutIdeal.main_arg3) = m ((c.tc : Thread Cert.MobaOutIdeal.nD Cert.MobaOutIdeal.τ).loc Cert.MobaOutIdeal.main_arg3)
          ∧ r.2.mem ((c.tc : Thread Cert.MobaOutIdeal.nD Cert.MobaOutIdeal.τ).loc Cert.MobaOutIdeal.main_arg4) = m ((c.tc : Thread Cert.MobaOutIdeal.nD Cert.MobaOutIdeal.τ).loc Cert.MobaOutIdeal.main_arg4))
      ∧ θ_run (Cert.MobaOutRefIdeal.defs (F := Ideal)) (onTc (τ := Cert.MobaOutRefIdeal.τ) (Cert.MobaOutRefIdeal.main (F := Ideal))) ⟨m', fun _ => 0, g'⟩ (fun r => ∀ c : Dev Cert.MobaOutRefIdeal.nD,
          r.2.mem ((c.tc : Thread Cert.MobaOutRefIdeal.nD Cert.MobaOutRefIdeal.τ).loc Cert.MobaOutRefIdeal.main_v29) = v0 c
          ∧ r.2.mem ((c.tc : Thread Cert.MobaOutRefIdeal.nD Cert.MobaOutRefIdeal.τ).loc Cert.MobaOutRefIdeal.main_v30) = v1 c
          ∧ r.2.mem ((c.tc : Thread Cert.MobaOutRefIdeal.nD Cert.MobaOutRefIdeal.τ).loc Cert.MobaOutRefIdeal.main_arg0) = m' ((c.tc : Thread Cert.MobaOutRefIdeal.nD Cert.MobaOutRefIdeal.τ).loc Cert.MobaOutRefIdeal.main_arg0)
          ∧ r.2.mem ((c.tc : Thread Cert.MobaOutRefIdeal.nD Cert.MobaOutRefIdeal.τ).loc Cert.MobaOutRefIdeal.main_arg1) = m' ((c.tc : Thread Cert.MobaOutRefIdeal.nD Cert.MobaOutRefIdeal.τ).loc Cert.MobaOutRefIdeal.main_arg1)
          ∧ r.2.mem ((c.tc : Thread Cert.MobaOutRefIdeal.nD Cert.MobaOutRefIdeal.τ).loc Cert.MobaOutRefIdeal.main_arg2) = m' ((c.tc : Thread Cert.MobaOutRefIdeal.nD Cert.MobaOutRefIdeal.τ).loc Cert.MobaOutRefIdeal.main_arg2)
          ∧ r.2.mem ((c.tc : Thread Cert.MobaOutRefIdeal.nD Cert.MobaOutRefIdeal.τ).loc Cert.MobaOutRefIdeal.main_arg3) = m' ((c.tc : Thread Cert.MobaOutRefIdeal.nD Cert.MobaOutRefIdeal.τ).loc Cert.MobaOutRefIdeal.main_arg3)
          ∧ r.2.mem ((c.tc : Thread Cert.MobaOutRefIdeal.nD Cert.MobaOutRefIdeal.τ).loc Cert.MobaOutRefIdeal.main_arg4) = m' ((c.tc : Thread Cert.MobaOutRefIdeal.nD Cert.MobaOutRefIdeal.τ).loc Cert.MobaOutRefIdeal.main_arg4))

def preserves_MobaQkv_MobaQkvIdeal : Prop :=
  True

def algebraic_MobaQkvIdeal_MobaQkvRefIdeal [hMobaQkvIdeal : Cert.MobaQkvIdeal.Facts] [hMobaQkvRefIdeal : Cert.MobaQkvRefIdeal.Facts] : Prop :=
  ∀ (m : (ℓ : Loc Cert.MobaQkvIdeal.nD Cert.MobaQkvIdeal.τ Cert.MobaQkvIdeal.sig) → Buf (Elt Ideal) ℓ) (g : Dev Cert.MobaQkvIdeal.nD → PrngReg)
    (m' : (ℓ : Loc Cert.MobaQkvRefIdeal.nD Cert.MobaQkvRefIdeal.τ Cert.MobaQkvRefIdeal.sig) → Buf (Elt Ideal) ℓ) (g' : Dev Cert.MobaQkvRefIdeal.nD → PrngReg), Pre_MobaQkvIdeal m →
    (∀ c : Dev Cert.MobaQkvIdeal.nD,
      m' ((c.tc : Thread Cert.MobaQkvRefIdeal.nD Cert.MobaQkvRefIdeal.τ).loc Cert.MobaQkvRefIdeal.main_arg0) = m ((c.tc : Thread Cert.MobaQkvIdeal.nD Cert.MobaQkvIdeal.τ).loc Cert.MobaQkvIdeal.main_arg0)
      ∧ m' ((c.tc : Thread Cert.MobaQkvRefIdeal.nD Cert.MobaQkvRefIdeal.τ).loc Cert.MobaQkvRefIdeal.main_arg1) = m ((c.tc : Thread Cert.MobaQkvIdeal.nD Cert.MobaQkvIdeal.τ).loc Cert.MobaQkvIdeal.main_arg1)) →
    ∃ (v0 : (c : Dev Cert.MobaQkvIdeal.nD) → Buf (Elt Ideal) ((c.tc : Thread Cert.MobaQkvIdeal.nD Cert.MobaQkvIdeal.τ).loc Cert.MobaQkvIdeal.main_v21)),
      θ_run (Cert.MobaQkvIdeal.defs (F := Ideal)) (onTc (τ := Cert.MobaQkvIdeal.τ) (Cert.MobaQkvIdeal.main (F := Ideal))) ⟨m, fun _ => 0, g⟩ (fun r => ∀ c : Dev Cert.MobaQkvIdeal.nD,
          r.2.mem ((c.tc : Thread Cert.MobaQkvIdeal.nD Cert.MobaQkvIdeal.τ).loc Cert.MobaQkvIdeal.main_v21) = v0 c
          ∧ r.2.mem ((c.tc : Thread Cert.MobaQkvIdeal.nD Cert.MobaQkvIdeal.τ).loc Cert.MobaQkvIdeal.main_arg0) = m ((c.tc : Thread Cert.MobaQkvIdeal.nD Cert.MobaQkvIdeal.τ).loc Cert.MobaQkvIdeal.main_arg0)
          ∧ r.2.mem ((c.tc : Thread Cert.MobaQkvIdeal.nD Cert.MobaQkvIdeal.τ).loc Cert.MobaQkvIdeal.main_arg1) = m ((c.tc : Thread Cert.MobaQkvIdeal.nD Cert.MobaQkvIdeal.τ).loc Cert.MobaQkvIdeal.main_arg1))
      ∧ θ_run (Cert.MobaQkvRefIdeal.defs (F := Ideal)) (onTc (τ := Cert.MobaQkvRefIdeal.τ) (Cert.MobaQkvRefIdeal.main (F := Ideal))) ⟨m', fun _ => 0, g'⟩ (fun r => ∀ c : Dev Cert.MobaQkvRefIdeal.nD,
          r.2.mem ((c.tc : Thread Cert.MobaQkvRefIdeal.nD Cert.MobaQkvRefIdeal.τ).loc Cert.MobaQkvRefIdeal.main_v78) = v0 c
          ∧ r.2.mem ((c.tc : Thread Cert.MobaQkvRefIdeal.nD Cert.MobaQkvRefIdeal.τ).loc Cert.MobaQkvRefIdeal.main_arg0) = m' ((c.tc : Thread Cert.MobaQkvRefIdeal.nD Cert.MobaQkvRefIdeal.τ).loc Cert.MobaQkvRefIdeal.main_arg0)
          ∧ r.2.mem ((c.tc : Thread Cert.MobaQkvRefIdeal.nD Cert.MobaQkvRefIdeal.τ).loc Cert.MobaQkvRefIdeal.main_arg1) = m' ((c.tc : Thread Cert.MobaQkvRefIdeal.nD Cert.MobaQkvRefIdeal.τ).loc Cert.MobaQkvRefIdeal.main_arg1))

def Claim : Prop :=
  ∃ (hRetention : Cert.Retention.Facts) (hRetentionIdeal : Cert.RetentionIdeal.Facts) (hRetentionRefIdeal : Cert.RetentionRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hRetV : Cert.RetV.Facts) (hRetVIdeal : Cert.RetVIdeal.Facts) (hRetVRefIdeal : Cert.RetVRefIdeal.Facts) (hRetGate : Cert.RetGate.Facts) (hRetGateIdeal : Cert.RetGateIdeal.Facts) (hRetGateRefIdeal : Cert.RetGateRefIdeal.Facts) (hRetQ : Cert.RetQ.Facts) (hRetQIdeal : Cert.RetQIdeal.Facts) (hRetQRefIdeal : Cert.RetQRefIdeal.Facts) (hRetK : Cert.RetK.Facts) (hRetKIdeal : Cert.RetKIdeal.Facts) (hRetKRefIdeal : Cert.RetKRefIdeal.Facts) (hRetOut : Cert.RetOut.Facts) (hRetOutIdeal : Cert.RetOutIdeal.Facts) (hRetOutRefIdeal : Cert.RetOutRefIdeal.Facts) (hMobaOut : Cert.MobaOut.Facts) (hMobaOutIdeal : Cert.MobaOutIdeal.Facts) (hMobaOutRefIdeal : Cert.MobaOutRefIdeal.Facts) (hMobaQkv : Cert.MobaQkv.Facts) (hMobaQkvIdeal : Cert.MobaQkvIdeal.Facts) (hMobaQkvRefIdeal : Cert.MobaQkvRefIdeal.Facts),
    quiescent_Retention (hRetention := hRetention)
    ∧ quiescent_RetentionIdeal (hRetentionIdeal := hRetentionIdeal)
    ∧ quiescent_RetentionRefIdeal (hRetentionRefIdeal := hRetentionRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_RetV (hRetV := hRetV)
    ∧ quiescent_RetVIdeal (hRetVIdeal := hRetVIdeal)
    ∧ quiescent_RetVRefIdeal (hRetVRefIdeal := hRetVRefIdeal)
    ∧ quiescent_RetGate (hRetGate := hRetGate)
    ∧ quiescent_RetGateIdeal (hRetGateIdeal := hRetGateIdeal)
    ∧ quiescent_RetGateRefIdeal (hRetGateRefIdeal := hRetGateRefIdeal)
    ∧ quiescent_RetQ (hRetQ := hRetQ)
    ∧ quiescent_RetQIdeal (hRetQIdeal := hRetQIdeal)
    ∧ quiescent_RetQRefIdeal (hRetQRefIdeal := hRetQRefIdeal)
    ∧ quiescent_RetK (hRetK := hRetK)
    ∧ quiescent_RetKIdeal (hRetKIdeal := hRetKIdeal)
    ∧ quiescent_RetKRefIdeal (hRetKRefIdeal := hRetKRefIdeal)
    ∧ quiescent_RetOut (hRetOut := hRetOut)
    ∧ quiescent_RetOutIdeal (hRetOutIdeal := hRetOutIdeal)
    ∧ quiescent_RetOutRefIdeal (hRetOutRefIdeal := hRetOutRefIdeal)
    ∧ quiescent_MobaOut (hMobaOut := hMobaOut)
    ∧ quiescent_MobaOutIdeal (hMobaOutIdeal := hMobaOutIdeal)
    ∧ quiescent_MobaOutRefIdeal (hMobaOutRefIdeal := hMobaOutRefIdeal)
    ∧ quiescent_MobaQkv (hMobaQkv := hMobaQkv)
    ∧ quiescent_MobaQkvIdeal (hMobaQkvIdeal := hMobaQkvIdeal)
    ∧ quiescent_MobaQkvRefIdeal (hMobaQkvRefIdeal := hMobaQkvRefIdeal)
    ∧ preserves_Retention_RetentionIdeal
    ∧ algebraic_RetentionIdeal_RetentionRefIdeal (hRetentionIdeal := hRetentionIdeal) (hRetentionRefIdeal := hRetentionRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_RetV_RetVIdeal
    ∧ algebraic_RetVIdeal_RetVRefIdeal (hRetVIdeal := hRetVIdeal) (hRetVRefIdeal := hRetVRefIdeal)
    ∧ preserves_RetGate_RetGateIdeal
    ∧ algebraic_RetGateIdeal_RetGateRefIdeal (hRetGateIdeal := hRetGateIdeal) (hRetGateRefIdeal := hRetGateRefIdeal)
    ∧ preserves_RetQ_RetQIdeal
    ∧ algebraic_RetQIdeal_RetQRefIdeal (hRetQIdeal := hRetQIdeal) (hRetQRefIdeal := hRetQRefIdeal)
    ∧ preserves_RetK_RetKIdeal
    ∧ algebraic_RetKIdeal_RetKRefIdeal (hRetKIdeal := hRetKIdeal) (hRetKRefIdeal := hRetKRefIdeal)
    ∧ preserves_RetOut_RetOutIdeal
    ∧ algebraic_RetOutIdeal_RetOutRefIdeal (hRetOutIdeal := hRetOutIdeal) (hRetOutRefIdeal := hRetOutRefIdeal)
    ∧ preserves_MobaOut_MobaOutIdeal
    ∧ algebraic_MobaOutIdeal_MobaOutRefIdeal (hMobaOutIdeal := hMobaOutIdeal) (hMobaOutRefIdeal := hMobaOutRefIdeal)
    ∧ preserves_MobaQkv_MobaQkvIdeal
    ∧ algebraic_MobaQkvIdeal_MobaQkvRefIdeal (hMobaQkvIdeal := hMobaQkvIdeal) (hMobaQkvRefIdeal := hMobaQkvRefIdeal)
-- ==== Retention.lean ====
abbrev S2x8192x2048 : Shape := ⟨3, ![2, 8192, 2048]⟩
abbrev S2x8192x4096 : Shape := ⟨3, ![2, 8192, 4096]⟩
abbrev S8 : Shape := ⟨1, ![8]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S8x1x1 : Shape := ⟨3, ![8, 1, 1]⟩
abbrev S8x256x256 : Shape := ⟨3, ![8, 256, 256]⟩
abbrev S8x1 : Shape := ⟨2, ![8, 1]⟩
abbrev S8x256 : Shape := ⟨2, ![8, 256]⟩
abbrev S8x256x1 : Shape := ⟨3, ![8, 256, 1]⟩
abbrev S1x256x1024 : Shape := ⟨3, ![1, 256, 1024]⟩
abbrev S1x256x2048 : Shape := ⟨3, ![1, 256, 2048]⟩
abbrev S4x256x256 : Shape := ⟨3, ![4, 256, 256]⟩
abbrev S4x256x1 : Shape := ⟨3, ![4, 256, 1]⟩
abbrev S4x1x1 : Shape := ⟨3, ![4, 1, 1]⟩
abbrev S4x256x512 : Shape := ⟨3, ![4, 256, 512]⟩
abbrev S1x256x512 : Shape := ⟨3, ![1, 256, 512]⟩
abbrev S256x512 : Shape := ⟨2, ![256, 512]⟩
abbrev S1x256x1 : Shape := ⟨3, ![1, 256, 1]⟩
abbrev S1x1x1 : Shape := ⟨3, ![1, 1, 1]⟩
abbrev S1x1 : Shape := ⟨2, ![1, 1]⟩

abbrev nBuf : Space → Nat
  | .hbm => 63
  | .vmem => 19
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x2048, .bf16⟩
  | .hbm, ⟨2, _⟩ => ⟨S2x8192x4096, .bf16⟩
  | .hbm, ⟨3, _⟩ => ⟨S2x8192x4096, .bf16⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S256, .f32⟩
  | .hbm, ⟨15, _⟩ => ⟨S256x1, .f32⟩
  | .hbm, ⟨16, _⟩ => ⟨S1x256, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S_, .f32⟩
  | .hbm, ⟨21, _⟩ => ⟨S256x256, .f32⟩
  | .hbm, ⟨22, _⟩ => ⟨S256x256, .i1⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S1x256x256, .f32⟩
  | .hbm, ⟨27, _⟩ => ⟨S8x1x1, .f32⟩
  | .hbm, ⟨28, _⟩ => ⟨S8x256x256, .f32⟩
  | .hbm, ⟨29, _⟩ => ⟨S8x256x256, .f32⟩
  | .hbm, ⟨30, _⟩ => ⟨S8x256x256, .f32⟩
  | .hbm, ⟨31, _⟩ => ⟨S8x256x256, .f32⟩
  | .hbm, ⟨32, _⟩ => ⟨S_, .f32⟩
  | .hbm, ⟨33, _⟩ => ⟨S_, .f32⟩
  | .hbm, ⟨34, _⟩ => ⟨S8x256x256, .i1⟩
  | .hbm, ⟨35, _⟩ => ⟨S8x256x256, .f32⟩
  | .hbm, ⟨36, _⟩ => ⟨S8x256x256, .f32⟩
  | .hbm, ⟨37, _⟩ => ⟨S1x256, .f32⟩
  | .hbm, ⟨38, _⟩ => ⟨S_, .f32⟩
  | .hbm, ⟨39, _⟩ => ⟨S1x256, .f32⟩
  | .hbm, ⟨40, _⟩ => ⟨S1x256, .f32⟩
  | .hbm, ⟨41, _⟩ => ⟨S8x1, .f32⟩
  | .hbm, ⟨42, _⟩ => ⟨S8x256, .f32⟩
  | .hbm, ⟨43, _⟩ => ⟨S8x256, .f32⟩
  | .hbm, ⟨44, _⟩ => ⟨S8x256, .f32⟩
  | .hbm, ⟨45, _⟩ => ⟨S8x256, .f32⟩
  | .hbm, ⟨46, _⟩ => ⟨S8x256x1, .f32⟩
  | .hbm, ⟨47, _⟩ => ⟨S1x256, .f32⟩
  | .hbm, ⟨48, _⟩ => ⟨S_, .f32⟩
  | .hbm, ⟨49, _⟩ => ⟨S1x256, .f32⟩
  | .hbm, ⟨50, _⟩ => ⟨S1x256, .f32⟩
  | .hbm, ⟨51, _⟩ => ⟨S8x1, .f32⟩
  | .hbm, ⟨52, _⟩ => ⟨S8x256, .f32⟩
  | .hbm, ⟨53, _⟩ => ⟨S8x256, .f32⟩
  | .hbm, ⟨54, _⟩ => ⟨S8x256, .f32⟩
  | .hbm, ⟨55, _⟩ => ⟨S8x256, .f32⟩
  | .hbm, ⟨56, _⟩ => ⟨S8x256x1, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S8, .f32⟩
  | .hbm, ⟨61, _⟩ => ⟨S8x1x1, .f32⟩
  | .hbm, ⟨62, _⟩ => ⟨S2x8192x4096, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S4x256x256, .f32⟩
  | .local _ .vmem, ⟨9, _⟩ => ⟨S4x256x256, .f32⟩
  | .local _ .vmem, ⟨10, _⟩ => ⟨S4x256x1, .f32⟩
  | .local _ .vmem, ⟨11, _⟩ => ⟨S4x256x1, .f32⟩
  | .local _ .vmem, ⟨12, _⟩ => ⟨S4x256x1, .f32⟩
  | .local _ .vmem, ⟨13, _⟩ => ⟨S4x256x1, .f32⟩
  | .local _ .vmem, ⟨14, _⟩ => ⟨S4x1x1, .f32⟩
  | .local _ .vmem, ⟨15, _⟩ => ⟨S4x1x1, .f32⟩
  | .local _ .vmem, ⟨16, _⟩ => ⟨S1x256x2048, .bf16⟩
  | .local _ .vmem, ⟨17, _⟩ => ⟨S1x256x2048, .bf16⟩
  | .local _ .vmem, ⟨18, _⟩ => ⟨S4x256x512, .f32⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S4x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S4x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S4x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== RetentionRefIdeal.lean ====
abbrev S2x8192x2048 : Shape := ⟨3, ![2, 8192, 2048]⟩
abbrev S2x8192x4096 : Shape := ⟨3, ![2, 8192, 4096]⟩
abbrev S2x8192x8x256 : Shape := ⟨4, ![2, 8192, 8, 256]⟩
abbrev S2x8x8192x256 : Shape := ⟨4, ![2, 8, 8192, 256]⟩
abbrev S2x8192x8x512 : Shape := ⟨4, ![2, 8192, 8, 512]⟩
abbrev S2x8x8192x512 : Shape := ⟨4, ![2, 8, 8192, 512]⟩
abbrev S8 : Shape := ⟨1, ![8]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S8x1x1 : Shape := ⟨3, ![8, 1, 1]⟩
abbrev S8x256x256 : Shape := ⟨3, ![8, 256, 256]⟩
abbrev S8x1 : Shape := ⟨2, ![8, 1]⟩
abbrev S8x256 : Shape := ⟨2, ![8, 256]⟩
abbrev S2x8x32x256x256 : Shape := ⟨5, ![2, 8, 32, 256, 256]⟩
abbrev S2x8x32x256x512 : Shape := ⟨5, ![2, 8, 32, 256, 512]⟩
abbrev S2x8x256x512 : Shape := ⟨4, ![2, 8, 256, 512]⟩
abbrev S32x2x8x256x256 : Shape := ⟨5, ![32, 2, 8, 256, 256]⟩
abbrev S32x2x8x256x512 : Shape := ⟨5, ![32, 2, 8, 256, 512]⟩
abbrev S1x2x8x256x256 : Shape := ⟨5, ![1, 2, 8, 256, 256]⟩
abbrev S2x8x256x256 : Shape := ⟨4, ![2, 8, 256, 256]⟩
abbrev S1x2x8x256x512 : Shape := ⟨5, ![1, 2, 8, 256, 512]⟩
abbrev S1x8x256x256 : Shape := ⟨4, ![1, 8, 256, 256]⟩
abbrev S1x8x256x1 : Shape := ⟨4, ![1, 8, 256, 1]⟩
abbrev S1x8x1x1 : Shape := ⟨4, ![1, 8, 1, 1]⟩
abbrev S2x8x8192 : Shape := ⟨3, ![2, 8, 8192]⟩
abbrev S2x8x8192x1 : Shape := ⟨4, ![2, 8, 8192, 1]⟩

abbrev nBuf : Space → Nat
  | .hbm => 165
  | .vmem => 0
  | .smem => 0
  | _ => 0

abbrev hbmTy0_0 (i : Nat) : BufTy := match i % 128 with
  | 0 => ⟨S2x8192x2048, .bf16⟩
  | 1 => ⟨S2x8192x2048, .bf16⟩
  | 2 => ⟨S2x8192x4096, .bf16⟩
  | 3 => ⟨S2x8192x4096, .bf16⟩
  | 4 => ⟨S2x8192x2048, .f32⟩
  | 5 => ⟨S2x8192x2048, .f32⟩
  | 6 => ⟨S2x8192x4096, .f32⟩
  | 7 => ⟨S2x8192x8x256, .f32⟩
  | 8 => ⟨S2x8x8192x256, .f32⟩
  | 9 => ⟨S2x8192x8x256, .f32⟩
  | 10 => ⟨S2x8x8192x256, .f32⟩
  | 11 => ⟨S2x8192x8x512, .f32⟩
  | 12 => ⟨S2x8x8192x512, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S8, .f32⟩
  | 21 => ⟨S8, .f32⟩
  | 22 => ⟨S8, .f32⟩
  | 23 => ⟨S256, .f32⟩
  | 24 => ⟨S256x1, .f32⟩
  | 25 => ⟨S1x256, .f32⟩
  | 26 => ⟨S256x256, .f32⟩
  | 27 => ⟨S256x256, .f32⟩
  | 28 => ⟨S256x256, .f32⟩
  | 29 => ⟨S_, .f32⟩
  | 30 => ⟨S256x256, .f32⟩
  | 31 => ⟨S256x256, .i1⟩
  | 32 => ⟨S_, .f32⟩
  | 33 => ⟨S256x256, .f32⟩
  | 34 => ⟨S256x256, .f32⟩
  | 35 => ⟨S1x256x256, .f32⟩
  | 36 => ⟨S8x1x1, .f32⟩
  | 37 => ⟨S8x256x256, .f32⟩
  | 38 => ⟨S8x256x256, .f32⟩
  | 39 => ⟨S8x256x256, .f32⟩
  | 40 => ⟨S8x256x256, .f32⟩
  | 41 => ⟨S_, .f32⟩
  | 42 => ⟨S_, .f32⟩
  | 43 => ⟨S8x256x256, .i1⟩
  | 44 => ⟨S8x256x256, .f32⟩
  | 45 => ⟨S8x256x256, .f32⟩
  | 46 => ⟨S1x256, .f32⟩
  | 47 => ⟨S_, .f32⟩
  | 48 => ⟨S1x256, .f32⟩
  | 49 => ⟨S1x256, .f32⟩
  | 50 => ⟨S8x1, .f32⟩
  | 51 => ⟨S8x256, .f32⟩
  | 52 => ⟨S8x256, .f32⟩
  | 53 => ⟨S8x256, .f32⟩
  | 54 => ⟨S8x256, .f32⟩
  | 55 => ⟨S1x256, .f32⟩
  | 56 => ⟨S_, .f32⟩
  | 57 => ⟨S1x256, .f32⟩
  | 58 => ⟨S1x256, .f32⟩
  | 59 => ⟨S8x1, .f32⟩
  | 60 => ⟨S8x256, .f32⟩
  | 61 => ⟨S8x256, .f32⟩
  | 62 => ⟨S8x256, .f32⟩
  | 63 => ⟨S8x256, .f32⟩
  | 64 => ⟨S_, .f32⟩
  | 65 => ⟨S8, .f32⟩
  | 66 => ⟨S8, .f32⟩
  | 67 => ⟨S8, .f32⟩
  | 68 => ⟨S2x8x32x256x256, .f32⟩
  | 69 => ⟨S2x8x32x256x256, .f32⟩
  | 70 => ⟨S2x8x32x256x512, .f32⟩
  | 71 => ⟨S_, .f32⟩
  | 72 => ⟨S2x8x256x512, .f32⟩
  | 73 => ⟨S32x2x8x256x256, .f32⟩
  | 74 => ⟨S32x2x8x256x256, .f32⟩
  | 75 => ⟨S32x2x8x256x512, .f32⟩
  | 76 => ⟨S_, .f32⟩
  | 77 => ⟨S32x2x8x256x512, .f32⟩
  | 78 => ⟨S_, .i32⟩
  | 79 => ⟨S32x2x8x256x256, .f32⟩
  | 80 => ⟨S32x2x8x256x256, .f32⟩
  | 81 => ⟨S32x2x8x256x512, .f32⟩
  | 82 => ⟨S8x256x256, .f32⟩
  | 83 => ⟨S8x256, .f32⟩
  | 84 => ⟨S8, .f32⟩
  | 85 => ⟨S8x256, .f32⟩
  | 86 => ⟨S_, .i32⟩
  | 87 => ⟨S2x8x256x512, .f32⟩
  | 88 => ⟨S32x2x8x256x512, .f32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S1x2x8x256x256, .f32⟩
  | 96 => ⟨S2x8x256x256, .f32⟩
  | 97 => ⟨S_, .i32⟩
  | 98 => ⟨S_, .i32⟩
  | 99 => ⟨S_, .i32⟩
  | 100 => ⟨S_, .i32⟩
  | 101 => ⟨S1x2x8x256x256, .f32⟩
  | 102 => ⟨S2x8x256x256, .f32⟩
  | 103 => ⟨S_, .i32⟩
  | 104 => ⟨S_, .i32⟩
  | 105 => ⟨S_, .i32⟩
  | 106 => ⟨S_, .i32⟩
  | 107 => ⟨S1x2x8x256x512, .f32⟩
  | 108 => ⟨S2x8x256x512, .f32⟩
  | 109 => ⟨S2x8x256x256, .f32⟩
  | 110 => ⟨S1x8x256x256, .f32⟩
  | 111 => ⟨S2x8x256x256, .f32⟩
  | 112 => ⟨S2x8x256x256, .f32⟩
  | 113 => ⟨S2x8x256x512, .f32⟩
  | 114 => ⟨S2x8x256x512, .f32⟩
  | 115 => ⟨S1x8x256x1, .f32⟩
  | 116 => ⟨S2x8x256x512, .f32⟩
  | 117 => ⟨S2x8x256x512, .f32⟩
  | 118 => ⟨S1x8x1x1, .f32⟩
  | 119 => ⟨S2x8x256x512, .f32⟩
  | 120 => ⟨S2x8x256x512, .f32⟩
  | 121 => ⟨S1x8x256x1, .f32⟩
  | 122 => ⟨S2x8x256x256, .f32⟩
  | 123 => ⟨S2x8x256x256, .f32⟩
  | 124 => ⟨S2x8x256x512, .f32⟩
  | 125 => ⟨S2x8x256x512, .f32⟩
  | 126 => ⟨S2x8x256x512, .f32⟩
  | 127 => ⟨S1x2x8x256x512, .f32⟩
  | _ => ⟨S2x8192x2048, .bf16⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S32x2x8x256x512, .f32⟩
  | 5 => ⟨S_, .i32⟩
  | 6 => ⟨S_, .i32⟩
  | 7 => ⟨S2x8x32x256x512, .f32⟩
  | 8 => ⟨S2x8x8192x512, .f32⟩
  | 9 => ⟨S_, .f32⟩
  | 10 => ⟨S2x8x8192, .f32⟩
  | 11 => ⟨S2x8x8192x1, .f32⟩
  | 12 => ⟨S_, .f32⟩
  | 13 => ⟨S2x8x8192x1, .f32⟩
  | 14 => ⟨S2x8x8192x1, .f32⟩
  | 15 => ⟨S2x8x8192x512, .f32⟩
  | 16 => ⟨S2x8x8192x512, .f32⟩
  | 17 => ⟨S2x8x8192x512, .f32⟩
  | 18 => ⟨S_, .f32⟩
  | 19 => ⟨S2x8x8192, .f32⟩
  | 20 => ⟨S2x8x8192x1, .f32⟩
  | 21 => ⟨S_, .f32⟩
  | 22 => ⟨S2x8x8192x1, .f32⟩
  | 23 => ⟨S2x8x8192x1, .f32⟩
  | 24 => ⟨S2x8x8192x512, .f32⟩
  | 25 => ⟨S2x8x8192x512, .f32⟩
  | 26 => ⟨S_, .f32⟩
  | 27 => ⟨S2x8x8192x1, .f32⟩
  | 28 => ⟨S2x8x8192x1, .f32⟩
  | 29 => ⟨S2x8x8192x1, .f32⟩
  | 30 => ⟨S2x8x8192x512, .f32⟩
  | 31 => ⟨S2x8x8192x512, .f32⟩
  | 32 => ⟨S2x8192x8x512, .f32⟩
  | 33 => ⟨S2x8192x4096, .f32⟩
  | 34 => ⟨S2x8192x4096, .f32⟩
  | 35 => ⟨S2x8192x4096, .f32⟩
  | 36 => ⟨S2x8192x4096, .bf16⟩
  | _ => ⟨S2x8192x2048, .bf16⟩

abbrev hbmTy (i : Nat) : BufTy := match i / 128 with
  | 0 => hbmTy0_0 i
  | 1 => hbmTy0_1 i
  | _ => ⟨S2x8192x2048, .bf16⟩

abbrev bufTy : (tb : Table) → Fin (tcTables nBuf tb) → BufTy
  | .hbm, ⟨i, _⟩ => hbmTy i
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_7 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_c : Ref sig .tc := ⟨.hbm, 78, rfl⟩
abbrev main_v61_0 : Ref sig .tc := ⟨.hbm, 79, rfl⟩
abbrev main_v61_1 : Ref sig .tc := ⟨.hbm, 80, rfl⟩
abbrev main_v61_2 : Ref sig .tc := ⟨.hbm, 81, rfl⟩
abbrev main_v61_3 : Ref sig .tc := ⟨.hbm, 82, rfl⟩
abbrev main_v61_4 : Ref sig .tc := ⟨.hbm, 83, rfl⟩
abbrev main_v61_5 : Ref sig .tc := ⟨.hbm, 84, rfl⟩
abbrev main_v61_6 : Ref sig .tc := ⟨.hbm, 85, rfl⟩
abbrev main_v61_7 : Ref sig .tc := ⟨.hbm, 86, rfl⟩
abbrev main_v61_8 : Ref sig .tc := ⟨.hbm, 87, rfl⟩
abbrev main_v61_9 : Ref sig .tc := ⟨.hbm, 88, rfl⟩
abbrev main_while0c_c_23 : Ref sig .tc := ⟨.hbm, 89, rfl⟩
abbrev main_while0c_v87 : Ref sig .tc := ⟨.hbm, 90, rfl⟩
abbrev main_while0b_call1_c : Ref sig .tc := ⟨.hbm, 91, rfl⟩
abbrev main_while0b_call1_c_0 : Ref sig .tc := ⟨.hbm, 92, rfl⟩
abbrev main_while0b_call1_c_1 : Ref sig .tc := ⟨.hbm, 93, rfl⟩
abbrev main_while0b_call1_c_2 : Ref sig .tc := ⟨.hbm, 94, rfl⟩
abbrev main_while0b_call1_v0 : Ref sig .tc := ⟨.hbm, 95, rfl⟩
abbrev main_while0b_v87 : Ref sig .tc := ⟨.hbm, 96, rfl⟩
abbrev main_while0b_call2_c : Ref sig .tc := ⟨.hbm, 97, rfl⟩
abbrev main_while0b_call2_c_0 : Ref sig .tc := ⟨.hbm, 98, rfl⟩
abbrev main_while0b_call2_c_1 : Ref sig .tc := ⟨.hbm, 99, rfl⟩
abbrev main_while0b_call2_c_2 : Ref sig .tc := ⟨.hbm, 100, rfl⟩
abbrev main_while0b_call2_v0 : Ref sig .tc := ⟨.hbm, 101, rfl⟩
abbrev main_while0b_v88 : Ref sig .tc := ⟨.hbm, 102, rfl⟩
abbrev main_while0b_call3_c : Ref sig .tc := ⟨.hbm, 103, rfl⟩
abbrev main_while0b_call3_c_0 : Ref sig .tc := ⟨.hbm, 104, rfl⟩
abbrev main_while0b_call3_c_1 : Ref sig .tc := ⟨.hbm, 105, rfl⟩
abbrev main_while0b_call3_c_2 : Ref sig .tc := ⟨.hbm, 106, rfl⟩
abbrev main_while0b_call3_v0 : Ref sig .tc := ⟨.hbm, 107, rfl⟩
abbrev main_while0b_v89 : Ref sig .tc := ⟨.hbm, 108, rfl⟩
abbrev main_while0b_v90 : Ref sig .tc := ⟨.hbm, 109, rfl⟩
abbrev main_while0b_v91 : Ref sig .tc := ⟨.hbm, 110, rfl⟩
abbrev main_while0b_v92 : Ref sig .tc := ⟨.hbm, 111, rfl⟩
abbrev main_while0b_v93 : Ref sig .tc := ⟨.hbm, 112, rfl⟩
abbrev main_while0b_v94 : Ref sig .tc := ⟨.hbm, 113, rfl⟩
abbrev main_while0b_v95 : Ref sig .tc := ⟨.hbm, 114, rfl⟩
abbrev main_while0b_v96 : Ref sig .tc := ⟨.hbm, 115, rfl⟩
abbrev main_while0b_v97 : Ref sig .tc := ⟨.hbm, 116, rfl⟩
abbrev main_while0b_v98 : Ref sig .tc := ⟨.hbm, 117, rfl⟩
abbrev main_while0b_v99 : Ref sig .tc := ⟨.hbm, 118, rfl⟩
abbrev main_while0b_v100 : Ref sig .tc := ⟨.hbm, 119, rfl⟩
abbrev main_while0b_v101 : Ref sig .tc := ⟨.hbm, 120, rfl⟩
abbrev main_while0b_v102 : Ref sig .tc := ⟨.hbm, 121, rfl⟩
abbrev main_while0b_v103 : Ref sig .tc := ⟨.hbm, 122, rfl⟩
abbrev main_while0b_v104 : Ref sig .tc := ⟨.hbm, 123, rfl⟩
abbrev main_while0b_v105 : Ref sig .tc := ⟨.hbm, 124, rfl⟩
abbrev main_while0b_v106 : Ref sig .tc := ⟨.hbm, 125, rfl⟩
abbrev main_while0b_v107 : Ref sig .tc := ⟨.hbm, 126, rfl⟩
abbrev main_while0b_call4_v0 : Ref sig .tc := ⟨.hbm, 127, rfl⟩
abbrev main_while0b_call4_c : Ref sig .tc := ⟨.hbm, 128, rfl⟩
abbrev main_while0b_call4_c_0 : Ref sig .tc := ⟨.hbm, 129, rfl⟩
abbrev main_while0b_call4_c_1 : Ref sig .tc := ⟨.hbm, 130, rfl⟩
abbrev main_while0b_call4_c_2 : Ref sig .tc := ⟨.hbm, 131, rfl⟩
abbrev main_while0b_v108 : Ref sig .tc := ⟨.hbm, 132, rfl⟩
abbrev main_while0b_c_23 : Ref sig .tc := ⟨.hbm, 133, rfl⟩
abbrev main_while0b_v109 : Ref sig .tc := ⟨.hbm, 134, rfl⟩
abbrev main_v62 : Ref sig .tc := ⟨.hbm, 135, rfl⟩
abbrev main_v63 : Ref sig .tc := ⟨.hbm, 136, rfl⟩
abbrev main_cst_9 : Ref sig .tc := ⟨.hbm, 137, rfl⟩
abbrev main_v64 : Ref sig .tc := ⟨.hbm, 138, rfl⟩
abbrev main_v65 : Ref sig .tc := ⟨.hbm, 139, rfl⟩
abbrev main_cst_10 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_cst_11 : Ref sig .tc := ⟨.hbm, 146, rfl⟩
abbrev main_v71 : Ref sig .tc := ⟨.hbm, 147, rfl⟩
abbrev main_v72 : Ref sig .tc := ⟨.hbm, 148, rfl⟩
abbrev main_cst_12 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_cst_13 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩

abbrev nD : Nat := 1
abbrev τ : Topo := Topo.v7x

variable {F : FTy → Type} [FloatOps F]

abbrev main_while0_count : Scf.Loop 32 := ⟨0#32, 32#32, 1#32⟩
-- ==== FfnUp.lean ====
abbrev S16384x2048 : Shape := ⟨2, ![16384, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S4x1x11264 : Shape := ⟨3, ![4, 1, 11264]⟩
abbrev S16384x5632 : Shape := ⟨2, ![16384, 5632]⟩
abbrev S2048x2048 : Shape := ⟨2, ![2048, 2048]⟩
abbrev S1x2048x512 : Shape := ⟨3, ![1, 2048, 512]⟩
abbrev S1x3x512 : Shape := ⟨3, ![1, 3, 512]⟩
abbrev S1x1x512 : Shape := ⟨3, ![1, 1, 512]⟩
abbrev S2048x512 : Shape := ⟨2, ![2048, 512]⟩
abbrev S520x512 : Shape := ⟨2, ![520, 512]⟩
abbrev S2x8x512 : Shape := ⟨3, ![2, 8, 512]⟩
abbrev S512x2048 : Shape := ⟨2, ![512, 2048]⟩
abbrev S512x512 : Shape := ⟨2, ![512, 512]⟩
abbrev S1x8x512 : Shape := ⟨3, ![1, 8, 512]⟩
abbrev S8x512 : Shape := ⟨2, ![8, 512]⟩
abbrev S1x512 : Shape := ⟨2, ![1, 512]⟩

abbrev nBuf : Space → Nat
  | .hbm => 6
  | .vmem => 20
  | .smem => 0
  | _ => 0

abbrev bufTy : (tb : Table) → Fin (tcTables nBuf tb) → BufTy
  | .hbm, ⟨0, _⟩ => ⟨S16384x2048, .bf16⟩
  | .hbm, ⟨1, _⟩ => ⟨S4x2048x11264, .f32⟩
  | .hbm, ⟨2, _⟩ => ⟨S4x3x11264, .f32⟩
  | .hbm, ⟨3, _⟩ => ⟨S4x11264, .f32⟩
  | .hbm, ⟨4, _⟩ => ⟨S4x1x11264, .f32⟩
  | .hbm, ⟨5, _⟩ => ⟨S16384x5632, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x3x512, .f32⟩
  | .local _ .vmem, ⟨7, _⟩ => ⟨S1x3x512, .f32⟩
  | .local _ .vmem, ⟨8, _⟩ => ⟨S1x3x512, .f32⟩
  | .local _ .vmem, ⟨9, _⟩ => ⟨S1x3x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S520x512, .f32⟩
  | .local _ .vmem, ⟨19, _⟩ => ⟨S2x8x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnUpRefIdeal.lean ====
abbrev S16384x2048 : Shape := ⟨2, ![16384, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S2x8192x2048 : Shape := ⟨3, ![2, 8192, 2048]⟩
abbrev S1x2048x11264 : Shape := ⟨3, ![1, 2048, 11264]⟩
abbrev S2048x11264 : Shape := ⟨2, ![2048, 11264]⟩
abbrev S1x3x11264 : Shape := ⟨3, ![1, 3, 11264]⟩
abbrev S3x11264 : Shape := ⟨2, ![3, 11264]⟩
abbrev S1x11264 : Shape := ⟨2, ![1, 11264]⟩
abbrev S11264 : Shape := ⟨1, ![11264]⟩
abbrev S2x8192x11264 : Shape := ⟨3, ![2, 8192, 11264]⟩
abbrev S_ : Shape := ⟨0, ![]⟩
abbrev S2x8194x11264 : Shape := ⟨3, ![2, 8194, 11264]⟩
abbrev S1x1x11264 : Shape := ⟨3, ![1, 1, 11264]⟩
abbrev S2x8192x5632 : Shape := ⟨3, ![2, 8192, 5632]⟩
abbrev S16384x5632 : Shape := ⟨2, ![16384, 5632]⟩

abbrev nBuf : Space → Nat
  | .hbm => 61
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x2048x11264, .f32⟩
  | .hbm, ⟨2, _⟩ => ⟨S4x3x11264, .f32⟩
  | .hbm, ⟨3, _⟩ => ⟨S4x11264, .f32⟩
  | .hbm, ⟨4, _⟩ => ⟨S16384x2048, .f32⟩
  | .hbm, ⟨5, _⟩ => ⟨S2x8192x2048, .f32⟩
  | .hbm, ⟨6, _⟩ => ⟨S1x2048x11264, .f32⟩
  | .hbm, ⟨7, _⟩ => ⟨S2048x11264, .f32⟩
  | .hbm, ⟨8, _⟩ => ⟨S1x3x11264, .f32⟩
  | .hbm, ⟨9, _⟩ => ⟨S3x11264, .f32⟩
  | .hbm, ⟨10, _⟩ => ⟨S1x11264, .f32⟩
  | .hbm, ⟨11, _⟩ => ⟨S11264, .f32⟩
  | .hbm, ⟨12, _⟩ => ⟨S2x8192x11264, .f32⟩
  | .hbm, ⟨13, _⟩ => ⟨S_, .i32⟩
  | .hbm, ⟨14, _⟩ => ⟨S_, .f32⟩
  | .hbm, ⟨15, _⟩ => ⟨S2x8194x11264, .f32⟩
  | .hbm, ⟨16, _⟩ => ⟨S2x8192x11264, .f32⟩
  | .hbm, ⟨17, _⟩ => ⟨S1x11264, .f32⟩
  | .hbm, ⟨18, _⟩ => ⟨S11264, .f32⟩
  | .hbm, ⟨19, _⟩ => ⟨S1x1x11264, .f32⟩
  | .hbm, ⟨20, _⟩ => ⟨S2x8192x11264, .f32⟩
  | .hbm, ⟨21, _⟩ => ⟨S2x8192x11264, .f32⟩
  | .hbm, ⟨22, _⟩ => ⟨S1x1x11264, .f32⟩
  | .hbm, ⟨23, _⟩ => ⟨S2x8192x11264, .f32⟩
  | .hbm, ⟨24, _⟩ => ⟨S2x8192x11264, .f32⟩
  | .hbm, ⟨25, _⟩ => ⟨S2x8192x11264, .f32⟩
  | .hbm, ⟨26, _⟩ => ⟨S1x11264, .f32⟩
  | .hbm, ⟨27, _⟩ => ⟨S11264, .f32⟩
  | .hbm, ⟨28, _⟩ => ⟨S1x1x11264, .f32⟩
  | .hbm, ⟨29, _⟩ => ⟨S2x8192x11264, .f32⟩
  | .hbm, ⟨30, _⟩ => ⟨S2x8192x11264, .f32⟩
  | .hbm, ⟨31, _⟩ => ⟨S2x8192x11264, .f32⟩
  | .hbm, ⟨32, _⟩ => ⟨S2x8192x11264, .f32⟩
  | .hbm, ⟨33, _⟩ => ⟨S1x11264, .f32⟩
  | .hbm, ⟨34, _⟩ => ⟨S11264, .f32⟩
  | .hbm, ⟨35, _⟩ => ⟨S1x1x11264, .f32⟩
  | .hbm, ⟨36, _⟩ => ⟨S2x8192x11264, .f32⟩
  | .hbm, ⟨37, _⟩ => ⟨S2x8192x11264, .f32⟩
  | .hbm, ⟨38, _⟩ => ⟨S2x8192x11264, .f32⟩
  | .hbm, ⟨39, _⟩ => ⟨S2x8192x5632, .f32⟩
  | .hbm, ⟨40, _⟩ => ⟨S2x8192x5632, .f32⟩
  | .hbm, ⟨41, _⟩ => ⟨S2x8192x5632, .f32⟩
  | .hbm, ⟨42, _⟩ => ⟨S2x8192x5632, .f32⟩
  | .hbm, ⟨43, _⟩ => ⟨S_, .f32⟩
  | .hbm, ⟨44, _⟩ => ⟨S2x8192x5632, .f32⟩
  | .hbm, ⟨45, _⟩ => ⟨S2x8192x5632, .f32⟩
  | .hbm, ⟨46, _⟩ => ⟨S2x8192x5632, .f32⟩
  | .hbm, ⟨47, _⟩ => ⟨S_, .f32⟩
  | .hbm, ⟨48, _⟩ => ⟨S2x8192x5632, .f32⟩
  | .hbm, ⟨49, _⟩ => ⟨S2x8192x5632, .f32⟩
  | .hbm, ⟨50, _⟩ => ⟨S2x8192x5632, .f32⟩
  | .hbm, ⟨51, _⟩ => ⟨S_, .f32⟩
  | .hbm, ⟨52, _⟩ => ⟨S2x8192x5632, .f32⟩
  | .hbm, ⟨53, _⟩ => ⟨S2x8192x5632, .f32⟩
  | .hbm, ⟨54, _⟩ => ⟨S_, .f32⟩
  | .hbm, ⟨55, _⟩ => ⟨S2x8192x5632, .f32⟩
  | .hbm, ⟨56, _⟩ => ⟨S2x8192x5632, .f32⟩
  | .hbm, ⟨57, _⟩ => ⟨S2x8192x5632, .f32⟩
  | .hbm, ⟨58, _⟩ => ⟨S2x8192x5632, .f32⟩
  | .hbm, ⟨59, _⟩ => ⟨S16384x5632, .f32⟩
  | .hbm, ⟨60, _⟩ => ⟨S16384x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_0 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_1 : Ref sig .tc := ⟨.hbm, 51, rfl⟩
abbrev main_v43 : Ref sig .tc := ⟨.hbm, 52, rfl⟩
abbrev main_v44 : Ref sig .tc := ⟨.hbm, 53, rfl⟩
abbrev main_cst_2 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩

abbrev nD : Nat := 1
abbrev τ : Topo := Topo.v7x

variable {F : FTy → Type} [FloatOps F]
-- ==== FfnDown.lean ====
abbrev S16384x5632 : Shape := ⟨2, ![16384, 5632]⟩
abbrev S5632x2048 : Shape := ⟨2, ![5632, 2048]⟩
abbrev S16384x2048 : Shape := ⟨2, ![16384, 2048]⟩
abbrev S2048 : Shape := ⟨1, ![2048]⟩
abbrev S1x2048 : Shape := ⟨2, ![1, 2048]⟩
abbrev S256x5632 : Shape := ⟨2, ![256, 5632]⟩
abbrev S256x2048 : Shape := ⟨2, ![256, 2048]⟩
abbrev S5632x256 : Shape := ⟨2, ![5632, 256]⟩
abbrev S256x256 : Shape := ⟨2, ![256, 256]⟩
abbrev S16x2048 : Shape := ⟨2, ![16, 2048]⟩
abbrev S16 : Shape := ⟨1, ![16]⟩
abbrev S16x1 : Shape := ⟨2, ![16, 1]⟩

abbrev nBuf : Space → Nat
  | .hbm => 9
  | .vmem => 13
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .bf16⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S16384x2048, .f32⟩
  | .hbm, ⟨8, _⟩ => ⟨S16384x2048, .bf16⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S256x2048, .f32⟩
  | .local _ .vmem, ⟨12, _⟩ => ⟨S256x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnDownRefIdeal.lean ====
abbrev S16384x5632 : Shape := ⟨2, ![16384, 5632]⟩
abbrev S5632x2048 : Shape := ⟨2, ![5632, 2048]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .bf16⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S16384x5632, .f32⟩
  | .hbm, ⟨6, _⟩ => ⟨S5632x2048, .f32⟩
  | .hbm, ⟨7, _⟩ => ⟨S16384x2048, .f32⟩
  | .hbm, ⟨8, _⟩ => ⟨S_, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S1x2048, .f32⟩
  | .hbm, ⟨39, _⟩ => ⟨S16384x2048, .f32⟩
  | .hbm, ⟨40, _⟩ => ⟨S16384x2048, .f32⟩
  | .hbm, ⟨41, _⟩ => ⟨S16384x2048, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== RetV.lean ====
abbrev S16384x2048 : Shape := ⟨2, ![16384, 2048]⟩
abbrev S2x2048x4096 : Shape := ⟨3, ![2, 2048, 4096]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S16384x4096 : Shape := ⟨2, ![16384, 4096]⟩
abbrev S1024x2048 : Shape := ⟨2, ![1024, 2048]⟩
abbrev S1x2048x1024 : Shape := ⟨3, ![1, 2048, 1024]⟩
abbrev S1024x128 : Shape := ⟨2, ![1024, 128]⟩
abbrev S1024x1024 : Shape := ⟨2, ![1024, 1024]⟩
abbrev S2048x1024 : Shape := ⟨2, ![2048, 1024]⟩
abbrev S2048x256 : Shape := ⟨2, ![2048, 256]⟩
abbrev S1024x256 : Shape := ⟨2, ![1024, 256]⟩
abbrev S32x512 : Shape := ⟨2, ![32, 512]⟩

abbrev nBuf : Space → Nat
  | .hbm => 25
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S2x2048x4096, .f32⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S8192, .f32⟩
  | .hbm, ⟨17, _⟩ => ⟨S8192x1, .f32⟩
  | .hbm, ⟨18, _⟩ => ⟨S1x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | .local _ .vmem, ⟨10, _⟩ => ⟨S2048x1024, .bf16⟩
  | .local _ .vmem, ⟨11, _⟩ => ⟨S1024x1024, .f32⟩
  | .local _ .vmem, ⟨12, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![65], ![false]⟩

def k0_cond3 (i : grid0.Coords) : BitVec 1 :=
  let arg0 : BitVec 32 := BitVec.ofNat 32 (i 0).val
  let c2_i32 : BitVec 32 := 2#32
  let c0_i32_7 : BitVec 32 := 0#32
  let v17 : BitVec 1 := Scalar.cmpi .eq c2_i32 c0_i32_7
  let c1_i32_8 : BitVec 32 := 1#32
  let v18 : BitVec 32 := Scalar.select v17 c1_i32_8 c2_i32
  let v19 : BitVec 32 := Scalar.remsi arg0 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c0_i32_12 : BitVec 32 := 0#32
  let v27 : BitVec 1 := Scalar.cmpi .eq v26 c0_i32_12
  let v28 : BitVec 32 := Scalar.extui v27
  let c0_i32_13 : BitVec 32 := 0#32
  let v29 : BitVec 1 := Scalar.cmpi .ne v28 c0_i32_13
  v29

def k0_cond4 (i : grid0.Coords) : BitVec 1 :=
  let arg0 : BitVec 32 := BitVec.ofNat 32 (i 0).val
  let c2_i32_14 : BitVec 32 := 2#32
  let c0_i32_15 : BitVec 32 := 0#32
  let v30 : BitVec 1 := Scalar.cmpi .eq c2_i32_14 c0_i32_15
  let c1_i32_16 : BitVec 32 := 1#32
  let v31 : BitVec 32 := Scalar.select v30 c1_i32_16 c2_i32_14
  let v32 : BitVec 32 := Scalar.remsi arg0 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c1_i32_20 : BitVec 32 := 1#32
  let v40 : BitVec 1 := Scalar.cmpi .eq v39 c1_i32_20
  let v41 : BitVec 32 := Scalar.extui v40
  let c0_i32_21 : BitVec 32 := 0#32
  let v42 : BitVec 1 := Scalar.cmpi .ne v41 c0_i32_21
  v42

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_1 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  ![c0_i32_5.toNat, c0_i32_6.toNat, v18.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32 : BitVec 32 := 8#32
  let c0_i32_5 : BitVec 32 := 0#32
  let v12 : BitVec 1 := Scalar.cmpi .eq c8_i32 c0_i32_5
  let c1_i32_6 : BitVec 32 := 1#32
  let v13 : BitVec 32 := Scalar.select v12 c1_i32_6 c8_i32
  let v14 : BitVec 32 := Scalar.remsi v11 v13
  let c0_i32_7 : BitVec 32 := 0#32
  let v15 : BitVec 1 := Scalar.cmpi .ne v14 c0_i32_7
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let v19 : BitVec 1 := Scalar.andi v18 v15
  let v20 : BitVec 32 := Scalar.addi v14 v13
  let v21 : BitVec 32 := Scalar.select v19 v20 v14
  let c0_i32_10 : BitVec 32 := 0#32
  let c0_i32_11 : BitVec 32 := 0#32
  ![v21.toNat, c0_i32_10.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32 : BitVec 32 := 8#32
  let c0_i32_5 : BitVec 32 := 0#32
  let v12 : BitVec 1 := Scalar.cmpi .eq c8_i32 c0_i32_5
  let c1_i32_6 : BitVec 32 := 1#32
  let v13 : BitVec 32 := Scalar.select v12 c1_i32_6 c8_i32
  let v14 : BitVec 32 := Scalar.remsi v11 v13
  let c0_i32_7 : BitVec 32 := 0#32
  let v15 : BitVec 1 := Scalar.cmpi .ne v14 c0_i32_7
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let v19 : BitVec 1 := Scalar.andi v18 v15
  let v20 : BitVec 32 := Scalar.addi v14 v13
  let v21 : BitVec 32 := Scalar.select v19 v20 v14
  let c0_i32_10 : BitVec 32 := 0#32
  let c0_i32_11 : BitVec 32 := 0#32
  ![v21.toNat, c0_i32_10.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c16_i32_7 : BitVec 32 := 16#32
  let v14 : BitVec 32 := Scalar.divsi v13 c16_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c16_i32_7 c0_i32_10
  let v21 : BitVec 32 := Scalar.extui v20
  let c0_i32_11 : BitVec 32 := 0#32
  let v22 : BitVec 1 := Scalar.cmpi .slt c16_i32_7 c0_i32_11
  let v23 : BitVec 32 := Scalar.extui v22
  let v24 : BitVec 32 := Scalar.subi v21 v23
  let v25 : BitVec 1 := Scalar.cmpi .ne v19 v24
  let v26 : BitVec 32 := Scalar.remsi v13 c16_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  ![v11.toNat, v30.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RetVRefIdeal.lean ====
abbrev S16384x2048 : Shape := ⟨2, ![16384, 2048]⟩
abbrev S2x2048x4096 : Shape := ⟨3, ![2, 2048, 4096]⟩
abbrev S2x8192x2048 : Shape := ⟨3, ![2, 8192, 2048]⟩
abbrev S1x2048x4096 : Shape := ⟨3, ![1, 2048, 4096]⟩
abbrev S2048x4096 : Shape := ⟨2, ![2048, 4096]⟩
abbrev S2x8192x4096 : Shape := ⟨3, ![2, 8192, 4096]⟩
abbrev S16384x4096 : Shape := ⟨2, ![16384, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x4096, .f32⟩
  | .hbm, ⟨2, _⟩ => ⟨S16384x2048, .f32⟩
  | .hbm, ⟨3, _⟩ => ⟨S2x8192x2048, .f32⟩
  | .hbm, ⟨4, _⟩ => ⟨S1x2048x4096, .f32⟩
  | .hbm, ⟨5, _⟩ => ⟨S2048x4096, .f32⟩
  | .hbm, ⟨6, _⟩ => ⟨S2x8192x4096, .f32⟩
  | .hbm, ⟨7, _⟩ => ⟨S16384x4096, .f32⟩
  | .hbm, ⟨8, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== RetGate.lean ====
abbrev S16384x2048 : Shape := ⟨2, ![16384, 2048]⟩
abbrev S2x2048x4096 : Shape := ⟨3, ![2, 2048, 4096]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S16384x4096 : Shape := ⟨2, ![16384, 4096]⟩
abbrev S1024x2048 : Shape := ⟨2, ![1024, 2048]⟩
abbrev S1x2048x1024 : Shape := ⟨3, ![1, 2048, 1024]⟩
abbrev S1024x128 : Shape := ⟨2, ![1024, 128]⟩
abbrev S1024x1024 : Shape := ⟨2, ![1024, 1024]⟩
abbrev S2048x1024 : Shape := ⟨2, ![2048, 1024]⟩
abbrev S2048x256 : Shape := ⟨2, ![2048, 256]⟩
abbrev S1024x256 : Shape := ⟨2, ![1024, 256]⟩
abbrev S32x512 : Shape := ⟨2, ![32, 512]⟩

abbrev nBuf : Space → Nat
  | .hbm => 25
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S2x2048x4096, .f32⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S8192, .f32⟩
  | .hbm, ⟨17, _⟩ => ⟨S8192x1, .f32⟩
  | .hbm, ⟨18, _⟩ => ⟨S1x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | .local _ .vmem, ⟨10, _⟩ => ⟨S2048x1024, .bf16⟩
  | .local _ .vmem, ⟨11, _⟩ => ⟨S1024x1024, .f32⟩
  | .local _ .vmem, ⟨12, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![65], ![false]⟩

def k0_cond3 (i : grid0.Coords) : BitVec 1 :=
  let arg0 : BitVec 32 := BitVec.ofNat 32 (i 0).val
  let c2_i32 : BitVec 32 := 2#32
  let c0_i32_7 : BitVec 32 := 0#32
  let v17 : BitVec 1 := Scalar.cmpi .eq c2_i32 c0_i32_7
  let c1_i32_8 : BitVec 32 := 1#32
  let v18 : BitVec 32 := Scalar.select v17 c1_i32_8 c2_i32
  let v19 : BitVec 32 := Scalar.remsi arg0 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c0_i32_12 : BitVec 32 := 0#32
  let v27 : BitVec 1 := Scalar.cmpi .eq v26 c0_i32_12
  let v28 : BitVec 32 := Scalar.extui v27
  let c0_i32_13 : BitVec 32 := 0#32
  let v29 : BitVec 1 := Scalar.cmpi .ne v28 c0_i32_13
  v29

def k0_cond4 (i : grid0.Coords) : BitVec 1 :=
  let arg0 : BitVec 32 := BitVec.ofNat 32 (i 0).val
  let c2_i32_14 : BitVec 32 := 2#32
  let c0_i32_15 : BitVec 32 := 0#32
  let v30 : BitVec 1 := Scalar.cmpi .eq c2_i32_14 c0_i32_15
  let c1_i32_16 : BitVec 32 := 1#32
  let v31 : BitVec 32 := Scalar.select v30 c1_i32_16 c2_i32_14
  let v32 : BitVec 32 := Scalar.remsi arg0 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c1_i32_20 : BitVec 32 := 1#32
  let v40 : BitVec 1 := Scalar.cmpi .eq v39 c1_i32_20
  let v41 : BitVec 32 := Scalar.extui v40
  let c0_i32_21 : BitVec 32 := 0#32
  let v42 : BitVec 1 := Scalar.cmpi .ne v41 c0_i32_21
  v42

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_1 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  ![c0_i32_5.toNat, c0_i32_6.toNat, v18.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32 : BitVec 32 := 8#32
  let c0_i32_5 : BitVec 32 := 0#32
  let v12 : BitVec 1 := Scalar.cmpi .eq c8_i32 c0_i32_5
  let c1_i32_6 : BitVec 32 := 1#32
  let v13 : BitVec 32 := Scalar.select v12 c1_i32_6 c8_i32
  let v14 : BitVec 32 := Scalar.remsi v11 v13
  let c0_i32_7 : BitVec 32 := 0#32
  let v15 : BitVec 1 := Scalar.cmpi .ne v14 c0_i32_7
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let v19 : BitVec 1 := Scalar.andi v18 v15
  let v20 : BitVec 32 := Scalar.addi v14 v13
  let v21 : BitVec 32 := Scalar.select v19 v20 v14
  let c0_i32_10 : BitVec 32 := 0#32
  let c0_i32_11 : BitVec 32 := 0#32
  ![v21.toNat, c0_i32_10.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32 : BitVec 32 := 8#32
  let c0_i32_5 : BitVec 32 := 0#32
  let v12 : BitVec 1 := Scalar.cmpi .eq c8_i32 c0_i32_5
  let c1_i32_6 : BitVec 32 := 1#32
  let v13 : BitVec 32 := Scalar.select v12 c1_i32_6 c8_i32
  let v14 : BitVec 32 := Scalar.remsi v11 v13
  let c0_i32_7 : BitVec 32 := 0#32
  let v15 : BitVec 1 := Scalar.cmpi .ne v14 c0_i32_7
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let v19 : BitVec 1 := Scalar.andi v18 v15
  let v20 : BitVec 32 := Scalar.addi v14 v13
  let v21 : BitVec 32 := Scalar.select v19 v20 v14
  let c0_i32_10 : BitVec 32 := 0#32
  let c0_i32_11 : BitVec 32 := 0#32
  ![v21.toNat, c0_i32_10.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c16_i32_7 : BitVec 32 := 16#32
  let v14 : BitVec 32 := Scalar.divsi v13 c16_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c16_i32_7 c0_i32_10
  let v21 : BitVec 32 := Scalar.extui v20
  let c0_i32_11 : BitVec 32 := 0#32
  let v22 : BitVec 1 := Scalar.cmpi .slt c16_i32_7 c0_i32_11
  let v23 : BitVec 32 := Scalar.extui v22
  let v24 : BitVec 32 := Scalar.subi v21 v23
  let v25 : BitVec 1 := Scalar.cmpi .ne v19 v24
  let v26 : BitVec 32 := Scalar.remsi v13 c16_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  ![v11.toNat, v30.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RetGateRefIdeal.lean ====
abbrev S16384x2048 : Shape := ⟨2, ![16384, 2048]⟩
abbrev S2x2048x4096 : Shape := ⟨3, ![2, 2048, 4096]⟩
abbrev S2x8192x2048 : Shape := ⟨3, ![2, 8192, 2048]⟩
abbrev S1x2048x4096 : Shape := ⟨3, ![1, 2048, 4096]⟩
abbrev S2048x4096 : Shape := ⟨2, ![2048, 4096]⟩
abbrev S2x8192x4096 : Shape := ⟨3, ![2, 8192, 4096]⟩
abbrev S_ : Shape := ⟨0, ![]⟩
abbrev S16384x4096 : Shape := ⟨2, ![16384, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x4096, .f32⟩
  | .hbm, ⟨2, _⟩ => ⟨S16384x2048, .f32⟩
  | .hbm, ⟨3, _⟩ => ⟨S2x8192x2048, .f32⟩
  | .hbm, ⟨4, _⟩ => ⟨S1x2048x4096, .f32⟩
  | .hbm, ⟨5, _⟩ => ⟨S2048x4096, .f32⟩
  | .hbm, ⟨6, _⟩ => ⟨S2x8192x4096, .f32⟩
  | .hbm, ⟨7, _⟩ => ⟨S2x8192x4096, .f32⟩
  | .hbm, ⟨8, _⟩ => ⟨S2x8192x4096, .f32⟩
  | .hbm, ⟨9, _⟩ => ⟨S_, .f32⟩
  | .hbm, ⟨10, _⟩ => ⟨S2x8192x4096, .f32⟩
  | .hbm, ⟨11, _⟩ => ⟨S2x8192x4096, .f32⟩
  | .hbm, ⟨12, _⟩ => ⟨S_, .f32⟩
  | .hbm, ⟨13, _⟩ => ⟨S2x8192x4096, .f32⟩
  | .hbm, ⟨14, _⟩ => ⟨S2x8192x4096, .f32⟩
  | .hbm, ⟨15, _⟩ => ⟨S2x8192x4096, .f32⟩
  | .hbm, ⟨16, _⟩ => ⟨S16384x4096, .f32⟩
  | .hbm, ⟨17, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== RetQ.lean ====
abbrev S16384x2048 : Shape := ⟨2, ![16384, 2048]⟩
abbrev S2x2048x2048 : Shape := ⟨3, ![2, 2048, 2048]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S1024x2048 : Shape := ⟨2, ![1024, 2048]⟩
abbrev S1x2048x1024 : Shape := ⟨3, ![1, 2048, 1024]⟩
abbrev S1024x128 : Shape := ⟨2, ![1024, 128]⟩
abbrev S1024x1024 : Shape := ⟨2, ![1024, 1024]⟩
abbrev S2048x1024 : Shape := ⟨2, ![2048, 1024]⟩
abbrev S2048x256 : Shape := ⟨2, ![2048, 256]⟩
abbrev S1024x256 : Shape := ⟨2, ![1024, 256]⟩
abbrev S64x128 : Shape := ⟨2, ![64, 128]⟩

abbrev nBuf : Space → Nat
  | .hbm => 25
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S8192, .f32⟩
  | .hbm, ⟨17, _⟩ => ⟨S8192x1, .f32⟩
  | .hbm, ⟨18, _⟩ => ⟨S1x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | .local _ .vmem, ⟨10, _⟩ => ⟨S2048x1024, .bf16⟩
  | .local _ .vmem, ⟨11, _⟩ => ⟨S1024x1024, .f32⟩
  | .local _ .vmem, ⟨12, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![33], ![false]⟩

def k0_cond3 (i : grid0.Coords) : BitVec 1 :=
  let arg0 : BitVec 32 := BitVec.ofNat 32 (i 0).val
  let c2_i32 : BitVec 32 := 2#32
  let c0_i32_7 : BitVec 32 := 0#32
  let v17 : BitVec 1 := Scalar.cmpi .eq c2_i32 c0_i32_7
  let c1_i32_8 : BitVec 32 := 1#32
  let v18 : BitVec 32 := Scalar.select v17 c1_i32_8 c2_i32
  let v19 : BitVec 32 := Scalar.remsi arg0 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c0_i32_12 : BitVec 32 := 0#32
  let v27 : BitVec 1 := Scalar.cmpi .eq v26 c0_i32_12
  let v28 : BitVec 32 := Scalar.extui v27
  let c0_i32_13 : BitVec 32 := 0#32
  let v29 : BitVec 1 := Scalar.cmpi .ne v28 c0_i32_13
  v29

def k0_cond4 (i : grid0.Coords) : BitVec 1 :=
  let arg0 : BitVec 32 := BitVec.ofNat 32 (i 0).val
  let c2_i32_14 : BitVec 32 := 2#32
  let c0_i32_15 : BitVec 32 := 0#32
  let v30 : BitVec 1 := Scalar.cmpi .eq c2_i32_14 c0_i32_15
  let c1_i32_16 : BitVec 32 := 1#32
  let v31 : BitVec 32 := Scalar.select v30 c1_i32_16 c2_i32_14
  let v32 : BitVec 32 := Scalar.remsi arg0 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c1_i32_20 : BitVec 32 := 1#32
  let v40 : BitVec 1 := Scalar.cmpi .eq v39 c1_i32_20
  let v41 : BitVec 32 := Scalar.extui v40
  let c0_i32_21 : BitVec 32 := 0#32
  let v42 : BitVec 1 := Scalar.cmpi .ne v41 c0_i32_21
  v42

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_1 (i : grid0.Coords) : Fin 3 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  ![c0_i32_5.toNat, c0_i32_6.toNat, v18.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32 : BitVec 32 := 8#32
  let c0_i32_5 : BitVec 32 := 0#32
  let v12 : BitVec 1 := Scalar.cmpi .eq c8_i32 c0_i32_5
  let c1_i32_6 : BitVec 32 := 1#32
  let v13 : BitVec 32 := Scalar.select v12 c1_i32_6 c8_i32
  let v14 : BitVec 32 := Scalar.remsi v11 v13
  let c0_i32_7 : BitVec 32 := 0#32
  let v15 : BitVec 1 := Scalar.cmpi .ne v14 c0_i32_7
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let v19 : BitVec 1 := Scalar.andi v18 v15
  let v20 : BitVec 32 := Scalar.addi v14 v13
  let v21 : BitVec 32 := Scalar.select v19 v20 v14
  let c0_i32_10 : BitVec 32 := 0#32
  let c0_i32_11 : BitVec 32 := 0#32
  ![v21.toNat, c0_i32_10.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32 : BitVec 32 := 8#32
  let c0_i32_5 : BitVec 32 := 0#32
  let v12 : BitVec 1 := Scalar.cmpi .eq c8_i32 c0_i32_5
  let c1_i32_6 : BitVec 32 := 1#32
  let v13 : BitVec 32 := Scalar.select v12 c1_i32_6 c8_i32
  let v14 : BitVec 32 := Scalar.remsi v11 v13
  let c0_i32_7 : BitVec 32 := 0#32
  let v15 : BitVec 1 := Scalar.cmpi .ne v14 c0_i32_7
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let v19 : BitVec 1 := Scalar.andi v18 v15
  let v20 : BitVec 32 := Scalar.addi v14 v13
  let v21 : BitVec 32 := Scalar.select v19 v20 v14
  let c0_i32_10 : BitVec 32 := 0#32
  let c0_i32_11 : BitVec 32 := 0#32
  ![v21.toNat, c0_i32_10.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c16_i32_7 : BitVec 32 := 16#32
  let v14 : BitVec 32 := Scalar.divsi v13 c16_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c16_i32_7 c0_i32_10
  let v21 : BitVec 32 := Scalar.extui v20
  let c0_i32_11 : BitVec 32 := 0#32
  let v22 : BitVec 1 := Scalar.cmpi .slt c16_i32_7 c0_i32_11
  let v23 : BitVec 32 := Scalar.extui v22
  let v24 : BitVec 32 := Scalar.subi v21 v23
  let v25 : BitVec 1 := Scalar.cmpi .ne v19 v24
  let v26 : BitVec 32 := Scalar.remsi v13 c16_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  ![v11.toNat, v30.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RetQRefIdeal.lean ====
abbrev S16384x2048 : Shape := ⟨2, ![16384, 2048]⟩
abbrev S2x2048x2048 : Shape := ⟨3, ![2, 2048, 2048]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S2x8192x2048 : Shape := ⟨3, ![2, 8192, 2048]⟩
abbrev S1x2048x2048 : Shape := ⟨3, ![1, 2048, 2048]⟩
abbrev S2048x2048 : Shape := ⟨2, ![2048, 2048]⟩
abbrev S2x8192x8x256 : Shape := ⟨4, ![2, 8192, 8, 256]⟩
abbrev S2x8x8192x256 : Shape := ⟨4, ![2, 8, 8192, 256]⟩
abbrev S2x8x8192x128 : Shape := ⟨4, ![2, 8, 8192, 128]⟩
abbrev S1x1x8192x128 : Shape := ⟨4, ![1, 1, 8192, 128]⟩

abbrev nBuf : Space → Nat
  | .hbm => 51
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S8192, .f32⟩
  | .hbm, ⟨17, _⟩ => ⟨S8192x1, .f32⟩
  | .hbm, ⟨18, _⟩ => ⟨S1x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S16384x2048, .f32⟩
  | .hbm, ⟨25, _⟩ => ⟨S2x8192x2048, .f32⟩
  | .hbm, ⟨26, _⟩ => ⟨S1x2048x2048, .f32⟩
  | .hbm, ⟨27, _⟩ => ⟨S2048x2048, .f32⟩
  | .hbm, ⟨28, _⟩ => ⟨S2x8192x2048, .f32⟩
  | .hbm, ⟨29, _⟩ => ⟨S2x8192x8x256, .f32⟩
  | .hbm, ⟨30, _⟩ => ⟨S2x8x8192x256, .f32⟩
  | .hbm, ⟨31, _⟩ => ⟨S2x8x8192x128, .f32⟩
  | .hbm, ⟨32, _⟩ => ⟨S2x8x8192x128, .f32⟩
  | .hbm, ⟨33, _⟩ => ⟨S1x1x8192x128, .f32⟩
  | .hbm, ⟨34, _⟩ => ⟨S2x8x8192x128, .f32⟩
  | .hbm, ⟨35, _⟩ => ⟨S2x8x8192x128, .f32⟩
  | .hbm, ⟨36, _⟩ => ⟨S1x1x8192x128, .f32⟩
  | .hbm, ⟨37, _⟩ => ⟨S2x8x8192x128, .f32⟩
  | .hbm, ⟨38, _⟩ => ⟨S2x8x8192x128, .f32⟩
  | .hbm, ⟨39, _⟩ => ⟨S2x8x8192x128, .f32⟩
  | .hbm, ⟨40, _⟩ => ⟨S1x1x8192x128, .f32⟩
  | .hbm, ⟨41, _⟩ => ⟨S2x8x8192x128, .f32⟩
  | .hbm, ⟨42, _⟩ => ⟨S2x8x8192x128, .f32⟩
  | .hbm, ⟨43, _⟩ => ⟨S1x1x8192x128, .f32⟩
  | .hbm, ⟨44, _⟩ => ⟨S2x8x8192x128, .f32⟩
  | .hbm, ⟨45, _⟩ => ⟨S2x8x8192x128, .f32⟩
  | .hbm, ⟨46, _⟩ => ⟨S2x8x8192x128, .f32⟩
  | .hbm, ⟨47, _⟩ => ⟨S2x8x8192x256, .f32⟩
  | .hbm, ⟨48, _⟩ => ⟨S2x8192x8x256, .f32⟩
  | .hbm, ⟨49, _⟩ => ⟨S16384x2048, .f32⟩
  | .hbm, ⟨50, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩

abbrev nD : Nat := 1
abbrev τ : Topo := Topo.v7x

variable {F : FTy → Type} [FloatOps F]
-- ==== RetK.lean ====
abbrev S16384x2048 : Shape := ⟨2, ![16384, 2048]⟩
abbrev S2x2048x2048 : Shape := ⟨3, ![2, 2048, 2048]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S1024x2048 : Shape := ⟨2, ![1024, 2048]⟩
abbrev S1x2048x1024 : Shape := ⟨3, ![1, 2048, 1024]⟩
abbrev S1024x128 : Shape := ⟨2, ![1024, 128]⟩
abbrev S1024x1024 : Shape := ⟨2, ![1024, 1024]⟩
abbrev S2048x1024 : Shape := ⟨2, ![2048, 1024]⟩
abbrev S2048x256 : Shape := ⟨2, ![2048, 256]⟩
abbrev S1024x256 : Shape := ⟨2, ![1024, 256]⟩
abbrev S64x128 : Shape := ⟨2, ![64, 128]⟩

abbrev nBuf : Space → Nat
  | .hbm => 25
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S8192, .f32⟩
  | .hbm, ⟨17, _⟩ => ⟨S8192x1, .f32⟩
  | .hbm, ⟨18, _⟩ => ⟨S1x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | .local _ .vmem, ⟨10, _⟩ => ⟨S2048x1024, .bf16⟩
  | .local _ .vmem, ⟨11, _⟩ => ⟨S1024x1024, .f32⟩
  | .local _ .vmem, ⟨12, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![33], ![false]⟩

def k0_cond3 (i : grid0.Coords) : BitVec 1 :=
  let arg0 : BitVec 32 := BitVec.ofNat 32 (i 0).val
  let c2_i32 : BitVec 32 := 2#32
  let c0_i32_7 : BitVec 32 := 0#32
  let v17 : BitVec 1 := Scalar.cmpi .eq c2_i32 c0_i32_7
  let c1_i32_8 : BitVec 32 := 1#32
  let v18 : BitVec 32 := Scalar.select v17 c1_i32_8 c2_i32
  let v19 : BitVec 32 := Scalar.remsi arg0 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c0_i32_12 : BitVec 32 := 0#32
  let v27 : BitVec 1 := Scalar.cmpi .eq v26 c0_i32_12
  let v28 : BitVec 32 := Scalar.extui v27
  let c0_i32_13 : BitVec 32 := 0#32
  let v29 : BitVec 1 := Scalar.cmpi .ne v28 c0_i32_13
  v29

def k0_cond4 (i : grid0.Coords) : BitVec 1 :=
  let arg0 : BitVec 32 := BitVec.ofNat 32 (i 0).val
  let c2_i32_14 : BitVec 32 := 2#32
  let c0_i32_15 : BitVec 32 := 0#32
  let v30 : BitVec 1 := Scalar.cmpi .eq c2_i32_14 c0_i32_15
  let c1_i32_16 : BitVec 32 := 1#32
  let v31 : BitVec 32 := Scalar.select v30 c1_i32_16 c2_i32_14
  let v32 : BitVec 32 := Scalar.remsi arg0 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c1_i32_20 : BitVec 32 := 1#32
  let v40 : BitVec 1 := Scalar.cmpi .eq v39 c1_i32_20
  let v41 : BitVec 32 := Scalar.extui v40
  let c0_i32_21 : BitVec 32 := 0#32
  let v42 : BitVec 1 := Scalar.cmpi .ne v41 c0_i32_21
  v42

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_1 (i : grid0.Coords) : Fin 3 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  ![c0_i32_5.toNat, c0_i32_6.toNat, v18.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32 : BitVec 32 := 8#32
  let c0_i32_5 : BitVec 32 := 0#32
  let v12 : BitVec 1 := Scalar.cmpi .eq c8_i32 c0_i32_5
  let c1_i32_6 : BitVec 32 := 1#32
  let v13 : BitVec 32 := Scalar.select v12 c1_i32_6 c8_i32
  let v14 : BitVec 32 := Scalar.remsi v11 v13
  let c0_i32_7 : BitVec 32 := 0#32
  let v15 : BitVec 1 := Scalar.cmpi .ne v14 c0_i32_7
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let v19 : BitVec 1 := Scalar.andi v18 v15
  let v20 : BitVec 32 := Scalar.addi v14 v13
  let v21 : BitVec 32 := Scalar.select v19 v20 v14
  let c0_i32_10 : BitVec 32 := 0#32
  let c0_i32_11 : BitVec 32 := 0#32
  ![v21.toNat, c0_i32_10.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32 : BitVec 32 := 8#32
  let c0_i32_5 : BitVec 32 := 0#32
  let v12 : BitVec 1 := Scalar.cmpi .eq c8_i32 c0_i32_5
  let c1_i32_6 : BitVec 32 := 1#32
  let v13 : BitVec 32 := Scalar.select v12 c1_i32_6 c8_i32
  let v14 : BitVec 32 := Scalar.remsi v11 v13
  let c0_i32_7 : BitVec 32 := 0#32
  let v15 : BitVec 1 := Scalar.cmpi .ne v14 c0_i32_7
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let v19 : BitVec 1 := Scalar.andi v18 v15
  let v20 : BitVec 32 := Scalar.addi v14 v13
  let v21 : BitVec 32 := Scalar.select v19 v20 v14
  let c0_i32_10 : BitVec 32 := 0#32
  let c0_i32_11 : BitVec 32 := 0#32
  ![v21.toNat, c0_i32_10.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c16_i32_7 : BitVec 32 := 16#32
  let v14 : BitVec 32 := Scalar.divsi v13 c16_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c16_i32_7 c0_i32_10
  let v21 : BitVec 32 := Scalar.extui v20
  let c0_i32_11 : BitVec 32 := 0#32
  let v22 : BitVec 1 := Scalar.cmpi .slt c16_i32_7 c0_i32_11
  let v23 : BitVec 32 := Scalar.extui v22
  let v24 : BitVec 32 := Scalar.subi v21 v23
  let v25 : BitVec 1 := Scalar.cmpi .ne v19 v24
  let v26 : BitVec 32 := Scalar.remsi v13 c16_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  ![v11.toNat, v30.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RetKRefIdeal.lean ====
abbrev S16384x2048 : Shape := ⟨2, ![16384, 2048]⟩
abbrev S2x2048x2048 : Shape := ⟨3, ![2, 2048, 2048]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S2x8192x2048 : Shape := ⟨3, ![2, 8192, 2048]⟩
abbrev S1x2048x2048 : Shape := ⟨3, ![1, 2048, 2048]⟩
abbrev S2048x2048 : Shape := ⟨2, ![2048, 2048]⟩
abbrev S2x8192x8x256 : Shape := ⟨4, ![2, 8192, 8, 256]⟩
abbrev S2x8x8192x256 : Shape := ⟨4, ![2, 8, 8192, 256]⟩
abbrev S2x8x8192x128 : Shape := ⟨4, ![2, 8, 8192, 128]⟩
abbrev S1x1x8192x128 : Shape := ⟨4, ![1, 1, 8192, 128]⟩

abbrev nBuf : Space → Nat
  | .hbm => 54
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S8192, .f32⟩
  | .hbm, ⟨17, _⟩ => ⟨S8192x1, .f32⟩
  | .hbm, ⟨18, _⟩ => ⟨S1x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S16384x2048, .f32⟩
  | .hbm, ⟨25, _⟩ => ⟨S2x8192x2048, .f32⟩
  | .hbm, ⟨26, _⟩ => ⟨S1x2048x2048, .f32⟩
  | .hbm, ⟨27, _⟩ => ⟨S2048x2048, .f32⟩
  | .hbm, ⟨28, _⟩ => ⟨S2x8192x2048, .f32⟩
  | .hbm, ⟨29, _⟩ => ⟨S2x8192x8x256, .f32⟩
  | .hbm, ⟨30, _⟩ => ⟨S2x8x8192x256, .f32⟩
  | .hbm, ⟨31, _⟩ => ⟨S2x8x8192x128, .f32⟩
  | .hbm, ⟨32, _⟩ => ⟨S2x8x8192x128, .f32⟩
  | .hbm, ⟨33, _⟩ => ⟨S1x1x8192x128, .f32⟩
  | .hbm, ⟨34, _⟩ => ⟨S2x8x8192x128, .f32⟩
  | .hbm, ⟨35, _⟩ => ⟨S2x8x8192x128, .f32⟩
  | .hbm, ⟨36, _⟩ => ⟨S1x1x8192x128, .f32⟩
  | .hbm, ⟨37, _⟩ => ⟨S2x8x8192x128, .f32⟩
  | .hbm, ⟨38, _⟩ => ⟨S2x8x8192x128, .f32⟩
  | .hbm, ⟨39, _⟩ => ⟨S2x8x8192x128, .f32⟩
  | .hbm, ⟨40, _⟩ => ⟨S1x1x8192x128, .f32⟩
  | .hbm, ⟨41, _⟩ => ⟨S2x8x8192x128, .f32⟩
  | .hbm, ⟨42, _⟩ => ⟨S2x8x8192x128, .f32⟩
  | .hbm, ⟨43, _⟩ => ⟨S1x1x8192x128, .f32⟩
  | .hbm, ⟨44, _⟩ => ⟨S2x8x8192x128, .f32⟩
  | .hbm, ⟨45, _⟩ => ⟨S2x8x8192x128, .f32⟩
  | .hbm, ⟨46, _⟩ => ⟨S2x8x8192x128, .f32⟩
  | .hbm, ⟨47, _⟩ => ⟨S2x8x8192x256, .f32⟩
  | .hbm, ⟨48, _⟩ => ⟨S_, .f32⟩
  | .hbm, ⟨49, _⟩ => ⟨S2x8x8192x256, .f32⟩
  | .hbm, ⟨50, _⟩ => ⟨S2x8x8192x256, .f32⟩
  | .hbm, ⟨51, _⟩ => ⟨S2x8192x8x256, .f32⟩
  | .hbm, ⟨52, _⟩ => ⟨S16384x2048, .f32⟩
  | .hbm, ⟨53, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst_3 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩

abbrev nD : Nat := 1
abbrev τ : Topo := Topo.v7x

variable {F : FTy → Type} [FloatOps F]
-- ==== RetOut.lean ====
abbrev S16384x4096 : Shape := ⟨2, ![16384, 4096]⟩
abbrev S4096x2048 : Shape := ⟨2, ![4096, 2048]⟩
abbrev S16384x2048 : Shape := ⟨2, ![16384, 2048]⟩
abbrev S2048 : Shape := ⟨1, ![2048]⟩
abbrev S1x2048 : Shape := ⟨2, ![1, 2048]⟩
abbrev S256x4096 : Shape := ⟨2, ![256, 4096]⟩
abbrev S256x2048 : Shape := ⟨2, ![256, 2048]⟩
abbrev S4096x256 : Shape := ⟨2, ![4096, 256]⟩
abbrev S256x256 : Shape := ⟨2, ![256, 256]⟩
abbrev S16x2048 : Shape := ⟨2, ![16, 2048]⟩
abbrev S16 : Shape := ⟨1, ![16]⟩
abbrev S16x1 : Shape := ⟨2, ![16, 1]⟩

abbrev nBuf : Space → Nat
  | .hbm => 9
  | .vmem => 13
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .bf16⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S16384x2048, .f32⟩
  | .hbm, ⟨8, _⟩ => ⟨S16384x2048, .bf16⟩
  | .local _ .vmem, ⟨0, _⟩ => ⟨S256x4096, .bf16⟩
  | .local _ .vmem, ⟨1, _⟩ => ⟨S256x4096, .bf16⟩
  | .local _ .vmem, ⟨2, _⟩ => ⟨S4096x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S256x2048, .f32⟩
  | .local _ .vmem, ⟨12, _⟩ => ⟨S256x2048, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RetOutRefIdeal.lean ====
abbrev S16384x4096 : Shape := ⟨2, ![16384, 4096]⟩
abbrev S4096x2048 : Shape := ⟨2, ![4096, 2048]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .bf16⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S16384x4096, .f32⟩
  | .hbm, ⟨6, _⟩ => ⟨S4096x2048, .f32⟩
  | .hbm, ⟨7, _⟩ => ⟨S16384x2048, .f32⟩
  | .hbm, ⟨8, _⟩ => ⟨S_, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S1x2048, .f32⟩
  | .hbm, ⟨39, _⟩ => ⟨S16384x2048, .f32⟩
  | .hbm, ⟨40, _⟩ => ⟨S16384x2048, .f32⟩
  | .hbm, ⟨41, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== MobaOut.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S2048x256 : Shape := ⟨2, ![2048, 256]⟩
abbrev S512x256 : Shape := ⟨2, ![512, 256]⟩
abbrev S16x2048 : Shape := ⟨2, ![16, 2048]⟩
abbrev S16 : Shape := ⟨1, ![16]⟩
abbrev S16x1 : Shape := ⟨2, ![16, 1]⟩

abbrev nBuf : Space → Nat
  | .hbm => 9
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S16384x2048, .f32⟩
  | .hbm, ⟨8, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | .local _ .vmem, ⟨12, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MobaOutRefIdeal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S16384x2048, .f32⟩
  | .hbm, ⟨6, _⟩ => ⟨S2048x2048, .f32⟩
  | .hbm, ⟨7, _⟩ => ⟨S16384x2048, .f32⟩
  | .hbm, ⟨8, _⟩ => ⟨S_, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S1x2048, .f32⟩
  | .hbm, ⟨39, _⟩ => ⟨S16384x2048, .f32⟩
  | .hbm, ⟨40, _⟩ => ⟨S16384x2048, .f32⟩
  | .hbm, ⟨41, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== MobaQkv.lean ====
abbrev S16384x2048 : Shape := ⟨2, ![16384, 2048]⟩
abbrev S2x2048x6144 : Shape := ⟨3, ![2, 2048, 6144]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S16384x6144 : Shape := ⟨2, ![16384, 6144]⟩
abbrev S1024x2048 : Shape := ⟨2, ![1024, 2048]⟩
abbrev S1x2048x1024 : Shape := ⟨3, ![1, 2048, 1024]⟩
abbrev S1024x128 : Shape := ⟨2, ![1024, 128]⟩
abbrev S1024x1024 : Shape := ⟨2, ![1024, 1024]⟩
abbrev S2048x1024 : Shape := ⟨2, ![2048, 1024]⟩
abbrev S2048x256 : Shape := ⟨2, ![2048, 256]⟩
abbrev S1024x256 : Shape := ⟨2, ![1024, 256]⟩
abbrev S128x128 : Shape := ⟨2, ![128, 128]⟩

abbrev nBuf : Space → Nat
  | .hbm => 28
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S2x2048x6144, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S8192, .f32⟩
  | .hbm, ⟨17, _⟩ => ⟨S8192x1, .f32⟩
  | .hbm, ⟨18, _⟩ => ⟨S1x64, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S8192x128, .f32⟩
  | .hbm, ⟨25, _⟩ => ⟨S8192x64, .f32⟩
  | .hbm, ⟨26, _⟩ => ⟨S8192x128, .f32⟩
  | .hbm, ⟨27, _⟩ => ⟨S16384x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | .local _ .vmem, ⟨10, _⟩ => ⟨S2048x1024, .bf16⟩
  | .local _ .vmem, ⟨11, _⟩ => ⟨S1024x1024, .f32⟩
  | .local _ .vmem, ⟨12, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![97], ![false]⟩

def k0_cond3 (i : grid0.Coords) : BitVec 1 :=
  let arg0 : BitVec 32 := BitVec.ofNat 32 (i 0).val
  let c2_i32 : BitVec 32 := 2#32
  let c0_i32_16 : BitVec 32 := 0#32
  let v36 : BitVec 1 := Scalar.cmpi .eq c2_i32 c0_i32_16
  let c1_i32_17 : BitVec 32 := 1#32
  let v37 : BitVec 32 := Scalar.select v36 c1_i32_17 c2_i32
  let v38 : BitVec 32 := Scalar.remsi arg0 v37
  let c0_i32_19 : BitVec 32 := 0#32
  let v40 : BitVec 1 := Scalar.cmpi .slt v38 c0_i32_19
  let c0_i32_20 : BitVec 32 := 0#32
  let v41 : BitVec 1 := Scalar.cmpi .slt v37 c0_i32_20
  let v42 : BitVec 1 := Scalar.xori v40 v41
  let c0_i32_18 : BitVec 32 := 0#32
  let v39 : BitVec 1 := Scalar.cmpi .ne v38 c0_i32_18
  let v43 : BitVec 1 := Scalar.andi v42 v39
  let v44 : BitVec 32 := Scalar.addi v38 v37
  let v45 : BitVec 32 := Scalar.select v43 v44 v38
  let c0_i32_21 : BitVec 32 := 0#32
  let v46 : BitVec 1 := Scalar.cmpi .eq v45 c0_i32_21
  let v47 : BitVec 32 := Scalar.extui v46
  let c0_i32_22 : BitVec 32 := 0#32
  let v48 : BitVec 1 := Scalar.cmpi .ne v47 c0_i32_22
  v48

def k0_cond4 (i : grid0.Coords) : BitVec 1 :=
  let arg0 : BitVec 32 := BitVec.ofNat 32 (i 0).val
  let c2_i32_23 : BitVec 32 := 2#32
  let c0_i32_24 : BitVec 32 := 0#32
  let v49 : BitVec 1 := Scalar.cmpi .eq c2_i32_23 c0_i32_24
  let c1_i32_25 : BitVec 32 := 1#32
  let v50 : BitVec 32 := Scalar.select v49 c1_i32_25 c2_i32_23
  let v51 : BitVec 32 := Scalar.remsi arg0 v50
  let c0_i32_27 : BitVec 32 := 0#32
  let v53 : BitVec 1 := Scalar.cmpi .slt v51 c0_i32_27
  let c0_i32_28 : BitVec 32 := 0#32
  let v54 : BitVec 1 := Scalar.cmpi .slt v50 c0_i32_28
  let v55 : BitVec 1 := Scalar.xori v53 v54
  let c0_i32_26 : BitVec 32 := 0#32
  let v52 : BitVec 1 := Scalar.cmpi .ne v51 c0_i32_26
  let v56 : BitVec 1 := Scalar.andi v55 v52
  let v57 : BitVec 32 := Scalar.addi v51 v50
  let v58 : BitVec 32 := Scalar.select v56 v57 v51
  let c1_i32_29 : BitVec 32 := 1#32
  let v59 : BitVec 1 := Scalar.cmpi .eq v58 c1_i32_29
  let v60 : BitVec 32 := Scalar.extui v59
  let c0_i32_30 : BitVec 32 := 0#32
  let v61 : BitVec 1 := Scalar.cmpi .ne v60 c0_i32_30
  v61

def cc0_transform_0 (i : grid0.Coords) : Fin 2 → Nat :=
  let arg0 : BitVec 32 := BitVec.ofNat 32 (i 0).val
  let c95_i32 : BitVec 32 := 95#32
  let v0 : BitVec 32 := Scalar.minsi arg0 c95_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_1 (i : grid0.Coords) : Fin 3 → Nat :=
  let arg0 : BitVec 32 := BitVec.ofNat 32 (i 0).val
  let c95_i32 : BitVec 32 := 95#32
  let v0 : BitVec 32 := Scalar.minsi arg0 c95_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  ![c0_i32_5.toNat, c0_i32_6.toNat, v18.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32 : BitVec 32 := 8#32
  let c0_i32_5 : BitVec 32 := 0#32
  let v12 : BitVec 1 := Scalar.cmpi .eq c8_i32 c0_i32_5
  let c1_i32_6 : BitVec 32 := 1#32
  let v13 : BitVec 32 := Scalar.select v12 c1_i32_6 c8_i32
  let v14 : BitVec 32 := Scalar.remsi v11 v13
  let c0_i32_7 : BitVec 32 := 0#32
  let v15 : BitVec 1 := Scalar.cmpi .ne v14 c0_i32_7
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let v19 : BitVec 1 := Scalar.andi v18 v15
  let v20 : BitVec 32 := Scalar.addi v14 v13
  let v21 : BitVec 32 := Scalar.select v19 v20 v14
  let c0_i32_10 : BitVec 32 := 0#32
  let c0_i32_11 : BitVec 32 := 0#32
  ![v21.toNat, c0_i32_10.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32 : BitVec 32 := 8#32
  let c0_i32_5 : BitVec 32 := 0#32
  let v12 : BitVec 1 := Scalar.cmpi .eq c8_i32 c0_i32_5
  let c1_i32_6 : BitVec 32 := 1#32
  let v13 : BitVec 32 := Scalar.select v12 c1_i32_6 c8_i32
  let v14 : BitVec 32 := Scalar.remsi v11 v13
  let c0_i32_7 : BitVec 32 := 0#32
  let v15 : BitVec 1 := Scalar.cmpi .ne v14 c0_i32_7
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let v19 : BitVec 1 := Scalar.andi v18 v15
  let v20 : BitVec 32 := Scalar.addi v14 v13
  let v21 : BitVec 32 := Scalar.select v19 v20 v14
  let c0_i32_10 : BitVec 32 := 0#32
  let c0_i32_11 : BitVec 32 := 0#32
  ![v21.toNat, c0_i32_10.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c16_i32_7 : BitVec 32 := 16#32
  let v14 : BitVec 32 := Scalar.divsi v13 c16_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c16_i32_7 c0_i32_10
  let v21 : BitVec 32 := Scalar.extui v20
  let c0_i32_11 : BitVec 32 := 0#32
  let v22 : BitVec 1 := Scalar.cmpi .slt c16_i32_7 c0_i32_11
  let v23 : BitVec 32 := Scalar.extui v22
  let v24 : BitVec 32 := Scalar.subi v21 v23
  let v25 : BitVec 1 := Scalar.cmpi .ne v19 v24
  let v26 : BitVec 32 := Scalar.remsi v13 c16_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  ![v11.toNat, v30.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MobaQkvRefIdeal.lean ====
abbrev S16384x2048 : Shape := ⟨2, ![16384, 2048]⟩
abbrev S2x2048x6144 : Shape := ⟨3, ![2, 2048, 6144]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S2x8192x2048 : Shape := ⟨3, ![2, 8192, 2048]⟩
abbrev S1x2048x6144 : Shape := ⟨3, ![1, 2048, 6144]⟩
abbrev S2048x6144 : Shape := ⟨2, ![2048, 6144]⟩
abbrev S2x8192x6144 : Shape := ⟨3, ![2, 8192, 6144]⟩
abbrev S2x8192x3x16x128 : Shape := ⟨5, ![2, 8192, 3, 16, 128]⟩
abbrev S2x8192x1x16x128 : Shape := ⟨5, ![2, 8192, 1, 16, 128]⟩
abbrev S2x8192x16x128 : Shape := ⟨4, ![2, 8192, 16, 128]⟩
abbrev S2x16x8192x128 : Shape := ⟨4, ![2, 16, 8192, 128]⟩
abbrev S2x16x8192x64 : Shape := ⟨4, ![2, 16, 8192, 64]⟩
abbrev S1x1x8192x64 : Shape := ⟨4, ![1, 1, 8192, 64]⟩
abbrev S16384x6144 : Shape := ⟨2, ![16384, 6144]⟩

abbrev nBuf : Space → Nat
  | .hbm => 86
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x6144, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S8192, .f32⟩
  | .hbm, ⟨17, _⟩ => ⟨S8192x1, .f32⟩
  | .hbm, ⟨18, _⟩ => ⟨S1x64, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S16384x2048, .f32⟩
  | .hbm, ⟨25, _⟩ => ⟨S2x8192x2048, .f32⟩
  | .hbm, ⟨26, _⟩ => ⟨S1x2048x6144, .f32⟩
  | .hbm, ⟨27, _⟩ => ⟨S2048x6144, .f32⟩
  | .hbm, ⟨28, _⟩ => ⟨S2x8192x6144, .f32⟩
  | .hbm, ⟨29, _⟩ => ⟨S2x8192x3x16x128, .f32⟩
  | .hbm, ⟨30, _⟩ => ⟨S2x8192x1x16x128, .f32⟩
  | .hbm, ⟨31, _⟩ => ⟨S2x8192x16x128, .f32⟩
  | .hbm, ⟨32, _⟩ => ⟨S2x16x8192x128, .f32⟩
  | .hbm, ⟨33, _⟩ => ⟨S2x8192x1x16x128, .f32⟩
  | .hbm, ⟨34, _⟩ => ⟨S2x8192x16x128, .f32⟩
  | .hbm, ⟨35, _⟩ => ⟨S2x16x8192x128, .f32⟩
  | .hbm, ⟨36, _⟩ => ⟨S2x8192x1x16x128, .f32⟩
  | .hbm, ⟨37, _⟩ => ⟨S2x8192x16x128, .f32⟩
  | .hbm, ⟨38, _⟩ => ⟨S2x16x8192x128, .f32⟩
  | .hbm, ⟨39, _⟩ => ⟨S2x16x8192x64, .f32⟩
  | .hbm, ⟨40, _⟩ => ⟨S2x16x8192x64, .f32⟩
  | .hbm, ⟨41, _⟩ => ⟨S1x1x8192x64, .f32⟩
  | .hbm, ⟨42, _⟩ => ⟨S2x16x8192x64, .f32⟩
  | .hbm, ⟨43, _⟩ => ⟨S2x16x8192x64, .f32⟩
  | .hbm, ⟨44, _⟩ => ⟨S1x1x8192x64, .f32⟩
  | .hbm, ⟨45, _⟩ => ⟨S2x16x8192x64, .f32⟩
  | .hbm, ⟨46, _⟩ => ⟨S2x16x8192x64, .f32⟩
  | .hbm, ⟨47, _⟩ => ⟨S2x16x8192x64, .f32⟩
  | .hbm, ⟨48, _⟩ => ⟨S1x1x8192x64, .f32⟩
  | .hbm, ⟨49, _⟩ => ⟨S2x16x8192x64, .f32⟩
  | .hbm, ⟨50, _⟩ => ⟨S2x16x8192x64, .f32⟩
  | .hbm, ⟨51, _⟩ => ⟨S1x1x8192x64, .f32⟩
  | .hbm, ⟨52, _⟩ => ⟨S2x16x8192x64, .f32⟩
  | .hbm, ⟨53, _⟩ => ⟨S2x16x8192x64, .f32⟩
  | .hbm, ⟨54, _⟩ => ⟨S2x16x8192x64, .f32⟩
  | .hbm, ⟨55, _⟩ => ⟨S2x16x8192x128, .f32⟩
  | .hbm, ⟨56, _⟩ => ⟨S_, .f32⟩
  | .hbm, ⟨57, _⟩ => ⟨S2x16x8192x128, .f32⟩
  | .hbm, ⟨58, _⟩ => ⟨S2x16x8192x128, .f32⟩
  | .hbm, ⟨59, _⟩ => ⟨S2x16x8192x64, .f32⟩
  | .hbm, ⟨60, _⟩ => ⟨S2x16x8192x64, .f32⟩
  | .hbm, ⟨61, _⟩ => ⟨S1x1x8192x64, .f32⟩
  | .hbm, ⟨62, _⟩ => ⟨S2x16x8192x64, .f32⟩
  | .hbm, ⟨63, _⟩ => ⟨S2x16x8192x64, .f32⟩
  | .hbm, ⟨64, _⟩ => ⟨S1x1x8192x64, .f32⟩
  | .hbm, ⟨65, _⟩ => ⟨S2x16x8192x64, .f32⟩
  | .hbm, ⟨66, _⟩ => ⟨S2x16x8192x64, .f32⟩
  | .hbm, ⟨67, _⟩ => ⟨S2x16x8192x64, .f32⟩
  | .hbm, ⟨68, _⟩ => ⟨S1x1x8192x64, .f32⟩
  | .hbm, ⟨69, _⟩ => ⟨S2x16x8192x64, .f32⟩
  | .hbm, ⟨70, _⟩ => ⟨S2x16x8192x64, .f32⟩
  | .hbm, ⟨71, _⟩ => ⟨S1x1x8192x64, .f32⟩
  | .hbm, ⟨72, _⟩ => ⟨S2x16x8192x64, .f32⟩
  | .hbm, ⟨73, _⟩ => ⟨S2x16x8192x64, .f32⟩
  | .hbm, ⟨74, _⟩ => ⟨S2x16x8192x64, .f32⟩
  | .hbm, ⟨75, _⟩ => ⟨S2x16x8192x128, .f32⟩
  | .hbm, ⟨76, _⟩ => ⟨S2x8192x16x128, .f32⟩
  | .hbm, ⟨77, _⟩ => ⟨S16384x2048, .f32⟩
  | .hbm, ⟨78, _⟩ => ⟨S16384x2048, .bf16⟩
  | .hbm, ⟨79, _⟩ => ⟨S2x8192x16x128, .f32⟩
  | .hbm, ⟨80, _⟩ => ⟨S16384x2048, .f32⟩
  | .hbm, ⟨81, _⟩ => ⟨S16384x2048, .bf16⟩
  | .hbm, ⟨82, _⟩ => ⟨S2x8192x16x128, .f32⟩
  | .hbm, ⟨83, _⟩ => ⟨S16384x2048, .f32⟩
  | .hbm, ⟨84, _⟩ => ⟨S16384x2048, .bf16⟩
  | .hbm, ⟨85, _⟩ => ⟨S16384x6144, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_cst_3 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩

abbrev nD : Nat := 1
abbrev τ : Topo := Topo.v7x

variable {F : FTy → Type} [FloatOps F]
-- ==== Proof.RetBlock.lean ====
module

public import proofs.«01_k».proof.Proof.Gen.RetentionIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.RetentionIdeal.Block

open Cert.RetentionIdeal Cert.RetentionIdeal.Gen Idealize.ShloMosaic Idealize.ShloMosaic.TcCoe Idealize.SL.Sem

/-- Column `h * n + d` of head `h` among four heads of width `n` laid side by side. -/
def col (n : ℕ) (h : Fin 4) (d : Fin n) : Fin (4 * n) := ⟨h.val * n + d.val, by
  have := h.isLt; have := d.isLt
  calc h.val * n + d.val < h.val * n + n := by omega
    _ = (h.val + 1) * n := by ring
    _ ≤ 4 * n := Nat.mul_le_mul_right n (by omega)⟩

/-- The chunk state after one chunk: the state before it decayed, plus the chunk's keys (decayed to the chunk's end) times its values. -/
def stateNext (k : FVec Ideal S1x256x1024 .bf16) (v : FVec Ideal S1x256x2048 .bf16) (zeta : FVec Ideal S4x256x1 .f32) (gch : FVec Ideal S4x1x1 .f32)
    (st : FVec Ideal S4x256x512 .f32) : FVec Ideal S4x256x512 .f32 := fun y =>
  st y * gch (ix3 (y 0) 0 0) + ∑ m : Fin 256, k (ix3 0 m (col 256 (y 0) (y 1))) * zeta (ix3 (y 0) m 0) * v (ix3 0 m (col 512 (y 0) (y 2)))

/-- Row `i`, lane `e` of head `h`'s retention of a chunk: the masked scores inside the chunk times the values, plus the query times the state before the chunk. -/
def chunkOut (q k : FVec Ideal S1x256x1024 .bf16) (v : FVec Ideal S1x256x2048 .bf16) (decay : FVec Ideal S4x256x256 .f32) (xi : FVec Ideal S4x256x1 .f32)
    (st : FVec Ideal S4x256x512 .f32) (h : Fin 4) (i : Fin 256) (e : Fin 512) : EReal :=
  (∑ m : Fin 256, ((∑ d : Fin 256, q (ix3 0 i (col 256 h d)) * k (ix3 0 m (col 256 h d))) * decay (ix3 h i m)) * v (ix3 0 m (col 512 h e)))
    + (∑ d : Fin 256, q (ix3 0 i (col 256 h d)) * st (ix3 h d e)) * xi (ix3 h i 0)

/-- The mean over a head's 512 lanes. -/
def mean (y : Fin 512 → EReal) : EReal := Ideal.div (∑ e : Fin 512, y e) (Ideal.ofBits .f32 0x44000000#32)

/-- Lane `e` of a row normalised over its 512 lanes. -/
def normed (y : Fin 512 → EReal) (e : Fin 512) : EReal :=
  (y e - mean y) * Ideal.rsqrt (mean (fun e' => (y e' - mean y) * (y e' - mean y)) + Ideal.ofBits .f32 0x3727C5AC#32)

/-- The block of results of one chunk: the gate times each head's normalised retention. -/
def outBlock (q k : FVec Ideal S1x256x1024 .bf16) (v g : FVec Ideal S1x256x2048 .bf16) (decay : FVec Ideal S4x256x256 .f32) (xi : FVec Ideal S4x256x1 .f32)
    (st : FVec Ideal S4x256x512 .f32) : FVec Ideal S1x256x2048 .bf16 := fun y =>
  g y * normed (chunkOut q k v decay xi st ⟨(y 2 : ℕ) / 512, by have : (y 2 : ℕ) < 2048 := (y 2).isLt; omega⟩ (y 1)) ⟨(y 2 : ℕ) % 512, Nat.mod_lt _ (by decide)⟩

/-- The block of results at head `h`'s lane `e`. -/
theorem outBlock_at (q k : FVec Ideal S1x256x1024 .bf16) (v g : FVec Ideal S1x256x2048 .bf16) (decay : FVec Ideal S4x256x256 .f32) (xi : FVec Ideal S4x256x1 .f32)
    (st : FVec Ideal S4x256x512 .f32) (y : S1x256x2048.Idx) (h : Fin 4) (i : Fin 256) (e : Fin 512) (h1 : (y 1 : ℕ) = i) (h2 : (y 2 : ℕ) = h * 512 + e) :
    outBlock q k v g decay xi st y = g (ix3 0 i (col 512 h e)) * normed (chunkOut q k v decay xi st h i) e := by
  have e0 : y = ix3 0 i (col 512 h e) := by
    funext a
    match a with
    | ⟨0, _⟩ => exact Fin.ext (by have : (y 0 : ℕ) < 1 := (y 0).isLt; show (y 0 : ℕ) = 0; omega)
    | ⟨1, _⟩ => exact Fin.ext h1
    | ⟨2, _⟩ => exact Fin.ext h2
  have e1 : (y 1 : Fin 256) = i := Fin.ext h1
  have e2 : (⟨(y 2 : ℕ) / 512, by have : (y 2 : ℕ) < 2048 := (y 2).isLt; omega⟩ : Fin 4) = h := Fin.ext (by have := e.isLt; show (y 2 : ℕ) / 512 = h; omega)
  have e3 : (⟨(y 2 : ℕ) % 512, Nat.mod_lt _ (by decide)⟩ : Fin 512) = e := Fin.ext (by have := e.isLt; show (y 2 : ℕ) % 512 = e; omega)
  unfold outBlock
  rw [e2, e3]
  exact congrArg₂ (fun (r : Fin 256) (z : S1x256x2048.Idx) => g z * normed (chunkOut q k v decay xi st h r) e) e1 e0

variable (m : (ℓ : Loc nD τ sig) → Buf (Elt Ideal) ℓ)

/-- The state after a chunk, at head `h`'s entry `d`, `e`. -/
theorem stateNext_at (k : FVec Ideal S1x256x1024 .bf16) (v : FVec Ideal S1x256x2048 .bf16) (zeta : FVec Ideal S4x256x1 .f32) (gch : FVec Ideal S4x1x1 .f32)
    (st : FVec Ideal S4x256x512 .f32) (y : S4x256x512.Idx) (h : Fin 4) (d : Fin 256) (e : Fin 512) (h0 : (y 0 : ℕ) = h) (h1 : (y 1 : ℕ) = d) (h2 : (y 2 : ℕ) = e) :
    stateNext k v zeta gch st y = st (ix3 h d e) * gch (ix3 h 0 0)
      + ∑ r : Fin 256, k (ix3 0 r (col 256 h d)) * zeta (ix3 h r 0) * v (ix3 0 r (col 512 h e)) := by
  have e0 : y = ix3 h d e := by
    funext a
    match a with
    | ⟨0, _⟩ => exact Fin.ext h0
    | ⟨1, _⟩ => exact Fin.ext h1
    | ⟨2, _⟩ => exact Fin.ext h2
  rw [e0]
  pointwise [stateNext]

/-- One head's chunk state after a chunk, from that head's slices: the state before it decayed, plus keys (decayed) times values. -/
def headState (K : FVec Ideal S1x256x256 .bf16) (V : FVec Ideal S1x256x512 .bf16) (S : FVec Ideal S1x256x512 .f32) (Z : FVec Ideal S1x256x1 .f32)
    (G : FVec Ideal S1x1x1 .f32) : FVec Ideal S1x256x512 .f32 := fun x =>
  S (ix3 0 (x 1) (x 2)) * G (ix3 0 0 0) + ∑ r : Fin 256, K (ix3 0 r (x 1)) * Z (ix3 0 r 0) * V (ix3 0 r (x 2))

/-- One head's result of a chunk, from that head's slices. -/
def headOut (Q K : FVec Ideal S1x256x256 .bf16) (V : FVec Ideal S1x256x512 .bf16) (D : FVec Ideal S1x256x256 .f32) (S : FVec Ideal S1x256x512 .f32)
    (X : FVec Ideal S1x256x1 .f32) (W : FVec Ideal S1x256x512 .bf16) : FVec Ideal S1x256x512 .bf16 := fun x =>
  W (ix3 0 (x 1) (x 2)) * normed (fun e : Fin 512 =>
    (∑ r : Fin 256, ((∑ d : Fin 256, Q (ix3 0 (x 1) d) * K (ix3 0 r d)) * D (ix3 0 (x 1) r)) * V (ix3 0 r e))
      + (∑ d : Fin 256, Q (ix3 0 (x 1) d) * S (ix3 0 d e)) * X (ix3 0 (x 1) 0)) (x 2)

variable (Q K : FVec Ideal S1x256x256 .bf16) (V W : FVec Ideal S1x256x512 .bf16) (S : FVec Ideal S1x256x512 .f32) (D : FVec Ideal S1x256x256 .f32)
  (X Z : FVec Ideal S1x256x1 .f32) (G : FVec Ideal S1x1x1 .f32)

/-- The state that the body stores for head 0. -/
theorem state_head0 : k0_pay8 (k0_pay4 V) (k0_pay5 S) (k0_pay7 K Z) G = headState K V S Z G := by
  funext x; idx_vars x; pointwise [k0_pay8, k0_pay7, k0_pay3, k0_pay4, k0_pay5, headState]

/-- The state that the body stores for head 1. -/
theorem state_head1 : k0_pay15 K V S Z G = headState K V S Z G := by
  funext x; idx_vars x; pointwise [k0_pay15, k0_pay11, k0_pay12, k0_pay13, headState]

/-- The state that the body stores for head 2. -/
theorem state_head2 : k0_pay22 (k0_pay18 K) (k0_pay19 V) S Z G = headState K V S Z G := by
  funext x; idx_vars x; pointwise [k0_pay22, k0_pay18, k0_pay19, k0_pay21, headState]

/-- The state that the body stores for head 3. -/
theorem state_head3 : k0_pay33 (k0_pay27 K) (k0_pay28 V) (k0_pay30 S) Z G = headState K V S Z G := by
  funext x; idx_vars x; pointwise [k0_pay33, k0_pay27, k0_pay28, k0_pay30, headState]

/-- The result that the body stores for head 0. -/
theorem out_head0 : k0_pay9 (k0_pay6 Q K V D S X) W = headOut Q K V D S X W := by
  funext x; idx_vars x; pointwise [k0_pay9, k0_pay6, k0_pay3, k0_pay4, k0_pay5, headOut, normed, mean] <;> rfl

/-- The result that the body stores for head 1. -/
theorem out_head1 : k0_pay16 (k0_pay14 (k0_pay10 Q) K V D S X) W = headOut Q K V D S X W := by
  funext x; idx_vars x; pointwise [k0_pay16, k0_pay14, k0_pay10, k0_pay11, k0_pay12, k0_pay13, headOut, normed, mean] <;> rfl

/-- The result that the body stores for head 2. -/
theorem out_head2 : k0_pay25 (k0_pay23 (k0_pay17 Q) (k0_pay19 V) (k0_pay20 Q K D) S X) (k0_pay24 (k0_pay17 Q) (k0_pay19 V) (k0_pay20 Q K D) S X) W
    = headOut Q K V D S X W := by
  funext x; idx_vars x; pointwise [k0_pay25, k0_pay24, k0_pay23, k0_pay17, k0_pay18, k0_pay19, k0_pay20, k0_pay21, headOut, normed, mean] <;> rfl

/-- The result that the body stores for head 3. -/
theorem out_head3 : k0_pay1 (k0_pay34 (k0_pay29 Q K V D) (k0_pay31 Q S) (k0_pay32 X) W) = headOut Q K V D S X W := by
  funext x; idx_vars x; pointwise [k0_pay1, k0_pay34, k0_pay29, k0_pay31, k0_pay32, k0_pay26, k0_pay27, k0_pay28, k0_pay30, headOut, normed, mean] <;> rfl

variable {Q K V W S D X Z G}

/-- A head's state from slices of the blocks is the block's state at that head. -/
theorem headState_eq {k : FVec Ideal S1x256x1024 .bf16} {v : FVec Ideal S1x256x2048 .bf16} {zeta : FVec Ideal S4x256x1 .f32} {gch : FVec Ideal S4x1x1 .f32}
    {st : FVec Ideal S4x256x512 .f32} (h : Fin 4) (hK : ∀ r d, K (ix3 0 r d) = k (ix3 0 r (col 256 h d))) (hV : ∀ r e, V (ix3 0 r e) = v (ix3 0 r (col 512 h e)))
    (hS : ∀ d e, S (ix3 0 d e) = st (ix3 h d e)) (hZ : ∀ r, Z (ix3 0 r 0) = zeta (ix3 h r 0)) (hG : G (ix3 0 0 0) = gch (ix3 h 0 0))
    (x : S1x256x512.Idx) (y : S4x256x512.Idx) (h0 : (y 0 : ℕ) = h + (x 0 : ℕ)) (h1 : (y 1 : ℕ) = (x 1 : ℕ)) (h2 : (y 2 : ℕ) = (x 2 : ℕ)) :
    headState K V S Z G x = stateNext k v zeta gch st y := by
  have hx : (x 0 : ℕ) < 1 := (x 0).isLt
  rw [stateNext_at k v zeta gch st y h (x 1) (x 2) (by omega) h1 h2]
  have key : ∀ (i : Fin 256) (e : Fin 512), S (ix3 0 i e) * G (ix3 0 0 0) + ∑ r : Fin 256, K (ix3 0 r i) * Z (ix3 0 r 0) * V (ix3 0 r e) =
      st (ix3 h i e) * gch (ix3 h 0 0) + ∑ r : Fin 256, k (ix3 0 r (col 256 h i)) * zeta (ix3 h r 0) * v (ix3 0 r (col 512 h e)) := fun i e => by
    rw [hS, hG]; simp only [hK, hV, hZ]
  exact key (x 1) (x 2)

/-- A head's result from slices of the blocks is the block of results at that head. -/
theorem headOut_eq {q k : FVec Ideal S1x256x1024 .bf16} {v g : FVec Ideal S1x256x2048 .bf16} {decay : FVec Ideal S4x256x256 .f32} {xi : FVec Ideal S4x256x1 .f32}
    {st : FVec Ideal S4x256x512 .f32} (h : Fin 4) (hQ : ∀ r d, Q (ix3 0 r d) = q (ix3 0 r (col 256 h d))) (hK : ∀ r d, K (ix3 0 r d) = k (ix3 0 r (col 256 h d)))
    (hV : ∀ r e, V (ix3 0 r e) = v (ix3 0 r (col 512 h e))) (hW : ∀ r e, W (ix3 0 r e) = g (ix3 0 r (col 512 h e)))
    (hD : ∀ i r, D (ix3 0 i r) = decay (ix3 h i r)) (hS : ∀ d e, S (ix3 0 d e) = st (ix3 h d e)) (hX : ∀ r, X (ix3 0 r 0) = xi (ix3 h r 0))
    (x : S1x256x512.Idx) (y : S1x256x2048.Idx) (h1 : (y 1 : ℕ) = (x 1 : ℕ)) (h2 : (y 2 : ℕ) = h * 512 + (x 2 : ℕ)) :
    headOut Q K V D S X W x = outBlock q k v g decay xi st y := by
  rw [outBlock_at q k v g decay xi st y h (x 1) (x 2) h1 h2]
  have key : ∀ (i : Fin 256) (e : Fin 512), W (ix3 0 i e) * normed (fun e => (∑ r : Fin 256, (∑ d : Fin 256, Q (ix3 0 i d) * K (ix3 0 r d)) * D (ix3 0 i r) * V (ix3 0 r e)) +
      (∑ d : Fin 256, Q (ix3 0 i d) * S (ix3 0 d e)) * X (ix3 0 i 0)) e = g (ix3 0 i (col 512 h e)) * normed (chunkOut q k v decay xi st h i) e := fun i e => by
    rw [hW]; simp only [hQ, hK, hV, hD, hS, hX]; rfl
  exact key (x 1) (x 2)

/-- A coordinate of an index inside a rectangle is the rectangle's offset and the index's own coordinate. -/
theorem at_val {s : Shape} {off sz : Fin s.rank → ℕ} (inb : ∀ a, off a + sz a ≤ s.size a) (j : (Rect.unit off sz inb).shape.Idx) (a : Fin s.rank) :
    ((Rect.unit off sz inb).emb j a : ℕ) = off a + (j a : ℕ) := ValueKit.rect_emb_unit_val off sz inb j a

/-- Where a rectangle starts at zero the coordinate is the index's own. -/
theorem at_zero {s : Shape} {off sz : Fin s.rank → ℕ} (inb : ∀ a, off a + sz a ≤ s.size a) (j : (Rect.unit off sz inb).shape.Idx) (a : Fin s.rank)
    (h : off a = 0) : ((Rect.unit off sz inb).emb j a : ℕ) = (j a : ℕ) := by rw [at_val, h, Nat.zero_add]

/-- What a point that is not the first of its run leaves in the state scratch. -/
theorem scratch_step (c : Dev nD) (t : Fin cfg0.N) (hz : ¬t.val % 32 = 0) (y : S4x256x512.Idx) :
    (outsAt0 m c t.val t.isLt).2 y = stateNext (iblk m c 1 t) (iblk m c 2 t) (iblk m c 6 t) (iblk m c 7 t)
      (outsAt0 m c (t.val - 1) (Nat.lt_of_le_of_lt (Nat.sub_le _ _) t.isLt)).2 y := by
  rw [outsAt0_B m c t hz]
  frame_open
  simp (disch := decide) only [↓ View.readCov_skip, ↓ View.readCov_fill]
  frame_out
  simp only [read_unread_whole, state_head0, state_head1, state_head2, state_head3]
  canon_tiles x p
  on_goal 1 => refine headState_eq 3 ?_ ?_ ?_ ?_ ?_ x y p0 p1 p2
  on_goal 6 => refine headState_eq 2 ?_ ?_ ?_ ?_ ?_ x y p0 p1 p2
  on_goal 11 => refine headState_eq 1 ?_ ?_ ?_ ?_ ?_ x y p0 p1 p2
  on_goal 16 => refine headState_eq 0 ?_ ?_ ?_ ?_ ?_ x y (p0.trans (Nat.zero_add _).symm) p1 p2
  all_goals intros; pointwise [col]

/-- What the first point of a run leaves in the state scratch: one chunk over the zero state. -/
theorem scratch_first (c : Dev nD) (t : Fin cfg0.N) (hz : t.val % 32 = 0) (y : S4x256x512.Idx) :
    (outsAt0 m c t.val t.isLt).2 y = stateNext (iblk m c 1 t) (iblk m c 2 t) (iblk m c 6 t) (iblk m c 7 t) (fun _ => 0) y := by
  rw [outsAt0_A m c t hz]
  frame_open
  simp (disch := decide) only [↓ View.readCov_skip, ↓ View.readCov_fill]
  frame_out
  simp only [state_head0, state_head1, state_head2, state_head3]
  refine View.canon_append_of_piecesOf (s := S4x256x512) _ [_] [_, _, _, _]
    ⟨fun x => headState_eq 3 ?_ ?_ ?_ ?_ ?_ x _ (at_val inb_S4x256x512_S1x256x512_3_0_0 x 0) (at_zero inb_S4x256x512_S1x256x512_3_0_0 x 1 rfl) (at_zero inb_S4x256x512_S1x256x512_3_0_0 x 2 rfl),
      fun x => headState_eq 2 ?_ ?_ ?_ ?_ ?_ x _ (at_val inb_S4x256x512_S1x256x512_2_0_0 x 0) (at_zero inb_S4x256x512_S1x256x512_2_0_0 x 1 rfl) (at_zero inb_S4x256x512_S1x256x512_2_0_0 x 2 rfl),
      fun x => headState_eq 1 ?_ ?_ ?_ ?_ ?_ x _ (at_val inb_S4x256x512_S1x256x512_1_0_0 x 0) (at_zero inb_S4x256x512_S1x256x512_1_0_0 x 1 rfl) (at_zero inb_S4x256x512_S1x256x512_1_0_0 x 2 rfl),
      fun x => headState_eq 0 ?_ ?_ ?_ ?_ ?_ x _ (at_val inb_S4x256x512_S1x256x512_0_0_0 x 0) (at_zero inb_S4x256x512_S1x256x512_0_0_0 x 1 rfl) (at_zero inb_S4x256x512_S1x256x512_0_0_0 x 2 rfl), trivial⟩ y
    (View.cover_of_tiledL (s := S4x256x512) _ S1x256x512.size (by sl_kernel_rfl) y)
  all_goals intros; pointwise [k0_pay2, col]

/-- What a point that is not the first of its run leaves in the output block. -/
theorem out_step (c : Dev nD) (t : Fin cfg0.N) (hz : ¬t.val % 32 = 0) (y : S1x256x2048.Idx) :
    (outsAt0 m c t.val t.isLt).1 y = outBlock (iblk m c 0 t) (iblk m c 1 t) (iblk m c 2 t) (iblk m c 3 t) (iblk m c 4 t) (iblk m c 5 t)
      (outsAt0 m c (t.val - 1) (Nat.lt_of_le_of_lt (Nat.sub_le _ _) t.isLt)).2 y := by
  rw [outsAt0_B m c t hz]
  frame_open
  simp (disch := decide) only [↓ View.readCov_skip, ↓ View.readCov_fill]
  frame_out
  simp only [read_unread_whole, out_head0, out_head1, out_head2, out_head3]
  canon_tiles x p
  on_goal 1 => refine headOut_eq 3 ?_ ?_ ?_ ?_ ?_ ?_ ?_ x y p1 p2
  on_goal 8 => refine headOut_eq 2 ?_ ?_ ?_ ?_ ?_ ?_ ?_ x y p1 p2
  on_goal 15 => refine headOut_eq 1 ?_ ?_ ?_ ?_ ?_ ?_ ?_ x y p1 p2
  on_goal 22 => refine headOut_eq 0 ?_ ?_ ?_ ?_ ?_ ?_ ?_ x y p1 (p2.trans (Nat.zero_add _).symm)
  all_goals intros; pointwise [col]

/-- What the first point of a run leaves in the output block: the zero state enters. -/
theorem out_first (c : Dev nD) (t : Fin cfg0.N) (hz : t.val % 32 = 0) (y : S1x256x2048.Idx) :
    (outsAt0 m c t.val t.isLt).1 y = outBlock (iblk m c 0 t) (iblk m c 1 t) (iblk m c 2 t) (iblk m c 3 t) (iblk m c 4 t) (iblk m c 5 t) (fun _ => 0) y := by
  rw [outsAt0_A m c t hz]
  frame_open
  simp (disch := decide) only [↓ View.readCov_skip, ↓ View.readCov_fill]
  frame_out
  simp only [out_head0, out_head1, out_head2, out_head3]
  canon_tiles x p
  on_goal 1 => refine headOut_eq 3 ?_ ?_ ?_ ?_ ?_ ?_ ?_ x y p1 p2
  on_goal 8 => refine headOut_eq 2 ?_ ?_ ?_ ?_ ?_ ?_ ?_ x y p1 p2
  on_goal 15 => refine headOut_eq 1 ?_ ?_ ?_ ?_ ?_ ?_ ?_ x y p1 p2
  on_goal 22 => refine headOut_eq 0 ?_ ?_ ?_ ?_ ?_ ?_ ?_ x y p1 (p2.trans (Nat.zero_add _).symm)
  all_goals intros; pointwise [k0_pay2, col]

end Cert.RetentionIdeal.Block

end
-- ==== Proof.RetRef.lean ====
module

public import Idealize.ShloMosaic.Lib.Pipeline.ValueKit
public import Idealize.ShloMosaic.Lib.Pointwise
public import Idealize.ShloMosaic.Lib.DynamicIndex
public import proofs.«01_k».proof.Proof.Gen.RetentionRefIdeal.Run
public import proofs.«01_k».proof.Proof.Gen.RetentionRefIdeal.Step

@[expose] public section

set_option maxRecDepth 16384

noncomputable section

namespace Cert.RetentionRefIdeal.Loop

open Idealize.ShloMosaic Idealize.ShloMosaic.StableHlo Cert.RetentionRefIdeal Cert.RetentionRefIdeal.Gen Cert.RetentionRefIdeal.Value

/-- Row `i` of chunk `n`. -/
def row (n : ℕ) (i : Fin 256) : Fin 8192 := ⟨n % 32 * 256 + i, by omega⟩

/-- Column `d` of head `h` among eight heads of `w` columns. -/
def hcol (w : ℕ) (h : Fin 8) (d : Fin w) : Fin (8 * w) := ⟨h * w + d, by have := h.isLt; have := d.isLt; nlinarith⟩

/-- The retention's state after `n` chunks: decayed by a chunk and increased by keys (decayed) times values. -/
def state (k : FVec Ideal S2x8192x2048 .bf16) (v : FVec Ideal S2x8192x4096 .bf16) (Z : FVec Ideal S8x256 .f32) (G : FVec Ideal S8 .f32) :
    ℕ → Fin 2 → Fin 8 → Fin 256 → Fin 512 → EReal
  | 0, _, _, _, _ => 0
  | n + 1, b, h, d, e => state k v Z G n b h d e * G (ix1 h)
      + ∑ r : Fin 256, k (ix3 b (row n r) (hcol 256 h d)) * Z (ix2 h r) * v (ix3 b (row n r) (hcol 512 h e))

/-- The retention's value before the norm, at row `i` of chunk `n`. -/
def chunk (q k : FVec Ideal S2x8192x2048 .bf16) (v : FVec Ideal S2x8192x4096 .bf16) (D : FVec Ideal S8x256x256 .f32) (X Z : FVec Ideal S8x256 .f32)
    (G : FVec Ideal S8 .f32) (n : ℕ) (b : Fin 2) (h : Fin 8) (i : Fin 256) (e : Fin 512) : EReal :=
  (∑ r : Fin 256, (∑ d : Fin 256, q (ix3 b (row n i) (hcol 256 h d)) * k (ix3 b (row n r) (hcol 256 h d))) * D (ix3 h i r)
      * v (ix3 b (row n r) (hcol 512 h e)))
    + (∑ d : Fin 256, q (ix3 b (row n i) (hcol 256 h d)) * state k v Z G n b h d e) * X (ix2 h i)

/-- The chunk that a trip reads of the queries (or keys), at an index. -/
theorem slice_qk (x : FVec Ideal S32x2x8x256x256 .f32) (n : Fin 32) (st : Fin 5 → ℤ) (hst : ∀ a, st a = ((![n.val, 0, 0, 0, 0] a : ℕ) : ℤ))
    (b : Fin 2) (h : Fin 8) (i : Fin 256) (d : Fin 256) :
    shapeCast S2x8x256x256 (Host.dynamicSlice S1x2x8x256x256 x st sliceFits_S32x2x8x256x256_S1x2x8x256x256)
      shapeCasts_S1x2x8x256x256_S2x8x256x256 (ix4 b h i d) = x (ix5 n b h i d) := by
  have c0 := Host.clampedStart_of_le (s := S32x2x8x256x256) (t := S1x2x8x256x256) rfl st 0 n (hst 0) n.isLt
  have c1 := Host.clampedStart_of_le (s := S32x2x8x256x256) (t := S1x2x8x256x256) rfl st 1 0 (hst 1) (by decide)
  have c2 := Host.clampedStart_of_le (s := S32x2x8x256x256) (t := S1x2x8x256x256) rfl st 2 0 (hst 2) (by decide)
  have c3 := Host.clampedStart_of_le (s := S32x2x8x256x256) (t := S1x2x8x256x256) rfl st 3 0 (hst 3) (by decide)
  have c4 := Host.clampedStart_of_le (s := S32x2x8x256x256) (t := S1x2x8x256x256) rfl st 4 0 (hst 4) (by decide)
  pointwise
  simp only [c0, c1, c2, c3, c4, Nat.zero_add, Nat.add_zero, Fin.eta]

/-- The chunk that a trip reads of the values, at an index. -/
theorem slice_v (x : FVec Ideal S32x2x8x256x512 .f32) (n : Fin 32) (st : Fin 5 → ℤ) (hst : ∀ a, st a = ((![n.val, 0, 0, 0, 0] a : ℕ) : ℤ))
    (b : Fin 2) (h : Fin 8) (i : Fin 256) (e : Fin 512) :
    shapeCast S2x8x256x512 (Host.dynamicSlice S1x2x8x256x512 x st sliceFits_S32x2x8x256x512_S1x2x8x256x512)
      shapeCasts_S1x2x8x256x512_S2x8x256x512 (ix4 b h i e) = x (ix5 n b h i e) := by
  have c0 := Host.clampedStart_of_le (s := S32x2x8x256x512) (t := S1x2x8x256x512) rfl st 0 n (hst 0) n.isLt
  have c1 := Host.clampedStart_of_le (s := S32x2x8x256x512) (t := S1x2x8x256x512) rfl st 1 0 (hst 1) (by decide)
  have c2 := Host.clampedStart_of_le (s := S32x2x8x256x512) (t := S1x2x8x256x512) rfl st 2 0 (hst 2) (by decide)
  have c3 := Host.clampedStart_of_le (s := S32x2x8x256x512) (t := S1x2x8x256x512) rfl st 3 0 (hst 3) (by decide)
  have c4 := Host.clampedStart_of_le (s := S32x2x8x256x512) (t := S1x2x8x256x512) rfl st 4 0 (hst 4) (by decide)
  pointwise
  simp only [c0, c1, c2, c3, c4, Nat.zero_add, Nat.add_zero, Fin.eta]

/-- What a trip writes into the buffer of results: its own chunk, nothing else. -/
theorem update_y (x : FVec Ideal S32x2x8x256x512 .f32) (u : FVec Ideal S1x2x8x256x512 .f32) (n : Fin 32) (st : Fin 5 → ℤ)
    (hst : ∀ a, st a = ((![n.val, 0, 0, 0, 0] a : ℕ) : ℤ)) (c : Fin 32) (b : Fin 2) (h : Fin 8) (i : Fin 256) (e : Fin 512) :
    Host.dynamicUpdateSlice x u st updateFits_S32x2x8x256x512_S1x2x8x256x512 (ix5 c b h i e)
      = if c = n then u (ix5 0 b h i e) else x (ix5 c b h i e) := by
  have c0 := Host.clampedStart_of_le (s := S32x2x8x256x512) (t := S1x2x8x256x512) rfl st 0 n (hst 0) n.isLt
  have c1 := Host.clampedStart_of_le (s := S32x2x8x256x512) (t := S1x2x8x256x512) rfl st 1 0 (hst 1) (by decide)
  have c2 := Host.clampedStart_of_le (s := S32x2x8x256x512) (t := S1x2x8x256x512) rfl st 2 0 (hst 2) (by decide)
  have c3 := Host.clampedStart_of_le (s := S32x2x8x256x512) (t := S1x2x8x256x512) rfl st 3 0 (hst 3) (by decide)
  have c4 := Host.clampedStart_of_le (s := S32x2x8x256x512) (t := S1x2x8x256x512) rfl st 4 0 (hst 4) (by decide)
  pointwise
  simp only [c0, c1, c2, c3, c4]
  by_cases hc : c = n
  · subst hc
    rw [dif_pos ⟨by omega, by omega, by omega, by omega, by omega⟩, if_pos rfl]
    simp only [Nat.sub_self, Nat.sub_zero, Fin.eta]
    rfl
  · rw [dif_neg (fun hh => hc (Fin.ext (by omega))), if_neg hc]

/-- The queries' chunks as the loop reads them. -/
theorem chunks_q (q k : FVec Ideal S2x8192x2048 .bf16) (v : FVec Ideal S2x8192x4096 .bf16) (n : Fin 32) (b : Fin 2) (h : Fin 8) (i d : Fin 256) :
    Step.A_main_v57 (F := Ideal) q k v (ix5 n b h i d) = q (ix3 b (row n i) (hcol 256 h d)) := by
  pointwise [Step.A_main_v57, Step.A_main_v53, Step.A_main_v4, Step.A_main_v3, Step.A_main_v0, row, hcol, Nat.mod_eq_of_lt n.isLt]

/-- The keys' chunks as the loop reads them. -/
theorem chunks_k (q k : FVec Ideal S2x8192x2048 .bf16) (v : FVec Ideal S2x8192x4096 .bf16) (n : Fin 32) (b : Fin 2) (h : Fin 8) (i d : Fin 256) :
    Step.A_main_v58 (F := Ideal) q k v (ix5 n b h i d) = k (ix3 b (row n i) (hcol 256 h d)) := by
  pointwise [Step.A_main_v58, Step.A_main_v54, Step.A_main_v6, Step.A_main_v5, Step.A_main_v1, row, hcol, Nat.mod_eq_of_lt n.isLt]

/-- The values' chunks as the loop reads them. -/
theorem chunks_v (q k : FVec Ideal S2x8192x2048 .bf16) (v : FVec Ideal S2x8192x4096 .bf16) (n : Fin 32) (b : Fin 2) (h : Fin 8) (i : Fin 256) (e : Fin 512) :
    Step.A_main_v59 (F := Ideal) q k v (ix5 n b h i e) = v (ix3 b (row n i) (hcol 512 h e)) := by
  pointwise [Step.A_main_v59, Step.A_main_v55, Step.A_main_v8, Step.A_main_v7, Step.A_main_v2, row, hcol, Nat.mod_eq_of_lt n.isLt]

variable (m : (ℓ : Loc nD τ sig) → Buf (Elt Ideal) ℓ) (c : Dev nD)

/-- The queries, keys and values that the program is given. -/
abbrev qin : FVec Ideal S2x8192x2048 .bf16 := m ((c.tc : Thread nD τ).loc main_arg0)
@[inherit_doc qin] abbrev kin : FVec Ideal S2x8192x2048 .bf16 := m ((c.tc : Thread nD τ).loc main_arg1)
@[inherit_doc qin] abbrev vin : FVec Ideal S2x8192x4096 .bf16 := m ((c.tc : Thread nD τ).loc main_arg2)

/-- What the carried buffers hold after `n` trips. -/
structure Inv (n : ℕ) (V : Valuation τ sig (Elt Ideal)) : Prop where
  q : V (Proc.devRef .tc main_v61_0) = Step.A_main_v57 (qin m c) (kin m c) (vin m c)
  k : V (Proc.devRef .tc main_v61_1) = Step.A_main_v58 (qin m c) (kin m c) (vin m c)
  v : V (Proc.devRef .tc main_v61_2) = Step.A_main_v59 (qin m c) (kin m c) (vin m c)
  decay : V (Proc.devRef .tc main_v61_3) = Step.K_main_v33 (F := Ideal)
  xi : V (Proc.devRef .tc main_v61_4) = Step.K_main_v41 (F := Ideal)
  g : V (Proc.devRef .tc main_v61_5) = Step.K_main_v52 (F := Ideal)
  zeta : V (Proc.devRef .tc main_v61_6) = Step.K_main_v49 (F := Ideal)
  ctr : V (Proc.devRef .tc main_v61_7) = constantI S_ 32 (BitVec.ofNat 32 n)
  st : ∀ b h d e, (V (Proc.devRef .tc main_v61_8) : FVec Ideal S2x8x256x512 .f32) (ix4 b h d e)
    = state (kin m c) (vin m c) (Step.K_main_v49 (F := Ideal)) (Step.K_main_v52 (F := Ideal)) n b h d e
  ys : ∀ (j : Fin 32) b h i e, j < n → (V (Proc.devRef .tc main_v61_9) : FVec Ideal S32x2x8x256x512 .f32) (ix5 j b h i e)
    = chunk (qin m c) (kin m c) (vin m c) (Step.K_main_v33 (F := Ideal)) (Step.K_main_v41 (F := Ideal)) (Step.K_main_v49 (F := Ideal))
        (Step.K_main_v52 (F := Ideal)) j b h i e

set_option maxRecDepth 65536 in
set_option maxHeartbeats 1000000 in
/-- Before the first trip: the chunks of the arguments, the tables, a zero state. -/
theorem inv_entry : Inv m c 0 (entryContents preI m c) where
  q := by simp only [entryContents, afterL_cons, afterL_nil]; after_reads_simp; rfl
  k := by simp only [entryContents, afterL_cons, afterL_nil]; after_reads_simp; rfl
  v := by simp only [entryContents, afterL_cons, afterL_nil]; after_reads_simp; rfl
  decay := by simp only [entryContents, afterL_cons, afterL_nil]; after_reads_simp; rfl
  xi := by simp only [entryContents, afterL_cons, afterL_nil]; after_reads_simp; rfl
  g := by simp only [entryContents, afterL_cons, afterL_nil]; after_reads_simp; rfl
  zeta := by simp only [entryContents, afterL_cons, afterL_nil]; after_reads_simp; rfl
  ctr := ctr_entry m c
  st := fun b h d e => by
    have e0 : entryContents preI m c (Proc.devRef .tc main_v61_8) = Step.K_main_v56 (F := Ideal) := by
      simp only [entryContents, afterL_cons, afterL_nil]; after_reads_simp; rfl
    rw [e0]
    pointwise [Step.K_main_v56, Step.K_main_cst_7, state]
  ys := fun j _ _ _ _ hj => absurd hj (Nat.not_lt_zero _)

/-- The starts that trip `n` slices at. -/
theorem starts (n : Fin 32) {V : Valuation τ sig (Elt Ideal)} (h : V (Proc.devRef .tc main_v61_7) = constantI S_ 32 (BitVec.ofNat 32 n)) (a : Fin 5) :
    (((![V (Proc.devRef .tc main_v61_7), constantI S_ 32 0#32, constantI S_ 32 0#32, constantI S_ 32 0#32, constantI S_ 32 0#32] :
      Fin 5 → (⟨S_, .i32⟩ : BufTy).Contents (Elt Ideal))) a (Shape.Idx.first h_S_)).toInt = ((![n.val, 0, 0, 0, 0] a : ℕ) : ℤ) := by
  rw [h]
  have hn : (BitVec.ofNat 32 n).toInt = n := toInt_ofNat_of_lt (by omega)
  fin_cases a
  · exact hn
  all_goals rfl

/-- A trip's queries, keys and values. -/
theorem trip_q (n : Fin 32) {V : Valuation τ sig (Elt Ideal)} (H : Inv m c n V) (b : Fin 2) (h : Fin 8) (i d : Fin 256) :
    (res_main_while0b_v87 V : FVec Ideal S2x8x256x256 .f32) (ix4 b h i d) = qin m c (ix3 b (row n i) (hcol 256 h d)) :=
  (slice_qk _ n _ (starts n H.ctr) b h i d).trans (by rw [H.q]; exact chunks_q _ _ _ n b h i d)
@[inherit_doc trip_q] theorem trip_k (n : Fin 32) {V : Valuation τ sig (Elt Ideal)} (H : Inv m c n V) (b : Fin 2) (h : Fin 8) (i d : Fin 256) :
    (res_main_while0b_v88 V : FVec Ideal S2x8x256x256 .f32) (ix4 b h i d) = kin m c (ix3 b (row n i) (hcol 256 h d)) :=
  (slice_qk _ n _ (starts n H.ctr) b h i d).trans (by rw [H.k]; exact chunks_k _ _ _ n b h i d)
@[inherit_doc trip_q] theorem trip_v (n : Fin 32) {V : Valuation τ sig (Elt Ideal)} (H : Inv m c n V) (b : Fin 2) (h : Fin 8) (i : Fin 256) (e : Fin 512) :
    (res_main_while0b_v89 V : FVec Ideal S2x8x256x512 .f32) (ix4 b h i e) = vin m c (ix3 b (row n i) (hcol 512 h e)) :=
  (slice_v _ n _ (starts n H.ctr) b h i e).trans (by rw [H.v]; exact chunks_v _ _ _ n b h i e)

/-- What a trip makes of the state, at an index. -/
theorem state_apply (R W : FVec Ideal S2x8x256x512 .f32) (K : FVec Ideal S2x8x256x256 .f32) (Z : FVec Ideal S8x256 .f32) (G : FVec Ideal S8 .f32)
    (b : Fin 2) (h : Fin 8) (d : Fin 256) (e : Fin 512) :
    addf (mulf R (broadcastInDim S2x8x256x512 ![0, 1, 2, 3] bcast_S1x8x1x1_S2x8x256x512_0_1_2_3 (broadcastInDim S1x8x1x1 ![1] bcast_S8_S1x8x1x1_1 G)))
      (Host.dotGeneral dot_S2x8x256x256_S2x8x256x512_S2x8x256x512_2_2_3_3_01_01 none (mulf K (broadcastInDim S2x8x256x256 ![0, 1, 2, 3]
        bcast_S1x8x256x1_S2x8x256x256_0_1_2_3 (broadcastInDim S1x8x256x1 ![1, 2] bcast_S8x256_S1x8x256x1_1_2 Z))) W) (ix4 b h d e)
      = R (ix4 b h d e) * G (ix1 h) + ∑ r : Fin 256, K (ix4 b h r d) * Z (ix2 h r) * W (ix4 b h r e) := by
  pointwise

/-- What a trip makes of its chunk of the results, at an index. -/
theorem chunk_apply (R W : FVec Ideal S2x8x256x512 .f32) (Q K : FVec Ideal S2x8x256x256 .f32) (D : FVec Ideal S8x256x256 .f32) (X : FVec Ideal S8x256 .f32)
    (b : Fin 2) (h : Fin 8) (i : Fin 256) (e : Fin 512) :
    broadcastInDim S1x2x8x256x512 ![1, 2, 3, 4] bcast_S2x8x256x512_S1x2x8x256x512_1_2_3_4 (addf
      (Host.dotGeneral dot_S2x8x256x256_S2x8x256x512_S2x8x256x512_3_2_2_3_01_01 none (mulf
        (Host.dotGeneral dot_S2x8x256x256_S2x8x256x256_S2x8x256x256_3_3_2_2_01_01 none Q K)
        (broadcastInDim S2x8x256x256 ![0, 1, 2, 3] bcast_S1x8x256x256_S2x8x256x256_0_1_2_3
          (broadcastInDim S1x8x256x256 ![1, 2, 3] bcast_S8x256x256_S1x8x256x256_1_2_3 D))) W)
      (mulf (Host.dotGeneral dot_S2x8x256x256_S2x8x256x512_S2x8x256x512_3_2_2_3_01_01 none Q R)
        (broadcastInDim S2x8x256x512 ![0, 1, 2, 3] bcast_S1x8x256x1_S2x8x256x512_0_1_2_3
          (broadcastInDim S1x8x256x1 ![1, 2] bcast_S8x256_S1x8x256x1_1_2 X)))) (ix5 0 b h i e)
      = (∑ r : Fin 256, (∑ d : Fin 256, Q (ix4 b h i d) * K (ix4 b h r d)) * D (ix3 h i r) * W (ix4 b h r e))
        + (∑ d : Fin 256, Q (ix4 b h i d) * R (ix4 b h d e)) * X (ix2 h i) := by
  pointwise

/-- One trip keeps the invariant. -/
theorem inv_step (n : Fin 32) {V : Valuation τ sig (Elt Ideal)} (H : Inv m c n V) : Inv m c (n + 1) (STEP V) where
  q := (STEP_main_v61_0 V).trans H.q
  k := (STEP_main_v61_1 V).trans H.k
  v := (STEP_main_v61_2 V).trans H.v
  decay := (STEP_main_v61_3 V).trans H.decay
  xi := (STEP_main_v61_4 V).trans H.xi
  g := (STEP_main_v61_5 V).trans H.g
  zeta := (STEP_main_v61_6 V).trans H.zeta
  ctr := by
    rw [STEP_main_v61_7]
    unfold step_main_v61_7
    rw [H.ctr]
    funext x
    show BitVec.ofNat 32 n + 1#32 = BitVec.ofNat 32 (n + 1)
    rw [BitVec.ofNat_add]
  st := fun b h d e => by
    rw [STEP_main_v61_8]
    refine (state_apply _ _ _ _ _ b h d e).trans ?_
    simp only [trip_k m c n H, trip_v m c n H, H.st, H.g, H.zeta]
    rfl
  ys := fun j b h i e hj => by
    rw [STEP_main_v61_9]
    refine (update_y _ _ n _ (starts n H.ctr) j b h i e).trans ?_
    by_cases hjn : j = n
    · subst hjn
      rw [if_pos rfl]
      refine (chunk_apply _ _ _ _ _ _ b h i e).trans ?_
      simp only [trip_q m c j H, trip_k m c j H, trip_v m c j H, H.st, H.decay, H.xi]
      rfl
    · rw [if_neg hjn]
      exact H.ys j b h i e (by have := Fin.val_ne_of_ne hjn; omega)

/-- After `n` trips the carried buffers hold what the invariant says. -/
theorem inv_iter : ∀ n : ℕ, n ≤ 32 → Inv m c n (STEP^[n] (entryContents preI m c))
  | 0, _ => inv_entry m c
  | n + 1, hn => by
    rw [Function.iterate_succ_apply']
    exact inv_step m c ⟨n, hn⟩ (inv_iter n (by omega))

end Cert.RetentionRefIdeal.Loop

end
-- ==== Proof.RetValue.lean ====
module

public import proofs.«01_k».proof.Proof.RetBlock
public import proofs.«01_k».proof.Proof.RetRef

@[expose] public section

set_option maxRecDepth 16384

noncomputable section

namespace Cert.RetentionIdeal.Final

open Idealize.ShloMosaic Idealize.ShloMosaic.TcCoe Cert.RetentionIdeal Cert.RetentionIdeal.Gen Cert.RetentionIdeal.Block
open Cert.RetentionRefIdeal.Loop (row hcol state chunk)

/-- The retention: the gate times the normed chunk value of the row's chunk and the column's head. -/
def result (q k : FVec Ideal S2x8192x2048 .bf16) (v g : FVec Ideal S2x8192x4096 .bf16) (D : FVec Ideal S8x256x256 .f32) (X Z : FVec Ideal S8x256 .f32)
    (G : FVec Ideal S8 .f32) : FVec Ideal S2x8192x4096 .bf16 := fun j =>
  g j * normed (chunk q k v D X Z G ((j 1 : ℕ) / 256) (j 0) ⟨(j 2 : ℕ) / 512, by have : (j 2 : ℕ) < 4096 := (j 2).isLt; omega⟩
    ⟨(j 1 : ℕ) % 256, Nat.mod_lt _ (by decide)⟩) ⟨(j 2 : ℕ) % 512, Nat.mod_lt _ (by decide)⟩

variable (m : (ℓ : Loc nD τ sig) → Buf (Elt Ideal) ℓ) (c : Dev nD)

/-- The block of every window at every grid point. -/
theorem idx : ∀ t : Fin cfg0.N, win0_0.index t = ![t.val / 64, t.val % 32, t.val / 32 % 2] ∧ win0_1.index t = ![t.val / 64, t.val % 32, t.val / 32 % 2]
    ∧ win0_2.index t = ![t.val / 64, t.val % 32, t.val / 32 % 2] ∧ win0_3.index t = ![t.val / 64, t.val % 32, t.val / 32 % 2]
    ∧ win0_4.index t = ![t.val / 32 % 2, 0, 0] ∧ win0_5.index t = ![t.val / 32 % 2, 0, 0] ∧ win0_6.index t = ![t.val / 32 % 2, 0, 0]
    ∧ win0_7.index t = ![t.val / 32 % 2, 0, 0] ∧ win0_8.index t = ![t.val / 64, t.val % 32, t.val / 32 % 2] :=
  (by decide +kernel : ∀ t : Fin grid0.N, _)

/-- The batch entry of a grid point. -/
def bat (t : Fin cfg0.N) : Fin 2 := ⟨t.val / 64, by have : t.val < 128 := t.isLt; omega⟩
/-- The head that a grid point's `h`-th head is among all eight. -/
def head (t : Fin cfg0.N) (h : Fin 4) : Fin 8 := ⟨t.val / 32 % 2 * 4 + h, by omega⟩

/-- A grid point's block of queries. -/
theorem blk_q (t : Fin cfg0.N) (r : Fin 256) (h : Fin 4) (d : Fin 256) : (iblk m c 0 t : FVec Ideal S1x256x1024 .bf16) (ix3 0 r (col 256 h d))
    = (m ((c.tc : Thread nD τ).loc main_arg0) : FVec Ideal S2x8192x2048 .bf16) (ix3 (bat t) (row (t.val % 32) r) (hcol 256 (head t h) d)) := by
  blk_ext [iblk, V, idx t, row, hcol, bat, head, col]
/-- A grid point's block of keys. -/
theorem blk_k (t : Fin cfg0.N) (r : Fin 256) (h : Fin 4) (d : Fin 256) : (iblk m c 1 t : FVec Ideal S1x256x1024 .bf16) (ix3 0 r (col 256 h d))
    = (m ((c.tc : Thread nD τ).loc main_arg1) : FVec Ideal S2x8192x2048 .bf16) (ix3 (bat t) (row (t.val % 32) r) (hcol 256 (head t h) d)) := by
  blk_ext [iblk, V, idx t, row, hcol, bat, head, col]
/-- A grid point's block of values. -/
theorem blk_v (t : Fin cfg0.N) (r : Fin 256) (h : Fin 4) (e : Fin 512) : (iblk m c 2 t : FVec Ideal S1x256x2048 .bf16) (ix3 0 r (col 512 h e))
    = (m ((c.tc : Thread nD τ).loc main_arg2) : FVec Ideal S2x8192x4096 .bf16) (ix3 (bat t) (row (t.val % 32) r) (hcol 512 (head t h) e)) := by
  blk_ext [iblk, V, idx t, row, hcol, bat, head, col]
/-- A grid point's block of decays between the rows of a chunk. -/
theorem blk_decay (t : Fin cfg0.N) (h : Fin 4) (i r : Fin 256) : (iblk m c 4 t : FVec Ideal S4x256x256 .f32) (ix3 h i r)
    = Cert.RetentionRefIdeal.Step.K_main_v33 (F := Ideal) (ix3 (head t h) i r) := by
  have e0 : V m c main_v24 = Cert.RetentionRefIdeal.Step.K_main_v33 (F := Ideal) := by entry_read; rfl
  blk_simp [iblk]
  rw [e0]
  blk_ext [head, idx t]
/-- A grid point's block of decays of the state into a row. -/
theorem blk_xi (t : Fin cfg0.N) (h : Fin 4) (r : Fin 256) : (iblk m c 5 t : FVec Ideal S4x256x1 .f32) (ix3 h r 0)
    = Cert.RetentionRefIdeal.Step.K_main_v41 (F := Ideal) (ix2 (head t h) r) := by
  have e0 : V m c main_v33 = broadcastInDim S8x256x1 ![0, 1] bcast_S8x256_S8x256x1_0_1 (Cert.RetentionRefIdeal.Step.K_main_v41 (F := Ideal)) := by
    entry_read; rfl
  blk_simp [iblk]
  rw [e0]
  pointwise
  blk_ext [head, idx t]

/-- A grid point's block of decays of the keys to the chunk's end. -/
theorem blk_zeta (t : Fin cfg0.N) (h : Fin 4) (r : Fin 256) : (iblk m c 6 t : FVec Ideal S4x256x1 .f32) (ix3 h r 0)
    = Cert.RetentionRefIdeal.Step.K_main_v49 (F := Ideal) (ix2 (head t h) r) := by
  have e0 : V m c main_v42 = broadcastInDim S8x256x1 ![0, 1] bcast_S8x256_S8x256x1_0_1 (Cert.RetentionRefIdeal.Step.K_main_v49 (F := Ideal)) := by
    entry_read; rfl
  blk_simp [iblk]
  rw [e0]
  pointwise
  blk_ext [head, idx t]
/-- A grid point's block of decays over a whole chunk. -/
theorem blk_g (t : Fin cfg0.N) (h : Fin 4) : (iblk m c 7 t : FVec Ideal S4x1x1 .f32) (ix3 h 0 0)
    = Cert.RetentionRefIdeal.Step.K_main_v52 (F := Ideal) (ix1 (head t h)) := by
  have e0 : V m c main_v46 = broadcastInDim S8x1x1 ![0] bcast_S8_S8x1x1_0 (Cert.RetentionRefIdeal.Step.K_main_v52 (F := Ideal)) := by
    entry_read; rfl
  blk_simp [iblk]
  rw [e0]
  pointwise
  blk_ext [head, idx t]
/-- A grid point's block of gates. -/
theorem blk_gate (t : Fin cfg0.N) (i : Fin 256) (h : Fin 4) (e : Fin 512) : (iblk m c 3 t : FVec Ideal S1x256x2048 .bf16) (ix3 0 i (col 512 h e))
    = (m ((c.tc : Thread nD τ).loc main_arg3) : FVec Ideal S2x8192x4096 .bf16) (ix3 (bat t) (row (t.val % 32) i) (hcol 512 (head t h) e)) := by
  blk_ext [iblk, V, idx t, row, hcol, bat, head, col]

/-- The queries, keys, values and gates that the program is given. -/
abbrev qa : FVec Ideal S2x8192x2048 .bf16 := m ((c.tc : Thread nD τ).loc main_arg0)
@[inherit_doc qa] abbrev ka : FVec Ideal S2x8192x2048 .bf16 := m ((c.tc : Thread nD τ).loc main_arg1)
@[inherit_doc qa] abbrev va : FVec Ideal S2x8192x4096 .bf16 := m ((c.tc : Thread nD τ).loc main_arg2)
@[inherit_doc qa] abbrev ga : FVec Ideal S2x8192x4096 .bf16 := m ((c.tc : Thread nD τ).loc main_arg3)

/-- The state of the reference's recurrence over the kernel's arguments. -/
abbrev stateOf : ℕ → Fin 2 → Fin 8 → Fin 256 → Fin 512 → EReal :=
  state (ka m c) (va m c) (Cert.RetentionRefIdeal.Step.K_main_v49 (F := Ideal)) (Cert.RetentionRefIdeal.Step.K_main_v52 (F := Ideal))
/-- The chunk values of the reference over the kernel's arguments. -/
abbrev chunkOf : ℕ → Fin 2 → Fin 8 → Fin 256 → Fin 512 → EReal :=
  chunk (qa m c) (ka m c) (va m c) (Cert.RetentionRefIdeal.Step.K_main_v33 (F := Ideal)) (Cert.RetentionRefIdeal.Step.K_main_v41 (F := Ideal))
    (Cert.RetentionRefIdeal.Step.K_main_v49 (F := Ideal)) (Cert.RetentionRefIdeal.Step.K_main_v52 (F := Ideal))

/-- A point's step of the state is the recurrence's step. -/
theorem next_eq (t : Fin cfg0.N) (st : FVec Ideal S4x256x512 .f32)
    (hst : ∀ h d e, st (ix3 h d e) = stateOf m c (t.val % 32) (bat t) (head t h) d e) (h : Fin 4) (d : Fin 256) (e : Fin 512) :
    stateNext (iblk m c 1 t) (iblk m c 2 t) (iblk m c 6 t) (iblk m c 7 t) st (ix3 h d e)
      = stateOf m c (t.val % 32 + 1) (bat t) (head t h) d e := by
  rw [stateNext_at _ _ _ _ _ _ h d e rfl rfl rfl, hst, blk_g]
  simp only [blk_k, blk_v, blk_zeta]
  rfl

/-- After a grid point the scratch holds the recurrence's state after the point's chunk. -/
theorem scratch_eq : ∀ (n : ℕ) (hn : n < cfg0.N) (h : Fin 4) (d : Fin 256) (e : Fin 512),
    (outsAt0 m c n hn).2 (ix3 h d e) = stateOf m c (n % 32 + 1) (bat ⟨n, hn⟩) (head ⟨n, hn⟩ h) d e := by
  intro n
  induction n with
  | zero =>
    intro hn h d e
    rw [scratch_first m c ⟨0, hn⟩ rfl]
    exact next_eq m c ⟨0, hn⟩ _ (fun _ _ _ => rfl) h d e
  | succ n ih =>
    intro hn h d e
    by_cases hz : (n + 1) % 32 = 0
    · rw [scratch_first m c ⟨n + 1, hn⟩ hz]
      refine next_eq m c ⟨n + 1, hn⟩ _ (fun _ _ _ => ?_) h d e
      show (0 : EReal) = stateOf m c ((n + 1) % 32) _ _ _ _
      rw [hz]; rfl
    · rw [scratch_step m c ⟨n + 1, hn⟩ hz]
      refine next_eq m c ⟨n + 1, hn⟩ _ (fun h d e => (ih (Nat.lt_of_succ_lt hn) h d e).trans ?_) h d e
      have e1 : n % 32 + 1 = (n + 1) % 32 := by omega
      have e2 : bat ⟨n, Nat.lt_of_succ_lt hn⟩ = bat ⟨n + 1, hn⟩ := Fin.ext (by show n / 64 = (n + 1) / 64; omega)
      have e3 : head ⟨n, Nat.lt_of_succ_lt hn⟩ h = head ⟨n + 1, hn⟩ h := Fin.ext (by show n / 32 % 2 * 4 + h.val = (n + 1) / 32 % 2 * 4 + h.val; omega)
      rw [e1, e2, e3]

/-- A chunk's value over blocks that hold a chunk of the arrays is the chunk's value over the arrays. -/
theorem chunkOut_eq {q k : FVec Ideal S1x256x1024 .bf16} {v : FVec Ideal S1x256x2048 .bf16} {decay : FVec Ideal S4x256x256 .f32} {xi : FVec Ideal S4x256x1 .f32}
    {st : FVec Ideal S4x256x512 .f32} {Q K : FVec Ideal S2x8192x2048 .bf16} {W : FVec Ideal S2x8192x4096 .bf16} {D : FVec Ideal S8x256x256 .f32}
    {X : FVec Ideal S8x256 .f32} (Z : FVec Ideal S8x256 .f32) (G : FVec Ideal S8 .f32) (n : ℕ) (b : Fin 2) (hd : Fin 4 → Fin 8)
    (hq : ∀ r h d, q (ix3 0 r (col 256 h d)) = Q (ix3 b (row n r) (hcol 256 (hd h) d)))
    (hk : ∀ r h d, k (ix3 0 r (col 256 h d)) = K (ix3 b (row n r) (hcol 256 (hd h) d)))
    (hv : ∀ r h e, v (ix3 0 r (col 512 h e)) = W (ix3 b (row n r) (hcol 512 (hd h) e)))
    (hD : ∀ h i r, decay (ix3 h i r) = D (ix3 (hd h) i r)) (hX : ∀ h r, xi (ix3 h r 0) = X (ix2 (hd h) r))
    (hst : ∀ h d e, st (ix3 h d e) = state K W Z G n b (hd h) d e) (h : Fin 4) (i : Fin 256) (e : Fin 512) :
    chunkOut q k v decay xi st h i e = chunk Q K W D X Z G n b (hd h) i e := by
  unfold chunkOut chunk
  simp only [hq, hk, hv, hD, hX, hst]

/-- The state that enters a point's results is the recurrence's state before the point's chunk, and what the point leaves is the result's block. -/
theorem out_eq (t : Fin cfg0.N) (y : S1x256x2048.Idx) (h : Fin 4) (i : Fin 256) (e : Fin 512) (h1 : (y 1 : ℕ) = i) (h2 : (y 2 : ℕ) = h * 512 + e) :
    (outsAt0 m c t.val t.isLt).1 y = ga m c (ix3 (bat t) (row (t.val % 32) i) (hcol 512 (head t h) e))
      * normed (chunkOf m c (t.val % 32) (bat t) (head t h) i) e := by
  have key : ∀ st : FVec Ideal S4x256x512 .f32, (∀ h d e, st (ix3 h d e) = stateOf m c (t.val % 32) (bat t) (head t h) d e) →
      outBlock (iblk m c 0 t) (iblk m c 1 t) (iblk m c 2 t) (iblk m c 3 t) (iblk m c 4 t) (iblk m c 5 t) st y
        = ga m c (ix3 (bat t) (row (t.val % 32) i) (hcol 512 (head t h) e)) * normed (chunkOf m c (t.val % 32) (bat t) (head t h) i) e := fun st hst => by
    refine (outBlock_at _ _ _ _ _ _ _ y h i e h1 h2).trans (congrArg₂ (· * ·) (blk_gate m c t i h e) (congrArg (fun z => normed z e) (funext fun e' => ?_)))
    exact chunkOut_eq _ _ _ _ _ (blk_q m c t) (blk_k m c t) (blk_v m c t) (blk_decay m c t) (blk_xi m c t) hst h i e'
  obtain ⟨n, hn⟩ := t
  by_cases hz : n % 32 = 0
  · rw [out_first m c ⟨n, hn⟩ hz]
    refine key _ (fun _ _ _ => ?_)
    show (0 : EReal) = stateOf m c (n % 32) _ _ _ _
    rw [hz]; rfl
  · rw [out_step m c ⟨n, hn⟩ hz]
    refine key _ (fun h d e => (scratch_eq m c (n - 1) _ h d e).trans ?_)
    have e1 : (n - 1) % 32 + 1 = n % 32 := by omega
    have e2 : bat ⟨n - 1, Nat.lt_of_le_of_lt (Nat.sub_le _ _) hn⟩ = bat ⟨n, hn⟩ := Fin.ext (by show (n - 1) / 64 = n / 64; omega)
    have e3 : head ⟨n - 1, Nat.lt_of_le_of_lt (Nat.sub_le _ _) hn⟩ h = head ⟨n, hn⟩ h :=
      Fin.ext (by show (n - 1) / 32 % 2 * 4 + h.val = n / 32 % 2 * 4 + h.val; omega)
    rw [e1, e2, e3]

/-- The result of the retention over the kernel's arguments. -/
abbrev G : FVec Ideal S2x8192x4096 .bf16 :=
  result (qa m c) (ka m c) (va m c) (ga m c) (Cert.RetentionRefIdeal.Step.K_main_v33 (F := Ideal)) (Cert.RetentionRefIdeal.Step.K_main_v41 (F := Ideal))
    (Cert.RetentionRefIdeal.Step.K_main_v49 (F := Ideal)) (Cert.RetentionRefIdeal.Step.K_main_v52 (F := Ideal))

/-- The result at row `i` of chunk `n` and lane `e` of head `h`. -/
theorem result_at (q k : FVec Ideal S2x8192x2048 .bf16) (v g : FVec Ideal S2x8192x4096 .bf16) (D : FVec Ideal S8x256x256 .f32) (X Z : FVec Ideal S8x256 .f32)
    (G : FVec Ideal S8 .f32) (j : S2x8192x4096.Idx) (n : ℕ) (hn : n < 32) (b : Fin 2) (h : Fin 8) (i : Fin 256) (e : Fin 512)
    (h0 : (j 0 : ℕ) = b) (h1 : (j 1 : ℕ) = n * 256 + i) (h2 : (j 2 : ℕ) = h * 512 + e) :
    result q k v g D X Z G j = g (ix3 b (row n i) (hcol 512 h e)) * normed (chunk q k v D X Z G n b h i) e := by
  have e0 : j = ix3 b (row n i) (hcol 512 h e) := by
    funext a
    match a with
    | ⟨0, _⟩ => exact Fin.ext h0
    | ⟨1, _⟩ => exact Fin.ext (by show (j 1 : ℕ) = n % 32 * 256 + i; omega)
    | ⟨2, _⟩ => exact Fin.ext h2
  have e1 : (j 1 : ℕ) / 256 = n := by omega
  have e2 : (⟨(j 1 : ℕ) % 256, Nat.mod_lt _ (by decide)⟩ : Fin 256) = i := Fin.ext (by show (j 1 : ℕ) % 256 = i; omega)
  have e3 : (⟨(j 2 : ℕ) / 512, by have : (j 2 : ℕ) < 4096 := (j 2).isLt; omega⟩ : Fin 8) = h := Fin.ext (by show (j 2 : ℕ) / 512 = h; omega)
  have e4 : (⟨(j 2 : ℕ) % 512, Nat.mod_lt _ (by decide)⟩ : Fin 512) = e := Fin.ext (by show (j 2 : ℕ) % 512 = e; omega)
  have e5 : (j 0 : Fin 2) = b := Fin.ext h0
  unfold result
  rw [e1, e2, e3, e4]
  exact congrArg₂ (fun (b : Fin 2) (z : S2x8192x4096.Idx) => g z * normed (chunk q k v D X Z G n b h i) e) e5 e0

/-- The kernel's array after the run is the retention of its arguments. -/
theorem final : (dats m 0 c).arrAt 8 (cfgs 0).N = G m c := by
  refine (dats m 0 c).arrAt_eq_of_covers 8 (G m c) (by decide +kernel) fun t hf y => ?_
  have hy1 : (y 1 : ℕ) < 256 := (y 1).isLt
  have hy2 : (y 2 : ℕ) < 2048 := (y 2).isLt
  blk_simp
  rw [after0_8, out_eq m c t y ⟨(y 2 : ℕ) / 512, by omega⟩ ⟨(y 1 : ℕ), hy1⟩ ⟨(y 2 : ℕ) % 512, Nat.mod_lt _ (by decide)⟩ rfl
    (by show (y 2 : ℕ) = (y 2 : ℕ) / 512 * 512 + (y 2 : ℕ) % 512; omega)]
  refine (result_at _ _ _ _ _ _ _ _ _ (t.val % 32) (Nat.mod_lt _ (by decide)) _ _ _ _ ?_ ?_ ?_).symm
  all_goals blk_simp [idx t]
  · rfl
  · show _ = (t.val / 32 % 2 * 4 + (y 2 : ℕ) / 512) * 512 + (y 2 : ℕ) % 512
    omega

end Cert.RetentionIdeal.Final

namespace Cert.RetentionRefIdeal.Loop

open Idealize.ShloMosaic Idealize.ShloMosaic.TcCoe Cert.RetentionRefIdeal Cert.RetentionRefIdeal.Gen Cert.RetentionRefIdeal.Value
open Cert.RetentionIdeal.Block (normed mean)

/-- What the operations after the loop make of the loop's results. -/
theorem out_apply (V : Valuation τ sig (Elt Ideal)) (g : FVec Ideal S2x8192x4096 .bf16) (Y : FVec Ideal S32x2x8x256x512 .f32)
    (hg : V (Proc.devRef .tc main_arg3) = g) (hY : V (Proc.devRef .tc main_v61_9) = Y) (n : Fin 32) (b : Fin 2) (h : Fin 8) (i : Fin 256) (e : Fin 512) :
    out_main_v86 V (ix3 b (row n i) (hcol 512 h e)) = g (ix3 b (row n i) (hcol 512 h e)) * normed (fun e => Y (ix5 n b h i e)) e := by
  unfold out_main_v86
  rw [hg, hY]
  pointwise [normed, mean, row, hcol]

/-- The reference's result is the retention of its arguments. -/
theorem final (m : (ℓ : Loc nD τ sig) → Buf (Elt Ideal) ℓ) (c : Dev nD) : out_main_v86 (STEP^[32] (StableHlo.entryContents preI m c))
    = Cert.RetentionIdeal.Final.result (qin m c) (kin m c) (vin m c) (m ((c.tc : Thread nD τ).loc main_arg3)) (Step.K_main_v33 (F := Ideal))
        (Step.K_main_v41 (F := Ideal)) (Step.K_main_v49 (F := Ideal)) (Step.K_main_v52 (F := Ideal)) := by
  funext (j : S2x8192x4096.Idx)
  have hj1 : (j 1 : ℕ) < 8192 := (j 1).isLt
  have hj2 : (j 2 : ℕ) < 4096 := (j 2).isLt
  have H := inv_iter m c 32 (le_refl 32)
  let n : Fin 32 := ⟨(j 1 : ℕ) / 256, by omega⟩
  let i : Fin 256 := ⟨(j 1 : ℕ) % 256, Nat.mod_lt _ (by decide)⟩
  let h : Fin 8 := ⟨(j 2 : ℕ) / 512, by omega⟩
  let e : Fin 512 := ⟨(j 2 : ℕ) % 512, Nat.mod_lt _ (by decide)⟩
  have e1 : (j 1 : ℕ) = n.val * 256 + i.val := by show _ = (j 1 : ℕ) / 256 * 256 + (j 1 : ℕ) % 256; omega
  have e2 : (j 2 : ℕ) = h.val * 512 + e.val := by show _ = (j 2 : ℕ) / 512 * 512 + (j 2 : ℕ) % 512; omega
  have e0 : j = ix3 (j 0) (row n i) (hcol 512 h e) := by
    funext a
    match a with
    | ⟨0, _⟩ => rfl
    | ⟨1, _⟩ => exact Fin.ext (by show (j 1 : ℕ) = n.val % 32 * 256 + i.val; omega)
    | ⟨2, _⟩ => exact Fin.ext e2
  refine Eq.trans ?_ (Cert.RetentionIdeal.Final.result_at _ _ _ _ _ _ _ _ j n n.isLt (j 0) h i e rfl e1 e2).symm
  rw [e0]
  refine (out_apply _ _ _ (iter_main_arg3 m c 32) rfl n (j 0) h i e).trans ?_
  exact congrArg (HMul.hMul (α := EReal) (β := EReal) (γ := EReal) _) (congrArg (fun z => normed z e) (funext fun e' => H.ys n (j 0) h i e' n.isLt))

end Cert.RetentionRefIdeal.Loop

end
-- ==== Proof.UpPay.lean ====
module

public import proofs.«01_k».proof.Proof.Gen.FfnUpIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FfnUpIdeal.Block

open Cert.FfnUpIdeal Cert.FfnUpIdeal.Gen Idealize.ShloMosaic Idealize.ShloMosaic.TcCoe Idealize.SL.Sem

/-- A coordinate of an index inside a rectangle is the rectangle's offset and the index's own coordinate. -/
theorem at_val {s : Shape} {off sz : Fin s.rank → ℕ} (inb : ∀ a, off a + sz a ≤ s.size a) (j : (Rect.unit off sz inb).shape.Idx) (a : Fin s.rank) :
    ((Rect.unit off sz inb).emb j a : ℕ) = off a + (j a : ℕ) := ValueKit.rect_emb_unit_val off sz inb j a

/-- The rows of an array and of the eight rows before it, from row `o` of the eight on: what a load at row `o` finds after the eight rows and the
    array were stored one below the other. -/
def shifted (o : ℕ) (C : FVec Ideal S8x512 .f32) (U : FVec Ideal S512x512 .f32) : FVec Ideal S512x512 .f32 := fun x =>
  if h : o + (x 0 : ℕ) < 8 then C (ix2 ⟨o + (x 0 : ℕ), h⟩ (x 1)) else U (ix2 ⟨(o + (x 0 : ℕ) - 8) % 512, Nat.mod_lt _ (by decide)⟩ (x 1))

/-- A load of 512 rows at row `o`, after eight rows and then 512 rows below them were stored, is `shifted o`; older stores do not matter. -/
theorem readCov_shifted (v : View sig .tc .vmem S520x512 .f32) (o : ℕ) (ho : o ≤ 8) (C : FVec Ideal S8x512 .f32) (U : FVec Ideal S512x512 .f32)
    (L : List (View.Piece (Elt Ideal) S520x512 .f32)) (i8 : ∀ a, (![8, 0] : Fin 2 → ℕ) a + (![512, 512] : Fin 2 → ℕ) a ≤ S520x512.size a)
    (i0 : ∀ a, (![0, 0] : Fin 2 → ℕ) a + (![8, 512] : Fin 2 → ℕ) a ≤ S520x512.size a)
    (io : ∀ a, (![o, 0] : Fin 2 → ℕ) a + (![512, 512] : Fin 2 → ℕ) a ≤ S520x512.size a) :
    v.readCov (Val := Elt Ideal) (⟨Rect.unit (s := S520x512) ![8, 0] ![512, 512] i8, U⟩ :: ⟨Rect.unit (s := S520x512) ![0, 0] ![8, 512] i0, C⟩ :: L)
      (Rect.unit (s := S520x512) ![o, 0] ![512, 512] io).toLoadRect = shifted o C U := by
  rw [View.readCov_eq_canon']
  funext j
  have hj0 : (j 0 : ℕ) < 512 := (j 0).isLt
  have hj1 : (j 1 : ℕ) < 512 := (j 1).isLt
  unfold shifted
  split
  · rename_i h
    have e : (Rect.unit (s := S520x512) ![o, 0] ![512, 512] io).toLoadRect.idx j
        = (Rect.unit (s := S520x512) ![0, 0] ![8, 512] i0).emb (ix2 ⟨o + (j 0 : ℕ), h⟩ (j 1)) := by
      funext a
      apply Fin.ext
      match a with
      | ⟨0, _⟩ => show o + 1 * (j 0 : ℕ) = 0 + 1 * (o + (j 0 : ℕ)); omega
      | ⟨1, _⟩ => rfl
    rw [View.canon_cons_of_not_mem, e, View.canon_cons_emb]
    intro hm
    obtain ⟨z, hz⟩ := (Rect.unit (s := S520x512) ![8, 0] ![512, 512] i8).exists_idx_of_mem hm
    have e1 : ((Rect.unit (s := S520x512) ![8, 0] ![512, 512] i8).emb z 0 : ℕ) = 8 + (z 0 : ℕ) := at_val i8 z 0
    have e3 : 8 + (z 0 : ℕ) = o + 1 * (j 0 : ℕ) := e1.symm.trans (congrArg (fun q : S520x512.Idx => (q 0 : ℕ)) hz)
    omega
  · rename_i h
    have e : (Rect.unit (s := S520x512) ![o, 0] ![512, 512] io).toLoadRect.idx j
        = (Rect.unit (s := S520x512) ![8, 0] ![512, 512] i8).emb (ix2 ⟨(o + (j 0 : ℕ) - 8) % 512, Nat.mod_lt _ (by decide)⟩ (j 1)) := by
      funext a
      apply Fin.ext
      match a with
      | ⟨0, _⟩ => show o + 1 * (j 0 : ℕ) = 8 + 1 * ((o + (j 0 : ℕ) - 8) % 512); omega
      | ⟨1, _⟩ => rfl
    rw [e, View.canon_cons_emb]

/-- The product of 512 rows with the weights. -/
def up (X : FVec Ideal S512x2048 .bf16) (W : FVec Ideal S2048x512 .bf16) : FVec Ideal S512x512 .f32 := fun z =>
  ∑ d : Fin 2048, X (ix2 (z 0) d) * W (ix2 d (z 1))

/-- The last eight of 512 rows. -/
def tail (U : FVec Ideal S512x512 .f32) : FVec Ideal S1x8x512 .f32 := fun z => U (ix2 ⟨504 + (z 1 : ℕ), by have : (z 1 : ℕ) < 8 := (z 1).isLt; omega⟩ (z 2))

/-- Eight rows without their leading axis of length one. -/
def flat (C : FVec Ideal S1x8x512 .f32) : FVec Ideal S8x512 .f32 := fun z => C (ix3 0 (z 0) (z 1))

/-- Three rows weighed and the bias added: the row itself, the one before it and the one before that. -/
def conv (U U1 U2 : FVec Ideal S512x512 .f32) (B A0 A1 A2 : FVec Ideal S1x1x512 .f32) : FVec Ideal S512x512 .f32 := fun z =>
  B (ix3 0 0 (z 1)) + U2 z * A0 (ix3 0 0 (z 1)) + U1 z * A1 (ix3 0 0 (z 1)) + U z * A2 (ix3 0 0 (z 1))

/-- The approximate GELU of one number, by the hyperbolic tangent. -/
def gelu (a : EReal) : EReal :=
  a * (Ideal.ofBits .f32 0x3F000000#32 * (Ideal.ofBits .f32 0x3F800000#32
    + Ideal.tanh (Ideal.ofBits .f32 0x3F4C422A#32 * (a + Ideal.ofBits .f32 0x3D372713#32 * (a * (a * a))))))

/-- The GELU of the gate times the value. -/
def gated (G V : FVec Ideal S512x512 .f32) : FVec Ideal S512x512 .bf16 := fun z => gelu (G z) * V z

section payloads

variable (X : FVec Ideal S512x2048 .bf16) (W : FVec Ideal S2048x512 .bf16) (C : FVec Ideal S1x8x512 .f32) (U U1 U2 G : FVec Ideal S512x512 .f32)
  (B A0 A1 A2 : FVec Ideal S1x1x512 .f32)

/-- A product of the body. -/
theorem pay4 : k0_pay4 X W = up X W := by
  funext x; idx_vars x; pointwise [k0_pay4, up] <;> rfl

/-- A product of the body. -/
theorem pay10 : k0_pay10 X W = up X W := by
  funext x; idx_vars x; pointwise [k0_pay10, up] <;> rfl

/-- A product of the body. -/
theorem pay18 : k0_pay18 X W = up X W := by
  funext x; idx_vars x; pointwise [k0_pay18, up] <;> rfl

/-- A product of the body. -/
theorem pay25 : k0_pay25 X W = up X W := by
  funext x; idx_vars x; pointwise [k0_pay25, up] <;> rfl

/-- A product of the body. -/
theorem pay31 : k0_pay31 X W = up X W := by
  funext x; idx_vars x; pointwise [k0_pay31, up] <;> rfl

/-- A product of the body. -/
theorem pay37 : k0_pay37 X W = up X W := by
  funext x; idx_vars x; pointwise [k0_pay37, up] <;> rfl

/-- A product of the body. -/
theorem pay44 : k0_pay44 X W = up X W := by
  funext x; idx_vars x; pointwise [k0_pay44, up] <;> rfl

/-- A product of the body. -/
theorem pay49 : k0_pay49 X W = up X W := by
  funext x; idx_vars x; pointwise [k0_pay49, up] <;> rfl

/-- A product of the body, as it is stored. -/
theorem pay6 : k0_pay6 X W = up X W := by
  funext x; idx_vars x; pointwise [k0_pay6, k0_pay4, up] <;> rfl

/-- A product of the body, as it is stored. -/
theorem pay12 : k0_pay12 X W = up X W := by
  funext x; idx_vars x; pointwise [k0_pay12, k0_pay10, up] <;> rfl

/-- A product of the body, as it is stored. -/
theorem pay20 : k0_pay20 X W = up X W := by
  funext x; idx_vars x; pointwise [k0_pay20, k0_pay18, up] <;> rfl

/-- A product of the body, as it is stored. -/
theorem pay27 : k0_pay27 X W = up X W := by
  funext x; idx_vars x; pointwise [k0_pay27, k0_pay25, up] <;> rfl

/-- A product of the body, as it is stored. -/
theorem pay46 : k0_pay46 X W = up X W := by
  funext x; idx_vars x; pointwise [k0_pay46, k0_pay44, up] <;> rfl

/-- A product of the body, as it is stored. -/
theorem pay51 : k0_pay51 X W = up X W := by
  funext x; idx_vars x; pointwise [k0_pay51, k0_pay49, up] <;> rfl

/-- An array stored as it is. -/
theorem pay34 : k0_pay34 U = U := by
  funext x; idx_vars x; pointwise [k0_pay34] <;> rfl

/-- An array stored as it is. -/
theorem pay39 : k0_pay39 U = U := by
  funext x; idx_vars x; pointwise [k0_pay39] <;> rfl

/-- Eight carried rows, as they are stored. -/
theorem pay5 : k0_pay5 C = flat C := by
  funext x; idx_vars x; pointwise [k0_pay5, flat] <;> rfl

/-- Eight carried rows, as they are stored. -/
theorem pay11 : k0_pay11 C = flat C := by
  funext x; idx_vars x; pointwise [k0_pay11, flat] <;> rfl

/-- Eight carried rows, as they are stored. -/
theorem pay19 : k0_pay19 C = flat C := by
  funext x; idx_vars x; pointwise [k0_pay19, flat] <;> rfl

/-- Eight carried rows, as they are stored. -/
theorem pay26 : k0_pay26 C = flat C := by
  funext x; idx_vars x; pointwise [k0_pay26, flat] <;> rfl

/-- Eight carried rows, as they are stored. -/
theorem pay38 : k0_pay38 C = flat C := by
  funext x; idx_vars x; pointwise [k0_pay38, flat] <;> rfl

/-- Eight carried rows, as they are stored. -/
theorem pay45 : k0_pay45 C = flat C := by
  funext x; idx_vars x; pointwise [k0_pay45, flat] <;> rfl

/-- Eight carried rows, as they are stored. -/
theorem pay50 : k0_pay50 C = flat C := by
  funext x; idx_vars x; pointwise [k0_pay50, flat] <;> rfl

/-- Eight carried rows, as they are stored. -/
theorem pay33 : k0_pay33 (k0_pay32 C) = flat C := by
  funext x; idx_vars x; pointwise [k0_pay33, k0_pay32, flat] <;> rfl

/-- The rows carried on. -/
theorem pay8 : k0_pay8 (k0_pay7 X W) = tail (up X W) := by
  funext x; idx_vars x; pointwise [k0_pay8, k0_pay7, k0_pay4, up, tail] <;> rfl

/-- The rows carried on. -/
theorem pay53 : k0_pay53 (k0_pay52 X W) = tail (up X W) := by
  funext x; idx_vars x; pointwise [k0_pay53, k0_pay52, k0_pay49, up, tail] <;> rfl

/-- The rows carried on. -/
theorem pay21 : k0_pay21 X W = tail (up X W) := by
  funext x; idx_vars x; pointwise [k0_pay21, k0_pay18, up, tail] <;> rfl

/-- The rows carried on. -/
theorem pay28 : k0_pay28 X W = tail (up X W) := by
  funext x; idx_vars x; pointwise [k0_pay28, k0_pay25, up, tail] <;> rfl

/-- The rows carried on. -/
theorem pay47 : k0_pay47 X W = tail (up X W) := by
  funext x; idx_vars x; pointwise [k0_pay47, k0_pay44, up, tail] <;> rfl

/-- The rows carried on. -/
theorem pay13 : k0_pay13 U = tail U := by
  funext x; idx_vars x; pointwise [k0_pay13, tail] <;> rfl

/-- The rows carried on. -/
theorem pay35 : k0_pay35 U = tail U := by
  funext x; idx_vars x; pointwise [k0_pay35, tail] <;> rfl

/-- The rows carried on. -/
theorem pay40 : k0_pay40 U = tail U := by
  funext x; idx_vars x; pointwise [k0_pay40, tail] <;> rfl

/-- A convolution of the body. -/
theorem pay9 : k0_pay9 U U1 U2 B A0 A1 A2 = conv U U1 U2 B A0 A1 A2 := by
  funext x; idx_vars x; pointwise [k0_pay9, conv] <;> rfl

/-- A convolution of the body. -/
theorem pay14 : k0_pay14 U U1 U2 B A0 A1 A2 = conv U U1 U2 B A0 A1 A2 := by
  funext x; idx_vars x; pointwise [k0_pay14, conv] <;> rfl

/-- A convolution of the body. -/
theorem pay36 : k0_pay36 U U1 U2 B A0 A1 A2 = conv U U1 U2 B A0 A1 A2 := by
  funext x; idx_vars x; pointwise [k0_pay36, conv] <;> rfl

/-- A convolution of the body. -/
theorem pay48 : k0_pay48 U U1 U2 B A0 A1 A2 = conv U U1 U2 B A0 A1 A2 := by
  funext x; idx_vars x; pointwise [k0_pay48, conv] <;> rfl

/-- A convolution of the body. -/
theorem pay24 : k0_pay24 U U1 (k0_pay22 U2 A0) (k0_pay23 B) A1 A2 = conv U U1 U2 B A0 A1 A2 := by
  funext x; idx_vars x; pointwise [k0_pay24, k0_pay23, k0_pay22, conv] <;> rfl

/-- The first rows of results. -/
theorem pay17 : k0_pay17 G U (k0_pay15 G) k0_pay16 = gated G U := by
  funext x; idx_vars x; pointwise [k0_pay17, k0_pay15, k0_pay16, gated, gelu] <;> rfl

/-- The second rows of results. -/
theorem pay30 : k0_pay30 G U U1 U2 (k0_pay29 B) A0 A1 A2 = gated G (conv U U1 U2 B A0 A1 A2) := by
  funext x; idx_vars x; pointwise [k0_pay30, k0_pay29, gated, gelu, conv] <;> rfl

/-- The third rows of results. -/
theorem pay43 : k0_pay43 G (k0_pay41 U1 U2 B A0 A1) (k0_pay42 U A2) = gated G (conv U U1 U2 B A0 A1 A2) := by
  funext x; idx_vars x; pointwise [k0_pay43, k0_pay42, k0_pay41, gated, gelu, conv] <;> rfl

/-- The fourth rows of results. -/
theorem pay54 : k0_pay54 G U U1 U2 B A0 A1 A2 = gated G (conv U U1 U2 B A0 A1 A2) := by
  funext x; idx_vars x; pointwise [k0_pay54, gated, gelu, conv] <;> rfl

end payloads

end Cert.FfnUpIdeal.Block

end
-- ==== Proof.UpBlock.lean ====
module

public import proofs.«01_k».proof.Proof.UpPay

@[expose] public section

set_option maxRecDepth 16384

noncomputable section

namespace Cert.FfnUpIdeal.Block

open Cert.FfnUpIdeal Cert.FfnUpIdeal.Gen Idealize.ShloMosaic Idealize.ShloMosaic.TcCoe Idealize.SL.Sem

/-- Row `k` of a block of 2048 product rows with the eight carried rows before them. -/
def ext (x : FVec Ideal S2048x2048 .bf16) (W : FVec Ideal S2048x512 .bf16) (C : FVec Ideal S2x8x512 .f32) (s : Fin 2) (k : ℕ) (e : Fin 512) : EReal :=
  if h : k < 8 then C (ix3 s ⟨k, h⟩ e) else ∑ d : Fin 2048, x (ix2 ⟨(k - 8) % 2048, Nat.mod_lt _ (by decide)⟩ d) * W (ix2 d e)

/-- One convolved row of a block. -/
def convAt (x : FVec Ideal S2048x2048 .bf16) (W : FVec Ideal S2048x512 .bf16) (C : FVec Ideal S2x8x512 .f32) (s : Fin 2) (cw : FVec Ideal S1x3x512 .f32)
    (cb : FVec Ideal S1x1x512 .f32) (r : ℕ) (e : Fin 512) : EReal :=
  cb (ix3 0 0 e) + ext x W C s (r + 6) e * cw (ix3 0 0 e) + ext x W C s (r + 7) e * cw (ix3 0 1 e) + ext x W C s (r + 8) e * cw (ix3 0 2 e)

/-- A block of results. -/
def outBlock (x : FVec Ideal S2048x2048 .bf16) (Wg Wv : FVec Ideal S2048x512 .bf16) (C : FVec Ideal S2x8x512 .f32) (cwg cwv : FVec Ideal S1x3x512 .f32)
    (cbg cbv : FVec Ideal S1x1x512 .f32) : FVec Ideal S2048x512 .bf16 := fun y =>
  gelu (convAt x Wg C 0 cwg cbg (y 0) (y 1)) * convAt x Wv C 1 cwv cbv (y 0) (y 1)

/-- The rows a block carries on: the last eight of its product rows. -/
def carryOut (x : FVec Ideal S2048x2048 .bf16) (Wg Wv : FVec Ideal S2048x512 .bf16) : FVec Ideal S2x8x512 .f32 := fun y =>
  ∑ d : Fin 2048, x (ix2 ⟨2040 + (y 1 : ℕ), by have : (y 1 : ℕ) < 8 := (y 1).isLt; omega⟩ d) * (if (y 0 : ℕ) = 0 then Wg else Wv) (ix2 d (y 2))

variable {X X' : FVec Ideal S512x2048 .bf16} {x : FVec Ideal S2048x2048 .bf16} {W Wg Wv : FVec Ideal S2048x512 .bf16} {C : FVec Ideal S2x8x512 .f32}
  {D Dg Dv : FVec Ideal S1x8x512 .f32}

/-- A row of `512 q` and following, before which eight rows stand, read at an offset. -/
theorem shifted_eq (q o : ℕ) (hq : q < 4) (ho : o ≤ 8) (s : Fin 2) (hX : ∀ (r : Fin 512) (d : Fin 2048), X (ix2 r d) = x (ix2 ⟨512 * q + r, by omega⟩ d))
    (hD : ∀ (k : Fin 8) (e : Fin 512), D (ix3 0 k e) = ext x W C s (512 * q + k) e) (r e : Fin 512) :
    shifted o (flat D) (up X W) (ix2 r e) = ext x W C s (512 * q + r + o) e := by
  unfold shifted
  split
  · rename_i h
    have h' : o + (r : ℕ) < 8 := h
    refine (hD ⟨o + (r : ℕ), h'⟩ e).trans (congrArg (fun k => ext x W C s k e) ?_)
    show 512 * q + (o + (r : ℕ)) = _
    omega
  · rename_i h
    have h' : ¬o + (r : ℕ) < 8 := h
    unfold ext
    rw [dif_neg (by omega)]
    refine Finset.sum_congr rfl fun d _ => ?_
    refine congrArg (fun z => z * W (ix2 d e)) ((hX ⟨(o + (r : ℕ) - 8) % 512, Nat.mod_lt _ (by decide)⟩ d).trans ?_)
    refine congrArg (fun z : Fin 2048 => x (ix2 z d)) (Fin.ext ?_)
    show 512 * q + (o + (r : ℕ) - 8) % 512 = (512 * q + r + o - 8) % 2048
    omega

/-- The product rows themselves. -/
theorem up_eq (q : ℕ) (hq : q < 4) (s : Fin 2) (hX : ∀ (r : Fin 512) (d : Fin 2048), X (ix2 r d) = x (ix2 ⟨512 * q + r, by omega⟩ d)) (r e : Fin 512) :
    up X W (ix2 r e) = ext x W C s (512 * q + r + 8) e := by
  unfold ext
  rw [dif_neg (by omega)]
  refine Finset.sum_congr rfl fun d _ => ?_
  refine congrArg (fun z => z * W (ix2 d e)) ((hX r d).trans ?_)
  refine congrArg (fun z : Fin 2048 => x (ix2 z d)) (Fin.ext ?_)
  show 512 * q + (r : ℕ) = (512 * q + r + 8 - 8) % 2048
  omega

/-- The rows carried from one group of 512 rows to the next. -/
theorem tail_eq (q : ℕ) (hq : q < 4) (s : Fin 2) (hX : ∀ (r : Fin 512) (d : Fin 2048), X (ix2 r d) = x (ix2 ⟨512 * q + r, by omega⟩ d))
    (k : Fin 8) (e : Fin 512) : tail (up X W) (ix3 0 k e) = ext x W C s (512 * (q + 1) + k) e := by
  refine (up_eq (C := C) q hq s hX ⟨504 + (k : ℕ), by omega⟩ e).trans (congrArg (fun n => ext x W C s n e) ?_)
  show 512 * q + (504 + (k : ℕ)) + 8 = _
  omega

theorem at_zero {s : Shape} {off sz : Fin s.rank → ℕ} (inb : ∀ a, off a + sz a ≤ s.size a) (j : (Rect.unit off sz inb).shape.Idx) (a : Fin s.rank)
    (h : off a = 0) : ((Rect.unit off sz inb).emb j a : ℕ) = (j a : ℕ) := by rw [at_val, h, Nat.zero_add]

/-- A block of weights without its leading axis of length one. -/
def plain (B : FVec Ideal S1x2048x512 .f32) : FVec Ideal S2048x512 .bf16 := fun z => B (ix3 0 (z 0) (z 1))

theorem pay1 (B : FVec Ideal S1x2048x512 .f32) : k0_pay1 B = plain B := by
  funext x; idx_vars x; pointwise [k0_pay1, plain] <;> rfl

theorem pay2 (B : FVec Ideal S1x2048x512 .f32) : k0_pay2 B = plain B := by
  funext x; idx_vars x; pointwise [k0_pay2, plain] <;> rfl

theorem pay3 : k0_pay3 (F := Ideal) = fun _ => 0 := by
  funext x; idx_vars x; pointwise [k0_pay3]

/-- The convolution at a row and a column. -/
theorem conv_at (U U1 U2 : FVec Ideal S512x512 .f32) (B A0 A1 A2 : FVec Ideal S1x1x512 .f32) (r e : Fin 512) : conv U U1 U2 B A0 A1 A2 (ix2 r e)
    = B (ix3 0 0 e) + U2 (ix2 r e) * A0 (ix3 0 0 e) + U1 (ix2 r e) * A1 (ix3 0 0 e) + U (ix2 r e) * A2 (ix3 0 0 e) := rfl

/-- Group `q` of 512 rows of results, from that group's slices. -/
theorem gated_eq (q : ℕ) (hq : q < 4) {cwg cwv : FVec Ideal S1x3x512 .f32} {cbg cbv G0 G1 G2 V0 V1 V2 : FVec Ideal S1x1x512 .f32}
    (hX : ∀ (r : Fin 512) (d : Fin 2048), X (ix2 r d) = x (ix2 ⟨512 * q + r, by omega⟩ d))
    (hDg : ∀ (k : Fin 8) (e : Fin 512), Dg (ix3 0 k e) = ext x Wg C 0 (512 * q + k) e) (hDv : ∀ (k : Fin 8) (e : Fin 512), Dv (ix3 0 k e) = ext x Wv C 1 (512 * q + k) e)
    (hG0 : ∀ e : Fin 512, G0 (ix3 0 0 e) = cwg (ix3 0 0 e)) (hG1 : ∀ e : Fin 512, G1 (ix3 0 0 e) = cwg (ix3 0 1 e)) (hG2 : ∀ e : Fin 512, G2 (ix3 0 0 e) = cwg (ix3 0 2 e))
    (hV0 : ∀ e : Fin 512, V0 (ix3 0 0 e) = cwv (ix3 0 0 e)) (hV1 : ∀ e : Fin 512, V1 (ix3 0 0 e) = cwv (ix3 0 1 e)) (hV2 : ∀ e : Fin 512, V2 (ix3 0 0 e) = cwv (ix3 0 2 e))
    (z : S512x512.Idx) (y : S2048x512.Idx) (h0 : (y 0 : ℕ) = 512 * q + (z 0 : ℕ)) (h1 : (y 1 : ℕ) = (z 1 : ℕ)) :
    gated (conv (up X Wg) (shifted 7 (flat Dg) (up X Wg)) (shifted 6 (flat Dg) (up X Wg)) cbg G0 G1 G2)
      (conv (up X Wv) (shifted 7 (flat Dv) (up X Wv)) (shifted 6 (flat Dv) (up X Wv)) cbv V0 V1 V2) z = outBlock x Wg Wv C cwg cwv cbg cbv y := by
  have e1 : (y 1 : Fin 512) = (z 1 : Fin 512) := Fin.ext h1
  have key : ∀ r e : Fin 512, gelu (conv (up X Wg) (shifted 7 (flat Dg) (up X Wg)) (shifted 6 (flat Dg) (up X Wg)) cbg G0 G1 G2 (ix2 r e))
      * conv (up X Wv) (shifted 7 (flat Dv) (up X Wv)) (shifted 6 (flat Dv) (up X Wv)) cbv V0 V1 V2 (ix2 r e)
      = gelu (convAt x Wg C 0 cwg cbg (512 * q + r) e) * convAt x Wv C 1 cwv cbv (512 * q + r) e := fun r e => by
    rw [conv_at, conv_at, shifted_eq q 7 hq (by decide) 0 hX hDg, shifted_eq q 6 hq (by decide) 0 hX hDg, up_eq (C := C) q hq 0 hX,
      shifted_eq q 7 hq (by decide) 1 hX hDv, shifted_eq q 6 hq (by decide) 1 hX hDv, up_eq (C := C) q hq 1 hX, hG0, hG1, hG2, hV0, hV1, hV2]
    rfl
  have hz : z = ix2 (z 0) (z 1) := by
    funext a
    match a with
    | ⟨0, _⟩ => rfl
    | ⟨1, _⟩ => rfl
  exact (congrArg (gated _ _) hz).trans ((key (z 0) (z 1)).trans
    (congrArg₂ (fun (n : ℕ) (e : Fin 512) => gelu (convAt x Wg C 0 cwg cbg n e) * convAt x Wv C 1 cwv cbv n e) h0.symm e1.symm))

/-- A carried row of the whole block is a row of its last group. -/
theorem carry_eq {U : FVec Ideal S2048x512 .bf16} (s : Fin 2) (hU : U = if (s : ℕ) = 0 then Wg else Wv)
    (hX : ∀ (r : Fin 512) (d : Fin 2048), X (ix2 r d) = x (ix2 ⟨512 * 3 + r, by omega⟩ d))
    (z : S1x8x512.Idx) (y : S2x8x512.Idx) (h0 : (y 0 : ℕ) = s + (z 0 : ℕ)) (h1 : (y 1 : ℕ) = (z 1 : ℕ)) (h2 : (y 2 : ℕ) = (z 2 : ℕ)) :
    tail (up X U) z = carryOut x Wg Wv y := by
  have hz0 : (z 0 : ℕ) < 1 := (z 0).isLt
  have hz1 : (z 1 : ℕ) < 8 := (z 1).isLt
  have e2 : (z 2 : Fin 512) = (y 2 : Fin 512) := Fin.ext h2.symm
  subst hU
  unfold tail up carryOut
  refine Finset.sum_congr rfl fun d _ => ?_
  have a1 : X (ix2 ⟨504 + (z 1 : ℕ), by omega⟩ d) = x (ix2 ⟨2040 + (y 1 : ℕ), by omega⟩ d) :=
    (hX ⟨504 + (z 1 : ℕ), by omega⟩ d).trans (congrArg (fun r : Fin 2048 => x (ix2 r d)) (Fin.ext (by
      show 512 * 3 + (504 + (z 1 : ℕ)) = 2040 + (y 1 : ℕ); omega)))
  have a2 : (s : ℕ) = (y 0 : ℕ) := by omega
  rw [a2]
  exact congrArg₂ (HMul.hMul (α := EReal) (β := EReal) (γ := EReal)) a1
    (congrArg (fun e : Fin 512 => (if (y 0 : ℕ) = 0 then Wg else Wv) (ix2 d e)) e2)

variable (m : (ℓ : Loc nD τ sig) → Buf (Elt Ideal) ℓ)

/-- The block of results of a point that carries rows over from the point before. -/
theorem out_B (c : Dev nD) (t : Fin cfg0.N) (hz : ¬t.val % 8 = 0) (hq : ¬t.val % 4 = 0) (y : S2048x512.Idx) :
    (outsAt0 m c t.val t.isLt).1 y = outBlock (iblk m c 0 t) (outsAt0 m c (t.val - 1) (Nat.lt_of_le_of_lt (Nat.sub_le _ _) t.isLt)).2.1
      (outsAt0 m c (t.val - 1) (Nat.lt_of_le_of_lt (Nat.sub_le _ _) t.isLt)).2.2.1 (outsAt0 m c (t.val - 1) (Nat.lt_of_le_of_lt (Nat.sub_le _ _) t.isLt)).2.2.2
      (iblk m c 3 t) (iblk m c 4 t) (iblk m c 5 t) (iblk m c 6 t) y := by
  rw [outsAt0_B m c t hz hq]
  frame_open
  simp (disch := decide) only [↓ View.readCov_skip, ↓ View.readCov_fill, ↓ View.readCov_cons_toLoadRect, ↓ readCov_shifted]
  frame_out
  simp only [read_unread_whole, pay4, pay10, pay18, pay25, pay31, pay37, pay44, pay49, pay6, pay12, pay20, pay27, pay46, pay51, pay34, pay39, pay5, pay11, pay19, pay26,
    pay38, pay45, pay50, pay33, pay8, pay53, pay21, pay28, pay47, pay13, pay35, pay40, pay9, pay14, pay36, pay48, pay24, pay17, pay30, pay43, pay54]
  canon_tiles x p
  on_goal 1 => refine gated_eq 3 (by decide) ?_ (tail_eq 2 (by decide) 0 ?_) (tail_eq 2 (by decide) 1 ?_) ?_ ?_ ?_ ?_ ?_ ?_ x y p0 p1
  on_goal 10 => refine gated_eq 2 (by decide) ?_ (tail_eq 1 (by decide) 0 ?_) (tail_eq 1 (by decide) 1 ?_) ?_ ?_ ?_ ?_ ?_ ?_ x y p0 p1
  on_goal 19 => refine gated_eq 1 (by decide) ?_ (tail_eq 0 (by decide) 0 ?_) (tail_eq 0 (by decide) 1 ?_) ?_ ?_ ?_ ?_ ?_ ?_ x y p0 p1
  on_goal 28 => refine gated_eq 0 (by decide) ?_ ?_ ?_ ?_ ?_ ?_ ?_ ?_ ?_ x y (p0.trans (Nat.zero_add _).symm) p1
  all_goals intros
  all_goals pointwise [ext]

/-- … of a point that starts a batch and keeps the weights. -/
theorem out_C (c : Dev nD) (t : Fin cfg0.N) (hz : ¬t.val % 8 = 0) (hq : t.val % 4 = 0) (y : S2048x512.Idx) :
    (outsAt0 m c t.val t.isLt).1 y = outBlock (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 (fun _ => 0)
      (iblk m c 3 t) (iblk m c 4 t) (iblk m c 5 t) (iblk m c 6 t) y := by
  rw [outsAt0_C m c t hz hq]
  frame_open
  simp (disch := decide) only [↓ View.readCov_skip, ↓ View.readCov_fill, ↓ View.readCov_cons_toLoadRect, ↓ readCov_shifted]
  frame_out
  simp only [read_unread_whole, pay1, pay2, pay3, pay4, pay10, pay18, pay25, pay31, pay37, pay44, pay49, pay6, pay12, pay20, pay27, pay46, pay51, pay34, pay39, pay5, pay11, pay19, pay26,
    pay38, pay45, pay50, pay33, pay8, pay53, pay21, pay28, pay47, pay13, pay35, pay40, pay9, pay14, pay36, pay48, pay24, pay17, pay30, pay43, pay54]
  canon_tiles x p
  on_goal 1 => refine gated_eq 3 (by decide) ?_ (tail_eq 2 (by decide) 0 ?_) (tail_eq 2 (by decide) 1 ?_) ?_ ?_ ?_ ?_ ?_ ?_ x y p0 p1
  on_goal 10 => refine gated_eq 2 (by decide) ?_ (tail_eq 1 (by decide) 0 ?_) (tail_eq 1 (by decide) 1 ?_) ?_ ?_ ?_ ?_ ?_ ?_ x y p0 p1
  on_goal 19 => refine gated_eq 1 (by decide) ?_ (tail_eq 0 (by decide) 0 ?_) (tail_eq 0 (by decide) 1 ?_) ?_ ?_ ?_ ?_ ?_ ?_ x y p0 p1
  on_goal 28 => refine gated_eq 0 (by decide) ?_ ?_ ?_ ?_ ?_ ?_ ?_ ?_ ?_ x y (p0.trans (Nat.zero_add _).symm) p1
  all_goals intros
  all_goals pointwise [ext]

/-- … and of a point that takes new weights. -/
theorem out_A (c : Dev nD) (t : Fin cfg0.N) (hz : t.val % 8 = 0) (hq : t.val % 4 = 0) (y : S2048x512.Idx) :
    (outsAt0 m c t.val t.isLt).1 y = outBlock (iblk m c 0 t) (plain (iblk m c 1 t)) (plain (iblk m c 2 t)) (fun _ => 0)
      (iblk m c 3 t) (iblk m c 4 t) (iblk m c 5 t) (iblk m c 6 t) y := by
  rw [outsAt0_A m c t hz hq]
  frame_open
  simp (disch := decide) only [↓ View.readCov_skip, ↓ View.readCov_fill, ↓ View.readCov_cons_toLoadRect, ↓ readCov_shifted]
  frame_out
  simp only [read_unread_whole, pay1, pay2, pay3, pay4, pay10, pay18, pay25, pay31, pay37, pay44, pay49, pay6, pay12, pay20, pay27, pay46, pay51, pay34, pay39, pay5, pay11, pay19, pay26,
    pay38, pay45, pay50, pay33, pay8, pay53, pay21, pay28, pay47, pay13, pay35, pay40, pay9, pay14, pay36, pay48, pay24, pay17, pay30, pay43, pay54]
  canon_tiles x p
  on_goal 1 => refine gated_eq 3 (by decide) ?_ (tail_eq 2 (by decide) 0 ?_) (tail_eq 2 (by decide) 1 ?_) ?_ ?_ ?_ ?_ ?_ ?_ x y p0 p1
  on_goal 10 => refine gated_eq 2 (by decide) ?_ (tail_eq 1 (by decide) 0 ?_) (tail_eq 1 (by decide) 1 ?_) ?_ ?_ ?_ ?_ ?_ ?_ x y p0 p1
  on_goal 19 => refine gated_eq 1 (by decide) ?_ (tail_eq 0 (by decide) 0 ?_) (tail_eq 0 (by decide) 1 ?_) ?_ ?_ ?_ ?_ ?_ ?_ x y p0 p1
  on_goal 28 => refine gated_eq 0 (by decide) ?_ ?_ ?_ ?_ ?_ ?_ ?_ ?_ ?_ x y (p0.trans (Nat.zero_add _).symm) p1
  all_goals intros
  all_goals pointwise [ext]

/-- The weights a point holds are those of the point before, unless it takes new ones. -/
theorem weights_BC (c : Dev nD) (t : Fin cfg0.N) (hz : ¬t.val % 8 = 0) :
    (outsAt0 m c t.val t.isLt).2.1 = (outsAt0 m c (t.val - 1) (Nat.lt_of_le_of_lt (Nat.sub_le _ _) t.isLt)).2.1 ∧ (outsAt0 m c t.val t.isLt).2.2.1 = (outsAt0 m c (t.val - 1) (Nat.lt_of_le_of_lt (Nat.sub_le _ _) t.isLt)).2.2.1 := by
  by_cases hq : t.val % 4 = 0
  · rw [outsAt0_C m c t hz hq]
    frame_open
    exact ⟨rfl, rfl⟩
  · rw [outsAt0_B m c t hz hq]
    frame_open
    exact ⟨rfl, rfl⟩

/-- New weights are those of the point's blocks. -/
theorem weights_A (c : Dev nD) (t : Fin cfg0.N) (hz : t.val % 8 = 0) (hq : t.val % 4 = 0) :
    (outsAt0 m c t.val t.isLt).2.1 = plain (iblk m c 1 t) ∧ (outsAt0 m c t.val t.isLt).2.2.1 = plain (iblk m c 2 t) := by
  rw [outsAt0_A m c t hz hq]
  frame_open
  frame_out
  simp only [read_unread_whole, pay1, pay2, and_self]

/-- The rows a point carries on: inside a batch, -/
theorem carry_B (c : Dev nD) (t : Fin cfg0.N) (hz : ¬t.val % 8 = 0) (hq : ¬t.val % 4 = 0) (y : S2x8x512.Idx) :
    (outsAt0 m c t.val t.isLt).2.2.2 y = carryOut (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 y := by
  rw [outsAt0_B m c t hz hq]
  frame_open
  simp (disch := decide) only [↓ View.readCov_skip, ↓ View.readCov_fill, ↓ View.readCov_cons_toLoadRect, ↓ readCov_shifted]
  frame_out
  simp only [read_unread_whole, pay4, pay10, pay18, pay25, pay31, pay37, pay44, pay49, pay6, pay12, pay20, pay27, pay46, pay51, pay34, pay39, pay5, pay11, pay19, pay26,
    pay38, pay45, pay50, pay33, pay8, pay53, pay21, pay28, pay47, pay13, pay35, pay40, pay9, pay14, pay36, pay48, pay24, pay17, pay30, pay43, pay54]
  refine View.canon_append_of_piecesOf (s := S2x8x512) _ [_, _, _, _, _, _] [_, _]
    ⟨fun x => carry_eq 1 rfl ?_ x _ (at_val inb_S2x8x512_S1x8x512_1_0_0 x 0) (at_zero inb_S2x8x512_S1x8x512_1_0_0 x 1 rfl) (at_zero inb_S2x8x512_S1x8x512_1_0_0 x 2 rfl),
      fun x => carry_eq 0 rfl ?_ x _ (at_val inb_S2x8x512_S1x8x512_0_0_0 x 0) (at_zero inb_S2x8x512_S1x8x512_0_0_0 x 1 rfl) (at_zero inb_S2x8x512_S1x8x512_0_0_0 x 2 rfl), trivial⟩ y
    (View.cover_of_tiledL (s := S2x8x512) _ S1x8x512.size (by sl_kernel_rfl) y)
  all_goals intros; pointwise

/-- … at the start of a batch, -/
theorem carry_C (c : Dev nD) (t : Fin cfg0.N) (hz : ¬t.val % 8 = 0) (hq : t.val % 4 = 0) (y : S2x8x512.Idx) :
    (outsAt0 m c t.val t.isLt).2.2.2 y = carryOut (iblk m c 0 t) (outsAt0 m c (t.val - 1) (Nat.lt_of_le_of_lt (Nat.sub_le _ _) t.isLt)).2.1 (outsAt0 m c (t.val - 1) (Nat.lt_of_le_of_lt (Nat.sub_le _ _) t.isLt)).2.2.1 y := by
  rw [outsAt0_C m c t hz hq]
  frame_open
  simp (disch := decide) only [↓ View.readCov_skip, ↓ View.readCov_fill, ↓ View.readCov_cons_toLoadRect, ↓ readCov_shifted]
  frame_out
  simp only [read_unread_whole, pay1, pay2, pay3, pay4, pay10, pay18, pay25, pay31, pay37, pay44, pay49, pay6, pay12, pay20, pay27, pay46, pay51, pay34, pay39, pay5, pay11, pay19, pay26,
    pay38, pay45, pay50, pay33, pay8, pay53, pay21, pay28, pay47, pay13, pay35, pay40, pay9, pay14, pay36, pay48, pay24, pay17, pay30, pay43, pay54]
  refine View.canon_append_of_piecesOf (s := S2x8x512) _ [_, _, _, _, _, _, _] [_, _]
    ⟨fun x => carry_eq 1 rfl ?_ x _ (at_val inb_S2x8x512_S1x8x512_1_0_0 x 0) (at_zero inb_S2x8x512_S1x8x512_1_0_0 x 1 rfl) (at_zero inb_S2x8x512_S1x8x512_1_0_0 x 2 rfl),
      fun x => carry_eq 0 rfl ?_ x _ (at_val inb_S2x8x512_S1x8x512_0_0_0 x 0) (at_zero inb_S2x8x512_S1x8x512_0_0_0 x 1 rfl) (at_zero inb_S2x8x512_S1x8x512_0_0_0 x 2 rfl), trivial⟩ y
    (View.cover_of_tiledL (s := S2x8x512) _ S1x8x512.size (by sl_kernel_rfl) y)
  all_goals intros; pointwise

/-- … and at the start of new weights. -/
theorem carry_A (c : Dev nD) (t : Fin cfg0.N) (hz : t.val % 8 = 0) (hq : t.val % 4 = 0) (y : S2x8x512.Idx) :
    (outsAt0 m c t.val t.isLt).2.2.2 y = carryOut (iblk m c 0 t) (plain (iblk m c 1 t)) (plain (iblk m c 2 t)) y := by
  rw [outsAt0_A m c t hz hq]
  frame_open
  simp (disch := decide) only [↓ View.readCov_skip, ↓ View.readCov_fill, ↓ View.readCov_cons_toLoadRect, ↓ readCov_shifted]
  frame_out
  simp only [read_unread_whole, pay1, pay2, pay3, pay4, pay10, pay18, pay25, pay31, pay37, pay44, pay49, pay6, pay12, pay20, pay27, pay46, pay51, pay34, pay39, pay5, pay11, pay19, pay26,
    pay38, pay45, pay50, pay33, pay8, pay53, pay21, pay28, pay47, pay13, pay35, pay40, pay9, pay14, pay36, pay48, pay24, pay17, pay30, pay43, pay54]
  refine View.canon_append_of_piecesOf (s := S2x8x512) _ [_, _, _, _, _, _, _] [_, _]
    ⟨fun x => carry_eq (Wg := plain (iblk m c 1 t)) (Wv := plain (iblk m c 2 t)) 1 (if_neg (by decide)).symm ?_ x _ (at_val inb_S2x8x512_S1x8x512_1_0_0 x 0) (at_zero inb_S2x8x512_S1x8x512_1_0_0 x 1 rfl) (at_zero inb_S2x8x512_S1x8x512_1_0_0 x 2 rfl),
      fun x => carry_eq (Wg := plain (iblk m c 1 t)) (Wv := plain (iblk m c 2 t)) 0 (if_pos rfl).symm ?_ x _ (at_val inb_S2x8x512_S1x8x512_0_0_0 x 0) (at_zero inb_S2x8x512_S1x8x512_0_0_0 x 1 rfl) (at_zero inb_S2x8x512_S1x8x512_0_0_0 x 2 rfl), trivial⟩ y
    (View.cover_of_tiledL (s := S2x8x512) _ S1x8x512.size (by sl_kernel_rfl) y)
  all_goals intros; pointwise

end Cert.FfnUpIdeal.Block

end
-- ==== Proof.UpValue.lean ====
module

public import proofs.«01_k».proof.Proof.UpBlock

@[expose] public section

set_option maxRecDepth 16384

noncomputable section

namespace Cert.FfnUpIdeal.Final

open Idealize.ShloMosaic Idealize.ShloMosaic.TcCoe Cert.FfnUpIdeal Cert.FfnUpIdeal.Gen Cert.FfnUpIdeal.Block

/-- A row of the input by its number. -/
def row (n : ℕ) : Fin 16384 := ⟨n % 16384, Nat.mod_lt _ (by decide)⟩
/-- A column of the weights by its number. -/
def col (n : ℕ) : Fin 11264 := ⟨n % 11264, Nat.mod_lt _ (by decide)⟩

/-- A row of the input times a column of the weights. -/
def dot (x : FVec Ideal S16384x2048 .bf16) (w : FVec Ideal S4x2048x11264 .f32) (R n : ℕ) : EReal := ∑ d : Fin 2048, x (ix2 (row R) d) * w (ix3 0 d (col n))

/-- The product `δ` rows before a row of the same batch, nothing where the batch has no such row. -/
def tap (x : FVec Ideal S16384x2048 .bf16) (w : FVec Ideal S4x2048x11264 .f32) (δ R n : ℕ) : EReal := if R % 8192 < δ then 0 else dot x w (R - δ) n

/-- The causal convolution over three rows, with its bias. -/
def conv3 (x : FVec Ideal S16384x2048 .bf16) (w : FVec Ideal S4x2048x11264 .f32) (cw : FVec Ideal S4x3x11264 .f32) (cb : FVec Ideal S4x11264 .f32) (R n : ℕ) : EReal :=
  cb (ix2 0 (col n)) + tap x w 2 R n * cw (ix3 0 0 (col n)) + tap x w 1 R n * cw (ix3 0 1 (col n)) + tap x w 0 R n * cw (ix3 0 2 (col n))

/-- The gated result: the first 5632 convolved columns through the activation, times the others. -/
def result (x : FVec Ideal S16384x2048 .bf16) (w : FVec Ideal S4x2048x11264 .f32) (cw : FVec Ideal S4x3x11264 .f32) (cb : FVec Ideal S4x11264 .f32) :
    FVec Ideal S16384x5632 .bf16 := fun y => gelu (conv3 x w cw cb (y 0) (y 1)) * conv3 x w cw cb (y 0) (5632 + (y 1 : ℕ))

section
variable {x : FVec Ideal S16384x2048 .bf16} {w : FVec Ideal S4x2048x11264 .f32} {cw : FVec Ideal S4x3x11264 .f32} {cb : FVec Ideal S4x11264 .f32}
  {xb : FVec Ideal S2048x2048 .bf16} {W Wg Wv : FVec Ideal S2048x512 .bf16} {C : FVec Ideal S2x8x512 .f32}

/-- The rows a block has before it: none at the start of a batch, else the last eight of the block before. -/
def Carried (x : FVec Ideal S16384x2048 .bf16) (w : FVec Ideal S4x2048x11264 .f32) (n : ℕ) (C : FVec Ideal S2x8x512 .f32) : Prop :=
  ∀ (s : Fin 2) (k : Fin 8) (e : Fin 512), C (ix3 s k e) = if n % 4 = 0 then 0 else dot x w (2048 * (n % 8) + k - 8) (5632 * s + 512 * (n / 8) + e)

/-- The weights of a block of columns. -/
def Held (w : FVec Ideal S4x2048x11264 .f32) (n s : ℕ) (W : FVec Ideal S2048x512 .bf16) : Prop :=
  ∀ (d : Fin 2048) (e : Fin 512), W (ix2 d e) = w (ix3 0 d (col (5632 * s + 512 * (n / 8) + e)))

/-- The block's rows of the input. -/
def Rows (x : FVec Ideal S16384x2048 .bf16) (n : ℕ) (xb : FVec Ideal S2048x2048 .bf16) : Prop :=
  ∀ (r d : Fin 2048), xb (ix2 r d) = x (ix2 (row (2048 * (n % 8) + r)) d)

theorem sum_eq (n : ℕ) (s : Fin 2) (hx : Rows x n xb) (hW : Held w n s W) (r : Fin 2048) (e : Fin 512) (R N : ℕ) (hR : R = 2048 * (n % 8) + r)
    (hN : N = 5632 * s + 512 * (n / 8) + e) : ∑ d : Fin 2048, xb (ix2 r d) * W (ix2 d e) = dot x w R N := by
  subst hR hN
  exact Finset.sum_congr rfl fun d _ => by rw [hx, hW]

/-- A row of a block with its eight rows before it is a product row of the arrays. -/
theorem ext_tap (n : ℕ) (s : Fin 2) (hx : Rows x n xb) (hW : Held w n s W) (hC : Carried x w n C) (δ o r : ℕ) (e : Fin 512) (hδ : δ ≤ 2) (ho : o + δ = 8)
    (hr : r < 2048) (R N : ℕ) (hR : R = 2048 * (n % 8) + r) (hN : N = 5632 * s + 512 * (n / 8) + e) : ext xb W C s (r + o) e = tap x w δ R N := by
  unfold ext tap
  by_cases h : r + o < 8
  · rw [dif_pos h, hC]
    by_cases hn : n % 4 = 0
    · rw [if_pos hn, if_pos (by omega)]
    · rw [if_neg hn, if_neg (by omega)]
      subst hN
      exact congrArg (fun R => dot x w R _) (by show 2048 * (n % 8) + (r + o) - 8 = R - δ; omega)
  · rw [dif_neg h, if_neg (by omega)]
    exact sum_eq n s hx hW ⟨(r + o - 8) % 2048, Nat.mod_lt _ (by decide)⟩ e _ _ (by show R - δ = 2048 * (n % 8) + (r + o - 8) % 2048; omega) hN

/-- A block's convolution is that of the arrays. -/
theorem conv_eq (n : ℕ) (s : Fin 2) (hx : Rows x n xb) (hW : Held w n s W) (hC : Carried x w n C) {cwb : FVec Ideal S1x3x512 .f32} {cbb : FVec Ideal S1x1x512 .f32}
    (hcw : ∀ (i : Fin 3) (e : Fin 512), cwb (ix3 0 i e) = cw (ix3 0 i (col (5632 * s + 512 * (n / 8) + e))))
    (hcb : ∀ e : Fin 512, cbb (ix3 0 0 e) = cb (ix2 0 (col (5632 * s + 512 * (n / 8) + e)))) (r : ℕ) (hr : r < 2048) (e : Fin 512)
    (R N : ℕ) (hR : R = 2048 * (n % 8) + r) (hN : N = 5632 * s + 512 * (n / 8) + e) : convAt xb W C s cwb cbb r e = conv3 x w cw cb R N := by
  unfold convAt conv3
  rw [ext_tap n s hx hW hC 2 6 r e (by decide) rfl hr R N hR hN, ext_tap n s hx hW hC 1 7 r e (by decide) rfl hr R N hR hN,
    ext_tap n s hx hW hC 0 8 r e (by decide) rfl hr R N hR hN, hcb, hcw, hcw, hcw, hN]

/-- A block of results is a block of the result. -/
theorem outBlock_eq (n : ℕ) (hx : Rows x n xb) (hg : Held w n 0 Wg) (hv : Held w n 1 Wv) (hC : Carried x w n C) {cwg cwv : FVec Ideal S1x3x512 .f32}
    {cbg cbv : FVec Ideal S1x1x512 .f32} (hcwg : ∀ (i : Fin 3) (e : Fin 512), cwg (ix3 0 i e) = cw (ix3 0 i (col (5632 * (0 : Fin 2) + 512 * (n / 8) + e))))
    (hcwv : ∀ (i : Fin 3) (e : Fin 512), cwv (ix3 0 i e) = cw (ix3 0 i (col (5632 * (1 : Fin 2) + 512 * (n / 8) + e))))
    (hcbg : ∀ e : Fin 512, cbg (ix3 0 0 e) = cb (ix2 0 (col (5632 * (0 : Fin 2) + 512 * (n / 8) + e))))
    (hcbv : ∀ e : Fin 512, cbv (ix3 0 0 e) = cb (ix2 0 (col (5632 * (1 : Fin 2) + 512 * (n / 8) + e)))) (y : S2048x512.Idx) (j : S16384x5632.Idx)
    (h0 : (j 0 : ℕ) = 2048 * (n % 8) + (y 0 : ℕ)) (h1 : (j 1 : ℕ) = 512 * (n / 8) + (y 1 : ℕ)) :
    outBlock xb Wg Wv C cwg cwv cbg cbv y = result x w cw cb j :=
  congrArg₂ (fun a b : EReal => gelu a * b)
    (conv_eq n 0 hx hg hC hcwg hcbg (y 0) (y 0).isLt (y 1) _ _ h0 (by rw [h1]; show _ = 5632 * 0 + 512 * (n / 8) + (y 1 : ℕ); omega))
    (conv_eq n 1 hx hv hC hcwv hcbv (y 0) (y 0).isLt (y 1) _ _ h0 (by rw [h1]; show _ = 5632 * 1 + 512 * (n / 8) + (y 1 : ℕ); omega))

/-- The rows a block carries on are those the next block of the same columns has before it. -/
theorem carryOut_eq (n : ℕ) (hx : Rows x n xb) (hg : Held w n 0 Wg) (hv : Held w n 1 Wv) (s : Fin 2) (k : Fin 8) (e : Fin 512) :
    carryOut xb Wg Wv (ix3 s k e) = dot x w (2048 * (n % 8) + 2040 + k) (5632 * s + 512 * (n / 8) + e) := by
  have hW : Held w n s (if (s : ℕ) = 0 then Wg else Wv) := by
    match s with
    | ⟨0, _⟩ => exact hg
    | ⟨1, _⟩ => exact hv
  exact sum_eq n s hx hW ⟨2040 + (k : ℕ), by omega⟩ e _ _ (by show _ = 2048 * (n % 8) + (2040 + (k : ℕ)); omega) rfl

end

variable (m : (ℓ : Loc nD τ sig) → Buf (Elt Ideal) ℓ) (c : Dev nD)

/-- The block of every window at every grid point. -/
theorem idx : ∀ t : Fin cfg0.N, win0_0.index t = ![t.val % 8, 0] ∧ win0_1.index t = ![0, 0, t.val / 8] ∧ win0_2.index t = ![0, 0, t.val / 8 + 11]
    ∧ win0_3.index t = ![0, 0, t.val / 8] ∧ win0_4.index t = ![0, 0, t.val / 8 + 11] ∧ win0_5.index t = ![0, 0, t.val / 8]
    ∧ win0_6.index t = ![0, 0, t.val / 8 + 11] ∧ win0_7.index t = ![t.val % 8, t.val / 8] :=
  (by decide +kernel : ∀ t : Fin grid0.N, _)

/-- The rows, the weights, the convolution's weights and its biases that the program is given. -/
abbrev xa : FVec Ideal S16384x2048 .bf16 := m ((c.tc : Thread nD τ).loc main_arg0)
@[inherit_doc xa] abbrev wa : FVec Ideal S4x2048x11264 .f32 := m ((c.tc : Thread nD τ).loc main_arg1)
@[inherit_doc xa] abbrev cwa : FVec Ideal S4x3x11264 .f32 := m ((c.tc : Thread nD τ).loc main_arg2)
@[inherit_doc xa] abbrev cba : FVec Ideal S4x11264 .f32 := m ((c.tc : Thread nD τ).loc main_arg3)

/-- A grid point's rows. -/
theorem blk_x (t : Fin cfg0.N) : Rows (xa m c) t.val (iblk m c 0 t) := fun r d => by
  blk_ext [iblk, V, idx t, row]
/-- A grid point's weights of the gate. -/
theorem blk_wg (t : Fin cfg0.N) : Held (wa m c) t.val 0 (plain (iblk m c 1 t)) := fun d e => by
  unfold plain
  blk_ext [iblk, V, idx t, col]
/-- A grid point's weights of the value. -/
theorem blk_wv (t : Fin cfg0.N) : Held (wa m c) t.val 1 (plain (iblk m c 2 t)) := fun d e => by
  unfold plain
  blk_ext [iblk, V, idx t, col]
/-- A grid point's weights of the convolution, for the gate. -/
theorem blk_cwg (t : Fin cfg0.N) (i : Fin 3) (e : Fin 512) : (iblk m c 3 t : FVec Ideal S1x3x512 .f32) (ix3 0 i e)
    = cwa m c (ix3 0 i (col (5632 * (0 : Fin 2) + 512 * (t.val / 8) + e))) := by
  blk_ext [iblk, V, idx t, col]
/-- … and for the value. -/
theorem blk_cwv (t : Fin cfg0.N) (i : Fin 3) (e : Fin 512) : (iblk m c 4 t : FVec Ideal S1x3x512 .f32) (ix3 0 i e)
    = cwa m c (ix3 0 i (col (5632 * (1 : Fin 2) + 512 * (t.val / 8) + e))) := by
  blk_ext [iblk, V, idx t, col]
/-- A grid point's biases of the convolution, for the gate. -/
theorem blk_cbg (t : Fin cfg0.N) (e : Fin 512) : (iblk m c 5 t : FVec Ideal S1x1x512 .f32) (ix3 0 0 e)
    = cba m c (ix2 0 (col (5632 * (0 : Fin 2) + 512 * (t.val / 8) + e))) := by
  have e0 : V m c main_v0 = shapeCast S4x1x11264 (cba m c) shapeCasts_S4x11264_S4x1x11264 := by entry_read; rfl
  blk_simp [iblk]
  rw [e0]
  pointwise
  blk_ext [idx t, col]
/-- … and for the value. -/
theorem blk_cbv (t : Fin cfg0.N) (e : Fin 512) : (iblk m c 6 t : FVec Ideal S1x1x512 .f32) (ix3 0 0 e)
    = cba m c (ix2 0 (col (5632 * (1 : Fin 2) + 512 * (t.val / 8) + e))) := by
  have e0 : V m c main_v0 = shapeCast S4x1x11264 (cba m c) shapeCasts_S4x11264_S4x1x11264 := by entry_read; rfl
  blk_simp [iblk]
  rw [e0]
  pointwise
  blk_ext [idx t, col]

/-- What the scratch holds after every grid point: the weights of the point's columns and the last eight rows of its products. -/
theorem scratch (n : ℕ) (hn : n < cfg0.N) : Held (wa m c) n 0 (outsAt0 m c n hn).2.1 ∧ Held (wa m c) n 1 (outsAt0 m c n hn).2.2.1
    ∧ ∀ (s : Fin 2) (k : Fin 8) (e : Fin 512), (outsAt0 m c n hn).2.2.2 (ix3 s k e)
      = dot (xa m c) (wa m c) (2048 * (n % 8) + 2040 + k) (5632 * s + 512 * (n / 8) + e) := by
  induction n with
  | zero =>
    have hA := weights_A m c ⟨0, hn⟩ rfl rfl
    exact ⟨hA.1 ▸ blk_wg m c ⟨0, hn⟩, hA.2 ▸ blk_wv m c ⟨0, hn⟩, fun s k e => (carry_A m c ⟨0, hn⟩ rfl rfl _).trans
      (carryOut_eq 0 (blk_x m c ⟨0, hn⟩) (blk_wg m c ⟨0, hn⟩) (blk_wv m c ⟨0, hn⟩) s k e)⟩
  | succ n ih =>
    by_cases hz : (n + 1) % 8 = 0
    · have hA := weights_A m c ⟨n + 1, hn⟩ hz (by show (n + 1) % 4 = 0; omega)
      exact ⟨hA.1 ▸ blk_wg m c ⟨n + 1, hn⟩, hA.2 ▸ blk_wv m c ⟨n + 1, hn⟩, fun s k e => (carry_A m c ⟨n + 1, hn⟩ hz (by show (n + 1) % 4 = 0; omega) _).trans
        (carryOut_eq (n + 1) (blk_x m c ⟨n + 1, hn⟩) (blk_wg m c ⟨n + 1, hn⟩) (blk_wv m c ⟨n + 1, hn⟩) s k e)⟩
    · obtain ⟨i0, i1, _⟩ := ih (Nat.lt_of_succ_lt hn)
      have hB := weights_BC m c ⟨n + 1, hn⟩ hz
      have e8 : n / 8 = (n + 1) / 8 := by omega
      have j0 : Held (wa m c) (n + 1) 0 (outsAt0 m c n (Nat.lt_of_succ_lt hn)).2.1 := fun d e => by rw [i0 d e, e8]
      have j1 : Held (wa m c) (n + 1) 1 (outsAt0 m c n (Nat.lt_of_succ_lt hn)).2.2.1 := fun d e => by rw [i1 d e, e8]
      refine ⟨hB.1.symm ▸ j0, hB.2.symm ▸ j1, fun s k e => ?_⟩
      refine Eq.trans ?_ (carryOut_eq (n + 1) (blk_x m c ⟨n + 1, hn⟩) j0 j1 s k e)
      by_cases hq : (n + 1) % 4 = 0
      · exact carry_C m c ⟨n + 1, hn⟩ hz hq _
      · exact carry_B m c ⟨n + 1, hn⟩ hz hq _

/-- What the scratch holds before a grid point that is not the first of its columns. -/
theorem before (t : Fin cfg0.N) (hz : ¬t.val % 8 = 0) (h : t.val - 1 < cfg0.N) : Held (wa m c) t.val 0 (outsAt0 m c (t.val - 1) h).2.1
    ∧ Held (wa m c) t.val 1 (outsAt0 m c (t.val - 1) h).2.2.1 ∧ (¬t.val % 4 = 0 → Carried (xa m c) (wa m c) t.val (outsAt0 m c (t.val - 1) h).2.2.2) := by
  obtain ⟨i0, i1, i2⟩ := scratch m c (t.val - 1) h
  have e8 : (t.val - 1) / 8 = t.val / 8 := by omega
  refine ⟨fun d e => by rw [i0 d e, e8], fun d e => by rw [i1 d e, e8], fun hq s k e => ?_⟩
  rw [i2 s k e, if_neg hq, e8]
  exact congrArg (fun R => dot (xa m c) (wa m c) R _) (by omega)

/-- The result of the arguments. -/
def G : FVec Ideal S16384x5632 .bf16 := result (xa m c) (wa m c) (cwa m c) (cba m c)

/-- Every point's block of results is the result's. -/
theorem out_eq (t : Fin cfg0.N) (y : S2048x512.Idx) (j : S16384x5632.Idx) (h0 : (j 0 : ℕ) = 2048 * (t.val % 8) + (y 0 : ℕ))
    (h1 : (j 1 : ℕ) = 512 * (t.val / 8) + (y 1 : ℕ)) : (outsAt0 m c t.val t.isLt).1 y = G m c j := by
  have zero : t.val % 4 = 0 → Carried (xa m c) (wa m c) t.val (fun _ => 0) := fun hq s k e => (if_pos hq).symm
  by_cases hz : t.val % 8 = 0
  · exact (out_A m c t hz (by omega) y).trans (outBlock_eq t.val (blk_x m c t) (blk_wg m c t) (blk_wv m c t) (zero (by omega)) (blk_cwg m c t) (blk_cwv m c t)
      (blk_cbg m c t) (blk_cbv m c t) y j h0 h1)
  · obtain ⟨b0, b1, b2⟩ := before m c t hz (Nat.lt_of_le_of_lt (Nat.sub_le _ _) t.isLt)
    by_cases hq : t.val % 4 = 0
    · exact (out_C m c t hz hq y).trans (outBlock_eq t.val (blk_x m c t) b0 b1 (zero hq) (blk_cwg m c t) (blk_cwv m c t) (blk_cbg m c t) (blk_cbv m c t) y j h0 h1)
    · exact (out_B m c t hz hq y).trans (outBlock_eq t.val (blk_x m c t) b0 b1 (b2 hq) (blk_cwg m c t) (blk_cwv m c t) (blk_cbg m c t) (blk_cbv m c t) y j h0 h1)

/-- The kernel's array after the run is the result of its arguments. -/
theorem final : (dats m 0 c).arrAt 7 (cfgs 0).N = G m c := by
  refine (dats m 0 c).arrAt_eq_of_covers 7 (G m c) (by decide +kernel) fun t hf y => ?_
  blk_simp
  rw [after0_7]
  refine out_eq m c t y _ ?_ ?_
  all_goals blk_simp [idx t]
  all_goals omega

end Cert.FfnUpIdeal.Final

end
-- ==== Proof.UpRef.lean ====
module

public import proofs.«01_k».proof.Proof.UpValue
public import proofs.«01_k».proof.Proof.Gen.FfnUpRefIdeal.Run

@[expose] public section

set_option maxRecDepth 16384

noncomputable section

namespace Cert.FfnUpRefIdeal.Final

open Idealize.ShloMosaic Idealize.ShloMosaic.TcCoe Cert.FfnUpRefIdeal Cert.FfnUpRefIdeal.Gen Cert.FfnUpRefIdeal.Value Cert.FfnUpIdeal.Block Cert.FfnUpIdeal.Final

/-- The product rows of both batches with two rows of nothing before each. -/
def padded (x : FVec Ideal S16384x2048 .bf16) (w : FVec Ideal S4x2048x11264 .f32) : FVec Ideal S2x8194x11264 .f32 :=
  pad S2x8194x11264 ![0, 2, 0] ![0, 0, 0] ![0, 0, 0]
    (Host.dotGeneral (F := Ideal) dot_S2x8192x2048_S2048x11264_S2x8192x11264_2_0_01_1_n_n none
      (shapeCast S2x8192x2048 (extf (F := Ideal) .f32 x bitsLt_bf16_f32) shapeCasts_S16384x2048_S2x8192x2048)
      (shapeCast S2048x11264 (extractStridedSlice S1x2048x11264 ![0, 0, 0] w slices_S4x2048x11264_S1x2048x11264_0_0_0) shapeCasts_S1x2048x11264_S2048x11264))
    (sitofp (F := Ideal) .f32 (constantI S_ 32 0#32)) pads_S2x8192x11264_S2x8194x11264_000_200_000 h_S_

/-- A row of the convolution's weights, as every row has it. -/
def weight (A : FVec Ideal S1x11264 .f32) : FVec Ideal S2x8192x11264 .f32 :=
  broadcastInDim S2x8192x11264 ![0, 1, 2] bcast_S1x1x11264_S2x8192x11264_0_1_2
    (broadcastInDim S1x1x11264 ![2] bcast_S11264_S1x1x11264_2 (shapeCast S11264 A shapeCasts_S1x11264_S11264))

/-- The convolution's weights of the first layer. -/
def taps (cw : FVec Ideal S4x3x11264 .f32) : FVec Ideal S3x11264 .f32 :=
  shapeCast S3x11264 (extractStridedSlice S1x3x11264 ![0, 0, 0] cw slices_S4x3x11264_S1x3x11264_0_0_0) shapeCasts_S1x3x11264_S3x11264

/-- The convolution as the reference computes it. -/
def convolved (P : FVec Ideal S2x8194x11264 .f32) (cw : FVec Ideal S4x3x11264 .f32) (cb : FVec Ideal S4x11264 .f32) : FVec Ideal S2x8192x11264 .f32 :=
  addf (addf (addf (weight (extractStridedSlice S1x11264 ![0, 0] cb slices_S4x11264_S1x11264_0_0))
      (mulf (extractStridedSlice S2x8192x11264 ![0, 0, 0] P slices_S2x8194x11264_S2x8192x11264_0_0_0)
        (weight (extractStridedSlice S1x11264 ![0, 0] (taps cw) slices_S3x11264_S1x11264_0_0))))
    (mulf (extractStridedSlice S2x8192x11264 ![0, 1, 0] P slices_S2x8194x11264_S2x8192x11264_0_1_0)
      (weight (extractStridedSlice S1x11264 ![1, 0] (taps cw) slices_S3x11264_S1x11264_1_0))))
  (mulf (extractStridedSlice S2x8192x11264 ![0, 2, 0] P slices_S2x8194x11264_S2x8192x11264_0_2_0)
    (weight (extractStridedSlice S1x11264 ![2, 0] (taps cw) slices_S3x11264_S1x11264_2_0)))

/-- The activation as the reference computes it. -/
def active (g : FVec Ideal S2x8192x5632 .f32) : FVec Ideal S2x8192x5632 .f32 :=
  mulf g (mulf (broadcastInDim S2x8192x5632 ![] bcast_S_S2x8192x5632 (constant (F := Ideal) S_ .f32 0x3F000000#32))
    (addf (broadcastInDim S2x8192x5632 ![] bcast_S_S2x8192x5632 (constant (F := Ideal) S_ .f32 0x3F800000#32))
      (Host.tanh (mulf (broadcastInDim S2x8192x5632 ![] bcast_S_S2x8192x5632 (constant (F := Ideal) S_ .f32 0x3F4C422A#32))
        (addf g (mulf (broadcastInDim S2x8192x5632 ![] bcast_S_S2x8192x5632 (constant (F := Ideal) S_ .f32 0x3D372713#32)) (mulf (mulf g g) g)))))))

/-- The reference's result in these terms. -/
theorem out_is (m : (ℓ : Loc nD τ sig) → Buf (Elt Ideal) ℓ) (c : Dev nD) (C : FVec Ideal S2x8192x11264 .f32)
    (hC : C = convolved (padded (m ((c.tc : Thread nD τ).loc main_arg0)) (m ((c.tc : Thread nD τ).loc main_arg1))) (m ((c.tc : Thread nD τ).loc main_arg2))
      (m ((c.tc : Thread nD τ).loc main_arg3))) :
    res_main_v50 m c = truncf (F := Ideal) .bf16 (shapeCast S16384x5632 (mulf (active (extractStridedSlice S2x8192x5632 ![0, 0, 0] C slices_S2x8192x11264_S2x8192x5632_0_0_0))
      (extractStridedSlice S2x8192x5632 ![0, 0, 5632] C slices_S2x8192x11264_S2x8192x5632_0_0_5632)) shapeCasts_S2x8192x5632_S16384x5632) bitsLt_bf16_f32 := by
  subst hC
  rfl

/-- A padded row is a product row, or nothing. -/
theorem padded_at (x : FVec Ideal S16384x2048 .bf16) (w : FVec Ideal S4x2048x11264 .f32) (b : Fin 2) (p : Fin 8194) (n : Fin 11264) :
    padded x w (ix3 b p n) = if (p : ℕ) < 2 then 0 else dot x w (8192 * b + (p - 2)) n := by
  unfold padded
  pointwise [dot, row, col]
  have e0 : (FloatOps.sitofp .f32 (0#32) : Ideal .f32) = (0 : EReal) := by
    show (((0#32 : BitVec 32).toInt : ℝ) : EReal) = 0
    simp
  by_cases h : (p : ℕ) < 2
  · rw [if_pos h, dif_neg (by omega), e0]
  · rw [if_neg h, dif_pos (by omega)]
    refine Finset.sum_congr rfl fun d _ => ?_
    have e1 : (⟨(b : ℕ) * 8192 + ((p : ℕ) - 2), by omega⟩ : Fin 16384) = ⟨(8192 * b + (p - 2)) % 16384, Nat.mod_lt _ (by decide)⟩ := Fin.ext (by
      show (b : ℕ) * 8192 + ((p : ℕ) - 2) = (8192 * b + (p - 2)) % 16384
      omega)
    have e2 : n = (⟨(n : ℕ) % 11264, Nat.mod_lt _ (by decide)⟩ : Fin 11264) := Fin.ext (Nat.mod_eq_of_lt n.isLt).symm
    exact congrArg₂ (fun (R : Fin 16384) (N : Fin 11264) => x (ix2 R d) * w (ix3 0 d N)) e1 e2

/-- The reference's convolution is the kernel's. -/
theorem convolved_at (x : FVec Ideal S16384x2048 .bf16) (w : FVec Ideal S4x2048x11264 .f32) (cw : FVec Ideal S4x3x11264 .f32) (cb : FVec Ideal S4x11264 .f32) (b : Fin 2)
    (r : Fin 8192) (n : Fin 11264) : convolved (padded x w) cw cb (ix3 b r n) = conv3 x w cw cb (8192 * b + r) n := by
  have H := padded_at x w b
  generalize padded x w = P at H ⊢
  have hP : ∀ (δ : ℕ) (p : Fin 8194), δ ≤ 2 → (p : ℕ) + δ = r + 2 → P (ix3 b p n) = tap x w δ (8192 * b + r) n := fun δ p hδ hp => by
    rw [H]
    unfold tap
    by_cases h : (p : ℕ) < 2
    · rw [if_pos h, if_pos (by omega)]
    · rw [if_neg h, if_neg (by omega)]
      exact congrArg (fun R => dot x w R n) (by omega)
  have hn : col (n : ℕ) = n := Fin.ext (Nat.mod_eq_of_lt n.isLt)
  unfold convolved taps weight conv3
  pointwise
  rw [hP 2 _ (by decide) (by show (r : ℕ) + 2 = _; omega), hP 1 _ (by decide) (by show 1 + (r : ℕ) + 1 = _; omega),
    hP 0 _ (by decide) (by show 2 + (r : ℕ) + 0 = _; omega), hn]

variable (m : (ℓ : Loc nD τ sig) → Buf (Elt Ideal) ℓ) (c : Dev nD)

/-- The reference's result is the result of its arguments. -/
theorem final : res_out0 m c = result (m ((c.tc : Thread nD τ).loc main_arg0)) (m ((c.tc : Thread nD τ).loc main_arg1)) (m ((c.tc : Thread nD τ).loc main_arg2))
    (m ((c.tc : Thread nD τ).loc main_arg3)) := by
  funext (j : S16384x5632.Idx)
  idx_vars j
  have H := convolved_at (m ((c.tc : Thread nD τ).loc main_arg0)) (m ((c.tc : Thread nD τ).loc main_arg1)) (m ((c.tc : Thread nD τ).loc main_arg2))
    (m ((c.tc : Thread nD τ).loc main_arg3))
  refine (congrFun (out_is m c _ rfl) _).trans ?_
  generalize convolved _ _ _ = C at H ⊢
  unfold active
  pointwise [result, gelu]
  simp only [H, Nat.div_add_mod, mul_assoc]

end Cert.FfnUpRefIdeal.Final

end
-- ==== Proof.Norm.lean ====
module

public import Idealize.ShloMosaic.Lib.Pipeline.ValueKit
public import Idealize.ShloMosaic.Lib.Pointwise

@[expose] public section

noncomputable section

namespace Cert.Norm

open Idealize.ShloMosaic

/-- The mean of a row. -/
def mean (y : Fin 2048 → EReal) : EReal := Ideal.div (∑ e : Fin 2048, y e) (Ideal.ofBits .f32 0x45000000#32)

/-- A row normed to mean nought and variance one, then weighed and shifted. -/
def normed (y g b : Fin 2048 → EReal) (e : Fin 2048) : EReal :=
  (y e - mean y) * Ideal.rsqrt (mean (fun e => (y e - mean y) * (y e - mean y)) + Ideal.ofBits .f32 0x3727C5AC#32) * g e + b e

/-- The row that is normed: the scaled residual and the product. -/
def rowSum (h a : Fin 2048 → EReal) (e : Fin 2048) : EReal := Ideal.ofBits .f32 0x3FD744FD#32 * h e + a e

end Cert.Norm

end
-- ==== Proof.DownBlock.lean ====
module

public import proofs.«01_k».proof.Proof.Norm
public import proofs.«01_k».proof.Proof.Gen.FfnDownIdeal.Frame
public import Idealize.ShloMosaic.Lib.Pipeline.ValueKit
public import Idealize.ShloMosaic.Lib.Pipeline.ReadBack
public import Idealize.ShloMosaic.Lib.Pointwise
public import Idealize.ShloMosaic.Lib.DynamicIndex

@[expose] public section

set_option maxRecDepth 16384

noncomputable section

namespace Cert.FfnDownIdeal.Block

open Idealize.ShloMosaic Idealize.ShloMosaic.TcCoe Cert.FfnDownIdeal Cert.FfnDownIdeal.Gen Cert.Norm

/-- A block of rows of the sum, normed. -/
def lnBlock (h a : FVec Ideal S256x2048 .f32) (g b : FVec Ideal S1x2048 .f32) (y : S256x2048.Idx) : EReal :=
  normed (rowSum (fun e => h (ix2 (y 0) e)) (fun e => a (ix2 (y 0) e))) (fun e => g (ix2 0 e)) (fun e => b (ix2 0 e)) (y 1)

/-- A block of the product. -/
def dotBlock (x : FVec Ideal S256x5632 .bf16) (w : FVec Ideal S5632x2048 .bf16) : FVec Ideal S256x2048 .f32 := fun y =>
  ∑ d : Fin 5632, x (ix2 (y 0) d) * w (ix2 d (y 1))

/-- Sixteen rows of the body's norm. -/
theorem rows_at (H A : FVec Ideal S16x2048 .f32) (G B : FVec Ideal S1x2048 .f32) (r : Fin 16) (e : Fin 2048) : k0_pay7 (F := Ideal) H A G B (ix2 r e)
    = normed (rowSum (fun e => H (ix2 r e)) (fun e => A (ix2 r e))) (fun e => G (ix2 0 e)) (fun e => B (ix2 0 e)) e := by
  pointwise [k0_pay7, normed, rowSum, mean]

/-- 256 columns of the body's product. -/
theorem dot_at (X : FVec Ideal S256x5632 .bf16) (W : FVec Ideal S5632x256 .bf16) (r e : Fin 256) : k0_pay6 (F := Ideal) X W (ix2 r e)
    = ∑ d : Fin 5632, X (ix2 r d) * W (ix2 d e) := by
  pointwise [k0_pay6]

/-- The rows from row `o` of a block on, normed. -/
theorem rows_eq (o : ℕ) (ho : o + 16 ≤ 256) {H A : FVec Ideal S16x2048 .f32} {g b : FVec Ideal S1x2048 .f32} {h a : FVec Ideal S256x2048 .f32}
    (hH : ∀ (r : Fin 16) (e : Fin 2048), H (ix2 r e) = h (ix2 ⟨o + r, by omega⟩ e)) (hA : ∀ (r : Fin 16) (e : Fin 2048), A (ix2 r e) = a (ix2 ⟨o + r, by omega⟩ e))
    (x : S16x2048.Idx) (y : S256x2048.Idx) (h0 : (y 0 : ℕ) = o + (x 0 : ℕ)) (h1 : (y 1 : ℕ) = (x 1 : ℕ)) : k0_pay7 (F := Ideal) H A g b x = lnBlock h a g b y := by
  have hx0 : (x 0 : ℕ) < 16 := (x 0).isLt
  have hx : x = ix2 (x 0) (x 1) := by
    funext a
    match a with
    | ⟨0, _⟩ => rfl
    | ⟨1, _⟩ => rfl
  have e0 : (⟨o + (x 0 : ℕ), by omega⟩ : Fin 256) = (y 0 : Fin 256) := Fin.ext h0.symm
  have e1 : (x 1 : Fin 2048) = (y 1 : Fin 2048) := Fin.ext h1.symm
  refine (congrArg (k0_pay7 (F := Ideal) H A g b) hx).trans ((rows_at H A g b (x 0) (x 1)).trans ?_)
  refine (congrArg₂ (fun (P Q : Fin 2048 → EReal) => normed (rowSum P Q) (fun e => g (ix2 0 e)) (fun e => b (ix2 0 e)) (x 1 : Fin 2048))
    (funext fun e => hH (x 0) e) (funext fun e => hA (x 0) e)).trans ?_
  exact congrArg₂ (fun (R : Fin 256) (E : Fin 2048) => normed (rowSum (fun e => h (ix2 R e)) (fun e => a (ix2 R e))) (fun e => g (ix2 0 e)) (fun e => b (ix2 0 e)) E) e0 e1

/-- The same rows rounded, which here are the same. -/
theorem rows_eq_rounded (o : ℕ) (ho : o + 16 ≤ 256) {H A : FVec Ideal S16x2048 .f32} {g b : FVec Ideal S1x2048 .f32} {h a : FVec Ideal S256x2048 .f32}
    (hH : ∀ (r : Fin 16) (e : Fin 2048), H (ix2 r e) = h (ix2 ⟨o + r, by omega⟩ e)) (hA : ∀ (r : Fin 16) (e : Fin 2048), A (ix2 r e) = a (ix2 ⟨o + r, by omega⟩ e))
    (x : S16x2048.Idx) (y : S256x2048.Idx) (h0 : (y 0 : ℕ) = o + (x 0 : ℕ)) (h1 : (y 1 : ℕ) = (x 1 : ℕ)) :
    truncf (F := Ideal) .bf16 (k0_pay7 (F := Ideal) H A g b) bitsLt_bf16_f32 x = lnBlock h a g b y := rows_eq o ho hH hA x y h0 h1

/-- The columns from column `o` of a block of the product on. -/
theorem dot_eq (o : ℕ) (ho : o + 256 ≤ 2048) {X : FVec Ideal S256x5632 .bf16} {W : FVec Ideal S5632x256 .bf16} {w : FVec Ideal S5632x2048 .bf16}
    (hW : ∀ (d : Fin 5632) (e : Fin 256), W (ix2 d e) = w (ix2 d ⟨o + e, by omega⟩)) (x : S256x256.Idx) (y : S256x2048.Idx) (h0 : (y 0 : ℕ) = (x 0 : ℕ))
    (h1 : (y 1 : ℕ) = o + (x 1 : ℕ)) : k0_pay6 (F := Ideal) X W x = dotBlock X w y := by
  have hx1 : (x 1 : ℕ) < 256 := (x 1).isLt
  have hx : x = ix2 (x 0) (x 1) := by
    funext a
    match a with
    | ⟨0, _⟩ => rfl
    | ⟨1, _⟩ => rfl
  have e0 : (x 0 : Fin 256) = (y 0 : Fin 256) := Fin.ext h0.symm
  have e1 : (⟨o + (x 1 : ℕ), by omega⟩ : Fin 2048) = (y 1 : Fin 2048) := Fin.ext h1.symm
  refine (congrArg (k0_pay6 (F := Ideal) X W) hx).trans ((dot_at X W (x 0) (x 1)).trans ?_)
  refine Finset.sum_congr rfl fun d _ => ?_
  exact congrArg₂ (HMul.hMul (α := EReal) (β := EReal) (γ := EReal)) (congrArg (fun r : Fin 256 => X (ix2 r d)) e0)
    ((hW d (x 1)).trans (congrArg (fun E : Fin 2048 => w (ix2 d E)) e1))

variable (m : (ℓ : Loc nD τ sig) → Buf (Elt Ideal) ℓ) (c : Dev nD)

/-- An odd point norms the sum of its residual block and the product that the point before left in the first accumulator. -/
theorem out_B (t : Fin cfg0.N) (h0 : ¬t.val % 65 = 0) (h1 : ¬t.val % 2 = 0) (h2 : t.val % 2 = 1) (y : S256x2048.Idx) :
    (outsAt0 m c t.val t.isLt).1 y = lnBlock (iblk m c 2 t) (outsAt0 m c (t.val - 1) (Nat.lt_of_le_of_lt (Nat.sub_le _ _) t.isLt)).2.2.1 (iblk m c 3 t) (iblk m c 4 t) y := by
  rw [outsAt0_B m c t h0 h1 h2]
  frame_open
  simp (disch := decide) only [↓ View.readCov_skip, ↓ View.readCov_fill]
  frame_out
  simp only [read_unread_whole]
  canon_tiles x p
  all_goals first
    | refine rows_eq _ (by decide) ?_ ?_ x y p0 p1
    | refine rows_eq 0 (by decide) ?_ ?_ x y (p0.trans (Nat.zero_add _).symm) p1
  all_goals intros; pointwise

/-- An even point after the first does so with the second accumulator. -/
theorem out_C (t : Fin cfg0.N) (h0 : ¬t.val % 65 = 0) (h1 : t.val % 2 = 0) (h2 : ¬t.val % 2 = 1) (y : S256x2048.Idx) :
    (outsAt0 m c t.val t.isLt).1 y = lnBlock (iblk m c 2 t) (outsAt0 m c (t.val - 1) (Nat.lt_of_le_of_lt (Nat.sub_le _ _) t.isLt)).2.2.2 (iblk m c 3 t) (iblk m c 4 t) y := by
  rw [outsAt0_C m c t h0 h1 h2]
  frame_open
  simp (disch := decide) only [↓ View.readCov_skip, ↓ View.readCov_fill]
  frame_out
  simp only [read_unread_whole]
  canon_tiles x p
  all_goals first
    | refine rows_eq _ (by decide) ?_ ?_ x y p0 p1
    | refine rows_eq 0 (by decide) ?_ ?_ x y (p0.trans (Nat.zero_add _).symm) p1
  all_goals intros; pointwise

/-- The second result of an odd point is the first one rounded. -/
theorem rounded_B (t : Fin cfg0.N) (h0 : ¬t.val % 65 = 0) (h1 : ¬t.val % 2 = 0) (h2 : t.val % 2 = 1) (y : S256x2048.Idx) :
    (outsAt0 m c t.val t.isLt).2.1 y = lnBlock (iblk m c 2 t) (outsAt0 m c (t.val - 1) (Nat.lt_of_le_of_lt (Nat.sub_le _ _) t.isLt)).2.2.1 (iblk m c 3 t) (iblk m c 4 t) y := by
  rw [outsAt0_B m c t h0 h1 h2]
  frame_open
  simp (disch := decide) only [↓ View.readCov_skip, ↓ View.readCov_fill]
  frame_out
  simp only [read_unread_whole]
  canon_tiles x p
  all_goals first
    | refine rows_eq_rounded _ (by decide) ?_ ?_ x y p0 p1
    | refine rows_eq_rounded 0 (by decide) ?_ ?_ x y (p0.trans (Nat.zero_add _).symm) p1
  all_goals intros; pointwise

/-- So is that of an even point after the first. -/
theorem rounded_C (t : Fin cfg0.N) (h0 : ¬t.val % 65 = 0) (h1 : t.val % 2 = 0) (h2 : ¬t.val % 2 = 1) (y : S256x2048.Idx) :
    (outsAt0 m c t.val t.isLt).2.1 y = lnBlock (iblk m c 2 t) (outsAt0 m c (t.val - 1) (Nat.lt_of_le_of_lt (Nat.sub_le _ _) t.isLt)).2.2.2 (iblk m c 3 t) (iblk m c 4 t) y := by
  rw [outsAt0_C m c t h0 h1 h2]
  frame_open
  simp (disch := decide) only [↓ View.readCov_skip, ↓ View.readCov_fill]
  frame_out
  simp only [read_unread_whole]
  canon_tiles x p
  all_goals first
    | refine rows_eq_rounded _ (by decide) ?_ ?_ x y p0 p1
    | refine rows_eq_rounded 0 (by decide) ?_ ?_ x y (p0.trans (Nat.zero_add _).symm) p1
  all_goals intros; pointwise

/-- The first point leaves its product in the first accumulator, -/
theorem acc_A (t : Fin cfg0.N) (h0 : t.val % 65 = 0) (h1 : t.val % 2 = 0) (h2 : ¬t.val % 2 = 1) (y : S256x2048.Idx) :
    (outsAt0 m c t.val t.isLt).2.2.1 y = dotBlock (iblk m c 0 t) (iblk m c 1 t) y := by
  rw [outsAt0_A m c t h0 h1 h2]
  frame_open
  simp (disch := decide) only [↓ View.readCov_skip, ↓ View.readCov_fill]
  frame_out
  canon_tiles x p
  all_goals first
    | refine dot_eq _ (by decide) ?_ x y p0 p1
    | refine dot_eq 0 (by decide) ?_ x y p0 (p1.trans (Nat.zero_add _).symm)
  all_goals intros; pointwise

/-- an odd point leaves it in the second, -/
theorem acc_B (t : Fin cfg0.N) (h0 : ¬t.val % 65 = 0) (h1 : ¬t.val % 2 = 0) (h2 : t.val % 2 = 1) (y : S256x2048.Idx) :
    (outsAt0 m c t.val t.isLt).2.2.2 y = dotBlock (iblk m c 0 t) (iblk m c 1 t) y := by
  rw [outsAt0_B m c t h0 h1 h2]
  frame_open
  simp (disch := decide) only [↓ View.readCov_skip, ↓ View.readCov_fill]
  frame_out
  canon_tiles x p
  all_goals first
    | refine dot_eq _ (by decide) ?_ x y p0 p1
    | refine dot_eq 0 (by decide) ?_ x y p0 (p1.trans (Nat.zero_add _).symm)
  all_goals intros; pointwise

/-- and an even point in the first. -/
theorem acc_C (t : Fin cfg0.N) (h0 : ¬t.val % 65 = 0) (h1 : t.val % 2 = 0) (h2 : ¬t.val % 2 = 1) (y : S256x2048.Idx) :
    (outsAt0 m c t.val t.isLt).2.2.1 y = dotBlock (iblk m c 0 t) (iblk m c 1 t) y := by
  rw [outsAt0_C m c t h0 h1 h2]
  frame_open
  simp (disch := decide) only [↓ View.readCov_skip, ↓ View.readCov_fill]
  frame_out
  canon_tiles x p
  all_goals first
    | refine dot_eq _ (by decide) ?_ x y p0 p1
    | refine dot_eq 0 (by decide) ?_ x y p0 (p1.trans (Nat.zero_add _).symm)
  all_goals intros; pointwise

end Cert.FfnDownIdeal.Block

end
-- ==== Proof.DownValue.lean ====
module

public import proofs.«01_k».proof.Proof.DownBlock
public import proofs.«01_k».proof.Proof.Gen.FfnDownRefIdeal.Run

@[expose] public section

set_option maxRecDepth 16384

noncomputable section

namespace Cert.FfnDownIdeal.Final

open Idealize.ShloMosaic Idealize.ShloMosaic.TcCoe Cert.FfnDownIdeal Cert.FfnDownIdeal.Gen Cert.FfnDownIdeal.Block Cert.Norm

/-- The product of the rows with the weights, added to the scaled residual, normed. -/
def result (x : FVec Ideal S16384x5632 .bf16) (w : FVec Ideal S5632x2048 .bf16) (h : FVec Ideal S16384x2048 .f32) (g b : FVec Ideal S2048 .f32)
    (j : S16384x2048.Idx) : EReal :=
  normed (rowSum (fun e => h (ix2 (j 0) e)) (fun e => ∑ d : Fin 5632, x (ix2 (j 0) d) * w (ix2 d e))) (fun e => g (ix1 e)) (fun e => b (ix1 e)) (j 1)

variable (m : (ℓ : Loc nD τ sig) → Buf (Elt Ideal) ℓ) (c : Dev nD)

/-- The block of every window at every grid point. -/
theorem idx : ∀ t : Fin cfg0.N, win0_0.index t = ![min t.val 63, 0] ∧ win0_1.index t = ![0, 0] ∧ win0_2.index t = ![t.val - 1, 0]
    ∧ win0_3.index t = ![0, 0] ∧ win0_4.index t = ![0, 0] ∧ win0_5.index t = ![t.val - 1, 0] ∧ win0_6.index t = ![t.val - 1, 0] :=
  (by decide +kernel : ∀ t : Fin grid0.N, _)

/-- The rows, the weights, the residual and the norm's weight and shift that the program is given. -/
abbrev xa : FVec Ideal S16384x5632 .bf16 := m ((c.tc : Thread nD τ).loc main_arg0)
@[inherit_doc xa] abbrev wa : FVec Ideal S5632x2048 .bf16 := m ((c.tc : Thread nD τ).loc main_arg1)
@[inherit_doc xa] abbrev ha : FVec Ideal S16384x2048 .f32 := m ((c.tc : Thread nD τ).loc main_arg2)
@[inherit_doc xa] abbrev ga : FVec Ideal S2048 .f32 := m ((c.tc : Thread nD τ).loc main_arg3)
@[inherit_doc xa] abbrev ba : FVec Ideal S2048 .f32 := m ((c.tc : Thread nD τ).loc main_arg4)

/-- A row of the arrays by its number. -/
def row (n : ℕ) : Fin 16384 := ⟨n % 16384, Nat.mod_lt _ (by decide)⟩

/-- A grid point's rows. -/
theorem blk_x (t : Fin cfg0.N) (r : Fin 256) (d : Fin 5632) : (iblk m c 0 t : FVec Ideal S256x5632 .bf16) (ix2 r d) = xa m c (ix2 (row (256 * min t.val 63 + r)) d) := by
  blk_ext [iblk, V, idx t, row]
/-- The weights. -/
theorem blk_w (t : Fin cfg0.N) (d : Fin 5632) (e : Fin 2048) : (iblk m c 1 t : FVec Ideal S5632x2048 .bf16) (ix2 d e) = wa m c (ix2 d e) := by
  blk_ext [iblk, V, idx t]
/-- A grid point's residual rows. -/
theorem blk_h (t : Fin cfg0.N) (r : Fin 256) (e : Fin 2048) : (iblk m c 2 t : FVec Ideal S256x2048 .f32) (ix2 r e) = ha m c (ix2 (row (256 * (t.val - 1) + r)) e) := by
  blk_ext [iblk, V, idx t, row]
/-- The norm's weight. -/
theorem blk_g (t : Fin cfg0.N) (e : Fin 2048) : (iblk m c 3 t : FVec Ideal S1x2048 .f32) (ix2 0 e) = ga m c (ix1 e) := by
  have e0 : V m c main_v0 = shapeCast S1x2048 (ga m c) shapeCasts_S2048_S1x2048 := by entry_read; rfl
  blk_simp [iblk]
  rw [e0]
  pointwise
  blk_ext [idx t]
/-- The norm's shift. -/
theorem blk_b (t : Fin cfg0.N) (e : Fin 2048) : (iblk m c 4 t : FVec Ideal S1x2048 .f32) (ix2 0 e) = ba m c (ix1 e) := by
  have e0 : V m c main_v1 = shapeCast S1x2048 (ba m c) shapeCasts_S2048_S1x2048 := by entry_read; rfl
  blk_simp [iblk]
  rw [e0]
  pointwise
  blk_ext [idx t]

/-- The product that a point leaves behind. -/
def Left (n : ℕ) (a : FVec Ideal S256x2048 .f32) : Prop := ∀ (r : Fin 256) (e : Fin 2048),
  a (ix2 r e) = ∑ d : Fin 5632, xa m c (ix2 (row (256 * min n 63 + r)) d) * wa m c (ix2 d e)

theorem left_dot (t : Fin cfg0.N) (r : Fin 256) (e : Fin 2048) : dotBlock (iblk m c 0 t) (iblk m c 1 t) (ix2 r e)
    = ∑ d : Fin 5632, xa m c (ix2 (row (256 * min t.val 63 + r)) d) * wa m c (ix2 d e) :=
  Finset.sum_congr rfl fun d _ => congrArg₂ (HMul.hMul (α := EReal) (β := EReal) (γ := EReal)) (blk_x m c t r d) (blk_w m c t d e)

/-- An even point leaves its product in the first accumulator. -/
theorem left_even (t : Fin cfg0.N) (h : t.val % 2 = 0) : Left m c t.val (outsAt0 m c t.val t.isLt).2.2.1 := fun r e => by
  by_cases hz : t.val % 65 = 0
  · exact (acc_A m c t hz h (by omega) _).trans (left_dot m c t r e)
  · exact (acc_C m c t hz h (by omega) _).trans (left_dot m c t r e)

/-- An odd point leaves it in the second. -/
theorem left_odd (t : Fin cfg0.N) (h : t.val % 2 = 1) : Left m c t.val (outsAt0 m c t.val t.isLt).2.2.2 := fun r e =>
  (acc_B m c t (by have : t.val < 65 := t.isLt; omega) (by omega) h _).trans (left_dot m c t r e)

/-- The result of the arguments. -/
def G : S16384x2048.Idx → EReal := result (xa m c) (wa m c) (ha m c) (ga m c) (ba m c)

/-- A normed block over the product of the point before is a block of the result. -/
theorem lnBlock_eq (t : Fin cfg0.N) (ht : 1 ≤ t.val) {a : FVec Ideal S256x2048 .f32} (ha : Left m c (t.val - 1) a) (y : S256x2048.Idx) (j : S16384x2048.Idx)
    (h0 : (j 0 : ℕ) = 256 * (t.val - 1) + (y 0 : ℕ)) (h1 : (j 1 : ℕ) = (y 1 : ℕ)) :
    lnBlock (iblk m c 2 t) a (iblk m c 3 t) (iblk m c 4 t) y = G m c j := by
  have hN : t.val < 65 := t.isLt
  have hj : (j 0 : ℕ) < 16384 := (j 0).isLt
  have hmin : min (t.val - 1) 63 = t.val - 1 := by omega
  have e0 : row (256 * (t.val - 1) + (y 0 : ℕ)) = (j 0 : Fin 16384) := Fin.ext (by show (256 * (t.val - 1) + (y 0 : ℕ)) % 16384 = (j 0 : ℕ); omega)
  have e1 : (y 1 : Fin 2048) = (j 1 : Fin 2048) := Fin.ext h1.symm
  have hh : (fun e : Fin 2048 => (iblk m c 2 t : FVec Ideal S256x2048 .f32) (ix2 (y 0) e)) = fun e => Final.ha m c (ix2 (j 0) e) := funext fun e =>
    (blk_h m c t (y 0) e).trans (congrArg (fun R : Fin 16384 => Final.ha m c (ix2 R e)) e0)
  have hd : (fun e : Fin 2048 => a (ix2 (y 0) e)) = fun e => ∑ d : Fin 5632, xa m c (ix2 (j 0) d) * wa m c (ix2 d e) := funext fun e => by
    refine (ha (y 0) e).trans ?_
    rw [hmin]
    exact congrArg (fun R : Fin 16384 => ∑ d : Fin 5632, xa m c (ix2 R d) * wa m c (ix2 d e)) e0
  unfold lnBlock
  rw [hh, hd, funext (blk_g m c t), funext (blk_b m c t)]
  exact congrArg (normed _ _ _) e1

/-- Every point after the first leaves a block of the result, in both precisions. -/
theorem out_eq (t : Fin cfg0.N) (ht : 1 ≤ t.val) (y : S256x2048.Idx) (j : S16384x2048.Idx) (h0 : (j 0 : ℕ) = 256 * (t.val - 1) + (y 0 : ℕ))
    (h1 : (j 1 : ℕ) = (y 1 : ℕ)) : (outsAt0 m c t.val t.isLt).1 y = G m c j ∧ (outsAt0 m c t.val t.isLt).2.1 y = G m c j := by
  have hN : t.val < 65 := t.isLt
  have hz : ¬t.val % 65 = 0 := by omega
  have hp : t.val - 1 < cfg0.N := Nat.lt_of_le_of_lt (Nat.sub_le _ _) t.isLt
  by_cases h : t.val % 2 = 0
  · have hl := left_odd m c ⟨t.val - 1, hp⟩ (by show (t.val - 1) % 2 = 1; omega)
    exact ⟨(out_C m c t hz h (by omega) y).trans (lnBlock_eq m c t ht hl y j h0 h1), (rounded_C m c t hz h (by omega) y).trans (lnBlock_eq m c t ht hl y j h0 h1)⟩
  · have hl := left_even m c ⟨t.val - 1, hp⟩ (by show (t.val - 1) % 2 = 0; omega)
    exact ⟨(out_B m c t hz h (by omega) y).trans (lnBlock_eq m c t ht hl y j h0 h1), (rounded_B m c t hz h (by omega) y).trans (lnBlock_eq m c t ht hl y j h0 h1)⟩

/-- The first result's blocks are written back only after the first point. -/
theorem later5 : ∀ t : Fin cfg0.N, (cfg0.win 5).flush t = true → 1 ≤ t.val := (by decide +kernel : ∀ t : Fin grid0.N, (cfg0.win 5).flush t = true → 1 ≤ t.val)
/-- So are the second's. -/
theorem later6 : ∀ t : Fin cfg0.N, (cfg0.win 6).flush t = true → 1 ≤ t.val := (by decide +kernel : ∀ t : Fin grid0.N, (cfg0.win 6).flush t = true → 1 ≤ t.val)

/-- The kernel's first array after the run is the result of its arguments. -/
theorem final5 : (dats m 0 c).arrAt 5 (cfgs 0).N = (G m c : FVec Ideal S16384x2048 .f32) := by
  refine (dats m 0 c).arrAt_eq_of_covers 5 (G m c) (by decide +kernel) fun t hf y => ?_
  blk_simp
  rw [after0_5]
  refine (out_eq m c t (later5 t hf) y _ ?_ ?_).1
  all_goals blk_simp [idx t]
  all_goals omega

/-- So is its second. -/
theorem final6 : (dats m 0 c).arrAt 6 (cfgs 0).N = (G m c : FVec Ideal S16384x2048 .bf16) := by
  refine (dats m 0 c).arrAt_eq_of_covers 6 (G m c) (by decide +kernel) fun t hf y => ?_
  blk_simp
  rw [after0_6]
  refine (out_eq m c t (later6 t hf) y _ ?_ ?_).2
  all_goals blk_simp [idx t]
  all_goals omega

end Cert.FfnDownIdeal.Final

namespace Cert.FfnDownRefIdeal.Final

open Idealize.ShloMosaic Idealize.ShloMosaic.TcCoe Cert.FfnDownRefIdeal Cert.FfnDownRefIdeal.Gen Cert.FfnDownRefIdeal.Value Cert.FfnDownIdeal.Final Cert.Norm

variable (m : (ℓ : Loc nD τ sig) → Buf (Elt Ideal) ℓ) (c : Dev nD)

/-- The means of an array's rows. -/
def means (y : FVec Ideal S16384x2048 .f32) : FVec Ideal S16384x1 .f32 :=
  Host.divf (broadcastInDim S16384x1 ![0] bcast_S16384_S16384x1_0 (Host.reduceAdd y (constant S_ .f32 0x00000000#32) reducesTo_S16384x2048_S16384_d1 h_S_))
    (broadcastInDim S16384x1 ![] bcast_S_S16384x1 (constant S_ .f32 0x45000000#32))

/-- An array less the means of its rows. -/
def centred (y : FVec Ideal S16384x2048 .f32) : FVec Ideal S16384x2048 .f32 :=
  subf y (broadcastInDim S16384x2048 ![0, 1] bcast_S16384x1_S16384x2048_0_1 (means y))

/-- A row of 2048 numbers under every row of an array. -/
def under (g : FVec Ideal S2048 .f32) : FVec Ideal S16384x2048 .f32 :=
  broadcastInDim S16384x2048 ![0, 1] bcast_S1x2048_S16384x2048_0_1 (broadcastInDim S1x2048 ![1] bcast_S2048_S1x2048_1 g)

/-- The layer norm of an array's rows. -/
def layerNorm (y : FVec Ideal S16384x2048 .f32) (g b : FVec Ideal S2048 .f32) : FVec Ideal S16384x2048 .f32 :=
  addf (mulf (mulf (centred y) (broadcastInDim S16384x2048 ![0, 1] bcast_S16384x1_S16384x2048_0_1
    (Host.rsqrt (addf (means (mulf (centred y) (centred y))) (broadcastInDim S16384x1 ![] bcast_S_S16384x1 (constant S_ .f32 0x3727C5AC#32)))))) (under g)) (under b)

theorem means_at (y : FVec Ideal S16384x2048 .f32) (r : Fin 16384) : means y (ix2 r 0) = mean fun e => y (ix2 r e) := by
  unfold means mean
  pointwise
theorem centred_at (y : FVec Ideal S16384x2048 .f32) (r : Fin 16384) (e : Fin 2048) : centred y (ix2 r e) = y (ix2 r e) - mean fun e => y (ix2 r e) := by
  rw [← means_at]
  unfold centred
  pointwise
theorem under_at (g : FVec Ideal S2048 .f32) (r : Fin 16384) (e : Fin 2048) : under g (ix2 r e) = g (ix1 e) := by
  unfold under
  pointwise

/-- Every row of the layer norm is the row normed. -/
theorem layerNorm_at (y : FVec Ideal S16384x2048 .f32) (g b : FVec Ideal S2048 .f32) (r : Fin 16384) (e : Fin 2048) :
    layerNorm y g b (ix2 r e) = normed (fun e => y (ix2 r e)) (fun e => g (ix1 e)) (fun e => b (ix1 e)) e := by
  unfold normed
  beta_reduce
  rw [← under_at g r e, ← under_at b r e, ← centred_at y r e]
  have hs : (fun e => (y (ix2 r e) - mean fun e => y (ix2 r e)) * (y (ix2 r e) - mean fun e => y (ix2 r e))) = fun e => mulf (centred y) (centred y) (ix2 r e) :=
    funext fun e => (congrArg (fun d : EReal => d * d) (centred_at y r e)).symm
  rw [hs, ← means_at]
  unfold layerNorm
  pointwise

/-- The scaled residual and a product. -/
def summed (h a : FVec Ideal S16384x2048 .f32) : FVec Ideal S16384x2048 .f32 :=
  addf (mulf (broadcastInDim S16384x2048 ![] bcast_S_S16384x2048 (constant S_ .f32 0x3FD744FD#32)) h) a

/-- The layer norm of the scaled residual and a product, by the product's entries. -/
theorem layerNorm_summed (h a : FVec Ideal S16384x2048 .f32) (g b : FVec Ideal S2048 .f32) (j : S16384x2048.Idx) :
    layerNorm (summed h a) g b j = normed (rowSum (fun e => h (ix2 (j 0) e)) (fun e => a (ix2 (j 0) e))) (fun e => g (ix1 e)) (fun e => b (ix1 e)) (j 1) := by
  have hs : ∀ r e, summed h a (ix2 r e) = rowSum (fun e => h (ix2 r e)) (fun e => a (ix2 r e)) e := fun r e => by
    unfold summed rowSum
    pointwise
  idx_vars j
  exact (layerNorm_at (summed h a) g b _ _).trans (by rw [funext (hs _)])

/-- The reference's result is the result of its arguments. -/
theorem final (x : FVec Ideal S16384x5632 .bf16) (w : FVec Ideal S5632x2048 .bf16) (h : FVec Ideal S16384x2048 .f32) (g b : FVec Ideal S2048 .f32) :
    layerNorm (summed h (Host.dotGeneral dot_S16384x5632_S5632x2048_S16384x2048_1_0_0_1_n_n none (extf .f32 x bitsLt_bf16_f32) (extf .f32 w bitsLt_bf16_f32))) g b
      = result x w h g b := by
  have hd : ∀ r e, Host.dotGeneral (F := Ideal) dot_S16384x5632_S5632x2048_S16384x2048_1_0_0_1_n_n none (extf .f32 x bitsLt_bf16_f32) (extf .f32 w bitsLt_bf16_f32) (ix2 r e)
      = ∑ d : Fin 5632, x (ix2 r d) * w (ix2 d e) := fun r e => by
    pointwise
  funext (j : S16384x2048.Idx)
  refine (layerNorm_summed _ _ g b j).trans ?_
  rw [funext (hd (j 0))]
  rfl

end Cert.FfnDownRefIdeal.Final

end
-- ==== Proof.Proj.lean ====
module

public import proofs.«01_k».proof.Proof.Gen.RetVIdeal.Frame
public import Idealize.ShloMosaic.Lib.Pipeline.ValueKit
public import Idealize.ShloMosaic.Lib.Pipeline.ReadBack
public import Idealize.ShloMosaic.Lib.Pointwise
public import Idealize.ShloMosaic.Lib.DynamicIndex

@[expose] public section

set_option maxRecDepth 16384

noncomputable section

namespace Cert.Proj

open Idealize.ShloMosaic Idealize.ShloMosaic.TcCoe Cert.RetVIdeal Cert.RetVIdeal.Gen

/-- A block of the product. -/
def dotBlock (x : FVec Ideal S1024x2048 .bf16) (w : FVec Ideal S2048x1024 .bf16) : FVec Ideal S1024x1024 .f32 := fun y =>
  ∑ d : Fin 2048, x (ix2 (y 0) d) * w (ix2 d (y 1))

/-- A block of one layer's weights, as the kernel keeps it. -/
def plain (B : FVec Ideal S1x2048x1024 .f32) : FVec Ideal S2048x1024 .bf16 := fun y => B (ix3 0 (y 0) (y 1))

/-- The body keeps that. -/
theorem kept (B : FVec Ideal S1x2048x1024 .f32) : k0_pay134 (F := Ideal) B = plain B := by
  funext (y : S2048x1024.Idx)
  idx_vars y
  pointwise [k0_pay134, plain]

/-- 256 columns of the body's product. -/
theorem dot_at (X : FVec Ideal S1024x2048 .bf16) (W : FVec Ideal S2048x256 .bf16) (r : Fin 1024) (e : Fin 256) : k0_pay4 (F := Ideal) X W (ix2 r e)
    = ∑ d : Fin 2048, X (ix2 r d) * W (ix2 d e) := by
  pointwise [k0_pay4]

/-- The columns from column `o` of a block of the product on. -/
theorem dot_eq (o : ℕ) (ho : o + 256 ≤ 1024) {X : FVec Ideal S1024x2048 .bf16} {W : FVec Ideal S2048x256 .bf16} {w : FVec Ideal S2048x1024 .bf16}
    (hW : ∀ (d : Fin 2048) (e : Fin 256), W (ix2 d e) = w (ix2 d ⟨o + e, by omega⟩)) (x : S1024x256.Idx) (y : S1024x1024.Idx) (h0 : (y 0 : ℕ) = (x 0 : ℕ))
    (h1 : (y 1 : ℕ) = o + (x 1 : ℕ)) : k0_pay4 (F := Ideal) X W x = dotBlock X w y := by
  have hx1 : (x 1 : ℕ) < 256 := (x 1).isLt
  have hx : x = ix2 (x 0) (x 1) := by
    funext a
    match a with
    | ⟨0, _⟩ => rfl
    | ⟨1, _⟩ => rfl
  have e0 : (x 0 : Fin 1024) = (y 0 : Fin 1024) := Fin.ext h0.symm
  have e1 : (⟨o + (x 1 : ℕ), by omega⟩ : Fin 1024) = (y 1 : Fin 1024) := Fin.ext h1.symm
  refine (congrArg (k0_pay4 (F := Ideal) X W) hx).trans ((dot_at X W (x 0) (x 1)).trans ?_)
  refine Finset.sum_congr rfl fun d _ => ?_
  exact congrArg₂ (HMul.hMul (α := EReal) (β := EReal) (γ := EReal)) (congrArg (fun r : Fin 1024 => X (ix2 r d)) e0)
    ((hW d (x 1)).trans (congrArg (fun E : Fin 1024 => w (ix2 d E)) e1))

/-- Entry `x` of a piece whose rows and columns are a block's from row `o` and column `p` on is the block's entry there. -/
theorem piece_eq (o p : ℕ) (ho : o + 32 ≤ 1024) (hp : p + 512 ≤ 1024) {A : FVec Ideal S32x512 .f32} {a : FVec Ideal S1024x1024 .f32}
    (hA : ∀ (r : Fin 32) (e : Fin 512), A (ix2 r e) = a (ix2 ⟨o + r, by omega⟩ ⟨p + e, by omega⟩)) (x : S32x512.Idx) (y : S1024x1024.Idx)
    (h0 : (y 0 : ℕ) = o + (x 0 : ℕ)) (h1 : (y 1 : ℕ) = p + (x 1 : ℕ)) : A x = a y := by
  have hx0 : (x 0 : ℕ) < 32 := (x 0).isLt
  have hx1 : (x 1 : ℕ) < 512 := (x 1).isLt
  have hx : x = ix2 (x 0) (x 1) := by
    funext a
    match a with
    | ⟨0, _⟩ => rfl
    | ⟨1, _⟩ => rfl
  have hy : y = ix2 (⟨o + (x 0 : ℕ), by omega⟩ : Fin 1024) (⟨p + (x 1 : ℕ), by omega⟩ : Fin 1024) := by
    funext a
    match a with
    | ⟨0, _⟩ => exact Fin.ext h0
    | ⟨1, _⟩ => exact Fin.ext h1
  rw [hx, hy]
  exact hA (x 0) (x 1)

/-- The weights a kernel keeps: taken anew at every sixteenth point but the last point, held at the others. -/
theorem held_all {N : ℕ} (hN : N % 16 = 1) {α : Type} (W : (n : ℕ) → n < N → α) (B : ℕ → α) (hnew : ∀ n hn, n % 16 = 0 → n + 1 < N → W n hn = B (n / 16))
    (hold : ∀ n hn (h : n - 1 < N), ¬(n % 16 = 0 ∧ n + 1 < N) → W n hn = W (n - 1) h) (n : ℕ) (hn : n < N) (hl : n + 1 < N) : W n hn = B (n / 16) := by
  induction n with
  | zero => exact hnew 0 hn rfl hl
  | succ n ih =>
    by_cases hz : (n + 1) % 16 = 0
    · exact hnew (n + 1) hn hz hl
    · refine (hold (n + 1) hn (by omega) (fun h => hz h.1)).trans ((ih (by omega) (by omega)).trans (congrArg B (by omega)))

/-- A row of the arrays by its number. -/
def row (n : ℕ) : Fin 16384 := ⟨n % 16384, Nat.mod_lt _ (by decide)⟩

/-- A row of the input times a column of weights given by their entries. -/
def dot (x : FVec Ideal S16384x2048 .bf16) (w : Fin 2048 → ℕ → EReal) (R n : ℕ) : EReal := ∑ d : Fin 2048, x (ix2 (row R) d) * w d n

/-- The block of the product that point `n` computes. -/
def Left (x : FVec Ideal S16384x2048 .bf16) (w : Fin 2048 → ℕ → EReal) (n : ℕ) (a : FVec Ideal S1024x1024 .f32) : Prop := ∀ (r e : Fin 1024),
  a (ix2 r e) = dot x w (1024 * (n % 16) + r) (1024 * (n / 16) + e)

/-- The weights' block of columns `k`. -/
def wBlock (w : Fin 2048 → ℕ → EReal) (k : ℕ) : FVec Ideal S2048x1024 .bf16 := fun y => w (y 0) (1024 * k + (y 1 : ℕ))

theorem left_dot (x : FVec Ideal S16384x2048 .bf16) (w : Fin 2048 → ℕ → EReal) (n : ℕ) (X : FVec Ideal S1024x2048 .bf16)
    (hX : ∀ (r : Fin 1024) (d : Fin 2048), X (ix2 r d) = x (ix2 (row (1024 * (n % 16) + r)) d)) : Left x w n (dotBlock X (wBlock w (n / 16))) := fun r e =>
  Finset.sum_congr rfl fun d _ => congrArg (fun z : EReal => z * w d (1024 * (n / 16) + (e : ℕ))) (hX r d)

end Cert.Proj

end
-- ==== Proof.RetVBlock.lean ====
module

public import proofs.«01_k».proof.Proof.Proj

@[expose] public section

set_option maxRecDepth 16384

noncomputable section

namespace Cert.RetVIdeal.Block

open Idealize.ShloMosaic Idealize.ShloMosaic.TcCoe Cert.RetVIdeal Cert.RetVIdeal.Gen Cert.Proj

/-- A piece of a block, rounded, which here is the piece itself. -/
theorem rounded_eq (o p : ℕ) (ho : o + 32 ≤ 1024) (hp : p + 512 ≤ 1024) {A : FVec Ideal S32x512 .f32} {a : FVec Ideal S1024x1024 .f32}
    (hA : ∀ (r : Fin 32) (e : Fin 512), A (ix2 r e) = a (ix2 ⟨o + r, by omega⟩ ⟨p + e, by omega⟩)) (x : S32x512.Idx) (y : S1024x1024.Idx)
    (h0 : (y 0 : ℕ) = o + (x 0 : ℕ)) (h1 : (y 1 : ℕ) = p + (x 1 : ℕ)) : k0_pay1 (F := Ideal) A x = a y := piece_eq o p ho hp hA x y h0 h1

variable (m : (ℓ : Loc nD τ sig) → Buf (Elt Ideal) ℓ) (c : Dev nD)

/-- An odd point's result is the product that the point before left in the first accumulator. -/
theorem out_B (t : Fin cfg0.N) (h0 : ¬(t.val % 65 = 0 ∨ t.val % 65 = 16 ∨ t.val % 65 = 32 ∨ t.val % 65 = 48)) (h1 : ¬t.val % 65 = 0) (h2 : ¬t.val % 2 = 0)
    (h3 : t.val % 2 = 1) (y : S1024x1024.Idx) :
    (outsAt0 m c t.val t.isLt).1 y = (outsAt0 m c (t.val - 1) (Nat.lt_of_le_of_lt (Nat.sub_le _ _) t.isLt)).2.2.1 y := by
  rw [outsAt0_B m c t h0 h1 h2 h3]
  frame_open
  simp (disch := decide) only [↓ View.readCov_skip, ↓ View.readCov_fill]
  frame_out
  simp only [read_unread_whole]
  canon_tiles x p
  all_goals first
    | refine rounded_eq _ _ (by decide) (by decide) ?_ x y p0 p1
    | refine rounded_eq _ 0 (by decide) (by decide) ?_ x y p0 (p1.trans (Nat.zero_add _).symm)
    | refine rounded_eq 0 _ (by decide) (by decide) ?_ x y (p0.trans (Nat.zero_add _).symm) p1
    | refine rounded_eq 0 0 (by decide) (by decide) ?_ x y (p0.trans (Nat.zero_add _).symm) (p1.trans (Nat.zero_add _).symm)
  all_goals intros; pointwise

/-- An even point's result after the first is the product that the point before left in the second accumulator. -/
theorem out_CD (t : Fin cfg0.N) (h1 : ¬t.val % 65 = 0) (h2 : t.val % 2 = 0) (h3 : ¬t.val % 2 = 1) (y : S1024x1024.Idx) :
    (outsAt0 m c t.val t.isLt).1 y = (outsAt0 m c (t.val - 1) (Nat.lt_of_le_of_lt (Nat.sub_le _ _) t.isLt)).2.2.2 y := by
  by_cases h0 : (t.val % 65 = 0 ∨ t.val % 65 = 16 ∨ t.val % 65 = 32 ∨ t.val % 65 = 48)
  · rw [outsAt0_D m c t h0 h1 h2 h3]
    frame_open
    simp (disch := decide) only [↓ View.readCov_skip, ↓ View.readCov_fill]
    frame_out
    simp only [read_unread_whole]
    canon_tiles x p
    all_goals first
      | refine rounded_eq _ _ (by decide) (by decide) ?_ x y p0 p1
      | refine rounded_eq _ 0 (by decide) (by decide) ?_ x y p0 (p1.trans (Nat.zero_add _).symm)
      | refine rounded_eq 0 _ (by decide) (by decide) ?_ x y (p0.trans (Nat.zero_add _).symm) p1
      | refine rounded_eq 0 0 (by decide) (by decide) ?_ x y (p0.trans (Nat.zero_add _).symm) (p1.trans (Nat.zero_add _).symm)
    all_goals intros; pointwise
  · rw [outsAt0_C m c t h0 h1 h2 h3]
    frame_open
    simp (disch := decide) only [↓ View.readCov_skip, ↓ View.readCov_fill]
    frame_out
    simp only [read_unread_whole]
    canon_tiles x p
    all_goals first
      | refine rounded_eq _ _ (by decide) (by decide) ?_ x y p0 p1
      | refine rounded_eq _ 0 (by decide) (by decide) ?_ x y p0 (p1.trans (Nat.zero_add _).symm)
      | refine rounded_eq 0 _ (by decide) (by decide) ?_ x y (p0.trans (Nat.zero_add _).symm) p1
      | refine rounded_eq 0 0 (by decide) (by decide) ?_ x y (p0.trans (Nat.zero_add _).symm) (p1.trans (Nat.zero_add _).symm)
    all_goals intros; pointwise

/-- A point with new columns keeps the weights of its block. -/
theorem weights_AD (t : Fin cfg0.N) (h0 : (t.val % 65 = 0 ∨ t.val % 65 = 16 ∨ t.val % 65 = 32 ∨ t.val % 65 = 48)) :
    (outsAt0 m c t.val t.isLt).2.1 = plain (iblk m c 1 t) := by
  have hN : t.val < 65 := t.isLt
  funext y
  by_cases h1 : t.val % 65 = 0
  · rw [outsAt0_A m c t h0 h1 (by omega) (by omega)]
    frame_open
    frame_out
    exact congrFun (kept _) y
  · rw [outsAt0_D m c t h0 h1 (by omega) (by omega)]
    frame_open
    frame_out
    exact congrFun (kept _) y

/-- The other points hold what they find. -/
theorem weights_BC (t : Fin cfg0.N) (h0 : ¬(t.val % 65 = 0 ∨ t.val % 65 = 16 ∨ t.val % 65 = 32 ∨ t.val % 65 = 48)) (h1 : ¬t.val % 65 = 0) :
    (outsAt0 m c t.val t.isLt).2.1 = (outsAt0 m c (t.val - 1) (Nat.lt_of_le_of_lt (Nat.sub_le _ _) t.isLt)).2.1 := by
  by_cases h : t.val % 2 = 0
  · rw [outsAt0_C m c t h0 h1 h (by omega)]
    frame_open
    rfl
  · rw [outsAt0_B m c t h0 h1 h (by omega)]
    frame_open
    rfl

/-- An even point's first accumulator is the product of its rows with the weights it holds. -/
theorem acc_even (t : Fin cfg0.N) (h : t.val % 2 = 0) (y : S1024x1024.Idx) :
    (outsAt0 m c t.val t.isLt).2.2.1 y = dotBlock (iblk m c 0 t) (outsAt0 m c t.val t.isLt).2.1 y := by
  by_cases h0 : (t.val % 65 = 0 ∨ t.val % 65 = 16 ∨ t.val % 65 = 32 ∨ t.val % 65 = 48)
  · by_cases h1 : t.val % 65 = 0
    · rw [weights_AD m c t h0, outsAt0_A m c t h0 h1 h (by omega)]
      frame_open
      simp (disch := decide) only [↓ View.readCov_skip, ↓ View.readCov_fill]
      frame_out
      canon_tiles x p
      all_goals first
        | refine dot_eq _ (by decide) ?_ x y p0 p1
        | refine dot_eq 0 (by decide) ?_ x y p0 (p1.trans (Nat.zero_add _).symm)
      all_goals intros; rw [kept]; pointwise
    · rw [weights_AD m c t h0, outsAt0_D m c t h0 h1 h (by omega)]
      frame_open
      simp (disch := decide) only [↓ View.readCov_skip, ↓ View.readCov_fill]
      frame_out
      canon_tiles x p
      all_goals first
        | refine dot_eq _ (by decide) ?_ x y p0 p1
        | refine dot_eq 0 (by decide) ?_ x y p0 (p1.trans (Nat.zero_add _).symm)
      all_goals intros; rw [kept]; pointwise
  · rw [weights_BC m c t h0 (by omega), outsAt0_C m c t h0 (by omega) h (by omega)]
    frame_open
    simp (disch := decide) only [↓ View.readCov_skip, ↓ View.readCov_fill]
    frame_out
    simp only [read_unread_whole]
    canon_tiles x p
    all_goals first
      | refine dot_eq _ (by decide) ?_ x y p0 p1
      | refine dot_eq 0 (by decide) ?_ x y p0 (p1.trans (Nat.zero_add _).symm)
    all_goals intros; pointwise

/-- So is an odd point's second. -/
theorem acc_odd (t : Fin cfg0.N) (h : t.val % 2 = 1) (y : S1024x1024.Idx) :
    (outsAt0 m c t.val t.isLt).2.2.2 y = dotBlock (iblk m c 0 t) (outsAt0 m c t.val t.isLt).2.1 y := by
  have hN : t.val < 65 := t.isLt
  rw [weights_BC m c t (by omega) (by omega), outsAt0_B m c t (by omega) (by omega) (by omega) h]
  frame_open
  simp (disch := decide) only [↓ View.readCov_skip, ↓ View.readCov_fill]
  frame_out
  simp only [read_unread_whole]
  canon_tiles x p
  all_goals first
    | refine dot_eq _ (by decide) ?_ x y p0 p1
    | refine dot_eq 0 (by decide) ?_ x y p0 (p1.trans (Nat.zero_add _).symm)
  all_goals intros; pointwise

end Cert.RetVIdeal.Block

end
-- ==== Proof.RetVValue.lean ====
module

public import proofs.«01_k».proof.Proof.RetVBlock
public import proofs.«01_k».proof.Proof.Gen.RetVRefIdeal.Run

@[expose] public section

set_option maxRecDepth 16384

noncomputable section

namespace Cert.RetVIdeal.Final

open Idealize.ShloMosaic Idealize.ShloMosaic.TcCoe Cert.RetVIdeal Cert.RetVIdeal.Gen Cert.RetVIdeal.Block Cert.Proj

/-- The first layer's weights by their rows and columns. -/
def wf (w : FVec Ideal S2x2048x4096 .f32) (d : Fin 2048) (n : ℕ) : EReal := w (ix3 0 d ⟨n % 4096, Nat.mod_lt _ (by decide)⟩)

/-- The product of the rows with the first layer's weights. -/
def result (x : FVec Ideal S16384x2048 .bf16) (w : FVec Ideal S2x2048x4096 .f32) (j : S16384x4096.Idx) : EReal := dot x (wf w) (j 0) (j 1)

variable (m : (ℓ : Loc nD τ sig) → Buf (Elt Ideal) ℓ) (c : Dev nD)

/-- The block of every window at every grid point. -/
theorem idx : ∀ t : Fin cfg0.N, win0_0.index t = ![min t.val 63 % 16, 0] ∧ win0_1.index t = ![0, 0, min t.val 63 / 16]
    ∧ win0_4.index t = ![(t.val - 1) % 16, (t.val - 1) / 16] :=
  (by decide +kernel : ∀ t : Fin grid0.N, _)

/-- The rows and the weights that the program is given. -/
abbrev xa : FVec Ideal S16384x2048 .bf16 := m ((c.tc : Thread nD τ).loc main_arg0)
@[inherit_doc xa] abbrev wa : FVec Ideal S2x2048x4096 .f32 := m ((c.tc : Thread nD τ).loc main_arg1)

/-- A grid point's rows. -/
theorem blk_x (t : Fin cfg0.N) (hl : t.val + 1 < 65) (r : Fin 1024) (d : Fin 2048) :
    (iblk m c 0 t : FVec Ideal S1024x2048 .bf16) (ix2 r d) = xa m c (ix2 (row (1024 * (t.val % 16) + r)) d) := by
  have hm : min t.val 63 = t.val := by omega
  blk_ext [iblk, V, idx t, hm, row]
/-- A grid point's weights. -/
theorem blk_w (t : Fin cfg0.N) (hl : t.val + 1 < 65) : plain (iblk m c 1 t) = wBlock (wf (wa m c)) (t.val / 16) := by
  have hm : min t.val 63 = t.val := by omega
  funext (y : S2048x1024.Idx)
  idx_vars y
  unfold plain wBlock wf
  blk_ext [iblk, V, idx t, hm]

/-- Every point but the last ends holding the weights of its columns. -/
theorem held (n : ℕ) (hn : n < 65) (hl : n + 1 < 65) : (outsAt0 m c n hn).2.1 = wBlock (wf (wa m c)) (n / 16) :=
  held_all (N := 65) (by decide) (fun n (hn : n < 65) => (outsAt0 m c n hn).2.1) (wBlock (wf (wa m c)))
    (fun n hn hz hl => (weights_AD m c ⟨n, hn⟩ (by have h65 : n % 65 = n := Nat.mod_eq_of_lt hn; show n % 65 = 0 ∨ n % 65 = 16 ∨ n % 65 = 32 ∨ n % 65 = 48; omega)).trans (blk_w m c ⟨n, hn⟩ hl))
    (fun n hn _ hz => by
      by_cases h0 : n = 0
      · subst h0; rfl
      · exact weights_BC m c ⟨n, hn⟩ (by have h65 : n < 65 := hn; show ¬(n % 65 = 0 ∨ n % 65 = 16 ∨ n % 65 = 32 ∨ n % 65 = 48); omega) (by have h65 : n < 65 := hn; show ¬n % 65 = 0; omega)) n hn hl

/-- An even point leaves its product in the first accumulator. -/
theorem left_even (t : Fin cfg0.N) (hl : t.val + 1 < 65) (h : t.val % 2 = 0) : Left (xa m c) (wf (wa m c)) t.val (outsAt0 m c t.val t.isLt).2.2.1 := fun r e =>
  (acc_even m c t h _).trans (by rw [held m c t.val t.isLt hl]; exact left_dot _ _ _ _ (blk_x m c t hl) r e)

/-- An odd point leaves it in the second. -/
theorem left_odd (t : Fin cfg0.N) (hl : t.val + 1 < 65) (h : t.val % 2 = 1) : Left (xa m c) (wf (wa m c)) t.val (outsAt0 m c t.val t.isLt).2.2.2 := fun r e =>
  (acc_odd m c t h _).trans (by rw [held m c t.val t.isLt hl]; exact left_dot _ _ _ _ (blk_x m c t hl) r e)

/-- The result of the arguments. -/
def G : S16384x4096.Idx → EReal := result (xa m c) (wa m c)

/-- Every point after the first leaves a block of the result. -/
theorem out_eq (t : Fin cfg0.N) (ht : 1 ≤ t.val) (y : S1024x1024.Idx) (j : S16384x4096.Idx) (h0 : (j 0 : ℕ) = 1024 * ((t.val - 1) % 16) + (y 0 : ℕ))
    (h1 : (j 1 : ℕ) = 1024 * ((t.val - 1) / 16) + (y 1 : ℕ)) : (outsAt0 m c t.val t.isLt).1 y = G m c j := by
  have hN : t.val < 65 := t.isLt
  have hp : t.val - 1 < cfg0.N := Nat.lt_of_le_of_lt (Nat.sub_le _ _) t.isLt
  unfold G result
  rw [h0, h1]
  have hy : y = ix2 (y 0) (y 1) := by
    funext a
    match a with
    | ⟨0, _⟩ => rfl
    | ⟨1, _⟩ => rfl
  by_cases h : t.val % 2 = 0
  · refine (out_CD m c t (by omega) h (by omega) y).trans ?_
    rw [hy]
    exact left_odd m c ⟨t.val - 1, hp⟩ (by show t.val - 1 + 1 < 65; omega) (by show (t.val - 1) % 2 = 1; omega) (y 0) (y 1)
  · refine (out_B m c t (by omega) (by omega) h (by omega) y).trans ?_
    rw [hy]
    exact left_even m c ⟨t.val - 1, hp⟩ (by show t.val - 1 + 1 < 65; omega) (by show (t.val - 1) % 2 = 0; omega) (y 0) (y 1)

/-- The result's blocks are written back only after the first point. -/
theorem later : ∀ t : Fin cfg0.N, (cfg0.win 4).flush t = true → 1 ≤ t.val := (by decide +kernel : ∀ t : Fin grid0.N, (cfg0.win 4).flush t = true → 1 ≤ t.val)

/-- The kernel's array after the run is the result of its arguments. -/
theorem final : (dats m 0 c).arrAt 4 (cfgs 0).N = (G m c : FVec Ideal S16384x4096 .bf16) := by
  refine (dats m 0 c).arrAt_eq_of_covers 4 (G m c) (by decide +kernel) fun t hf y => ?_
  blk_simp
  rw [after0_4]
  refine out_eq m c t (later t hf) y _ ?_ ?_
  all_goals blk_simp [idx t]
  all_goals omega

end Cert.RetVIdeal.Final

namespace Cert.RetVRefIdeal.Final

open Idealize.ShloMosaic Idealize.ShloMosaic.TcCoe Cert.RetVRefIdeal Cert.RetVRefIdeal.Gen Cert.RetVIdeal.Final Cert.Proj

/-- The projection as the reference writes it: the rows by their batches. -/
def projected (x : FVec Ideal S16384x2048 .bf16) (w : FVec Ideal S2x2048x4096 .f32) : FVec Ideal S2x8192x4096 .f32 :=
  Host.dotGeneral (F := Ideal) dot_S2x8192x2048_S2048x4096_S2x8192x4096_2_0_01_1_n_n none (shapeCast S2x8192x2048 (extf .f32 x bitsLt_bf16_f32) shapeCasts_S16384x2048_S2x8192x2048)
    (shapeCast S2048x4096 (extractStridedSlice S1x2048x4096 ![0, 0, 0] w slices_S2x2048x4096_S1x2048x4096_0_0_0) shapeCasts_S1x2048x4096_S2048x4096)

theorem projected_at (x : FVec Ideal S16384x2048 .bf16) (w : FVec Ideal S2x2048x4096 .f32) (b : Fin 2) (s : Fin 8192) (e : Fin 4096) :
    projected x w (ix3 b s e) = dot x (wf w) (8192 * b + s) e := by
  unfold projected dot wf row
  pointwise
  refine Finset.sum_congr rfl fun d _ => ?_
  exact congrArg₂ (fun (R : Fin 16384) (E : Fin 4096) => (x (ix2 R d) * w (ix3 0 d E) : EReal)) (Fin.ext (by show (b : ℕ) * 8192 + s = (8192 * (b : ℕ) + s) % 16384; omega))
    (Fin.ext (by show (e : ℕ) = (e : ℕ) % 4096; omega))

/-- The reference's result is the result of its arguments. -/
theorem final (x : FVec Ideal S16384x2048 .bf16) (w : FVec Ideal S2x2048x4096 .f32) :
    truncf .bf16 (shapeCast S16384x4096 (projected x w) shapeCasts_S2x8192x4096_S16384x4096) bitsLt_bf16_f32 = (result x w : FVec Ideal S16384x4096 .bf16) := by
  funext (j : S16384x4096.Idx)
  idx_vars j
  pointwise
  exact (projected_at x w _ _ _).trans (congrArg (fun R => dot x (wf w) R _) (Nat.div_add_mod _ _))

end Cert.RetVRefIdeal.Final

end
-- ==== Proof.RetGateBlock.lean ====
module

public import proofs.«01_k».proof.Proof.Proj
public import proofs.«01_k».proof.Proof.Gen.RetGateIdeal.Frame

@[expose] public section

set_option maxRecDepth 16384

noncomputable section

namespace Cert.RetGateIdeal.Block

open Idealize.ShloMosaic Idealize.ShloMosaic.TcCoe Cert.RetGateIdeal Cert.RetGateIdeal.Gen Cert.Proj

/-- The gate's activation. -/
def silu (a : EReal) : EReal := a * Ideal.logistic a

/-- A piece of a block through the activation. -/
theorem silu_eq (o p : ℕ) (ho : o + 32 ≤ 1024) (hp : p + 512 ≤ 1024) {A : FVec Ideal S32x512 .f32} {a : FVec Ideal S1024x1024 .f32}
    (hA : ∀ (r : Fin 32) (e : Fin 512), A (ix2 r e) = a (ix2 ⟨o + r, by omega⟩ ⟨p + e, by omega⟩)) (x : S32x512.Idx) (y : S1024x1024.Idx)
    (h0 : (y 0 : ℕ) = o + (x 0 : ℕ)) (h1 : (y 1 : ℕ) = p + (x 1 : ℕ)) : k0_pay2 (F := Ideal) A x = silu (a y) :=
  congrArg silu (piece_eq o p ho hp hA x y h0 h1)

variable (m : (ℓ : Loc nD τ sig) → Buf (Elt Ideal) ℓ) (c : Dev nD)

/-- An odd point's result is the activated product that the point before left in the first accumulator. -/
theorem out_B (t : Fin cfg0.N) (h0 : ¬(t.val % 65 = 0 ∨ t.val % 65 = 16 ∨ t.val % 65 = 32 ∨ t.val % 65 = 48)) (h1 : ¬t.val % 65 = 0) (h2 : ¬t.val % 2 = 0)
    (h3 : t.val % 2 = 1) (y : S1024x1024.Idx) :
    (outsAt0 m c t.val t.isLt).1 y = silu ((outsAt0 m c (t.val - 1) (Nat.lt_of_le_of_lt (Nat.sub_le _ _) t.isLt)).2.2.1 y) := by
  rw [outsAt0_B m c t h0 h1 h2 h3]
  frame_open
  simp (disch := decide) only [↓ View.readCov_skip, ↓ View.readCov_fill]
  frame_out
  simp only [read_unread_whole]
  canon_tiles x p
  all_goals first
    | refine silu_eq _ _ (by decide) (by decide) ?_ x y p0 p1
    | refine silu_eq _ 0 (by decide) (by decide) ?_ x y p0 (p1.trans (Nat.zero_add _).symm)
    | refine silu_eq 0 _ (by decide) (by decide) ?_ x y (p0.trans (Nat.zero_add _).symm) p1
    | refine silu_eq 0 0 (by decide) (by decide) ?_ x y (p0.trans (Nat.zero_add _).symm) (p1.trans (Nat.zero_add _).symm)
  all_goals intros; pointwise

/-- An even point's result after the first is the activated product that the point before left in the second accumulator. -/
theorem out_CD (t : Fin cfg0.N) (h1 : ¬t.val % 65 = 0) (h2 : t.val % 2 = 0) (h3 : ¬t.val % 2 = 1) (y : S1024x1024.Idx) :
    (outsAt0 m c t.val t.isLt).1 y = silu ((outsAt0 m c (t.val - 1) (Nat.lt_of_le_of_lt (Nat.sub_le _ _) t.isLt)).2.2.2 y) := by
  by_cases h0 : (t.val % 65 = 0 ∨ t.val % 65 = 16 ∨ t.val % 65 = 32 ∨ t.val % 65 = 48)
  · rw [outsAt0_D m c t h0 h1 h2 h3]
    frame_open
    simp (disch := decide) only [↓ View.readCov_skip, ↓ View.readCov_fill]
    frame_out
    simp only [read_unread_whole]
    canon_tiles x p
    all_goals first
      | refine silu_eq _ _ (by decide) (by decide) ?_ x y p0 p1
      | refine silu_eq _ 0 (by decide) (by decide) ?_ x y p0 (p1.trans (Nat.zero_add _).symm)
      | refine silu_eq 0 _ (by decide) (by decide) ?_ x y (p0.trans (Nat.zero_add _).symm) p1
      | refine silu_eq 0 0 (by decide) (by decide) ?_ x y (p0.trans (Nat.zero_add _).symm) (p1.trans (Nat.zero_add _).symm)
    all_goals intros; pointwise
  · rw [outsAt0_C m c t h0 h1 h2 h3]
    frame_open
    simp (disch := decide) only [↓ View.readCov_skip, ↓ View.readCov_fill]
    frame_out
    simp only [read_unread_whole]
    canon_tiles x p
    all_goals first
      | refine silu_eq _ _ (by decide) (by decide) ?_ x y p0 p1
      | refine silu_eq _ 0 (by decide) (by decide) ?_ x y p0 (p1.trans (Nat.zero_add _).symm)
      | refine silu_eq 0 _ (by decide) (by decide) ?_ x y (p0.trans (Nat.zero_add _).symm) p1
      | refine silu_eq 0 0 (by decide) (by decide) ?_ x y (p0.trans (Nat.zero_add _).symm) (p1.trans (Nat.zero_add _).symm)
    all_goals intros; pointwise

/-- The body keeps the weights of its block. -/
theorem kept_eq (B : FVec Ideal S1x2048x1024 .f32) : k0_pay141 (F := Ideal) B = plain B := kept B

/-- A point with new columns keeps the weights of its block. -/
theorem weights_AD (t : Fin cfg0.N) (h0 : (t.val % 65 = 0 ∨ t.val % 65 = 16 ∨ t.val % 65 = 32 ∨ t.val % 65 = 48)) :
    (outsAt0 m c t.val t.isLt).2.1 = plain (iblk m c 1 t) := by
  have hN : t.val < 65 := t.isLt
  funext y
  by_cases h1 : t.val % 65 = 0
  · rw [outsAt0_A m c t h0 h1 (by omega) (by omega)]
    frame_open
    frame_out
    exact congrFun (kept _) y
  · rw [outsAt0_D m c t h0 h1 (by omega) (by omega)]
    frame_open
    frame_out
    exact congrFun (kept _) y

/-- The other points hold what they find. -/
theorem weights_BC (t : Fin cfg0.N) (h0 : ¬(t.val % 65 = 0 ∨ t.val % 65 = 16 ∨ t.val % 65 = 32 ∨ t.val % 65 = 48)) (h1 : ¬t.val % 65 = 0) :
    (outsAt0 m c t.val t.isLt).2.1 = (outsAt0 m c (t.val - 1) (Nat.lt_of_le_of_lt (Nat.sub_le _ _) t.isLt)).2.1 := by
  by_cases h : t.val % 2 = 0
  · rw [outsAt0_C m c t h0 h1 h (by omega)]
    frame_open
    rfl
  · rw [outsAt0_B m c t h0 h1 h (by omega)]
    frame_open
    rfl

/-- An even point's first accumulator is the product of its rows with the weights it holds. -/
theorem acc_even (t : Fin cfg0.N) (h : t.val % 2 = 0) (y : S1024x1024.Idx) :
    (outsAt0 m c t.val t.isLt).2.2.1 y = dotBlock (iblk m c 0 t) (outsAt0 m c t.val t.isLt).2.1 y := by
  by_cases h0 : (t.val % 65 = 0 ∨ t.val % 65 = 16 ∨ t.val % 65 = 32 ∨ t.val % 65 = 48)
  · by_cases h1 : t.val % 65 = 0
    · rw [weights_AD m c t h0, outsAt0_A m c t h0 h1 h (by omega)]
      frame_open
      simp (disch := decide) only [↓ View.readCov_skip, ↓ View.readCov_fill]
      frame_out
      canon_tiles x p
      all_goals first
        | refine dot_eq _ (by decide) ?_ x y p0 p1
        | refine dot_eq 0 (by decide) ?_ x y p0 (p1.trans (Nat.zero_add _).symm)
      all_goals intros; rw [kept_eq]; pointwise
    · rw [weights_AD m c t h0, outsAt0_D m c t h0 h1 h (by omega)]
      frame_open
      simp (disch := decide) only [↓ View.readCov_skip, ↓ View.readCov_fill]
      frame_out
      canon_tiles x p
      all_goals first
        | refine dot_eq _ (by decide) ?_ x y p0 p1
        | refine dot_eq 0 (by decide) ?_ x y p0 (p1.trans (Nat.zero_add _).symm)
      all_goals intros; rw [kept_eq]; pointwise
  · rw [weights_BC m c t h0 (by omega), outsAt0_C m c t h0 (by omega) h (by omega)]
    frame_open
    simp (disch := decide) only [↓ View.readCov_skip, ↓ View.readCov_fill]
    frame_out
    simp only [read_unread_whole]
    canon_tiles x p
    all_goals first
      | refine dot_eq _ (by decide) ?_ x y p0 p1
      | refine dot_eq 0 (by decide) ?_ x y p0 (p1.trans (Nat.zero_add _).symm)
    all_goals intros; pointwise

/-- So is an odd point's second. -/
theorem acc_odd (t : Fin cfg0.N) (h : t.val % 2 = 1) (y : S1024x1024.Idx) :
    (outsAt0 m c t.val t.isLt).2.2.2 y = dotBlock (iblk m c 0 t) (outsAt0 m c t.val t.isLt).2.1 y := by
  have hN : t.val < 65 := t.isLt
  rw [weights_BC m c t (by omega) (by omega), outsAt0_B m c t (by omega) (by omega) (by omega) h]
  frame_open
  simp (disch := decide) only [↓ View.readCov_skip, ↓ View.readCov_fill]
  frame_out
  simp only [read_unread_whole]
  canon_tiles x p
  all_goals first
    | refine dot_eq _ (by decide) ?_ x y p0 p1
    | refine dot_eq 0 (by decide) ?_ x y p0 (p1.trans (Nat.zero_add _).symm)
  all_goals intros; pointwise

end Cert.RetGateIdeal.Block

end
-- ==== Proof.RetGateValue.lean ====
module

public import proofs.«01_k».proof.Proof.RetGateBlock
public import proofs.«01_k».proof.Proof.RetVValue
public import proofs.«01_k».proof.Proof.Gen.RetGateRefIdeal.Run

@[expose] public section

set_option maxRecDepth 16384

noncomputable section

namespace Cert.RetGateIdeal.Final

open Idealize.ShloMosaic Idealize.ShloMosaic.TcCoe Cert.RetGateIdeal Cert.RetGateIdeal.Gen Cert.RetGateIdeal.Block Cert.Proj
open Cert.RetVIdeal.Final (wf)

/-- The product of the rows with the first layer's weights, through the activation. -/
def result (x : FVec Ideal S16384x2048 .bf16) (w : FVec Ideal S2x2048x4096 .f32) (j : S16384x4096.Idx) : EReal := silu (dot x (wf w) (j 0) (j 1))

variable (m : (ℓ : Loc nD τ sig) → Buf (Elt Ideal) ℓ) (c : Dev nD)

/-- The block of every window at every grid point. -/
theorem idx : ∀ t : Fin cfg0.N, win0_0.index t = ![min t.val 63 % 16, 0] ∧ win0_1.index t = ![0, 0, min t.val 63 / 16]
    ∧ win0_4.index t = ![(t.val - 1) % 16, (t.val - 1) / 16] :=
  (by decide +kernel : ∀ t : Fin grid0.N, _)

/-- The rows and the weights that the program is given. -/
abbrev xa : FVec Ideal S16384x2048 .bf16 := m ((c.tc : Thread nD τ).loc main_arg0)
@[inherit_doc xa] abbrev wa : FVec Ideal S2x2048x4096 .f32 := m ((c.tc : Thread nD τ).loc main_arg1)

/-- A grid point's rows. -/
theorem blk_x (t : Fin cfg0.N) (hl : t.val + 1 < 65) (r : Fin 1024) (d : Fin 2048) :
    (iblk m c 0 t : FVec Ideal S1024x2048 .bf16) (ix2 r d) = xa m c (ix2 (row (1024 * (t.val % 16) + r)) d) := by
  have hm : min t.val 63 = t.val := by omega
  blk_ext [iblk, V, idx t, hm, row]
/-- A grid point's weights. -/
theorem blk_w (t : Fin cfg0.N) (hl : t.val + 1 < 65) : plain (iblk m c 1 t) = wBlock (wf (wa m c)) (t.val / 16) := by
  have hm : min t.val 63 = t.val := by omega
  funext (y : S2048x1024.Idx)
  idx_vars y
  unfold plain wBlock wf
  blk_ext [iblk, V, idx t, hm]

/-- Every point but the last ends holding the weights of its columns. -/
theorem held (n : ℕ) (hn : n < 65) (hl : n + 1 < 65) : (outsAt0 m c n hn).2.1 = wBlock (wf (wa m c)) (n / 16) :=
  held_all (N := 65) (by decide) (fun n (hn : n < 65) => (outsAt0 m c n hn).2.1) (wBlock (wf (wa m c)))
    (fun n hn hz hl => (weights_AD m c ⟨n, hn⟩ (by have h65 : n % 65 = n := Nat.mod_eq_of_lt hn; show n % 65 = 0 ∨ n % 65 = 16 ∨ n % 65 = 32 ∨ n % 65 = 48; omega)).trans (blk_w m c ⟨n, hn⟩ hl))
    (fun n hn _ hz => by
      by_cases h0 : n = 0
      · subst h0; rfl
      · exact weights_BC m c ⟨n, hn⟩ (by have h65 : n < 65 := hn; show ¬(n % 65 = 0 ∨ n % 65 = 16 ∨ n % 65 = 32 ∨ n % 65 = 48); omega) (by have h65 : n < 65 := hn; show ¬n % 65 = 0; omega)) n hn hl

/-- An even point leaves its product in the first accumulator. -/
theorem left_even (t : Fin cfg0.N) (hl : t.val + 1 < 65) (h : t.val % 2 = 0) : Left (xa m c) (wf (wa m c)) t.val (outsAt0 m c t.val t.isLt).2.2.1 := fun r e =>
  (acc_even m c t h _).trans (by rw [held m c t.val t.isLt hl]; exact left_dot _ _ _ _ (blk_x m c t hl) r e)

/-- An odd point leaves it in the second. -/
theorem left_odd (t : Fin cfg0.N) (hl : t.val + 1 < 65) (h : t.val % 2 = 1) : Left (xa m c) (wf (wa m c)) t.val (outsAt0 m c t.val t.isLt).2.2.2 := fun r e =>
  (acc_odd m c t h _).trans (by rw [held m c t.val t.isLt hl]; exact left_dot _ _ _ _ (blk_x m c t hl) r e)

/-- The result of the arguments. -/
def G : S16384x4096.Idx → EReal := result (xa m c) (wa m c)

/-- Every point after the first leaves a block of the result. -/
theorem out_eq (t : Fin cfg0.N) (ht : 1 ≤ t.val) (y : S1024x1024.Idx) (j : S16384x4096.Idx) (h0 : (j 0 : ℕ) = 1024 * ((t.val - 1) % 16) + (y 0 : ℕ))
    (h1 : (j 1 : ℕ) = 1024 * ((t.val - 1) / 16) + (y 1 : ℕ)) : (outsAt0 m c t.val t.isLt).1 y = G m c j := by
  have hN : t.val < 65 := t.isLt
  have hp : t.val - 1 < cfg0.N := Nat.lt_of_le_of_lt (Nat.sub_le _ _) t.isLt
  unfold G result
  rw [h0, h1]
  have hy : y = ix2 (y 0) (y 1) := by
    funext a
    match a with
    | ⟨0, _⟩ => rfl
    | ⟨1, _⟩ => rfl
  by_cases h : t.val % 2 = 0
  · refine (out_CD m c t (by omega) h (by omega) y).trans ?_
    rw [hy]
    exact congrArg silu (left_odd m c ⟨t.val - 1, hp⟩ (by show t.val - 1 + 1 < 65; omega) (by show (t.val - 1) % 2 = 1; omega) (y 0) (y 1))
  · refine (out_B m c t (by omega) (by omega) h (by omega) y).trans ?_
    rw [hy]
    exact congrArg silu (left_even m c ⟨t.val - 1, hp⟩ (by show t.val - 1 + 1 < 65; omega) (by show (t.val - 1) % 2 = 0; omega) (y 0) (y 1))

/-- The result's blocks are written back only after the first point. -/
theorem later : ∀ t : Fin cfg0.N, (cfg0.win 4).flush t = true → 1 ≤ t.val := (by decide +kernel : ∀ t : Fin grid0.N, (cfg0.win 4).flush t = true → 1 ≤ t.val)

/-- The kernel's array after the run is the result of its arguments. -/
theorem final : (dats m 0 c).arrAt 4 (cfgs 0).N = (G m c : FVec Ideal S16384x4096 .bf16) := by
  refine (dats m 0 c).arrAt_eq_of_covers 4 (G m c) (by decide +kernel) fun t hf y => ?_
  blk_simp
  rw [after0_4]
  refine out_eq m c t (later t hf) y _ ?_ ?_
  all_goals blk_simp [idx t]
  all_goals omega

end Cert.RetGateIdeal.Final

namespace Cert.RetGateRefIdeal.Final

open Idealize.ShloMosaic Idealize.ShloMosaic.TcCoe Cert.RetGateRefIdeal Cert.RetGateRefIdeal.Gen Cert.RetGateIdeal.Final Cert.RetGateIdeal.Block Cert.Proj
open Cert.RetVIdeal.Final (wf)
open Cert.RetVRefIdeal.Final (projected projected_at)

/-- The activation as the reference writes it. -/
def activated (p : FVec Ideal S2x8192x4096 .f32) : FVec Ideal S2x8192x4096 .f32 :=
  mulf p (Host.divf (broadcastInDim S2x8192x4096 ![] bcast_S_S2x8192x4096 (constant S_ .f32 0x3F800000#32))
    (addf (broadcastInDim S2x8192x4096 ![] bcast_S_S2x8192x4096 (constant S_ .f32 0x3F800000#32)) (Host.exp (Host.negf p))))

theorem activated_at (p : FVec Ideal S2x8192x4096 .f32) (b : Fin 2) (s : Fin 8192) (e : Fin 4096) : activated p (ix3 b s e) = silu (p (ix3 b s e)) := by
  unfold activated silu Ideal.logistic
  pointwise [Ideal.ofBits_one_f32]

/-- The reference's result is the result of its arguments. -/
theorem final (x : FVec Ideal S16384x2048 .bf16) (w : FVec Ideal S2x2048x4096 .f32) :
    truncf .bf16 (shapeCast S16384x4096 (activated (projected x w)) shapeCasts_S2x8192x4096_S16384x4096) bitsLt_bf16_f32
      = (result x w : FVec Ideal S16384x4096 .bf16) := by
  funext (j : S16384x4096.Idx)
  idx_vars j
  pointwise
  exact (activated_at _ _ _ _).trans (congrArg silu ((projected_at x w _ _ _).trans (congrArg (fun R => dot x (wf w) R _) (Nat.div_add_mod _ _))))

end Cert.RetGateRefIdeal.Final

end
-- ==== Proof.Rope.lean ====
module

public import proofs.«01_k».proof.Proof.Proj
public import proofs.«01_k».proof.Proof.Gen.RetQIdeal.Skeleton
public import proofs.«01_k».proof.Proof.Gen.RetKIdeal.Skeleton

@[expose] public section

set_option maxRecDepth 16384

noncomputable section

namespace Cert.Rope

open Idealize.ShloMosaic Idealize.ShloMosaic.TcCoe Cert.RetQIdeal Cert.RetQIdeal.Gen

/-- Column `n` of a row `D` of heads of 256 columns, each turned: its first half against its second by the angles whose cosines and sines are `c` and `s`. -/
def turned (D c s : ℕ → EReal) (n : ℕ) : EReal :=
  if n % 256 < 128 then D n * c (n % 128) - D (n + 128) * s (n % 128) else D (n - 128) * s (n % 128) + D n * c (n % 128)

theorem turned_first (D c s : ℕ → EReal) (n : ℕ) (h : n % 256 < 128) : turned D c s n = D n * c (n % 128) - D (n + 128) * s (n % 128) := if_pos h

theorem turned_second (D c s : ℕ → EReal) (n : ℕ) (h : ¬n % 256 < 128) : turned D c s n = D (n - 128) * s (n % 128) + D n * c (n % 128) := if_neg h

/-- Turning depends on the entries it reads. -/
theorem turned_congr {D D' c c' s s' : ℕ → EReal} (k n : ℕ) (hn : n < 1024) (hD : ∀ e, e < 1024 → D e = D' (1024 * k + e)) (hc : ∀ e, e < 128 → c e = c' e)
    (hs : ∀ e, e < 128 → s e = s' e) : turned D c s n = turned D' c' s' (1024 * k + n) := by
  have e1 : (1024 * k + n) % 128 = n % 128 := by omega
  by_cases h : n % 256 < 128
  · rw [turned_first _ _ _ _ h, turned_first _ _ _ _ (by omega), e1, hD n hn, hD (n + 128) (by omega), hc _ (by omega), hs _ (by omega)]
    rfl
  · rw [turned_second _ _ _ _ h, turned_second _ _ _ _ (by omega), e1, hD n hn, hD (n - 128) (by omega), hc _ (by omega), hs _ (by omega),
      show 1024 * k + (n - 128) = 1024 * k + n - 128 by omega]

/-- A block of products, its rows turned by the angles of its rows. -/
def turnedBlock (a : FVec Ideal S1024x1024 .f32) (ct st : FVec Ideal S1024x128 .f32) (y : S1024x1024.Idx) : EReal :=
  turned (fun n => a (ix2 (y 0) ⟨n % 1024, Nat.mod_lt _ (by decide)⟩)) (fun e => ct (ix2 (y 0) ⟨e % 128, Nat.mod_lt _ (by decide)⟩))
    (fun e => st (ix2 (y 0) ⟨e % 128, Nat.mod_lt _ (by decide)⟩)) (y 1)

/-- A piece of the first halves of a block's heads, from row `o` and column `p` on. -/
theorem first_half (o p : ℕ) (ho : o + 64 ≤ 1024) (hp : p + 256 ≤ 1024) (hp0 : p % 256 = 0) {C S T1 T2 : FVec Ideal S64x128 .f32}
    {ct st : FVec Ideal S1024x128 .f32} {a : FVec Ideal S1024x1024 .f32} (hC : ∀ (r : Fin 64) (e : Fin 128), C (ix2 r e) = ct (ix2 ⟨o + r, by omega⟩ e))
    (hS : ∀ (r : Fin 64) (e : Fin 128), S (ix2 r e) = st (ix2 ⟨o + r, by omega⟩ e))
    (h1 : ∀ (r : Fin 64) (e : Fin 128), T1 (ix2 r e) = a (ix2 ⟨o + r, by omega⟩ ⟨p + e, by omega⟩))
    (h2 : ∀ (r : Fin 64) (e : Fin 128), T2 (ix2 r e) = a (ix2 ⟨o + r, by omega⟩ ⟨p + 128 + e, by omega⟩)) (x : S64x128.Idx) (y : S1024x1024.Idx)
    (h0 : (y 0 : ℕ) = o + (x 0 : ℕ)) (h1' : (y 1 : ℕ) = p + (x 1 : ℕ)) : (T1 x * C x - T2 x * S x : EReal) = turnedBlock a ct st y := by
  have hx1 : (x 1 : ℕ) < 128 := (x 1).isLt
  have hx : x = ix2 (x 0) (x 1) := by
    funext a
    match a with
    | ⟨0, _⟩ => rfl
    | ⟨1, _⟩ => rfl
  have e0 : (⟨o + (x 0 : ℕ), by have hx0 : (x 0 : ℕ) < 64 := (x 0).isLt; omega⟩ : Fin 1024) = (y 0 : Fin 1024) := Fin.ext h0.symm
  unfold turnedBlock
  rw [turned_first _ _ _ _ (by omega), (congrArg T1 hx).trans ((h1 (x 0) (x 1)).trans (congrArg (fun r : Fin 1024 => a (ix2 r _)) e0)),
    (congrArg T2 hx).trans ((h2 (x 0) (x 1)).trans (congrArg (fun r : Fin 1024 => a (ix2 r _)) e0)),
    (congrArg C hx).trans ((hC (x 0) (x 1)).trans (congrArg (fun r : Fin 1024 => ct (ix2 r _)) e0)),
    (congrArg S hx).trans ((hS (x 0) (x 1)).trans (congrArg (fun r : Fin 1024 => st (ix2 r _)) e0))]
  refine congrArg₂ (fun u v : EReal => u - v) (congrArg₂ (fun (E : Fin 1024) (e : Fin 128) => (a (ix2 (y 0) E) * ct (ix2 (y 0) e) : EReal)) (Fin.ext ?_) (Fin.ext ?_))
    (congrArg₂ (fun (E : Fin 1024) (e : Fin 128) => (a (ix2 (y 0) E) * st (ix2 (y 0) e) : EReal)) (Fin.ext ?_) (Fin.ext ?_))
  · show p + (x 1 : ℕ) = (y 1 : ℕ) % 1024
    omega
  · show (x 1 : ℕ) = (y 1 : ℕ) % 128 % 128
    omega
  · show p + 128 + (x 1 : ℕ) = ((y 1 : ℕ) + 128) % 1024
    omega
  · show (x 1 : ℕ) = (y 1 : ℕ) % 128 % 128
    omega

/-- A piece of the second halves, from row `o` and column `p` on. -/
theorem second_half (o p : ℕ) (ho : o + 64 ≤ 1024) (hp : p + 128 ≤ 1024) (hp0 : p % 256 = 128) {C S T1 T2 : FVec Ideal S64x128 .f32}
    {ct st : FVec Ideal S1024x128 .f32} {a : FVec Ideal S1024x1024 .f32} (hC : ∀ (r : Fin 64) (e : Fin 128), C (ix2 r e) = ct (ix2 ⟨o + r, by omega⟩ e))
    (hS : ∀ (r : Fin 64) (e : Fin 128), S (ix2 r e) = st (ix2 ⟨o + r, by omega⟩ e))
    (h1 : ∀ (r : Fin 64) (e : Fin 128), T1 (ix2 r e) = a (ix2 ⟨o + r, by omega⟩ ⟨p - 128 + e, by omega⟩))
    (h2 : ∀ (r : Fin 64) (e : Fin 128), T2 (ix2 r e) = a (ix2 ⟨o + r, by omega⟩ ⟨p + e, by omega⟩)) (x : S64x128.Idx) (y : S1024x1024.Idx)
    (h0 : (y 0 : ℕ) = o + (x 0 : ℕ)) (h1' : (y 1 : ℕ) = p + (x 1 : ℕ)) : (T1 x * S x + T2 x * C x : EReal) = turnedBlock a ct st y := by
  have hx1 : (x 1 : ℕ) < 128 := (x 1).isLt
  have hx : x = ix2 (x 0) (x 1) := by
    funext a
    match a with
    | ⟨0, _⟩ => rfl
    | ⟨1, _⟩ => rfl
  have e0 : (⟨o + (x 0 : ℕ), by have hx0 : (x 0 : ℕ) < 64 := (x 0).isLt; omega⟩ : Fin 1024) = (y 0 : Fin 1024) := Fin.ext h0.symm
  unfold turnedBlock
  rw [turned_second _ _ _ _ (by omega), (congrArg T1 hx).trans ((h1 (x 0) (x 1)).trans (congrArg (fun r : Fin 1024 => a (ix2 r _)) e0)),
    (congrArg T2 hx).trans ((h2 (x 0) (x 1)).trans (congrArg (fun r : Fin 1024 => a (ix2 r _)) e0)),
    (congrArg C hx).trans ((hC (x 0) (x 1)).trans (congrArg (fun r : Fin 1024 => ct (ix2 r _)) e0)),
    (congrArg S hx).trans ((hS (x 0) (x 1)).trans (congrArg (fun r : Fin 1024 => st (ix2 r _)) e0))]
  refine congrArg₂ (fun u v : EReal => u + v) (congrArg₂ (fun (E : Fin 1024) (e : Fin 128) => (a (ix2 (y 0) E) * st (ix2 (y 0) e) : EReal)) (Fin.ext ?_) (Fin.ext ?_))
    (congrArg₂ (fun (E : Fin 1024) (e : Fin 128) => (a (ix2 (y 0) E) * ct (ix2 (y 0) e) : EReal)) (Fin.ext ?_) (Fin.ext ?_))
  · show p - 128 + (x 1 : ℕ) = ((y 1 : ℕ) - 128) % 1024
    omega
  · show (x 1 : ℕ) = (y 1 : ℕ) % 128 % 128
    omega
  · show p + (x 1 : ℕ) = (y 1 : ℕ) % 1024
    omega
  · show (x 1 : ℕ) = (y 1 : ℕ) % 128 % 128
    omega

/-- Casting a piece to its own shape changes nothing. -/
theorem same (A : FVec Ideal S64x128 .f32) (r : Fin 64) (e : Fin 128) : k0_pay181 (F := Ideal) A (ix2 r e) = A (ix2 r e) := by
  pointwise [k0_pay181]

/-- The queries' pieces. -/
theorem query_first (o p : ℕ) (ho : o + 64 ≤ 1024) (hp : p + 256 ≤ 1024) (hp0 : p % 256 = 0) {C S T1 T2 : FVec Ideal S64x128 .f32}
    {ct st : FVec Ideal S1024x128 .f32} {a : FVec Ideal S1024x1024 .f32} (hC : ∀ (r : Fin 64) (e : Fin 128), C (ix2 r e) = ct (ix2 ⟨o + r, by omega⟩ e))
    (hS : ∀ (r : Fin 64) (e : Fin 128), S (ix2 r e) = st (ix2 ⟨o + r, by omega⟩ e))
    (h1 : ∀ (r : Fin 64) (e : Fin 128), T1 (ix2 r e) = a (ix2 ⟨o + r, by omega⟩ ⟨p + e, by omega⟩))
    (h2 : ∀ (r : Fin 64) (e : Fin 128), T2 (ix2 r e) = a (ix2 ⟨o + r, by omega⟩ ⟨p + 128 + e, by omega⟩)) (x : S64x128.Idx) (y : S1024x1024.Idx)
    (h0 : (y 0 : ℕ) = o + (x 0 : ℕ)) (h1' : (y 1 : ℕ) = p + (x 1 : ℕ)) : k0_pay3 (F := Ideal) (k0_pay181 C) (k0_pay181 S) T1 T2 x = turnedBlock a ct st y :=
  first_half o p ho hp hp0 (fun r e => (same C r e).trans (hC r e)) (fun r e => (same S r e).trans (hS r e)) h1 h2 x y h0 h1'

theorem query_second (o p : ℕ) (ho : o + 64 ≤ 1024) (hp : p + 128 ≤ 1024) (hp0 : p % 256 = 128) {C S T1 T2 : FVec Ideal S64x128 .f32}
    {ct st : FVec Ideal S1024x128 .f32} {a : FVec Ideal S1024x1024 .f32} (hC : ∀ (r : Fin 64) (e : Fin 128), C (ix2 r e) = ct (ix2 ⟨o + r, by omega⟩ e))
    (hS : ∀ (r : Fin 64) (e : Fin 128), S (ix2 r e) = st (ix2 ⟨o + r, by omega⟩ e))
    (h1 : ∀ (r : Fin 64) (e : Fin 128), T1 (ix2 r e) = a (ix2 ⟨o + r, by omega⟩ ⟨p - 128 + e, by omega⟩))
    (h2 : ∀ (r : Fin 64) (e : Fin 128), T2 (ix2 r e) = a (ix2 ⟨o + r, by omega⟩ ⟨p + e, by omega⟩)) (x : S64x128.Idx) (y : S1024x1024.Idx)
    (h0 : (y 0 : ℕ) = o + (x 0 : ℕ)) (h1' : (y 1 : ℕ) = p + (x 1 : ℕ)) : k0_pay4 (F := Ideal) (k0_pay181 C) (k0_pay181 S) T1 T2 x = turnedBlock a ct st y :=
  second_half o p ho hp hp0 (fun r e => (same C r e).trans (hC r e)) (fun r e => (same S r e).trans (hS r e)) h1 h2 x y h0 h1'

/-- The scale of the keys. -/
def sixteenth : EReal := Ideal.ofBits .f32 0x3D800000#32

/-- The keys' pieces. -/
theorem key_first (o p : ℕ) (ho : o + 64 ≤ 1024) (hp : p + 256 ≤ 1024) (hp0 : p % 256 = 0) {C S T1 T2 : FVec Ideal S64x128 .f32}
    {ct st : FVec Ideal S1024x128 .f32} {a : FVec Ideal S1024x1024 .f32} (hC : ∀ (r : Fin 64) (e : Fin 128), C (ix2 r e) = ct (ix2 ⟨o + r, by omega⟩ e))
    (hS : ∀ (r : Fin 64) (e : Fin 128), S (ix2 r e) = st (ix2 ⟨o + r, by omega⟩ e))
    (h1 : ∀ (r : Fin 64) (e : Fin 128), T1 (ix2 r e) = a (ix2 ⟨o + r, by omega⟩ ⟨p + e, by omega⟩))
    (h2 : ∀ (r : Fin 64) (e : Fin 128), T2 (ix2 r e) = a (ix2 ⟨o + r, by omega⟩ ⟨p + 128 + e, by omega⟩)) (x : S64x128.Idx) (y : S1024x1024.Idx)
    (h0 : (y 0 : ℕ) = o + (x 0 : ℕ)) (h1' : (y 1 : ℕ) = p + (x 1 : ℕ)) : RetKIdeal.Gen.k0_pay1 (F := Ideal) (k0_pay181 C) (k0_pay181 S) T1 T2 x = turnedBlock a ct st y * sixteenth :=
  congrArg (fun v : EReal => v * sixteenth) (first_half o p ho hp hp0 (fun r e => (same C r e).trans (hC r e)) (fun r e => (same S r e).trans (hS r e)) h1 h2 x y h0 h1')

theorem key_second (o p : ℕ) (ho : o + 64 ≤ 1024) (hp : p + 128 ≤ 1024) (hp0 : p % 256 = 128) {C S T1 T2 : FVec Ideal S64x128 .f32}
    {ct st : FVec Ideal S1024x128 .f32} {a : FVec Ideal S1024x1024 .f32} (hC : ∀ (r : Fin 64) (e : Fin 128), C (ix2 r e) = ct (ix2 ⟨o + r, by omega⟩ e))
    (hS : ∀ (r : Fin 64) (e : Fin 128), S (ix2 r e) = st (ix2 ⟨o + r, by omega⟩ e))
    (h1 : ∀ (r : Fin 64) (e : Fin 128), T1 (ix2 r e) = a (ix2 ⟨o + r, by omega⟩ ⟨p - 128 + e, by omega⟩))
    (h2 : ∀ (r : Fin 64) (e : Fin 128), T2 (ix2 r e) = a (ix2 ⟨o + r, by omega⟩ ⟨p + e, by omega⟩)) (x : S64x128.Idx) (y : S1024x1024.Idx)
    (h0 : (y 0 : ℕ) = o + (x 0 : ℕ)) (h1' : (y 1 : ℕ) = p + (x 1 : ℕ)) : RetKIdeal.Gen.k0_pay2 (F := Ideal) (k0_pay181 C) (k0_pay181 S) T1 T2 x = turnedBlock a ct st y * sixteenth :=
  congrArg (fun v : EReal => v * sixteenth) (second_half o p ho hp hp0 (fun r e => (same C r e).trans (hC r e)) (fun r e => (same S r e).trans (hS r e)) h1 h2 x y h0 h1')

end Cert.Rope

end
-- ==== Proof.RetQBlock.lean ====
module

public import proofs.«01_k».proof.Proof.Rope
public import proofs.«01_k».proof.Proof.Gen.RetQIdeal.Frame

@[expose] public section

set_option maxRecDepth 16384
set_option maxHeartbeats 3000000

noncomputable section

namespace Cert.RetQIdeal.Block

open Idealize.ShloMosaic Idealize.ShloMosaic.TcCoe Cert.RetQIdeal Cert.RetQIdeal.Gen Cert.Proj Cert.Rope

variable (m : (ℓ : Loc nD τ sig) → Buf (Elt Ideal) ℓ) (c : Dev nD)

/-- An odd point's result is the product that the point before left in the first accumulator, turned. -/
theorem out_B (t : Fin cfg0.N) (h0 : ¬(t.val % 33 = 0 ∨ t.val % 33 = 16)) (h1 : ¬t.val % 33 = 0) (h2 : ¬t.val % 2 = 0) (h3 : t.val % 2 = 1) (y : S1024x1024.Idx) :
    (outsAt0 m c t.val t.isLt).1 y
      = turnedBlock (outsAt0 m c (t.val - 1) (Nat.lt_of_le_of_lt (Nat.sub_le _ _) t.isLt)).2.2.1 (iblk m c 2 t) (iblk m c 3 t) y := by
  rw [outsAt0_B m c t h0 h1 h2 h3]
  frame_open
  simp (disch := decide) only [↓ View.readCov_skip, ↓ View.readCov_fill]
  frame_out
  simp only [read_unread_whole]
  canon_tiles x p
  all_goals first
    | refine query_first _ _ (by decide) (by decide) (by decide) ?_ ?_ ?_ ?_ x y p0 p1
    | refine query_second _ _ (by decide) (by decide) (by decide) ?_ ?_ ?_ ?_ x y p0 p1
    | refine query_first _ 0 (by decide) (by decide) (by decide) ?_ ?_ ?_ ?_ x y p0 (p1.trans (Nat.zero_add _).symm)
    | refine query_first 0 _ (by decide) (by decide) (by decide) ?_ ?_ ?_ ?_ x y (p0.trans (Nat.zero_add _).symm) p1
    | refine query_second 0 _ (by decide) (by decide) (by decide) ?_ ?_ ?_ ?_ x y (p0.trans (Nat.zero_add _).symm) p1
    | refine query_first 0 0 (by decide) (by decide) (by decide) ?_ ?_ ?_ ?_ x y (p0.trans (Nat.zero_add _).symm) (p1.trans (Nat.zero_add _).symm)
  all_goals intros; pointwise

/-- An even point's result after the first is the product that the point before left in the second accumulator, turned. -/
theorem out_CD (t : Fin cfg0.N) (h1 : ¬t.val % 33 = 0) (h2 : t.val % 2 = 0) (h3 : ¬t.val % 2 = 1) (y : S1024x1024.Idx) :
    (outsAt0 m c t.val t.isLt).1 y
      = turnedBlock (outsAt0 m c (t.val - 1) (Nat.lt_of_le_of_lt (Nat.sub_le _ _) t.isLt)).2.2.2 (iblk m c 2 t) (iblk m c 3 t) y := by
  by_cases h0 : (t.val % 33 = 0 ∨ t.val % 33 = 16)
  · rw [outsAt0_D m c t h0 h1 h2 h3]
    frame_open
    simp (disch := decide) only [↓ View.readCov_skip, ↓ View.readCov_fill]
    frame_out
    simp only [read_unread_whole]
    canon_tiles x p
    all_goals first
      | refine query_first _ _ (by decide) (by decide) (by decide) ?_ ?_ ?_ ?_ x y p0 p1
      | refine query_second _ _ (by decide) (by decide) (by decide) ?_ ?_ ?_ ?_ x y p0 p1
      | refine query_first _ 0 (by decide) (by decide) (by decide) ?_ ?_ ?_ ?_ x y p0 (p1.trans (Nat.zero_add _).symm)
      | refine query_first 0 _ (by decide) (by decide) (by decide) ?_ ?_ ?_ ?_ x y (p0.trans (Nat.zero_add _).symm) p1
      | refine query_second 0 _ (by decide) (by decide) (by decide) ?_ ?_ ?_ ?_ x y (p0.trans (Nat.zero_add _).symm) p1
      | refine query_first 0 0 (by decide) (by decide) (by decide) ?_ ?_ ?_ ?_ x y (p0.trans (Nat.zero_add _).symm) (p1.trans (Nat.zero_add _).symm)
    all_goals intros; pointwise
  · rw [outsAt0_C m c t h0 h1 h2 h3]
    frame_open
    simp (disch := decide) only [↓ View.readCov_skip, ↓ View.readCov_fill]
    frame_out
    simp only [read_unread_whole]
    canon_tiles x p
    all_goals first
      | refine query_first _ _ (by decide) (by decide) (by decide) ?_ ?_ ?_ ?_ x y p0 p1
      | refine query_second _ _ (by decide) (by decide) (by decide) ?_ ?_ ?_ ?_ x y p0 p1
      | refine query_first _ 0 (by decide) (by decide) (by decide) ?_ ?_ ?_ ?_ x y p0 (p1.trans (Nat.zero_add _).symm)
      | refine query_first 0 _ (by decide) (by decide) (by decide) ?_ ?_ ?_ ?_ x y (p0.trans (Nat.zero_add _).symm) p1
      | refine query_second 0 _ (by decide) (by decide) (by decide) ?_ ?_ ?_ ?_ x y (p0.trans (Nat.zero_add _).symm) p1
      | refine query_first 0 0 (by decide) (by decide) (by decide) ?_ ?_ ?_ ?_ x y (p0.trans (Nat.zero_add _).symm) (p1.trans (Nat.zero_add _).symm)
    all_goals intros; pointwise

/-- The body keeps the weights of its block. -/
theorem kept_eq (B : FVec Ideal S1x2048x1024 .f32) : k0_pay355 (F := Ideal) B = plain B := kept B

/-- A point with new columns keeps the weights of its block. -/
theorem weights_AD (t : Fin cfg0.N) (h0 : (t.val % 33 = 0 ∨ t.val % 33 = 16)) :
    (outsAt0 m c t.val t.isLt).2.1 = plain (iblk m c 1 t) := by
  have hN : t.val < 33 := t.isLt
  funext y
  by_cases h1 : t.val % 33 = 0
  · rw [outsAt0_A m c t h0 h1 (by omega) (by omega)]
    frame_open
    frame_out
    exact congrFun (kept _) y
  · rw [outsAt0_D m c t h0 h1 (by omega) (by omega)]
    frame_open
    frame_out
    exact congrFun (kept _) y

/-- The other points hold what they find. -/
theorem weights_BC (t : Fin cfg0.N) (h0 : ¬(t.val % 33 = 0 ∨ t.val % 33 = 16)) (h1 : ¬t.val % 33 = 0) :
    (outsAt0 m c t.val t.isLt).2.1 = (outsAt0 m c (t.val - 1) (Nat.lt_of_le_of_lt (Nat.sub_le _ _) t.isLt)).2.1 := by
  by_cases h : t.val % 2 = 0
  · rw [outsAt0_C m c t h0 h1 h (by omega)]
    frame_open
    rfl
  · rw [outsAt0_B m c t h0 h1 h (by omega)]
    frame_open
    rfl

/-- An even point's first accumulator is the product of its rows with the weights it holds. -/
theorem acc_even (t : Fin cfg0.N) (h : t.val % 2 = 0) (y : S1024x1024.Idx) :
    (outsAt0 m c t.val t.isLt).2.2.1 y = dotBlock (iblk m c 0 t) (outsAt0 m c t.val t.isLt).2.1 y := by
  by_cases h0 : (t.val % 33 = 0 ∨ t.val % 33 = 16)
  · by_cases h1 : t.val % 33 = 0
    · rw [weights_AD m c t h0, outsAt0_A m c t h0 h1 h (by omega)]
      frame_open
      simp (disch := decide) only [↓ View.readCov_skip, ↓ View.readCov_fill]
      frame_out
      canon_tiles x p
      all_goals first
        | refine dot_eq _ (by decide) ?_ x y p0 p1
        | refine dot_eq 0 (by decide) ?_ x y p0 (p1.trans (Nat.zero_add _).symm)
      all_goals intros; rw [kept_eq]; pointwise
    · rw [weights_AD m c t h0, outsAt0_D m c t h0 h1 h (by omega)]
      frame_open
      simp (disch := decide) only [↓ View.readCov_skip, ↓ View.readCov_fill]
      frame_out
      canon_tiles x p
      all_goals first
        | refine dot_eq _ (by decide) ?_ x y p0 p1
        | refine dot_eq 0 (by decide) ?_ x y p0 (p1.trans (Nat.zero_add _).symm)
      all_goals intros; rw [kept_eq]; pointwise
  · rw [weights_BC m c t h0 (by omega), outsAt0_C m c t h0 (by omega) h (by omega)]
    frame_open
    simp (disch := decide) only [↓ View.readCov_skip, ↓ View.readCov_fill]
    frame_out
    simp only [read_unread_whole]
    canon_tiles x p
    all_goals first
      | refine dot_eq _ (by decide) ?_ x y p0 p1
      | refine dot_eq 0 (by decide) ?_ x y p0 (p1.trans (Nat.zero_add _).symm)
    all_goals intros; pointwise

/-- So is an odd point's second. -/
theorem acc_odd (t : Fin cfg0.N) (h : t.val % 2 = 1) (y : S1024x1024.Idx) :
    (outsAt0 m c t.val t.isLt).2.2.2 y = dotBlock (iblk m c 0 t) (outsAt0 m c t.val t.isLt).2.1 y := by
  have hN : t.val < 33 := t.isLt
  rw [weights_BC m c t (by omega) (by omega), outsAt0_B m c t (by omega) (by omega) (by omega) h]
  frame_open
  simp (disch := decide) only [↓ View.readCov_skip, ↓ View.readCov_fill]
  frame_out
  simp only [read_unread_whole]
  canon_tiles x p
  all_goals first
    | refine dot_eq _ (by decide) ?_ x y p0 p1
    | refine dot_eq 0 (by decide) ?_ x y p0 (p1.trans (Nat.zero_add _).symm)
  all_goals intros; pointwise

end Cert.RetQIdeal.Block

end
-- ==== Proof.RetQValue.lean ====
module

public import proofs.«01_k».proof.Proof.RetQBlock
public import proofs.«01_k».proof.Proof.Gen.RetQRefIdeal.Run

@[expose] public section

set_option maxRecDepth 16384

noncomputable section

namespace Cert.RetQIdeal.Final

open Idealize.ShloMosaic Idealize.ShloMosaic.TcCoe Cert.RetQIdeal Cert.RetQIdeal.Gen Cert.RetQIdeal.Block Cert.Proj Cert.Rope

/-- The first layer's weights by their row and column. -/
def wf (w : FVec Ideal S2x2048x2048 .f32) (d : Fin 2048) (n : ℕ) : EReal := w (ix3 0 d ⟨n % 2048, Nat.mod_lt _ (by decide)⟩)

/-- The angle of every position and every column of a half. -/
def angles : FVec Ideal S8192x128 .f32 :=
  mulf (broadcastInDim S8192x128 ![0, 1] bcast_S8192x1_S8192x128_0_1 (broadcastInDim S8192x1 ![0] bcast_S8192_S8192x1_0 (sitofp .f32 (iotaInDim S8192 32 0))))
    (broadcastInDim S8192x128 ![0, 1] bcast_S1x128_S8192x128_0_1 (broadcastInDim S1x128 ![1] bcast_S128_S1x128_1
      (Host.powf (broadcastInDim S128 ![] bcast_S_S128 (constant S_ .f32 0x461C4000#32))
        (Host.divf (Host.negf (addf (broadcastInDim S128 ![] bcast_S_S128 (constant S_ .f32 0x00000000#32))
            (mulf (broadcastInDim S128 ![] bcast_S_S128 (constant S_ .f32 0x40000000#32)) (sitofp .f32 (iotaInDim S128 32 0)))))
          (broadcastInDim S128 ![] bcast_S_S128 (constant S_ .f32 0x43800000#32))))))

/-- The cosine for a row, which belongs to the position that remains of it in its batch, and a column of a half. -/
def cosine (R e : ℕ) : EReal := Host.cos (F := Ideal) angles (ix2 ⟨R % 8192, Nat.mod_lt _ (by decide)⟩ ⟨e % 128, Nat.mod_lt _ (by decide)⟩)
/-- The sine. -/
def sine (R e : ℕ) : EReal := Host.sin (F := Ideal) angles (ix2 ⟨R % 8192, Nat.mod_lt _ (by decide)⟩ ⟨e % 128, Nat.mod_lt _ (by decide)⟩)

/-- The product of the rows with the first layer's weights, every head turned by its position. -/
def result (x : FVec Ideal S16384x2048 .bf16) (w : FVec Ideal S2x2048x2048 .f32) (j : S16384x2048.Idx) : EReal := turned (dot x (wf w) (j 0)) (cosine (j 0)) (sine (j 0)) (j 1)

variable (m : (ℓ : Loc nD τ sig) → Buf (Elt Ideal) ℓ) (c : Dev nD)

/-- The block of every window at every grid point. -/
theorem idx : ∀ t : Fin cfg0.N, win0_0.index t = ![min t.val 31 % 16, 0] ∧ win0_1.index t = ![0, 0, min t.val 31 / 16]
    ∧ win0_2.index t = ![(t.val - 1) % 16 % 8, 0] ∧ win0_3.index t = ![(t.val - 1) % 16 % 8, 0] ∧ win0_4.index t = ![(t.val - 1) % 16, (t.val - 1) / 16] :=
  (by decide +kernel : ∀ t : Fin grid0.N, _)

/-- The rows and the weights that the program is given. -/
abbrev xa : FVec Ideal S16384x2048 .bf16 := m ((c.tc : Thread nD τ).loc main_arg0)
@[inherit_doc xa] abbrev wa : FVec Ideal S2x2048x2048 .f32 := m ((c.tc : Thread nD τ).loc main_arg1)

/-- A grid point's rows. -/
theorem blk_x (t : Fin cfg0.N) (hl : t.val + 1 < 33) (r : Fin 1024) (d : Fin 2048) :
    (iblk m c 0 t : FVec Ideal S1024x2048 .bf16) (ix2 r d) = xa m c (ix2 (row (1024 * (t.val % 16) + r)) d) := by
  have hm : min t.val 31 = t.val := by omega
  blk_ext [iblk, V, idx t, hm, row]
/-- A grid point's weights. -/
theorem blk_w (t : Fin cfg0.N) (hl : t.val + 1 < 33) : plain (iblk m c 1 t) = wBlock (wf (wa m c)) (t.val / 16) := by
  have hm : min t.val 31 = t.val := by omega
  funext (y : S2048x1024.Idx)
  idx_vars y
  unfold plain wBlock wf
  blk_ext [iblk, V, idx t, hm]

/-- The cosines of a grid point's rows. -/
theorem blk_c (t : Fin cfg0.N) (r : Fin 1024) (e : Fin 128) :
    (iblk m c 2 t : FVec Ideal S1024x128 .f32) (ix2 r e) = cosine (1024 * ((t.val - 1) % 16) + r) e := by
  have e0 : V m c main_v16 = Host.cos (F := Ideal) angles := by entry_read; rfl
  unfold cosine
  blk_simp [iblk]
  rw [e0]
  generalize (Host.cos (F := Ideal) angles : FVec Ideal S8192x128 .f32) = A
  blk_ext [idx t]
/-- The sines of a grid point's rows. -/
theorem blk_s (t : Fin cfg0.N) (r : Fin 1024) (e : Fin 128) :
    (iblk m c 3 t : FVec Ideal S1024x128 .f32) (ix2 r e) = sine (1024 * ((t.val - 1) % 16) + r) e := by
  have e0 : V m c main_v17 = Host.sin (F := Ideal) angles := by entry_read; rfl
  unfold sine
  blk_simp [iblk]
  rw [e0]
  generalize (Host.sin (F := Ideal) angles : FVec Ideal S8192x128 .f32) = A
  blk_ext [idx t]

/-- Every point but the last ends holding the weights of its columns. -/
theorem held (n : ℕ) (hn : n < 33) (hl : n + 1 < 33) : (outsAt0 m c n hn).2.1 = wBlock (wf (wa m c)) (n / 16) :=
  held_all (N := 33) (by decide) (fun n (hn : n < 33) => (outsAt0 m c n hn).2.1) (wBlock (wf (wa m c)))
    (fun n hn hz hl => (weights_AD m c ⟨n, hn⟩ (by have h33 : n % 33 = n := Nat.mod_eq_of_lt hn; show n % 33 = 0 ∨ n % 33 = 16; omega)).trans (blk_w m c ⟨n, hn⟩ hl))
    (fun n hn _ hz => by
      by_cases h0 : n = 0
      · subst h0; rfl
      · exact weights_BC m c ⟨n, hn⟩ (by have h33 : n < 33 := hn; show ¬(n % 33 = 0 ∨ n % 33 = 16); omega) (by have h33 : n < 33 := hn; show ¬n % 33 = 0; omega)) n hn hl

/-- An even point leaves its product in the first accumulator. -/
theorem left_even (t : Fin cfg0.N) (hl : t.val + 1 < 33) (h : t.val % 2 = 0) : Left (xa m c) (wf (wa m c)) t.val (outsAt0 m c t.val t.isLt).2.2.1 := fun r e =>
  (acc_even m c t h _).trans (by rw [held m c t.val t.isLt hl]; exact left_dot _ _ _ _ (blk_x m c t hl) r e)

/-- An odd point leaves it in the second. -/
theorem left_odd (t : Fin cfg0.N) (hl : t.val + 1 < 33) (h : t.val % 2 = 1) : Left (xa m c) (wf (wa m c)) t.val (outsAt0 m c t.val t.isLt).2.2.2 := fun r e =>
  (acc_odd m c t h _).trans (by rw [held m c t.val t.isLt hl]; exact left_dot _ _ _ _ (blk_x m c t hl) r e)

/-- The result of the arguments. -/
def G : S16384x2048.Idx → EReal := result (xa m c) (wa m c)

/-- Every point after the first leaves a block of the result. -/
theorem out_eq (t : Fin cfg0.N) (ht : 1 ≤ t.val) (y : S1024x1024.Idx) (j : S16384x2048.Idx) (h0 : (j 0 : ℕ) = 1024 * ((t.val - 1) % 16) + (y 0 : ℕ))
    (h1 : (j 1 : ℕ) = 1024 * ((t.val - 1) / 16) + (y 1 : ℕ)) : (outsAt0 m c t.val t.isLt).1 y = G m c j := by
  have hN : t.val < 33 := t.isLt
  have hp : t.val - 1 < cfg0.N := Nat.lt_of_le_of_lt (Nat.sub_le _ _) t.isLt
  unfold G result
  rw [h0, h1]
  have hy1 : (y 1 : ℕ) < 1024 := (y 1).isLt
  by_cases h : t.val % 2 = 0
  · refine (out_CD m c t (by omega) h (by omega) y).trans ?_
    exact turned_congr _ _ hy1 (fun e he => (left_odd m c ⟨t.val - 1, hp⟩ (by show t.val - 1 + 1 < 33; omega) (by show (t.val - 1) % 2 = 1; omega) (y 0) _).trans
        (congrArg (fun E => dot (xa m c) (wf (wa m c)) _ (1024 * ((t.val - 1) / 16) + E)) (Nat.mod_eq_of_lt he)))
      (fun e he => (blk_c m c t (y 0) _).trans (congrArg (cosine _) (Nat.mod_eq_of_lt he)))
      (fun e he => (blk_s m c t (y 0) _).trans (congrArg (sine _) (Nat.mod_eq_of_lt he)))
  · refine (out_B m c t (by omega) (by omega) h (by omega) y).trans ?_
    exact turned_congr _ _ hy1 (fun e he => (left_even m c ⟨t.val - 1, hp⟩ (by show t.val - 1 + 1 < 33; omega) (by show (t.val - 1) % 2 = 0; omega) (y 0) _).trans
        (congrArg (fun E => dot (xa m c) (wf (wa m c)) _ (1024 * ((t.val - 1) / 16) + E)) (Nat.mod_eq_of_lt he)))
      (fun e he => (blk_c m c t (y 0) _).trans (congrArg (cosine _) (Nat.mod_eq_of_lt he)))
      (fun e he => (blk_s m c t (y 0) _).trans (congrArg (sine _) (Nat.mod_eq_of_lt he)))

/-- The result's blocks are written back only after the first point. -/
theorem later : ∀ t : Fin cfg0.N, (cfg0.win 4).flush t = true → 1 ≤ t.val := (by decide +kernel : ∀ t : Fin grid0.N, (cfg0.win 4).flush t = true → 1 ≤ t.val)

/-- The kernel's array after the run is the result of its arguments. -/
theorem final : (dats m 0 c).arrAt 4 (cfgs 0).N = (G m c : FVec Ideal S16384x2048 .bf16) := by
  refine (dats m 0 c).arrAt_eq_of_covers 4 (G m c) (by decide +kernel) fun t hf y => ?_
  blk_simp
  rw [after0_4]
  refine out_eq m c t (later t hf) y _ ?_ ?_
  all_goals blk_simp [idx t]
  all_goals omega

end Cert.RetQIdeal.Final

namespace Cert.RetQRefIdeal.Final

open Idealize.ShloMosaic Idealize.ShloMosaic.TcCoe Cert.RetQRefIdeal Cert.RetQRefIdeal.Gen Cert.RetQIdeal.Final Cert.Proj Cert.Rope

/-- The projection as the reference writes it: the rows by their batches. -/
def projected (x : FVec Ideal S16384x2048 .bf16) (w : FVec Ideal S2x2048x2048 .f32) : FVec Ideal S2x8192x2048 .f32 :=
  Host.dotGeneral (F := Ideal) dot_S2x8192x2048_S2048x2048_S2x8192x2048_2_0_01_1_n_n none (shapeCast S2x8192x2048 (extf .f32 x bitsLt_bf16_f32) shapeCasts_S16384x2048_S2x8192x2048)
    (shapeCast S2048x2048 (extractStridedSlice S1x2048x2048 ![0, 0, 0] w slices_S2x2048x2048_S1x2048x2048_0_0_0) shapeCasts_S1x2048x2048_S2048x2048)

theorem projected_at (x : FVec Ideal S16384x2048 .bf16) (w : FVec Ideal S2x2048x2048 .f32) (b : Fin 2) (s : Fin 8192) (e : Fin 2048) :
    projected x w (ix3 b s e) = dot x (wf w) (8192 * b + s) e := by
  unfold projected dot wf row
  pointwise
  refine Finset.sum_congr rfl fun d _ => ?_
  exact congrArg₂ (fun (R : Fin 16384) (E : Fin 2048) => (x (ix2 R d) * w (ix3 0 d E) : EReal)) (Fin.ext (by show (b : ℕ) * 8192 + s = (8192 * (b : ℕ) + s) % 16384; omega))
    (Fin.ext (by show (e : ℕ) = (e : ℕ) % 2048; omega))

/-- The columns by their heads. -/
def heads (p : FVec Ideal S2x8192x2048 .f32) : FVec Ideal S2x8x8192x256 .f32 :=
  transpose S2x8x8192x256 [0, 2, 1, 3] (shapeCast S2x8192x8x256 p shapeCasts_S2x8192x2048_S2x8192x8x256) transposes_S2x8192x8x256_S2x8x8192x256_0_2_1_3

theorem heads_at (p : FVec Ideal S2x8192x2048 .f32) (b : Fin 2) (k : Fin 8) (s : Fin 8192) (e : Fin 256) :
    heads p (ix4 b k s e) = p (ix3 b s ⟨k * 256 + e, by omega⟩) := by
  pointwise [heads]

/-- A table for every batch and head. -/
def over (t : FVec Ideal S8192x128 .f32) : FVec Ideal S2x8x8192x128 .f32 :=
  broadcastInDim S2x8x8192x128 ![0, 1, 2, 3] bcast_S1x1x8192x128_S2x8x8192x128_0_1_2_3 (broadcastInDim S1x1x8192x128 ![2, 3] bcast_S8192x128_S1x1x8192x128_2_3 t)

/-- Every head turned. -/
def roped (h : FVec Ideal S2x8x8192x256 .f32) (cos sin : FVec Ideal S8192x128 .f32) : FVec Ideal S2x8x8192x256 .f32 :=
  concatenate S2x8x8192x256 3
    [⟨S2x8x8192x128, subf (mulf (extractStridedSlice S2x8x8192x128 ![0, 0, 0, 0] h slices_S2x8x8192x256_S2x8x8192x128_0_0_0_0) (over cos))
      (mulf (extractStridedSlice S2x8x8192x128 ![0, 0, 0, 128] h slices_S2x8x8192x256_S2x8x8192x128_0_0_0_128) (over sin))⟩,
     ⟨S2x8x8192x128, addf (mulf (extractStridedSlice S2x8x8192x128 ![0, 0, 0, 0] h slices_S2x8x8192x256_S2x8x8192x128_0_0_0_0) (over sin))
      (mulf (extractStridedSlice S2x8x8192x128 ![0, 0, 0, 128] h slices_S2x8x8192x256_S2x8x8192x128_0_0_0_128) (over cos))⟩]
    concatenates_S2x8x8192x128_S2x8x8192x128_S2x8x8192x256_d3

theorem roped_first (h : FVec Ideal S2x8x8192x256 .f32) (cos sin : FVec Ideal S8192x128 .f32) (b : Fin 2) (k : Fin 8) (s : Fin 8192) (e : Fin 256) (he : (e : ℕ) < 128) :
    roped h cos sin (ix4 b k s e) = (h (ix4 b k s e) * cos (ix2 s ⟨e, he⟩) - h (ix4 b k s ⟨128 + e, by omega⟩) * sin (ix2 s ⟨e, he⟩) : EReal) := by
  pointwise [roped, over, he]

theorem roped_second (h : FVec Ideal S2x8x8192x256 .f32) (cos sin : FVec Ideal S8192x128 .f32) (b : Fin 2) (k : Fin 8) (s : Fin 8192) (e : Fin 256) (he : ¬(e : ℕ) < 128) :
    roped h cos sin (ix4 b k s e)
      = (h (ix4 b k s ⟨e - 128, by omega⟩) * sin (ix2 s ⟨e - 128, by omega⟩) + h (ix4 b k s e) * cos (ix2 s ⟨e - 128, by omega⟩) : EReal) := by
  pointwise [roped, over, he]
  exact congrArg (fun E : Fin 256 => (h (ix4 b k s ⟨e - 128, by omega⟩) * sin (ix2 s ⟨e - 128, by omega⟩) + h (ix4 b k s E) * cos (ix2 s ⟨e - 128, by omega⟩) : EReal))
    (Fin.ext (by show 128 + ((e : ℕ) - 128) = e; omega))

/-- The reference's turned heads. -/
theorem roped_at (x : FVec Ideal S16384x2048 .bf16) (w : FVec Ideal S2x2048x2048 .f32) (b : Fin 2) (k : Fin 8) (s : Fin 8192) (e : Fin 256) :
    roped (heads (projected x w)) (Host.cos (F := Ideal) angles) (Host.sin (F := Ideal) angles) (ix4 b k s e)
      = turned (dot x (wf w) (8192 * b + s)) (cosine (8192 * b + s)) (sine (8192 * b + s)) (256 * k + e) := by
  have hd : ∀ (e : Fin 256) (n : ℕ), n = 256 * k + e → heads (projected x w) (ix4 b k s e) = dot x (wf w) (8192 * b + s) n := fun e n hn =>
    (heads_at _ b k s e).trans ((projected_at x w b s _).trans (congrArg (dot x (wf w) (8192 * b + s)) (by show (k : ℕ) * 256 + e = n; omega)))
  have hc : ∀ (e : Fin 128) (n : ℕ), n = 256 * (k : ℕ) + e ∨ n = 256 * (k : ℕ) + 128 + e →
      (Host.cos (F := Ideal) angles : FVec Ideal S8192x128 .f32) (ix2 s e) = cosine (8192 * b + s) (n % 128) := fun e n hn =>
    congrArg₂ (fun (S : Fin 8192) (E : Fin 128) => (Host.cos (F := Ideal) angles : FVec Ideal S8192x128 .f32) (ix2 S E))
      (Fin.ext (by show (s : ℕ) = (8192 * (b : ℕ) + s) % 8192; omega)) (Fin.ext (by show (e : ℕ) = n % 128 % 128; omega))
  have hs : ∀ (e : Fin 128) (n : ℕ), n = 256 * (k : ℕ) + e ∨ n = 256 * (k : ℕ) + 128 + e →
      (Host.sin (F := Ideal) angles : FVec Ideal S8192x128 .f32) (ix2 s e) = sine (8192 * b + s) (n % 128) := fun e n hn =>
    congrArg₂ (fun (S : Fin 8192) (E : Fin 128) => (Host.sin (F := Ideal) angles : FVec Ideal S8192x128 .f32) (ix2 S E))
      (Fin.ext (by show (s : ℕ) = (8192 * (b : ℕ) + s) % 8192; omega)) (Fin.ext (by show (e : ℕ) = n % 128 % 128; omega))
  by_cases he : (e : ℕ) < 128
  · rw [turned_first _ _ _ _ (by omega)]
    exact (roped_first _ _ _ b k s e he).trans (congrArg₂ (fun u v : EReal => u - v)
      (congrArg₂ (fun u v : EReal => u * v) (hd e _ rfl) (hc ⟨e, he⟩ _ (Or.inl rfl)))
      (congrArg₂ (fun u v : EReal => u * v) (hd ⟨128 + e, by omega⟩ _ (by show 256 * (k : ℕ) + e + 128 = 256 * k + (128 + e); omega)) (hs ⟨e, he⟩ _ (Or.inl rfl))))
  · rw [turned_second _ _ _ _ (by omega)]
    exact (roped_second _ _ _ b k s e he).trans (congrArg₂ (fun u v : EReal => u + v)
      (congrArg₂ (fun u v : EReal => u * v) (hd ⟨e - 128, by omega⟩ _ (by show 256 * (k : ℕ) + e - 128 = 256 * k + (e - 128); omega))
        (hs ⟨e - 128, by omega⟩ _ (Or.inr (by show 256 * (k : ℕ) + e = 256 * k + 128 + (e - 128); omega))))
      (congrArg₂ (fun u v : EReal => u * v) (hd e _ rfl) (hc ⟨e - 128, by omega⟩ _ (Or.inr (by show 256 * (k : ℕ) + e = 256 * k + 128 + (e - 128); omega)))))

/-- The same by the row and the column. -/
theorem roped_row (x : FVec Ideal S16384x2048 .bf16) (w : FVec Ideal S2x2048x2048 .f32) (R n : ℕ) (b : Fin 2) (k : Fin 8) (s : Fin 8192) (e : Fin 256)
    (hR : 8192 * (b : ℕ) + s = R) (hn : 256 * (k : ℕ) + e = n) :
    roped (heads (projected x w)) (Host.cos (F := Ideal) angles) (Host.sin (F := Ideal) angles) (ix4 b k s e)
      = turned (dot x (wf w) R) (cosine R) (sine R) n := by
  subst hR hn
  exact roped_at x w b k s e

variable (m : (ℓ : Loc nD τ sig) → Buf (Elt Ideal) ℓ) (c : Dev nD)

/-- The rows and the weights that the reference is given. -/
abbrev xr : FVec Ideal S16384x2048 .bf16 := m ((c.tc : Thread nD τ).loc main_arg0)
@[inherit_doc xr] abbrev wr : FVec Ideal S2x2048x2048 .f32 := m ((c.tc : Thread nD τ).loc main_arg1)

/-- The reference's result is the result of its arguments. -/
theorem final : Value.res_out0 m c = (result (xr m c) (wr m c) : FVec Ideal S16384x2048 .bf16) := by
  refine (show Value.res_out0 m c = truncf .bf16 (shapeCast S16384x2048 (transpose S2x8192x8x256 [0, 2, 1, 3]
    (roped (heads (projected (xr m c) (wr m c))) (Host.cos (F := Ideal) angles) (Host.sin (F := Ideal) angles)) transposes_S2x8x8192x256_S2x8192x8x256_0_2_1_3)
      shapeCasts_S2x8192x8x256_S16384x2048) bitsLt_bf16_f32 from rfl).trans ?_
  funext (j : S16384x2048.Idx)
  idx_vars j
  pointwise
  exact roped_row _ _ (j0 : ℕ) (j1 : ℕ) _ _ _ _ (by dsimp only; omega) (by dsimp only; omega)

end Cert.RetQRefIdeal.Final

end
-- ==== Proof.RetKBlock.lean ====
module

public import proofs.«01_k».proof.Proof.Rope
public import proofs.«01_k».proof.Proof.Gen.RetKIdeal.Frame

@[expose] public section

set_option maxRecDepth 16384
set_option maxHeartbeats 3000000

noncomputable section

namespace Cert.RetKIdeal.Block

open Idealize.ShloMosaic Idealize.ShloMosaic.TcCoe Cert.RetKIdeal Cert.RetKIdeal.Gen Cert.Proj Cert.Rope

variable (m : (ℓ : Loc nD τ sig) → Buf (Elt Ideal) ℓ) (c : Dev nD)

/-- An odd point's result is the product that the point before left in the first accumulator, turned and scaled. -/
theorem out_B (t : Fin cfg0.N) (h0 : ¬(t.val % 33 = 0 ∨ t.val % 33 = 16)) (h1 : ¬t.val % 33 = 0) (h2 : ¬t.val % 2 = 0) (h3 : t.val % 2 = 1) (y : S1024x1024.Idx) :
    (outsAt0 m c t.val t.isLt).1 y
      = turnedBlock (outsAt0 m c (t.val - 1) (Nat.lt_of_le_of_lt (Nat.sub_le _ _) t.isLt)).2.2.1 (iblk m c 2 t) (iblk m c 3 t) y * sixteenth := by
  rw [outsAt0_B m c t h0 h1 h2 h3]
  frame_open
  simp (disch := decide) only [↓ View.readCov_skip, ↓ View.readCov_fill]
  frame_out
  simp only [read_unread_whole]
  canon_tiles x p
  all_goals first
    | refine key_first _ _ (by decide) (by decide) (by decide) ?_ ?_ ?_ ?_ x y p0 p1
    | refine key_second _ _ (by decide) (by decide) (by decide) ?_ ?_ ?_ ?_ x y p0 p1
    | refine key_first _ 0 (by decide) (by decide) (by decide) ?_ ?_ ?_ ?_ x y p0 (p1.trans (Nat.zero_add _).symm)
    | refine key_first 0 _ (by decide) (by decide) (by decide) ?_ ?_ ?_ ?_ x y (p0.trans (Nat.zero_add _).symm) p1
    | refine key_second 0 _ (by decide) (by decide) (by decide) ?_ ?_ ?_ ?_ x y (p0.trans (Nat.zero_add _).symm) p1
    | refine key_first 0 0 (by decide) (by decide) (by decide) ?_ ?_ ?_ ?_ x y (p0.trans (Nat.zero_add _).symm) (p1.trans (Nat.zero_add _).symm)
  all_goals intros; pointwise

/-- An even point's result after the first is the product that the point before left in the second accumulator, turned and scaled. -/
theorem out_CD (t : Fin cfg0.N) (h1 : ¬t.val % 33 = 0) (h2 : t.val % 2 = 0) (h3 : ¬t.val % 2 = 1) (y : S1024x1024.Idx) :
    (outsAt0 m c t.val t.isLt).1 y
      = turnedBlock (outsAt0 m c (t.val - 1) (Nat.lt_of_le_of_lt (Nat.sub_le _ _) t.isLt)).2.2.2 (iblk m c 2 t) (iblk m c 3 t) y * sixteenth := by
  by_cases h0 : (t.val % 33 = 0 ∨ t.val % 33 = 16)
  · rw [outsAt0_D m c t h0 h1 h2 h3]
    frame_open
    simp (disch := decide) only [↓ View.readCov_skip, ↓ View.readCov_fill]
    frame_out
    simp only [read_unread_whole]
    canon_tiles x p
    all_goals first
      | refine key_first _ _ (by decide) (by decide) (by decide) ?_ ?_ ?_ ?_ x y p0 p1
      | refine key_second _ _ (by decide) (by decide) (by decide) ?_ ?_ ?_ ?_ x y p0 p1
      | refine key_first _ 0 (by decide) (by decide) (by decide) ?_ ?_ ?_ ?_ x y p0 (p1.trans (Nat.zero_add _).symm)
      | refine key_first 0 _ (by decide) (by decide) (by decide) ?_ ?_ ?_ ?_ x y (p0.trans (Nat.zero_add _).symm) p1
      | refine key_second 0 _ (by decide) (by decide) (by decide) ?_ ?_ ?_ ?_ x y (p0.trans (Nat.zero_add _).symm) p1
      | refine key_first 0 0 (by decide) (by decide) (by decide) ?_ ?_ ?_ ?_ x y (p0.trans (Nat.zero_add _).symm) (p1.trans (Nat.zero_add _).symm)
    all_goals intros; pointwise
  · rw [outsAt0_C m c t h0 h1 h2 h3]
    frame_open
    simp (disch := decide) only [↓ View.readCov_skip, ↓ View.readCov_fill]
    frame_out
    simp only [read_unread_whole]
    canon_tiles x p
    all_goals first
      | refine key_first _ _ (by decide) (by decide) (by decide) ?_ ?_ ?_ ?_ x y p0 p1
      | refine key_second _ _ (by decide) (by decide) (by decide) ?_ ?_ ?_ ?_ x y p0 p1
      | refine key_first _ 0 (by decide) (by decide) (by decide) ?_ ?_ ?_ ?_ x y p0 (p1.trans (Nat.zero_add _).symm)
      | refine key_first 0 _ (by decide) (by decide) (by decide) ?_ ?_ ?_ ?_ x y (p0.trans (Nat.zero_add _).symm) p1
      | refine key_second 0 _ (by decide) (by decide) (by decide) ?_ ?_ ?_ ?_ x y (p0.trans (Nat.zero_add _).symm) p1
      | refine key_first 0 0 (by decide) (by decide) (by decide) ?_ ?_ ?_ ?_ x y (p0.trans (Nat.zero_add _).symm) (p1.trans (Nat.zero_add _).symm)
    all_goals intros; pointwise

/-- The body keeps the weights of its block. -/
theorem kept_eq (B : FVec Ideal S1x2048x1024 .f32) : k0_pay407 (F := Ideal) B = plain B := kept B

/-- A point with new columns keeps the weights of its block. -/
theorem weights_AD (t : Fin cfg0.N) (h0 : (t.val % 33 = 0 ∨ t.val % 33 = 16)) :
    (outsAt0 m c t.val t.isLt).2.1 = plain (iblk m c 1 t) := by
  have hN : t.val < 33 := t.isLt
  funext y
  by_cases h1 : t.val % 33 = 0
  · rw [outsAt0_A m c t h0 h1 (by omega) (by omega)]
    frame_open
    frame_out
    exact congrFun (kept _) y
  · rw [outsAt0_D m c t h0 h1 (by omega) (by omega)]
    frame_open
    frame_out
    exact congrFun (kept _) y

/-- The other points hold what they find. -/
theorem weights_BC (t : Fin cfg0.N) (h0 : ¬(t.val % 33 = 0 ∨ t.val % 33 = 16)) (h1 : ¬t.val % 33 = 0) :
    (outsAt0 m c t.val t.isLt).2.1 = (outsAt0 m c (t.val - 1) (Nat.lt_of_le_of_lt (Nat.sub_le _ _) t.isLt)).2.1 := by
  by_cases h : t.val % 2 = 0
  · rw [outsAt0_C m c t h0 h1 h (by omega)]
    frame_open
    rfl
  · rw [outsAt0_B m c t h0 h1 h (by omega)]
    frame_open
    rfl

/-- An even point's first accumulator is the product of its rows with the weights it holds. -/
theorem acc_even (t : Fin cfg0.N) (h : t.val % 2 = 0) (y : S1024x1024.Idx) :
    (outsAt0 m c t.val t.isLt).2.2.1 y = dotBlock (iblk m c 0 t) (outsAt0 m c t.val t.isLt).2.1 y := by
  by_cases h0 : (t.val % 33 = 0 ∨ t.val % 33 = 16)
  · by_cases h1 : t.val % 33 = 0
    · rw [weights_AD m c t h0, outsAt0_A m c t h0 h1 h (by omega)]
      frame_open
      simp (disch := decide) only [↓ View.readCov_skip, ↓ View.readCov_fill]
      frame_out
      canon_tiles x p
      all_goals first
        | refine dot_eq _ (by decide) ?_ x y p0 p1
        | refine dot_eq 0 (by decide) ?_ x y p0 (p1.trans (Nat.zero_add _).symm)
      all_goals intros; rw [kept_eq]; pointwise
    · rw [weights_AD m c t h0, outsAt0_D m c t h0 h1 h (by omega)]
      frame_open
      simp (disch := decide) only [↓ View.readCov_skip, ↓ View.readCov_fill]
      frame_out
      canon_tiles x p
      all_goals first
        | refine dot_eq _ (by decide) ?_ x y p0 p1
        | refine dot_eq 0 (by decide) ?_ x y p0 (p1.trans (Nat.zero_add _).symm)
      all_goals intros; rw [kept_eq]; pointwise
  · rw [weights_BC m c t h0 (by omega), outsAt0_C m c t h0 (by omega) h (by omega)]
    frame_open
    simp (disch := decide) only [↓ View.readCov_skip, ↓ View.readCov_fill]
    frame_out
    simp only [read_unread_whole]
    canon_tiles x p
    all_goals first
      | refine dot_eq _ (by decide) ?_ x y p0 p1
      | refine dot_eq 0 (by decide) ?_ x y p0 (p1.trans (Nat.zero_add _).symm)
    all_goals intros; pointwise

/-- So is an odd point's second. -/
theorem acc_odd (t : Fin cfg0.N) (h : t.val % 2 = 1) (y : S1024x1024.Idx) :
    (outsAt0 m c t.val t.isLt).2.2.2 y = dotBlock (iblk m c 0 t) (outsAt0 m c t.val t.isLt).2.1 y := by
  have hN : t.val < 33 := t.isLt
  rw [weights_BC m c t (by omega) (by omega), outsAt0_B m c t (by omega) (by omega) (by omega) h]
  frame_open
  simp (disch := decide) only [↓ View.readCov_skip, ↓ View.readCov_fill]
  frame_out
  simp only [read_unread_whole]
  canon_tiles x p
  all_goals first
    | refine dot_eq _ (by decide) ?_ x y p0 p1
    | refine dot_eq 0 (by decide) ?_ x y p0 (p1.trans (Nat.zero_add _).symm)
  all_goals intros; pointwise

end Cert.RetKIdeal.Block

end
-- ==== Proof.RetKValue.lean ====
module

public import proofs.«01_k».proof.Proof.RetKBlock
public import proofs.«01_k».proof.Proof.RetQValue
public import proofs.«01_k».proof.Proof.Gen.RetKRefIdeal.Run

@[expose] public section

set_option maxRecDepth 16384

noncomputable section

namespace Cert.RetKIdeal.Final

open Idealize.ShloMosaic Idealize.ShloMosaic.TcCoe Cert.RetKIdeal Cert.RetKIdeal.Gen Cert.RetKIdeal.Block Cert.Proj Cert.Rope
open Cert.RetQIdeal.Final (wf angles cosine sine)

/-- The product of the rows with the first layer's weights, every head turned by its position and scaled. -/
def result (x : FVec Ideal S16384x2048 .bf16) (w : FVec Ideal S2x2048x2048 .f32) (j : S16384x2048.Idx) : EReal := turned (dot x (wf w) (j 0)) (cosine (j 0)) (sine (j 0)) (j 1) * sixteenth

variable (m : (ℓ : Loc nD τ sig) → Buf (Elt Ideal) ℓ) (c : Dev nD)

/-- The block of every window at every grid point. -/
theorem idx : ∀ t : Fin cfg0.N, win0_0.index t = ![min t.val 31 % 16, 0] ∧ win0_1.index t = ![0, 0, min t.val 31 / 16]
    ∧ win0_2.index t = ![(t.val - 1) % 16 % 8, 0] ∧ win0_3.index t = ![(t.val - 1) % 16 % 8, 0] ∧ win0_4.index t = ![(t.val - 1) % 16, (t.val - 1) / 16] :=
  (by decide +kernel : ∀ t : Fin grid0.N, _)

/-- The rows and the weights that the program is given. -/
abbrev xa : FVec Ideal S16384x2048 .bf16 := m ((c.tc : Thread nD τ).loc main_arg0)
@[inherit_doc xa] abbrev wa : FVec Ideal S2x2048x2048 .f32 := m ((c.tc : Thread nD τ).loc main_arg1)

/-- A grid point's rows. -/
theorem blk_x (t : Fin cfg0.N) (hl : t.val + 1 < 33) (r : Fin 1024) (d : Fin 2048) :
    (iblk m c 0 t : FVec Ideal S1024x2048 .bf16) (ix2 r d) = xa m c (ix2 (row (1024 * (t.val % 16) + r)) d) := by
  have hm : min t.val 31 = t.val := by omega
  blk_ext [iblk, V, idx t, hm, row]
/-- A grid point's weights. -/
theorem blk_w (t : Fin cfg0.N) (hl : t.val + 1 < 33) : plain (iblk m c 1 t) = wBlock (wf (wa m c)) (t.val / 16) := by
  have hm : min t.val 31 = t.val := by omega
  funext (y : S2048x1024.Idx)
  idx_vars y
  unfold plain wBlock wf
  blk_ext [iblk, V, idx t, hm]

/-- The cosines of a grid point's rows. -/
theorem blk_c (t : Fin cfg0.N) (r : Fin 1024) (e : Fin 128) :
    (iblk m c 2 t : FVec Ideal S1024x128 .f32) (ix2 r e) = cosine (1024 * ((t.val - 1) % 16) + r) e := by
  have e0 : V m c main_v16 = Host.cos (F := Ideal) angles := by entry_read; rfl
  unfold cosine
  blk_simp [iblk]
  rw [e0]
  generalize (Host.cos (F := Ideal) angles : FVec Ideal S8192x128 .f32) = A
  blk_ext [idx t]
/-- The sines of a grid point's rows. -/
theorem blk_s (t : Fin cfg0.N) (r : Fin 1024) (e : Fin 128) :
    (iblk m c 3 t : FVec Ideal S1024x128 .f32) (ix2 r e) = sine (1024 * ((t.val - 1) % 16) + r) e := by
  have e0 : V m c main_v17 = Host.sin (F := Ideal) angles := by entry_read; rfl
  unfold sine
  blk_simp [iblk]
  rw [e0]
  generalize (Host.sin (F := Ideal) angles : FVec Ideal S8192x128 .f32) = A
  blk_ext [idx t]

/-- Every point but the last ends holding the weights of its columns. -/
theorem held (n : ℕ) (hn : n < 33) (hl : n + 1 < 33) : (outsAt0 m c n hn).2.1 = wBlock (wf (wa m c)) (n / 16) :=
  held_all (N := 33) (by decide) (fun n (hn : n < 33) => (outsAt0 m c n hn).2.1) (wBlock (wf (wa m c)))
    (fun n hn hz hl => (weights_AD m c ⟨n, hn⟩ (by have h33 : n % 33 = n := Nat.mod_eq_of_lt hn; show n % 33 = 0 ∨ n % 33 = 16; omega)).trans (blk_w m c ⟨n, hn⟩ hl))
    (fun n hn _ hz => by
      by_cases h0 : n = 0
      · subst h0; rfl
      · exact weights_BC m c ⟨n, hn⟩ (by have h33 : n < 33 := hn; show ¬(n % 33 = 0 ∨ n % 33 = 16); omega) (by have h33 : n < 33 := hn; show ¬n % 33 = 0; omega)) n hn hl

/-- An even point leaves its product in the first accumulator. -/
theorem left_even (t : Fin cfg0.N) (hl : t.val + 1 < 33) (h : t.val % 2 = 0) : Left (xa m c) (wf (wa m c)) t.val (outsAt0 m c t.val t.isLt).2.2.1 := fun r e =>
  (acc_even m c t h _).trans (by rw [held m c t.val t.isLt hl]; exact left_dot _ _ _ _ (blk_x m c t hl) r e)

/-- An odd point leaves it in the second. -/
theorem left_odd (t : Fin cfg0.N) (hl : t.val + 1 < 33) (h : t.val % 2 = 1) : Left (xa m c) (wf (wa m c)) t.val (outsAt0 m c t.val t.isLt).2.2.2 := fun r e =>
  (acc_odd m c t h _).trans (by rw [held m c t.val t.isLt hl]; exact left_dot _ _ _ _ (blk_x m c t hl) r e)

/-- The result of the arguments. -/
def G : S16384x2048.Idx → EReal := result (xa m c) (wa m c)

/-- Every point after the first leaves a block of the result. -/
theorem out_eq (t : Fin cfg0.N) (ht : 1 ≤ t.val) (y : S1024x1024.Idx) (j : S16384x2048.Idx) (h0 : (j 0 : ℕ) = 1024 * ((t.val - 1) % 16) + (y 0 : ℕ))
    (h1 : (j 1 : ℕ) = 1024 * ((t.val - 1) / 16) + (y 1 : ℕ)) : (outsAt0 m c t.val t.isLt).1 y = G m c j := by
  have hN : t.val < 33 := t.isLt
  have hp : t.val - 1 < cfg0.N := Nat.lt_of_le_of_lt (Nat.sub_le _ _) t.isLt
  unfold G result
  rw [h0, h1]
  have hy1 : (y 1 : ℕ) < 1024 := (y 1).isLt
  by_cases h : t.val % 2 = 0
  · refine (out_CD m c t (by omega) h (by omega) y).trans ?_
    refine congrArg (fun v : EReal => v * sixteenth) (?_ : _ = turned _ _ _ _)
    exact turned_congr _ _ hy1 (fun e he => (left_odd m c ⟨t.val - 1, hp⟩ (by show t.val - 1 + 1 < 33; omega) (by show (t.val - 1) % 2 = 1; omega) (y 0) _).trans
        (congrArg (fun E => dot (xa m c) (wf (wa m c)) _ (1024 * ((t.val - 1) / 16) + E)) (Nat.mod_eq_of_lt he)))
      (fun e he => (blk_c m c t (y 0) _).trans (congrArg (cosine _) (Nat.mod_eq_of_lt he)))
      (fun e he => (blk_s m c t (y 0) _).trans (congrArg (sine _) (Nat.mod_eq_of_lt he)))
  · refine (out_B m c t (by omega) (by omega) h (by omega) y).trans ?_
    refine congrArg (fun v : EReal => v * sixteenth) (?_ : _ = turned _ _ _ _)
    exact turned_congr _ _ hy1 (fun e he => (left_even m c ⟨t.val - 1, hp⟩ (by show t.val - 1 + 1 < 33; omega) (by show (t.val - 1) % 2 = 0; omega) (y 0) _).trans
        (congrArg (fun E => dot (xa m c) (wf (wa m c)) _ (1024 * ((t.val - 1) / 16) + E)) (Nat.mod_eq_of_lt he)))
      (fun e he => (blk_c m c t (y 0) _).trans (congrArg (cosine _) (Nat.mod_eq_of_lt he)))
      (fun e he => (blk_s m c t (y 0) _).trans (congrArg (sine _) (Nat.mod_eq_of_lt he)))

/-- The result's blocks are written back only after the first point. -/
theorem later : ∀ t : Fin cfg0.N, (cfg0.win 4).flush t = true → 1 ≤ t.val := (by decide +kernel : ∀ t : Fin grid0.N, (cfg0.win 4).flush t = true → 1 ≤ t.val)

/-- The kernel's array after the run is the result of its arguments. -/
theorem final : (dats m 0 c).arrAt 4 (cfgs 0).N = (G m c : FVec Ideal S16384x2048 .bf16) := by
  refine (dats m 0 c).arrAt_eq_of_covers 4 (G m c) (by decide +kernel) fun t hf y => ?_
  blk_simp
  rw [after0_4]
  refine out_eq m c t (later t hf) y _ ?_ ?_
  all_goals blk_simp [idx t]
  all_goals omega

end Cert.RetKIdeal.Final

namespace Cert.RetKRefIdeal.Final

open Idealize.ShloMosaic Idealize.ShloMosaic.TcCoe Cert.RetKRefIdeal Cert.RetKRefIdeal.Gen Cert.RetKIdeal.Final Cert.Proj Cert.Rope
open Cert.RetQIdeal.Final (wf angles)
open Cert.RetQRefIdeal.Final (roped heads projected roped_row)

variable (m : (ℓ : Loc nD τ sig) → Buf (Elt Ideal) ℓ) (c : Dev nD)

/-- The rows and the weights that the reference is given. -/
abbrev xr : FVec Ideal S16384x2048 .bf16 := m ((c.tc : Thread nD τ).loc main_arg0)
@[inherit_doc xr] abbrev wr : FVec Ideal S2x2048x2048 .f32 := m ((c.tc : Thread nD τ).loc main_arg1)

/-- The reference's result is the result of its arguments. -/
theorem final : Value.res_out0 m c = (result (xr m c) (wr m c) : FVec Ideal S16384x2048 .bf16) := by
  refine (show Value.res_out0 m c = truncf .bf16 (shapeCast S16384x2048 (transpose S2x8192x8x256 [0, 2, 1, 3]
    (mulf (roped (heads (projected (xr m c) (wr m c))) (Host.cos (F := Ideal) angles) (Host.sin (F := Ideal) angles))
      (broadcastInDim S2x8x8192x256 ![] bcast_S_S2x8x8192x256 (constant S_ .f32 0x3D800000#32))) transposes_S2x8x8192x256_S2x8192x8x256_0_2_1_3)
      shapeCasts_S2x8192x8x256_S16384x2048) bitsLt_bf16_f32 from rfl).trans ?_
  funext (j : S16384x2048.Idx)
  idx_vars j
  pointwise
  exact congrArg (fun v : EReal => v * sixteenth) (roped_row _ _ (j0 : ℕ) (j1 : ℕ) _ _ _ _ (by dsimp only; omega) (by dsimp only; omega))

end Cert.RetKRefIdeal.Final

end
-- ==== Proof.OutRows.lean ====
module

public import proofs.«01_k».proof.Proof.DownBlock

@[expose] public section

set_option maxRecDepth 16384

noncomputable section

namespace Cert.OutRows

open Idealize.ShloMosaic Idealize.ShloMosaic.TcCoe Cert.FfnDownIdeal Cert.FfnDownIdeal.Gen Cert.FfnDownIdeal.Block Cert.Norm

/-- An array of `n` rows of `k` numbers. -/
abbrev Sh (n k : ℕ) : Shape := ⟨2, ![n, k]⟩

/-- A block of `n` rows of the sum, normed. -/
def lnRows {n : ℕ} (h a : FVec Ideal (Sh n 2048) .f32) (g b : FVec Ideal S1x2048 .f32) (y : (Sh n 2048).Idx) : EReal :=
  normed (rowSum (fun e => h (ix2 (y 0) e)) (fun e => a (ix2 (y 0) e))) (fun e => g (ix2 0 e)) (fun e => b (ix2 0 e)) (y 1)

/-- A block of `n` rows of a product over `k` numbers. -/
def dotRows {n k : ℕ} (x : FVec Ideal (Sh n k) .bf16) (w : FVec Ideal (Sh k 2048) .bf16) : FVec Ideal (Sh n 2048) .f32 := fun y =>
  ∑ d : Fin k, x (ix2 (y 0) d) * w (ix2 d (y 1))

/-- The sixteen rows from row `o` of a block on, normed. -/
theorem rows_eq {n : ℕ} (o : ℕ) (ho : o + 16 ≤ n) {H A : FVec Ideal S16x2048 .f32} {g b : FVec Ideal S1x2048 .f32} {h a : FVec Ideal (Sh n 2048) .f32}
    (hH : ∀ (r : Fin 16) (e : Fin 2048), H (ix2 r e) = h (ix2 ⟨o + r, by omega⟩ e)) (hA : ∀ (r : Fin 16) (e : Fin 2048), A (ix2 r e) = a (ix2 ⟨o + r, by omega⟩ e))
    (x : S16x2048.Idx) (y : (Sh n 2048).Idx) (h0 : (y 0 : ℕ) = o + (x 0 : ℕ)) (h1 : (y 1 : ℕ) = (x 1 : ℕ)) : k0_pay7 (F := Ideal) H A g b x = lnRows h a g b y := by
  have hx0 : (x 0 : ℕ) < 16 := (x 0).isLt
  have hx : x = ix2 (x 0) (x 1) := by
    funext a
    match a with
    | ⟨0, _⟩ => rfl
    | ⟨1, _⟩ => rfl
  have e0 : (⟨o + (x 0 : ℕ), by omega⟩ : Fin n) = (y 0 : Fin n) := Fin.ext h0.symm
  have e1 : (x 1 : Fin 2048) = (y 1 : Fin 2048) := Fin.ext h1.symm
  refine (congrArg (k0_pay7 (F := Ideal) H A g b) hx).trans ((rows_at H A g b (x 0) (x 1)).trans ?_)
  refine (congrArg₂ (fun (P Q : Fin 2048 → EReal) => normed (rowSum P Q) (fun e => g (ix2 0 e)) (fun e => b (ix2 0 e)) (x 1 : Fin 2048))
    (funext fun e => hH (x 0) e) (funext fun e => hA (x 0) e)).trans ?_
  exact congrArg₂ (fun (R : Fin n) (E : Fin 2048) => normed (rowSum (fun e => h (ix2 R e)) (fun e => a (ix2 R e))) (fun e => g (ix2 0 e)) (fun e => b (ix2 0 e)) E) e0 e1

/-- The same rows rounded, which here are the same. -/
theorem rows_eq_rounded {n : ℕ} (o : ℕ) (ho : o + 16 ≤ n) {H A : FVec Ideal S16x2048 .f32} {g b : FVec Ideal S1x2048 .f32} {h a : FVec Ideal (Sh n 2048) .f32}
    (hH : ∀ (r : Fin 16) (e : Fin 2048), H (ix2 r e) = h (ix2 ⟨o + r, by omega⟩ e)) (hA : ∀ (r : Fin 16) (e : Fin 2048), A (ix2 r e) = a (ix2 ⟨o + r, by omega⟩ e))
    (x : S16x2048.Idx) (y : (Sh n 2048).Idx) (h0 : (y 0 : ℕ) = o + (x 0 : ℕ)) (h1 : (y 1 : ℕ) = (x 1 : ℕ)) :
    truncf (F := Ideal) .bf16 (k0_pay7 (F := Ideal) H A g b) bitsLt_bf16_f32 x = lnRows h a g b y := rows_eq o ho hH hA x y h0 h1

/-- A piece that is the product of a block of rows with the 256 columns from column `o` on is the product's piece there. -/
theorem dot_eq {n k : ℕ} (o : ℕ) (ho : o + 256 ≤ 2048) {P : FVec Ideal (Sh n 256) .f32} {X : FVec Ideal (Sh n k) .bf16} {W : FVec Ideal (Sh k 256) .bf16}
    {w : FVec Ideal (Sh k 2048) .bf16} (hP : ∀ (r : Fin n) (e : Fin 256), P (ix2 r e) = ∑ d : Fin k, X (ix2 r d) * W (ix2 d e))
    (hW : ∀ (d : Fin k) (e : Fin 256), W (ix2 d e) = w (ix2 d ⟨o + e, by omega⟩)) (x : (Sh n 256).Idx) (y : (Sh n 2048).Idx) (h0 : (y 0 : ℕ) = (x 0 : ℕ))
    (h1 : (y 1 : ℕ) = o + (x 1 : ℕ)) : P x = dotRows X w y := by
  have hx1 : (x 1 : ℕ) < 256 := (x 1).isLt
  have hx : x = ix2 (x 0) (x 1) := by
    funext a
    match a with
    | ⟨0, _⟩ => rfl
    | ⟨1, _⟩ => rfl
  have e0 : (x 0 : Fin n) = (y 0 : Fin n) := Fin.ext h0.symm
  have e1 : (⟨o + (x 1 : ℕ), by omega⟩ : Fin 2048) = (y 1 : Fin 2048) := Fin.ext h1.symm
  refine (congrArg P hx).trans ((hP (x 0) (x 1)).trans ?_)
  refine Finset.sum_congr rfl fun d _ => ?_
  exact congrArg₂ (HMul.hMul (α := EReal) (β := EReal) (γ := EReal)) (congrArg (fun r : Fin n => X (ix2 r d)) e0)
    ((hW d (x 1)).trans (congrArg (fun E : Fin 2048 => w (ix2 d E)) e1))

end Cert.OutRows

end
-- ==== Proof.RetOutBlock.lean ====
module

public import proofs.«01_k».proof.Proof.OutRows
public import proofs.«01_k».proof.Proof.Gen.RetOutIdeal.Frame

@[expose] public section

set_option maxRecDepth 16384

noncomputable section

namespace Cert.RetOutIdeal.Block

open Idealize.ShloMosaic Idealize.ShloMosaic.TcCoe Cert.RetOutIdeal Cert.RetOutIdeal.Gen Cert.Norm Cert.OutRows

/-- 256 columns of the body's product. -/
theorem dot_at (X : FVec Ideal S256x4096 .bf16) (W : FVec Ideal S4096x256 .bf16) (r : Fin 256) (e : Fin 256) : k0_pay6 (F := Ideal) X W (ix2 r e)
    = ∑ d : Fin 4096, X (ix2 r d) * W (ix2 d e) := by
  pointwise [k0_pay6]

variable (m : (ℓ : Loc nD τ sig) → Buf (Elt Ideal) ℓ) (c : Dev nD)

/-- An odd point norms the sum of its residual block and the product that the point before left in the first accumulator. -/
theorem out_B (t : Fin cfg0.N) (h0 : ¬t.val % 65 = 0) (h1 : ¬t.val % 2 = 0) (h2 : t.val % 2 = 1) (y : S256x2048.Idx) :
    (outsAt0 m c t.val t.isLt).1 y = lnRows (iblk m c 2 t) (outsAt0 m c (t.val - 1) (Nat.lt_of_le_of_lt (Nat.sub_le _ _) t.isLt)).2.2.1 (iblk m c 3 t) (iblk m c 4 t) y := by
  rw [outsAt0_B m c t h0 h1 h2]
  frame_open
  simp (disch := decide) only [↓ View.readCov_skip, ↓ View.readCov_fill]
  frame_out
  simp only [read_unread_whole]
  canon_tiles x p
  all_goals first
    | refine rows_eq _ (by decide) ?_ ?_ x y p0 p1
    | refine rows_eq 0 (by decide) ?_ ?_ x y (p0.trans (Nat.zero_add _).symm) p1
  all_goals intros; pointwise

/-- An even point after the first does so with the second accumulator. -/
theorem out_C (t : Fin cfg0.N) (h0 : ¬t.val % 65 = 0) (h1 : t.val % 2 = 0) (h2 : ¬t.val % 2 = 1) (y : S256x2048.Idx) :
    (outsAt0 m c t.val t.isLt).1 y = lnRows (iblk m c 2 t) (outsAt0 m c (t.val - 1) (Nat.lt_of_le_of_lt (Nat.sub_le _ _) t.isLt)).2.2.2 (iblk m c 3 t) (iblk m c 4 t) y := by
  rw [outsAt0_C m c t h0 h1 h2]
  frame_open
  simp (disch := decide) only [↓ View.readCov_skip, ↓ View.readCov_fill]
  frame_out
  simp only [read_unread_whole]
  canon_tiles x p
  all_goals first
    | refine rows_eq _ (by decide) ?_ ?_ x y p0 p1
    | refine rows_eq 0 (by decide) ?_ ?_ x y (p0.trans (Nat.zero_add _).symm) p1
  all_goals intros; pointwise

/-- The second result of an odd point is the first one rounded. -/
theorem rounded_B (t : Fin cfg0.N) (h0 : ¬t.val % 65 = 0) (h1 : ¬t.val % 2 = 0) (h2 : t.val % 2 = 1) (y : S256x2048.Idx) :
    (outsAt0 m c t.val t.isLt).2.1 y = lnRows (iblk m c 2 t) (outsAt0 m c (t.val - 1) (Nat.lt_of_le_of_lt (Nat.sub_le _ _) t.isLt)).2.2.1 (iblk m c 3 t) (iblk m c 4 t) y := by
  rw [outsAt0_B m c t h0 h1 h2]
  frame_open
  simp (disch := decide) only [↓ View.readCov_skip, ↓ View.readCov_fill]
  frame_out
  simp only [read_unread_whole]
  canon_tiles x p
  all_goals first
    | refine rows_eq_rounded _ (by decide) ?_ ?_ x y p0 p1
    | refine rows_eq_rounded 0 (by decide) ?_ ?_ x y (p0.trans (Nat.zero_add _).symm) p1
  all_goals intros; pointwise

/-- So is that of an even point after the first. -/
theorem rounded_C (t : Fin cfg0.N) (h0 : ¬t.val % 65 = 0) (h1 : t.val % 2 = 0) (h2 : ¬t.val % 2 = 1) (y : S256x2048.Idx) :
    (outsAt0 m c t.val t.isLt).2.1 y = lnRows (iblk m c 2 t) (outsAt0 m c (t.val - 1) (Nat.lt_of_le_of_lt (Nat.sub_le _ _) t.isLt)).2.2.2 (iblk m c 3 t) (iblk m c 4 t) y := by
  rw [outsAt0_C m c t h0 h1 h2]
  frame_open
  simp (disch := decide) only [↓ View.readCov_skip, ↓ View.readCov_fill]
  frame_out
  simp only [read_unread_whole]
  canon_tiles x p
  all_goals first
    | refine rows_eq_rounded _ (by decide) ?_ ?_ x y p0 p1
    | refine rows_eq_rounded 0 (by decide) ?_ ?_ x y (p0.trans (Nat.zero_add _).symm) p1
  all_goals intros; pointwise

/-- The first point leaves its product in the first accumulator, -/
theorem acc_A (t : Fin cfg0.N) (h0 : t.val % 65 = 0) (h1 : t.val % 2 = 0) (h2 : ¬t.val % 2 = 1) (y : S256x2048.Idx) :
    (outsAt0 m c t.val t.isLt).2.2.1 y = dotRows (iblk m c 0 t) (iblk m c 1 t) y := by
  rw [outsAt0_A m c t h0 h1 h2]
  frame_open
  simp (disch := decide) only [↓ View.readCov_skip, ↓ View.readCov_fill]
  frame_out
  canon_tiles x p
  all_goals first
    | refine dot_eq _ (by decide) (dot_at _ _) ?_ x y p0 p1
    | refine dot_eq 0 (by decide) (dot_at _ _) ?_ x y p0 (p1.trans (Nat.zero_add _).symm)
  all_goals intros; pointwise

/-- an odd point leaves it in the second, -/
theorem acc_B (t : Fin cfg0.N) (h0 : ¬t.val % 65 = 0) (h1 : ¬t.val % 2 = 0) (h2 : t.val % 2 = 1) (y : S256x2048.Idx) :
    (outsAt0 m c t.val t.isLt).2.2.2 y = dotRows (iblk m c 0 t) (iblk m c 1 t) y := by
  rw [outsAt0_B m c t h0 h1 h2]
  frame_open
  simp (disch := decide) only [↓ View.readCov_skip, ↓ View.readCov_fill]
  frame_out
  canon_tiles x p
  all_goals first
    | refine dot_eq _ (by decide) (dot_at _ _) ?_ x y p0 p1
    | refine dot_eq 0 (by decide) (dot_at _ _) ?_ x y p0 (p1.trans (Nat.zero_add _).symm)
  all_goals intros; pointwise

/-- and an even point in the first. -/
theorem acc_C (t : Fin cfg0.N) (h0 : ¬t.val % 65 = 0) (h1 : t.val % 2 = 0) (h2 : ¬t.val % 2 = 1) (y : S256x2048.Idx) :
    (outsAt0 m c t.val t.isLt).2.2.1 y = dotRows (iblk m c 0 t) (iblk m c 1 t) y := by
  rw [outsAt0_C m c t h0 h1 h2]
  frame_open
  simp (disch := decide) only [↓ View.readCov_skip, ↓ View.readCov_fill]
  frame_out
  canon_tiles x p
  all_goals first
    | refine dot_eq _ (by decide) (dot_at _ _) ?_ x y p0 p1
    | refine dot_eq 0 (by decide) (dot_at _ _) ?_ x y p0 (p1.trans (Nat.zero_add _).symm)
  all_goals intros; pointwise

end Cert.RetOutIdeal.Block

end
-- ==== Proof.RetOutValue.lean ====
module

public import proofs.«01_k».proof.Proof.RetOutBlock
public import proofs.«01_k».proof.Proof.DownValue
public import proofs.«01_k».proof.Proof.Gen.RetOutRefIdeal.Run

@[expose] public section

set_option maxRecDepth 16384

noncomputable section

namespace Cert.RetOutIdeal.Final

open Idealize.ShloMosaic Idealize.ShloMosaic.TcCoe Cert.RetOutIdeal Cert.RetOutIdeal.Gen Cert.RetOutIdeal.Block Cert.Norm Cert.OutRows

/-- The product of the rows with the weights, added to the scaled residual, normed. -/
def result (x : FVec Ideal S16384x4096 .bf16) (w : FVec Ideal S4096x2048 .bf16) (h : FVec Ideal S16384x2048 .f32) (g b : FVec Ideal S2048 .f32)
    (j : S16384x2048.Idx) : EReal :=
  normed (rowSum (fun e => h (ix2 (j 0) e)) (fun e => ∑ d : Fin 4096, x (ix2 (j 0) d) * w (ix2 d e))) (fun e => g (ix1 e)) (fun e => b (ix1 e)) (j 1)

variable (m : (ℓ : Loc nD τ sig) → Buf (Elt Ideal) ℓ) (c : Dev nD)

/-- The block of every window at every grid point. -/
theorem idx : ∀ t : Fin cfg0.N, win0_0.index t = ![min t.val 63, 0] ∧ win0_1.index t = ![0, 0] ∧ win0_2.index t = ![t.val - 1, 0]
    ∧ win0_3.index t = ![0, 0] ∧ win0_4.index t = ![0, 0] ∧ win0_5.index t = ![t.val - 1, 0] ∧ win0_6.index t = ![t.val - 1, 0] :=
  (by decide +kernel : ∀ t : Fin grid0.N, _)

/-- The rows, the weights, the residual and the norm's weight and shift that the program is given. -/
abbrev xa : FVec Ideal S16384x4096 .bf16 := m ((c.tc : Thread nD τ).loc main_arg0)
@[inherit_doc xa] abbrev wa : FVec Ideal S4096x2048 .bf16 := m ((c.tc : Thread nD τ).loc main_arg1)
@[inherit_doc xa] abbrev ha : FVec Ideal S16384x2048 .f32 := m ((c.tc : Thread nD τ).loc main_arg2)
@[inherit_doc xa] abbrev ga : FVec Ideal S2048 .f32 := m ((c.tc : Thread nD τ).loc main_arg3)
@[inherit_doc xa] abbrev ba : FVec Ideal S2048 .f32 := m ((c.tc : Thread nD τ).loc main_arg4)

/-- A row of the arrays by its number. -/
def row (n : ℕ) : Fin 16384 := ⟨n % 16384, Nat.mod_lt _ (by decide)⟩

/-- A grid point's rows. -/
theorem blk_x (t : Fin cfg0.N) (r : Fin 256) (d : Fin 4096) : (iblk m c 0 t : FVec Ideal S256x4096 .bf16) (ix2 r d) = xa m c (ix2 (row (256 * min t.val 63 + r)) d) := by
  blk_ext [iblk, V, idx t, row]
/-- The weights. -/
theorem blk_w (t : Fin cfg0.N) (d : Fin 4096) (e : Fin 2048) : (iblk m c 1 t : FVec Ideal S4096x2048 .bf16) (ix2 d e) = wa m c (ix2 d e) := by
  blk_ext [iblk, V, idx t]
/-- A grid point's residual rows. -/
theorem blk_h (t : Fin cfg0.N) (r : Fin 256) (e : Fin 2048) : (iblk m c 2 t : FVec Ideal S256x2048 .f32) (ix2 r e) = ha m c (ix2 (row (256 * (t.val - 1) + r)) e) := by
  blk_ext [iblk, V, idx t, row]
/-- The norm's weight. -/
theorem blk_g (t : Fin cfg0.N) (e : Fin 2048) : (iblk m c 3 t : FVec Ideal S1x2048 .f32) (ix2 0 e) = ga m c (ix1 e) := by
  have e0 : V m c main_v0 = shapeCast S1x2048 (ga m c) shapeCasts_S2048_S1x2048 := by entry_read; rfl
  blk_simp [iblk]
  rw [e0]
  pointwise
  blk_ext [idx t]
/-- The norm's shift. -/
theorem blk_b (t : Fin cfg0.N) (e : Fin 2048) : (iblk m c 4 t : FVec Ideal S1x2048 .f32) (ix2 0 e) = ba m c (ix1 e) := by
  have e0 : V m c main_v1 = shapeCast S1x2048 (ba m c) shapeCasts_S2048_S1x2048 := by entry_read; rfl
  blk_simp [iblk]
  rw [e0]
  pointwise
  blk_ext [idx t]

/-- The product that a point leaves behind. -/
def Left (n : ℕ) (a : FVec Ideal S256x2048 .f32) : Prop := ∀ (r : Fin 256) (e : Fin 2048),
  a (ix2 r e) = ∑ d : Fin 4096, xa m c (ix2 (row (256 * min n 63 + r)) d) * wa m c (ix2 d e)

theorem left_dot (t : Fin cfg0.N) (r : Fin 256) (e : Fin 2048) : dotRows (iblk m c 0 t) (iblk m c 1 t) (ix2 r e)
    = ∑ d : Fin 4096, xa m c (ix2 (row (256 * min t.val 63 + r)) d) * wa m c (ix2 d e) :=
  Finset.sum_congr rfl fun d _ => congrArg₂ (HMul.hMul (α := EReal) (β := EReal) (γ := EReal)) (blk_x m c t r d) (blk_w m c t d e)

/-- An even point leaves its product in the first accumulator. -/
theorem left_even (t : Fin cfg0.N) (h : t.val % 2 = 0) : Left m c t.val (outsAt0 m c t.val t.isLt).2.2.1 := fun r e => by
  by_cases hz : t.val % 65 = 0
  · exact (acc_A m c t hz h (by omega) _).trans (left_dot m c t r e)
  · exact (acc_C m c t hz h (by omega) _).trans (left_dot m c t r e)

/-- An odd point leaves it in the second. -/
theorem left_odd (t : Fin cfg0.N) (h : t.val % 2 = 1) : Left m c t.val (outsAt0 m c t.val t.isLt).2.2.2 := fun r e =>
  (acc_B m c t (by have : t.val < 65 := t.isLt; omega) (by omega) h _).trans (left_dot m c t r e)

/-- The result of the arguments. -/
def G : S16384x2048.Idx → EReal := result (xa m c) (wa m c) (ha m c) (ga m c) (ba m c)

/-- A normed block over the product of the point before is a block of the result. -/
theorem lnRows_eq (t : Fin cfg0.N) (ht : 1 ≤ t.val) {a : FVec Ideal S256x2048 .f32} (ha : Left m c (t.val - 1) a) (y : S256x2048.Idx) (j : S16384x2048.Idx)
    (h0 : (j 0 : ℕ) = 256 * (t.val - 1) + (y 0 : ℕ)) (h1 : (j 1 : ℕ) = (y 1 : ℕ)) :
    lnRows (iblk m c 2 t) a (iblk m c 3 t) (iblk m c 4 t) y = G m c j := by
  have hN : t.val < 65 := t.isLt
  have hj : (j 0 : ℕ) < 16384 := (j 0).isLt
  have hmin : min (t.val - 1) 63 = t.val - 1 := by omega
  have e0 : row (256 * (t.val - 1) + (y 0 : ℕ)) = (j 0 : Fin 16384) := Fin.ext (by show (256 * (t.val - 1) + (y 0 : ℕ)) % 16384 = (j 0 : ℕ); omega)
  have e1 : (y 1 : Fin 2048) = (j 1 : Fin 2048) := Fin.ext h1.symm
  have hh : (fun e : Fin 2048 => (iblk m c 2 t : FVec Ideal S256x2048 .f32) (ix2 (y 0) e)) = fun e => Final.ha m c (ix2 (j 0) e) := funext fun e =>
    (blk_h m c t (y 0) e).trans (congrArg (fun R : Fin 16384 => Final.ha m c (ix2 R e)) e0)
  have hd : (fun e : Fin 2048 => a (ix2 (y 0) e)) = fun e => ∑ d : Fin 4096, xa m c (ix2 (j 0) d) * wa m c (ix2 d e) := funext fun e => by
    refine (ha (y 0) e).trans ?_
    rw [hmin]
    exact congrArg (fun R : Fin 16384 => ∑ d : Fin 4096, xa m c (ix2 R d) * wa m c (ix2 d e)) e0
  unfold lnRows
  rw [hh, hd, funext (blk_g m c t), funext (blk_b m c t)]
  exact congrArg (normed _ _ _) e1

/-- Every point after the first leaves a block of the result, in both precisions. -/
theorem out_eq (t : Fin cfg0.N) (ht : 1 ≤ t.val) (y : S256x2048.Idx) (j : S16384x2048.Idx) (h0 : (j 0 : ℕ) = 256 * (t.val - 1) + (y 0 : ℕ))
    (h1 : (j 1 : ℕ) = (y 1 : ℕ)) : (outsAt0 m c t.val t.isLt).1 y = G m c j ∧ (outsAt0 m c t.val t.isLt).2.1 y = G m c j := by
  have hN : t.val < 65 := t.isLt
  have hz : ¬t.val % 65 = 0 := by omega
  have hp : t.val - 1 < cfg0.N := Nat.lt_of_le_of_lt (Nat.sub_le _ _) t.isLt
  by_cases h : t.val % 2 = 0
  · have hl := left_odd m c ⟨t.val - 1, hp⟩ (by show (t.val - 1) % 2 = 1; omega)
    exact ⟨(out_C m c t hz h (by omega) y).trans (lnRows_eq m c t ht hl y j h0 h1), (rounded_C m c t hz h (by omega) y).trans (lnRows_eq m c t ht hl y j h0 h1)⟩
  · have hl := left_even m c ⟨t.val - 1, hp⟩ (by show (t.val - 1) % 2 = 0; omega)
    exact ⟨(out_B m c t hz h (by omega) y).trans (lnRows_eq m c t ht hl y j h0 h1), (rounded_B m c t hz h (by omega) y).trans (lnRows_eq m c t ht hl y j h0 h1)⟩

/-- The first result's blocks are written back only after the first point. -/
theorem later5 : ∀ t : Fin cfg0.N, (cfg0.win 5).flush t = true → 1 ≤ t.val := (by decide +kernel : ∀ t : Fin grid0.N, (cfg0.win 5).flush t = true → 1 ≤ t.val)
/-- So are the second's. -/
theorem later6 : ∀ t : Fin cfg0.N, (cfg0.win 6).flush t = true → 1 ≤ t.val := (by decide +kernel : ∀ t : Fin grid0.N, (cfg0.win 6).flush t = true → 1 ≤ t.val)

/-- The kernel's first array after the run is the result of its arguments. -/
theorem final5 : (dats m 0 c).arrAt 5 (cfgs 0).N = (G m c : FVec Ideal S16384x2048 .f32) := by
  refine (dats m 0 c).arrAt_eq_of_covers 5 (G m c) (by decide +kernel) fun t hf y => ?_
  blk_simp
  rw [after0_5]
  refine (out_eq m c t (later5 t hf) y _ ?_ ?_).1
  all_goals blk_simp [idx t]
  all_goals omega

/-- So is its second. -/
theorem final6 : (dats m 0 c).arrAt 6 (cfgs 0).N = (G m c : FVec Ideal S16384x2048 .bf16) := by
  refine (dats m 0 c).arrAt_eq_of_covers 6 (G m c) (by decide +kernel) fun t hf y => ?_
  blk_simp
  rw [after0_6]
  refine (out_eq m c t (later6 t hf) y _ ?_ ?_).2
  all_goals blk_simp [idx t]
  all_goals omega

end Cert.RetOutIdeal.Final

namespace Cert.RetOutRefIdeal.Final

open Idealize.ShloMosaic Idealize.ShloMosaic.TcCoe Cert.RetOutRefIdeal Cert.RetOutRefIdeal.Gen Cert.RetOutRefIdeal.Value Cert.RetOutIdeal.Final Cert.Norm
open Cert.FfnDownRefIdeal.Final (layerNorm summed layerNorm_summed)

/-- The reference's result is the result of its arguments. -/
theorem final (x : FVec Ideal S16384x4096 .bf16) (w : FVec Ideal S4096x2048 .bf16) (h : FVec Ideal S16384x2048 .f32) (g b : FVec Ideal S2048 .f32) :
    layerNorm (summed h (Host.dotGeneral dot_S16384x4096_S4096x2048_S16384x2048_1_0_0_1_n_n none (extf .f32 x bitsLt_bf16_f32) (extf .f32 w bitsLt_bf16_f32))) g b
      = result x w h g b := by
  have hd : ∀ r e, Host.dotGeneral (F := Ideal) dot_S16384x4096_S4096x2048_S16384x2048_1_0_0_1_n_n none (extf .f32 x bitsLt_bf16_f32) (extf .f32 w bitsLt_bf16_f32) (ix2 r e)
      = ∑ d : Fin 4096, x (ix2 r d) * w (ix2 d e) := fun r e => by
    pointwise
  funext (j : S16384x2048.Idx)
  refine (layerNorm_summed _ _ g b j).trans ?_
  rw [funext (hd (j 0))]
  rfl

end Cert.RetOutRefIdeal.Final

end
-- ==== Proof.MobaOutBlock.lean ====
module

public import proofs.«01_k».proof.Proof.OutRows
public import proofs.«01_k».proof.Proof.Gen.MobaOutIdeal.Frame

@[expose] public section

set_option maxRecDepth 16384

noncomputable section

namespace Cert.MobaOutIdeal.Block

open Idealize.ShloMosaic Idealize.ShloMosaic.TcCoe Cert.MobaOutIdeal Cert.MobaOutIdeal.Gen Cert.Norm Cert.OutRows

/-- 256 columns of the body's product. -/
theorem dot_at (X : FVec Ideal S512x2048 .bf16) (W : FVec Ideal S2048x256 .bf16) (r : Fin 512) (e : Fin 256) : k0_pay4 (F := Ideal) X W (ix2 r e)
    = ∑ d : Fin 2048, X (ix2 r d) * W (ix2 d e) := by
  pointwise [k0_pay4]

variable (m : (ℓ : Loc nD τ sig) → Buf (Elt Ideal) ℓ) (c : Dev nD)

/-- An odd point norms the sum of its residual block and the product that the point before left in the first accumulator. -/
theorem out_B (t : Fin cfg0.N) (h0 : ¬t.val % 33 = 0) (h1 : ¬t.val % 2 = 0) (h2 : t.val % 2 = 1) (y : S512x2048.Idx) :
    (outsAt0 m c t.val t.isLt).1 y = lnRows (iblk m c 2 t) (outsAt0 m c (t.val - 1) (Nat.lt_of_le_of_lt (Nat.sub_le _ _) t.isLt)).2.2.1 (iblk m c 3 t) (iblk m c 4 t) y := by
  rw [outsAt0_B m c t h0 h1 h2]
  frame_open
  simp (disch := decide) only [↓ View.readCov_skip, ↓ View.readCov_fill]
  frame_out
  simp only [read_unread_whole]
  canon_tiles x p
  all_goals first
    | refine rows_eq _ (by decide) ?_ ?_ x y p0 p1
    | refine rows_eq 0 (by decide) ?_ ?_ x y (p0.trans (Nat.zero_add _).symm) p1
  all_goals intros; pointwise

/-- An even point after the first does so with the second accumulator. -/
theorem out_C (t : Fin cfg0.N) (h0 : ¬t.val % 33 = 0) (h1 : t.val % 2 = 0) (h2 : ¬t.val % 2 = 1) (y : S512x2048.Idx) :
    (outsAt0 m c t.val t.isLt).1 y = lnRows (iblk m c 2 t) (outsAt0 m c (t.val - 1) (Nat.lt_of_le_of_lt (Nat.sub_le _ _) t.isLt)).2.2.2 (iblk m c 3 t) (iblk m c 4 t) y := by
  rw [outsAt0_C m c t h0 h1 h2]
  frame_open
  simp (disch := decide) only [↓ View.readCov_skip, ↓ View.readCov_fill]
  frame_out
  simp only [read_unread_whole]
  canon_tiles x p
  all_goals first
    | refine rows_eq _ (by decide) ?_ ?_ x y p0 p1
    | refine rows_eq 0 (by decide) ?_ ?_ x y (p0.trans (Nat.zero_add _).symm) p1
  all_goals intros; pointwise

/-- The second result of an odd point is the first one rounded. -/
theorem rounded_B (t : Fin cfg0.N) (h0 : ¬t.val % 33 = 0) (h1 : ¬t.val % 2 = 0) (h2 : t.val % 2 = 1) (y : S512x2048.Idx) :
    (outsAt0 m c t.val t.isLt).2.1 y = lnRows (iblk m c 2 t) (outsAt0 m c (t.val - 1) (Nat.lt_of_le_of_lt (Nat.sub_le _ _) t.isLt)).2.2.1 (iblk m c 3 t) (iblk m c 4 t) y := by
  rw [outsAt0_B m c t h0 h1 h2]
  frame_open
  simp (disch := decide) only [↓ View.readCov_skip, ↓ View.readCov_fill]
  frame_out
  simp only [read_unread_whole]
  canon_tiles x p
  all_goals first
    | refine rows_eq_rounded _ (by decide) ?_ ?_ x y p0 p1
    | refine rows_eq_rounded 0 (by decide) ?_ ?_ x y (p0.trans (Nat.zero_add _).symm) p1
  all_goals intros; pointwise

/-- So is that of an even point after the first. -/
theorem rounded_C (t : Fin cfg0.N) (h0 : ¬t.val % 33 = 0) (h1 : t.val % 2 = 0) (h2 : ¬t.val % 2 = 1) (y : S512x2048.Idx) :
    (outsAt0 m c t.val t.isLt).2.1 y = lnRows (iblk m c 2 t) (outsAt0 m c (t.val - 1) (Nat.lt_of_le_of_lt (Nat.sub_le _ _) t.isLt)).2.2.2 (iblk m c 3 t) (iblk m c 4 t) y := by
  rw [outsAt0_C m c t h0 h1 h2]
  frame_open
  simp (disch := decide) only [↓ View.readCov_skip, ↓ View.readCov_fill]
  frame_out
  simp only [read_unread_whole]
  canon_tiles x p
  all_goals first
    | refine rows_eq_rounded _ (by decide) ?_ ?_ x y p0 p1
    | refine rows_eq_rounded 0 (by decide) ?_ ?_ x y (p0.trans (Nat.zero_add _).symm) p1
  all_goals intros; pointwise

/-- The first point leaves its product in the first accumulator, -/
theorem acc_A (t : Fin cfg0.N) (h0 : t.val % 33 = 0) (h1 : t.val % 2 = 0) (h2 : ¬t.val % 2 = 1) (y : S512x2048.Idx) :
    (outsAt0 m c t.val t.isLt).2.2.1 y = dotRows (iblk m c 0 t) (iblk m c 1 t) y := by
  rw [outsAt0_A m c t h0 h1 h2]
  frame_open
  simp (disch := decide) only [↓ View.readCov_skip, ↓ View.readCov_fill]
  frame_out
  canon_tiles x p
  all_goals first
    | refine dot_eq _ (by decide) (dot_at _ _) ?_ x y p0 p1
    | refine dot_eq 0 (by decide) (dot_at _ _) ?_ x y p0 (p1.trans (Nat.zero_add _).symm)
  all_goals intros; pointwise

/-- an odd point leaves it in the second, -/
theorem acc_B (t : Fin cfg0.N) (h0 : ¬t.val % 33 = 0) (h1 : ¬t.val % 2 = 0) (h2 : t.val % 2 = 1) (y : S512x2048.Idx) :
    (outsAt0 m c t.val t.isLt).2.2.2 y = dotRows (iblk m c 0 t) (iblk m c 1 t) y := by
  rw [outsAt0_B m c t h0 h1 h2]
  frame_open
  simp (disch := decide) only [↓ View.readCov_skip, ↓ View.readCov_fill]
  frame_out
  canon_tiles x p
  all_goals first
    | refine dot_eq _ (by decide) (dot_at _ _) ?_ x y p0 p1
    | refine dot_eq 0 (by decide) (dot_at _ _) ?_ x y p0 (p1.trans (Nat.zero_add _).symm)
  all_goals intros; pointwise

/-- and an even point in the first. -/
theorem acc_C (t : Fin cfg0.N) (h0 : ¬t.val % 33 = 0) (h1 : t.val % 2 = 0) (h2 : ¬t.val % 2 = 1) (y : S512x2048.Idx) :
    (outsAt0 m c t.val t.isLt).2.2.1 y = dotRows (iblk m c 0 t) (iblk m c 1 t) y := by
  rw [outsAt0_C m c t h0 h1 h2]
  frame_open
  simp (disch := decide) only [↓ View.readCov_skip, ↓ View.readCov_fill]
  frame_out
  canon_tiles x p
  all_goals first
    | refine dot_eq _ (by decide) (dot_at _ _) ?_ x y p0 p1
    | refine dot_eq 0 (by decide) (dot_at _ _) ?_ x y p0 (p1.trans (Nat.zero_add _).symm)
  all_goals intros; pointwise

end Cert.MobaOutIdeal.Block

end
-- ==== Proof.MobaOutValue.lean ====
module

public import proofs.«01_k».proof.Proof.MobaOutBlock
public import proofs.«01_k».proof.Proof.DownValue
public import proofs.«01_k».proof.Proof.Gen.MobaOutRefIdeal.Run

@[expose] public section

set_option maxRecDepth 16384

noncomputable section

namespace Cert.MobaOutIdeal.Final

open Idealize.ShloMosaic Idealize.ShloMosaic.TcCoe Cert.MobaOutIdeal Cert.MobaOutIdeal.Gen Cert.MobaOutIdeal.Block Cert.Norm Cert.OutRows

/-- The product of the rows with the weights, added to the scaled residual, normed. -/
def result (x : FVec Ideal S16384x2048 .bf16) (w : FVec Ideal S2048x2048 .bf16) (h : FVec Ideal S16384x2048 .f32) (g b : FVec Ideal S2048 .f32)
    (j : S16384x2048.Idx) : EReal :=
  normed (rowSum (fun e => h (ix2 (j 0) e)) (fun e => ∑ d : Fin 2048, x (ix2 (j 0) d) * w (ix2 d e))) (fun e => g (ix1 e)) (fun e => b (ix1 e)) (j 1)

variable (m : (ℓ : Loc nD τ sig) → Buf (Elt Ideal) ℓ) (c : Dev nD)

/-- The block of every window at every grid point. -/
theorem idx : ∀ t : Fin cfg0.N, win0_0.index t = ![min t.val 31, 0] ∧ win0_1.index t = ![0, 0] ∧ win0_2.index t = ![t.val - 1, 0]
    ∧ win0_3.index t = ![0, 0] ∧ win0_4.index t = ![0, 0] ∧ win0_5.index t = ![t.val - 1, 0] ∧ win0_6.index t = ![t.val - 1, 0] :=
  (by decide +kernel : ∀ t : Fin grid0.N, _)

/-- The rows, the weights, the residual and the norm's weight and shift that the program is given. -/
abbrev xa : FVec Ideal S16384x2048 .bf16 := m ((c.tc : Thread nD τ).loc main_arg0)
@[inherit_doc xa] abbrev wa : FVec Ideal S2048x2048 .bf16 := m ((c.tc : Thread nD τ).loc main_arg1)
@[inherit_doc xa] abbrev ha : FVec Ideal S16384x2048 .f32 := m ((c.tc : Thread nD τ).loc main_arg2)
@[inherit_doc xa] abbrev ga : FVec Ideal S2048 .f32 := m ((c.tc : Thread nD τ).loc main_arg3)
@[inherit_doc xa] abbrev ba : FVec Ideal S2048 .f32 := m ((c.tc : Thread nD τ).loc main_arg4)

/-- A row of the arrays by its number. -/
def row (n : ℕ) : Fin 16384 := ⟨n % 16384, Nat.mod_lt _ (by decide)⟩

/-- A grid point's rows. -/
theorem blk_x (t : Fin cfg0.N) (r : Fin 512) (d : Fin 2048) : (iblk m c 0 t : FVec Ideal S512x2048 .bf16) (ix2 r d) = xa m c (ix2 (row (512 * min t.val 31 + r)) d) := by
  blk_ext [iblk, V, idx t, row]
/-- The weights. -/
theorem blk_w (t : Fin cfg0.N) (d : Fin 2048) (e : Fin 2048) : (iblk m c 1 t : FVec Ideal S2048x2048 .bf16) (ix2 d e) = wa m c (ix2 d e) := by
  blk_ext [iblk, V, idx t]
/-- A grid point's residual rows. -/
theorem blk_h (t : Fin cfg0.N) (r : Fin 512) (e : Fin 2048) : (iblk m c 2 t : FVec Ideal S512x2048 .f32) (ix2 r e) = ha m c (ix2 (row (512 * (t.val - 1) + r)) e) := by
  blk_ext [iblk, V, idx t, row]
/-- The norm's weight. -/
theorem blk_g (t : Fin cfg0.N) (e : Fin 2048) : (iblk m c 3 t : FVec Ideal S1x2048 .f32) (ix2 0 e) = ga m c (ix1 e) := by
  have e0 : V m c main_v0 = shapeCast S1x2048 (ga m c) shapeCasts_S2048_S1x2048 := by entry_read; rfl
  blk_simp [iblk]
  rw [e0]
  pointwise
  blk_ext [idx t]
/-- The norm's shift. -/
theorem blk_b (t : Fin cfg0.N) (e : Fin 2048) : (iblk m c 4 t : FVec Ideal S1x2048 .f32) (ix2 0 e) = ba m c (ix1 e) := by
  have e0 : V m c main_v1 = shapeCast S1x2048 (ba m c) shapeCasts_S2048_S1x2048 := by entry_read; rfl
  blk_simp [iblk]
  rw [e0]
  pointwise
  blk_ext [idx t]

/-- The product that a point leaves behind. -/
def Left (n : ℕ) (a : FVec Ideal S512x2048 .f32) : Prop := ∀ (r : Fin 512) (e : Fin 2048),
  a (ix2 r e) = ∑ d : Fin 2048, xa m c (ix2 (row (512 * min n 31 + r)) d) * wa m c (ix2 d e)

theorem left_dot (t : Fin cfg0.N) (r : Fin 512) (e : Fin 2048) : dotRows (iblk m c 0 t) (iblk m c 1 t) (ix2 r e)
    = ∑ d : Fin 2048, xa m c (ix2 (row (512 * min t.val 31 + r)) d) * wa m c (ix2 d e) :=
  Finset.sum_congr rfl fun d _ => congrArg₂ (HMul.hMul (α := EReal) (β := EReal) (γ := EReal)) (blk_x m c t r d) (blk_w m c t d e)

/-- An even point leaves its product in the first accumulator. -/
theorem left_even (t : Fin cfg0.N) (h : t.val % 2 = 0) : Left m c t.val (outsAt0 m c t.val t.isLt).2.2.1 := fun r e => by
  by_cases hz : t.val % 33 = 0
  · exact (acc_A m c t hz h (by omega) _).trans (left_dot m c t r e)
  · exact (acc_C m c t hz h (by omega) _).trans (left_dot m c t r e)

/-- An odd point leaves it in the second. -/
theorem left_odd (t : Fin cfg0.N) (h : t.val % 2 = 1) : Left m c t.val (outsAt0 m c t.val t.isLt).2.2.2 := fun r e =>
  (acc_B m c t (by have : t.val < 33 := t.isLt; omega) (by omega) h _).trans (left_dot m c t r e)

/-- The result of the arguments. -/
def G : S16384x2048.Idx → EReal := result (xa m c) (wa m c) (ha m c) (ga m c) (ba m c)

/-- A normed block over the product of the point before is a block of the result. -/
theorem lnRows_eq (t : Fin cfg0.N) (ht : 1 ≤ t.val) {a : FVec Ideal S512x2048 .f32} (ha : Left m c (t.val - 1) a) (y : S512x2048.Idx) (j : S16384x2048.Idx)
    (h0 : (j 0 : ℕ) = 512 * (t.val - 1) + (y 0 : ℕ)) (h1 : (j 1 : ℕ) = (y 1 : ℕ)) :
    lnRows (iblk m c 2 t) a (iblk m c 3 t) (iblk m c 4 t) y = G m c j := by
  have hN : t.val < 33 := t.isLt
  have hj : (j 0 : ℕ) < 16384 := (j 0).isLt
  have hmin : min (t.val - 1) 31 = t.val - 1 := by omega
  have e0 : row (512 * (t.val - 1) + (y 0 : ℕ)) = (j 0 : Fin 16384) := Fin.ext (by show (512 * (t.val - 1) + (y 0 : ℕ)) % 16384 = (j 0 : ℕ); omega)
  have e1 : (y 1 : Fin 2048) = (j 1 : Fin 2048) := Fin.ext h1.symm
  have hh : (fun e : Fin 2048 => (iblk m c 2 t : FVec Ideal S512x2048 .f32) (ix2 (y 0) e)) = fun e => Final.ha m c (ix2 (j 0) e) := funext fun e =>
    (blk_h m c t (y 0) e).trans (congrArg (fun R : Fin 16384 => Final.ha m c (ix2 R e)) e0)
  have hd : (fun e : Fin 2048 => a (ix2 (y 0) e)) = fun e => ∑ d : Fin 2048, xa m c (ix2 (j 0) d) * wa m c (ix2 d e) := funext fun e => by
    refine (ha (y 0) e).trans ?_
    rw [hmin]
    exact congrArg (fun R : Fin 16384 => ∑ d : Fin 2048, xa m c (ix2 R d) * wa m c (ix2 d e)) e0
  unfold lnRows
  rw [hh, hd, funext (blk_g m c t), funext (blk_b m c t)]
  exact congrArg (normed _ _ _) e1

/-- Every point after the first leaves a block of the result, in both precisions. -/
theorem out_eq (t : Fin cfg0.N) (ht : 1 ≤ t.val) (y : S512x2048.Idx) (j : S16384x2048.Idx) (h0 : (j 0 : ℕ) = 512 * (t.val - 1) + (y 0 : ℕ))
    (h1 : (j 1 : ℕ) = (y 1 : ℕ)) : (outsAt0 m c t.val t.isLt).1 y = G m c j ∧ (outsAt0 m c t.val t.isLt).2.1 y = G m c j := by
  have hN : t.val < 33 := t.isLt
  have hz : ¬t.val % 33 = 0 := by omega
  have hp : t.val - 1 < cfg0.N := Nat.lt_of_le_of_lt (Nat.sub_le _ _) t.isLt
  by_cases h : t.val % 2 = 0
  · have hl := left_odd m c ⟨t.val - 1, hp⟩ (by show (t.val - 1) % 2 = 1; omega)
    exact ⟨(out_C m c t hz h (by omega) y).trans (lnRows_eq m c t ht hl y j h0 h1), (rounded_C m c t hz h (by omega) y).trans (lnRows_eq m c t ht hl y j h0 h1)⟩
  · have hl := left_even m c ⟨t.val - 1, hp⟩ (by show (t.val - 1) % 2 = 0; omega)
    exact ⟨(out_B m c t hz h (by omega) y).trans (lnRows_eq m c t ht hl y j h0 h1), (rounded_B m c t hz h (by omega) y).trans (lnRows_eq m c t ht hl y j h0 h1)⟩

/-- The first result's blocks are written back only after the first point. -/
theorem later5 : ∀ t : Fin cfg0.N, (cfg0.win 5).flush t = true → 1 ≤ t.val := (by decide +kernel : ∀ t : Fin grid0.N, (cfg0.win 5).flush t = true → 1 ≤ t.val)
/-- So are the second's. -/
theorem later6 : ∀ t : Fin cfg0.N, (cfg0.win 6).flush t = true → 1 ≤ t.val := (by decide +kernel : ∀ t : Fin grid0.N, (cfg0.win 6).flush t = true → 1 ≤ t.val)

/-- The kernel's first array after the run is the result of its arguments. -/
theorem final5 : (dats m 0 c).arrAt 5 (cfgs 0).N = (G m c : FVec Ideal S16384x2048 .f32) := by
  refine (dats m 0 c).arrAt_eq_of_covers 5 (G m c) (by decide +kernel) fun t hf y => ?_
  blk_simp
  rw [after0_5]
  refine (out_eq m c t (later5 t hf) y _ ?_ ?_).1
  all_goals blk_simp [idx t]
  all_goals omega

/-- So is its second. -/
theorem final6 : (dats m 0 c).arrAt 6 (cfgs 0).N = (G m c : FVec Ideal S16384x2048 .bf16) := by
  refine (dats m 0 c).arrAt_eq_of_covers 6 (G m c) (by decide +kernel) fun t hf y => ?_
  blk_simp
  rw [after0_6]
  refine (out_eq m c t (later6 t hf) y _ ?_ ?_).2
  all_goals blk_simp [idx t]
  all_goals omega

end Cert.MobaOutIdeal.Final

namespace Cert.MobaOutRefIdeal.Final

open Idealize.ShloMosaic Idealize.ShloMosaic.TcCoe Cert.MobaOutRefIdeal Cert.MobaOutRefIdeal.Gen Cert.MobaOutRefIdeal.Value Cert.MobaOutIdeal.Final Cert.Norm
open Cert.FfnDownRefIdeal.Final (layerNorm summed layerNorm_summed)

/-- The reference's result is the result of its arguments. -/
theorem final (x : FVec Ideal S16384x2048 .bf16) (w : FVec Ideal S2048x2048 .bf16) (h : FVec Ideal S16384x2048 .f32) (g b : FVec Ideal S2048 .f32) :
    layerNorm (summed h (Host.dotGeneral dot_S16384x2048_S2048x2048_S16384x2048_1_0_0_1_n_n none (extf .f32 x bitsLt_bf16_f32) (extf .f32 w bitsLt_bf16_f32))) g b
      = result x w h g b := by
  have hd : ∀ r e, Host.dotGeneral (F := Ideal) dot_S16384x2048_S2048x2048_S16384x2048_1_0_0_1_n_n none (extf .f32 x bitsLt_bf16_f32) (extf .f32 w bitsLt_bf16_f32) (ix2 r e)
      = ∑ d : Fin 2048, x (ix2 r d) * w (ix2 d e) := fun r e => by
    pointwise
  funext (j : S16384x2048.Idx)
  refine (layerNorm_summed _ _ g b j).trans ?_
  rw [funext (hd (j 0))]
  rfl

end Cert.MobaOutRefIdeal.Final

end
-- ==== Proof.MobaQkvIdealRuns.lean ====
module

public import proofs.«01_k».proof.Proof.Gen.MobaQkvIdeal.Frame.RunA

@[expose] public section

set_option maxRecDepth 16384

noncomputable section

namespace Cert.MobaQkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1380000 in

/-- The run of the body in case B, with the stores that it makes. -/
noncomputable def kernelRun0_B (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (hc2 : ¬cond0_2 i) (hc3 : cond0_3 i)
    (x0 : Vec F S1024x2048 .bf16) (x1 : Vec F S1x2048x1024 .f32) (x2 : Vec F S1024x128 .f32) (x3 : Vec F S1024x128 .f32) (xs0 : Vec F S2048x1024 .bf16) (xs1 : Vec F S1024x1024 .f32) :
    Σ' (L4 : List (View.Piece (Elt F) S1024x1024 .bf16)), Σ' (LS0 : List (View.Piece (Elt F) S2048x1024 .bf16)), Σ' (LS1 : List (View.Piece (Elt F) S1024x1024 .f32)), { LS2 : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs0 ∗ owns (c : Thread nD τ) arg7 fullShare xs1 ∗ (∃ f, arg8.view.loc (c : Thread nD τ) ↦[arg8.view.set]{fullShare} arg8.view.writes (Elt F) f LS2)) -∗ K ⟨⟩))
          ⊢ wp frame (wpE (defs₀ (F := F)) Variants.none c none) E (cc0_moba_qkv_proj i arg1 harg1 arg2 harg2 arg3 harg3 arg4 harg4 arg5 harg5 arg6 harg6 arg7 harg7 arg8 harg8) K } := by
  refine ⟨?_, [], [], ?_, fun E K => ?run⟩
  case run =>
    simp only [cc0_moba_qkv_proj_eq_skeleton]; unfold cc0_moba_qkv_proj_skel
    rw [k0_part39_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg6.eq_unread hfs0; obtain rfl := harg7.eq_unread hfs1
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]
    · iexists _; isplitr; · ipureintro; exact harg6.read_unread _
      iexact HS0
    isplitl [HS1]
    · iexists _; isplitr; · ipureintro; exact harg7.read_unread _
      iexact HS1
    iexists _; iexact HS2

set_option maxHeartbeats 1380000 in

/-- The run of the body in case C, with the stores that it makes. -/
noncomputable def kernelRun0_C (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (hc2 : cond0_2 i) (hc3 : ¬cond0_3 i)
    (x0 : Vec F S1024x2048 .bf16) (x1 : Vec F S1x2048x1024 .f32) (x2 : Vec F S1024x128 .f32) (x3 : Vec F S1024x128 .f32) (xs0 : Vec F S2048x1024 .bf16) (xs2 : Vec F S1024x1024 .f32) :
    Σ' (L4 : List (View.Piece (Elt F) S1024x1024 .bf16)), Σ' (LS0 : List (View.Piece (Elt F) S2048x1024 .bf16)), Σ' (LS1 : List (View.Piece (Elt F) S1024x1024 .f32)), { LS2 : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ (∃ d, owns (c : Thread nD τ) arg7 fullShare d) ∗ owns (c : Thread nD τ) arg8 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs0 ∗ (∃ f, arg7.view.loc (c : Thread nD τ) ↦[arg7.view.set]{fullShare} arg7.view.writes (Elt F) f LS1) ∗ owns (c : Thread nD τ) arg8 fullShare xs2) -∗ K ⟨⟩))
          ⊢ wp frame (wpE (defs₀ (F := F)) Variants.none c none) E (cc0_moba_qkv_proj i arg1 harg1 arg2 harg2 arg3 harg3 arg4 harg4 arg5 harg5 arg6 harg6 arg7 harg7 arg8 harg8) K } := by
  refine ⟨?_, [], ?_, [], fun E K => ?run⟩
  case run =>
    simp only [cc0_moba_qkv_proj_eq_skeleton]; unfold cc0_moba_qkv_proj_skel
    rw [k0_part39_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg6.eq_unread hfs0; obtain rfl := harg8.eq_unread hfs2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]
    · iexists _; isplitr; · ipureintro; exact harg6.read_unread _
      iexact HS0
    isplitl [HS1]; · iexists _; iexact HS1
    iexists _; isplitr; · ipureintro; exact harg8.read_unread _
    iexact HS2

set_option maxHeartbeats 1396000 in

/-- The run of the body in case D, with the stores that it makes. -/
noncomputable def kernelRun0_D (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (hc2 : cond0_2 i) (hc3 : ¬cond0_3 i)
    (x0 : Vec F S1024x2048 .bf16) (x1 : Vec F S1x2048x1024 .f32) (x2 : Vec F S1024x128 .f32) (x3 : Vec F S1024x128 .f32) (xs2 : Vec F S1024x1024 .f32) :
    Σ' (L4 : List (View.Piece (Elt F) S1024x1024 .bf16)), Σ' (LS0 : List (View.Piece (Elt F) S2048x1024 .bf16)), Σ' (LS1 : List (View.Piece (Elt F) S1024x1024 .f32)), { LS2 : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ owns (c : Thread nD τ) arg8 fullShare xs2) -∗ K ⟨⟩))
          ⊢ wp frame (wpE (defs₀ (F := F)) Variants.none c none) E (cc0_moba_qkv_proj i arg1 harg1 arg2 harg2 arg3 harg3 arg4 harg4 arg5 harg5 arg6 harg6 arg7 harg7 arg8 harg8) K } := by
  refine ⟨?_, ?_, ?_, [], fun E K => ?run⟩
  case run =>
    simp only [cc0_moba_qkv_proj_eq_skeleton]; unfold cc0_moba_qkv_proj_skel
    rw [k0_part39_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg8.eq_unread hfs2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    isplitl [HS1]; · iexists _; iexact HS1
    iexists _; isplitr; · ipureintro; exact harg8.read_unread _
    iexact HS2

end Cert.MobaQkvIdeal.Gen

end
-- ==== Proof.MobaQkvIdealFrame.lean ====
module

public import proofs.«01_k».proof.Proof.MobaQkvIdealRuns
public import Idealize.ShloMosaic.Lib.Claim

@[expose] public section

set_option maxRecDepth 16384

noncomputable section

namespace Cert.MobaQkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores of case A fill the output block. -/
theorem cover0_A_4 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : cond0_2 i) (hc3 : ¬cond0_3 i)
    (x0 : Vec F S1024x2048 .bf16) (x1 : Vec F S1x2048x1024 .f32) (x2 : Vec F S1024x128 .f32) (x3 : Vec F S1024x128 .f32) (y : S1024x1024.Idx) :
    ∃ pc ∈ (kernelRun0_A c i arg1 harg1 arg2 harg2 arg3 harg3 arg4 harg4 arg5 harg5 arg6 harg6 arg7 harg7 arg8 harg8 hc0 hc1 hc2 hc3 x0 x1 x2 x3).1, y ∈ pc.1.set :=
  View.cover_of_tiledL (kernelRun0_A c i arg1 harg1 arg2 harg2 arg3 harg3 arg4 harg4 arg5 harg5 arg6 harg6 arg7 harg7 arg8 harg8 hc0 hc1 hc2 hc3 x0 x1 x2 x3).1 S128x128.size (by sl_kernel_rfl) y

/-- What case A leaves in the output block. -/
def out0_A_4 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : cond0_2 i) (hc3 : ¬cond0_3 i)
    (x0 : Vec F S1024x2048 .bf16) (x1 : Vec F S1x2048x1024 .f32) (x2 : Vec F S1024x128 .f32) (x3 : Vec F S1024x128 .f32) : Vec F S1024x1024 .bf16 :=
  VO0_4.read (Elt F) (VO0_4.writes (Elt F) VO0_4.junk (kernelRun0_A c i arg1 harg1 arg2 harg2 arg3 harg3 arg4 harg4 arg5 harg5 arg6 harg6 arg7 harg7 arg8 harg8 hc0 hc1 hc2 hc3 x0 x1 x2 x3).1)

/-- The stores of case A fill scratch 0. -/
theorem scover0_A_0 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : cond0_2 i) (hc3 : ¬cond0_3 i)
    (x0 : Vec F S1024x2048 .bf16) (x1 : Vec F S1x2048x1024 .f32) (x2 : Vec F S1024x128 .f32) (x3 : Vec F S1024x128 .f32) (y : S2048x1024.Idx) :
    ∃ pc ∈ (kernelRun0_A c i arg1 harg1 arg2 harg2 arg3 harg3 arg4 harg4 arg5 harg5 arg6 harg6 arg7 harg7 arg8 harg8 hc0 hc1 hc2 hc3 x0 x1 x2 x3).2.1, y ∈ pc.1.set :=
  View.cover_of_tiledL (kernelRun0_A c i arg1 harg1 arg2 harg2 arg3 harg3 arg4 harg4 arg5 harg5 arg6 harg6 arg7 harg7 arg8 harg8 hc0 hc1 hc2 hc3 x0 x1 x2 x3).2.1 S2048x1024.size (by sl_kernel_rfl) y

/-- What case A leaves in scratch 0. -/
def sout0_A_0 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : cond0_2 i) (hc3 : ¬cond0_3 i)
    (x0 : Vec F S1024x2048 .bf16) (x1 : Vec F S1x2048x1024 .f32) (x2 : Vec F S1024x128 .f32) (x3 : Vec F S1024x128 .f32) : Vec F S2048x1024 .bf16 :=
  VS0_0.read (Elt F) (VS0_0.writes (Elt F) VS0_0.junk (kernelRun0_A c i arg1 harg1 arg2 harg2 arg3 harg3 arg4 harg4 arg5 harg5 arg6 harg6 arg7 harg7 arg8 harg8 hc0 hc1 hc2 hc3 x0 x1 x2 x3).2.1)

/-- The stores of case A fill scratch 1. -/
theorem scover0_A_1 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : cond0_2 i) (hc3 : ¬cond0_3 i)
    (x0 : Vec F S1024x2048 .bf16) (x1 : Vec F S1x2048x1024 .f32) (x2 : Vec F S1024x128 .f32) (x3 : Vec F S1024x128 .f32) (y : S1024x1024.Idx) :
    ∃ pc ∈ (kernelRun0_A c i arg1 harg1 arg2 harg2 arg3 harg3 arg4 harg4 arg5 harg5 arg6 harg6 arg7 harg7 arg8 harg8 hc0 hc1 hc2 hc3 x0 x1 x2 x3).2.2.1, y ∈ pc.1.set :=
  View.cover_of_tiledL (kernelRun0_A c i arg1 harg1 arg2 harg2 arg3 harg3 arg4 harg4 arg5 harg5 arg6 harg6 arg7 harg7 arg8 harg8 hc0 hc1 hc2 hc3 x0 x1 x2 x3).2.2.1 S1024x256.size (by sl_kernel_rfl) y

/-- What case A leaves in scratch 1. -/
def sout0_A_1 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : cond0_2 i) (hc3 : ¬cond0_3 i)
    (x0 : Vec F S1024x2048 .bf16) (x1 : Vec F S1x2048x1024 .f32) (x2 : Vec F S1024x128 .f32) (x3 : Vec F S1024x128 .f32) : Vec F S1024x1024 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 hc2 hc3 x0 x1 x2 x3).2.2.1)

/-- The stores of case A fill scratch 2. -/
theorem scover0_A_2 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : cond0_2 i) (hc3 : ¬cond0_3 i)
    (x0 : Vec F S1024x2048 .bf16) (x1 : Vec F S1x2048x1024 .f32) (x2 : Vec F S1024x128 .f32) (x3 : Vec F S1024x128 .f32) (y : S1024x1024.Idx) :
    ∃ pc ∈ (kernelRun0_A c i arg1 harg1 arg2 harg2 arg3 harg3 arg4 harg4 arg5 harg5 arg6 harg6 arg7 harg7 arg8 harg8 hc0 hc1 hc2 hc3 x0 x1 x2 x3).2.2.2.1, y ∈ pc.1.set :=
  View.cover_of_tiledL (kernelRun0_A c i arg1 harg1 arg2 harg2 arg3 harg3 arg4 harg4 arg5 harg5 arg6 harg6 arg7 harg7 arg8 harg8 hc0 hc1 hc2 hc3 x0 x1 x2 x3).2.2.2.1 S1024x1024.size (by sl_kernel_rfl) y

/-- What case A leaves in scratch 2. -/
def sout0_A_2 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : cond0_2 i) (hc3 : ¬cond0_3 i)
    (x0 : Vec F S1024x2048 .bf16) (x1 : Vec F S1x2048x1024 .f32) (x2 : Vec F S1024x128 .f32) (x3 : Vec F S1024x128 .f32) : Vec F S1024x1024 .f32 :=
  VS0_2.read (Elt F) (VS0_2.writes (Elt F) VS0_2.junk (kernelRun0_A c i arg1 harg1 arg2 harg2 arg3 harg3 arg4 harg4 arg5 harg5 arg6 harg6 arg7 harg7 arg8 harg8 hc0 hc1 hc2 hc3 x0 x1 x2 x3).2.2.2.1)

/-- The stores of case B fill the output block. -/
theorem cover0_B_4 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (hc2 : ¬cond0_2 i) (hc3 : cond0_3 i)
    (x0 : Vec F S1024x2048 .bf16) (x1 : Vec F S1x2048x1024 .f32) (x2 : Vec F S1024x128 .f32) (x3 : Vec F S1024x128 .f32) (xs0 : Vec F S2048x1024 .bf16) (xs1 : Vec F S1024x1024 .f32) (y : S1024x1024.Idx) :
    ∃ pc ∈ (kernelRun0_B c i arg1 harg1 arg2 harg2 arg3 harg3 arg4 harg4 arg5 harg5 arg6 harg6 arg7 harg7 arg8 harg8 hc0 hc1 hc2 hc3 x0 x1 x2 x3 xs0 xs1).1, y ∈ pc.1.set :=
  View.cover_of_tiledL (kernelRun0_B c i arg1 harg1 arg2 harg2 arg3 harg3 arg4 harg4 arg5 harg5 arg6 harg6 arg7 harg7 arg8 harg8 hc0 hc1 hc2 hc3 x0 x1 x2 x3 xs0 xs1).1 S128x128.size (by sl_kernel_rfl) y

/-- What case B leaves in the output block. -/
def out0_B_4 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (hc2 : ¬cond0_2 i) (hc3 : cond0_3 i)
    (x0 : Vec F S1024x2048 .bf16) (x1 : Vec F S1x2048x1024 .f32) (x2 : Vec F S1024x128 .f32) (x3 : Vec F S1024x128 .f32) (xs0 : Vec F S2048x1024 .bf16) (xs1 : Vec F S1024x1024 .f32) : Vec F S1024x1024 .bf16 :=
  VO0_4.read (Elt F) (VO0_4.writes (Elt F) VO0_4.junk (kernelRun0_B c i arg1 harg1 arg2 harg2 arg3 harg3 arg4 harg4 arg5 harg5 arg6 harg6 arg7 harg7 arg8 harg8 hc0 hc1 hc2 hc3 x0 x1 x2 x3 xs0 xs1).1)

/-- What case B leaves in scratch 0. -/
def sout0_B_0 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (hc2 : ¬cond0_2 i) (hc3 : cond0_3 i)
    (x0 : Vec F S1024x2048 .bf16) (x1 : Vec F S1x2048x1024 .f32) (x2 : Vec F S1024x128 .f32) (x3 : Vec F S1024x128 .f32) (xs0 : Vec F S2048x1024 .bf16) (xs1 : Vec F S1024x1024 .f32) : Vec F S2048x1024 .bf16 := xs0

/-- What case B leaves in scratch 1. -/
def sout0_B_1 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (hc2 : ¬cond0_2 i) (hc3 : cond0_3 i)
    (x0 : Vec F S1024x2048 .bf16) (x1 : Vec F S1x2048x1024 .f32) (x2 : Vec F S1024x128 .f32) (x3 : Vec F S1024x128 .f32) (xs0 : Vec F S2048x1024 .bf16) (xs1 : Vec F S1024x1024 .f32) : Vec F S1024x1024 .f32 := xs1

/-- The stores of case B fill scratch 2. -/
theorem scover0_B_2 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (hc2 : ¬cond0_2 i) (hc3 : cond0_3 i)
    (x0 : Vec F S1024x2048 .bf16) (x1 : Vec F S1x2048x1024 .f32) (x2 : Vec F S1024x128 .f32) (x3 : Vec F S1024x128 .f32) (xs0 : Vec F S2048x1024 .bf16) (xs1 : Vec F S1024x1024 .f32) (y : S1024x1024.Idx) :
    ∃ pc ∈ (kernelRun0_B c i arg1 harg1 arg2 harg2 arg3 harg3 arg4 harg4 arg5 harg5 arg6 harg6 arg7 harg7 arg8 harg8 hc0 hc1 hc2 hc3 x0 x1 x2 x3 xs0 xs1).2.2.2.1, y ∈ pc.1.set :=
  View.cover_of_tiledL (kernelRun0_B c i arg1 harg1 arg2 harg2 arg3 harg3 arg4 harg4 arg5 harg5 arg6 harg6 arg7 harg7 arg8 harg8 hc0 hc1 hc2 hc3 x0 x1 x2 x3 xs0 xs1).2.2.2.1 S1024x256.size (by sl_kernel_rfl) y

/-- What case B leaves in scratch 2. -/
def sout0_B_2 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (hc2 : ¬cond0_2 i) (hc3 : cond0_3 i)
    (x0 : Vec F S1024x2048 .bf16) (x1 : Vec F S1x2048x1024 .f32) (x2 : Vec F S1024x128 .f32) (x3 : Vec F S1024x128 .f32) (xs0 : Vec F S2048x1024 .bf16) (xs1 : Vec F S1024x1024 .f32) : Vec F S1024x1024 .f32 :=
  VS0_2.read (Elt F) (VS0_2.writes (Elt F) VS0_2.junk (kernelRun0_B c i arg1 harg1 arg2 harg2 arg3 harg3 arg4 harg4 arg5 harg5 arg6 harg6 arg7 harg7 arg8 harg8 hc0 hc1 hc2 hc3 x0 x1 x2 x3 xs0 xs1).2.2.2.1)

/-- The stores of case C fill the output block. -/
theorem cover0_C_4 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (hc2 : cond0_2 i) (hc3 : ¬cond0_3 i)
    (x0 : Vec F S1024x2048 .bf16) (x1 : Vec F S1x2048x1024 .f32) (x2 : Vec F S1024x128 .f32) (x3 : Vec F S1024x128 .f32) (xs0 : Vec F S2048x1024 .bf16) (xs2 : Vec F S1024x1024 .f32) (y : S1024x1024.Idx) :
    ∃ pc ∈ (kernelRun0_C c i arg1 harg1 arg2 harg2 arg3 harg3 arg4 harg4 arg5 harg5 arg6 harg6 arg7 harg7 arg8 harg8 hc0 hc1 hc2 hc3 x0 x1 x2 x3 xs0 xs2).1, y ∈ pc.1.set :=
  View.cover_of_tiledL (kernelRun0_C c i arg1 harg1 arg2 harg2 arg3 harg3 arg4 harg4 arg5 harg5 arg6 harg6 arg7 harg7 arg8 harg8 hc0 hc1 hc2 hc3 x0 x1 x2 x3 xs0 xs2).1 S128x128.size (by sl_kernel_rfl) y

/-- What case C leaves in the output block. -/
def out0_C_4 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (hc2 : cond0_2 i) (hc3 : ¬cond0_3 i)
    (x0 : Vec F S1024x2048 .bf16) (x1 : Vec F S1x2048x1024 .f32) (x2 : Vec F S1024x128 .f32) (x3 : Vec F S1024x128 .f32) (xs0 : Vec F S2048x1024 .bf16) (xs2 : Vec F S1024x1024 .f32) : Vec F S1024x1024 .bf16 :=
  VO0_4.read (Elt F) (VO0_4.writes (Elt F) VO0_4.junk (kernelRun0_C c i arg1 harg1 arg2 harg2 arg3 harg3 arg4 harg4 arg5 harg5 arg6 harg6 arg7 harg7 arg8 harg8 hc0 hc1 hc2 hc3 x0 x1 x2 x3 xs0 xs2).1)

/-- What case C leaves in scratch 0. -/
def sout0_C_0 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (hc2 : cond0_2 i) (hc3 : ¬cond0_3 i)
    (x0 : Vec F S1024x2048 .bf16) (x1 : Vec F S1x2048x1024 .f32) (x2 : Vec F S1024x128 .f32) (x3 : Vec F S1024x128 .f32) (xs0 : Vec F S2048x1024 .bf16) (xs2 : Vec F S1024x1024 .f32) : Vec F S2048x1024 .bf16 := xs0

/-- The stores of case C fill scratch 1. -/
theorem scover0_C_1 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (hc2 : cond0_2 i) (hc3 : ¬cond0_3 i)
    (x0 : Vec F S1024x2048 .bf16) (x1 : Vec F S1x2048x1024 .f32) (x2 : Vec F S1024x128 .f32) (x3 : Vec F S1024x128 .f32) (xs0 : Vec F S2048x1024 .bf16) (xs2 : Vec F S1024x1024 .f32) (y : S1024x1024.Idx) :
    ∃ pc ∈ (kernelRun0_C c i arg1 harg1 arg2 harg2 arg3 harg3 arg4 harg4 arg5 harg5 arg6 harg6 arg7 harg7 arg8 harg8 hc0 hc1 hc2 hc3 x0 x1 x2 x3 xs0 xs2).2.2.1, y ∈ pc.1.set :=
  View.cover_of_tiledL (kernelRun0_C c i arg1 harg1 arg2 harg2 arg3 harg3 arg4 harg4 arg5 harg5 arg6 harg6 arg7 harg7 arg8 harg8 hc0 hc1 hc2 hc3 x0 x1 x2 x3 xs0 xs2).2.2.1 S1024x256.size (by sl_kernel_rfl) y

/-- What case C leaves in scratch 1. -/
def sout0_C_1 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (hc2 : cond0_2 i) (hc3 : ¬cond0_3 i)
    (x0 : Vec F S1024x2048 .bf16) (x1 : Vec F S1x2048x1024 .f32) (x2 : Vec F S1024x128 .f32) (x3 : Vec F S1024x128 .f32) (xs0 : Vec F S2048x1024 .bf16) (xs2 : Vec F S1024x1024 .f32) : Vec F S1024x1024 .f32 :=
  VS0_1.read (Elt F) (VS0_1.writes (Elt F) VS0_1.junk (kernelRun0_C c i arg1 harg1 arg2 harg2 arg3 harg3 arg4 harg4 arg5 harg5 arg6 harg6 arg7 harg7 arg8 harg8 hc0 hc1 hc2 hc3 x0 x1 x2 x3 xs0 xs2).2.2.1)

/-- What case C leaves in scratch 2. -/
def sout0_C_2 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (hc2 : cond0_2 i) (hc3 : ¬cond0_3 i)
    (x0 : Vec F S1024x2048 .bf16) (x1 : Vec F S1x2048x1024 .f32) (x2 : Vec F S1024x128 .f32) (x3 : Vec F S1024x128 .f32) (xs0 : Vec F S2048x1024 .bf16) (xs2 : Vec F S1024x1024 .f32) : Vec F S1024x1024 .f32 := xs2

/-- The stores of case D fill the output block. -/
theorem cover0_D_4 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (hc2 : cond0_2 i) (hc3 : ¬cond0_3 i)
    (x0 : Vec F S1024x2048 .bf16) (x1 : Vec F S1x2048x1024 .f32) (x2 : Vec F S1024x128 .f32) (x3 : Vec F S1024x128 .f32) (xs2 : Vec F S1024x1024 .f32) (y : S1024x1024.Idx) :
    ∃ pc ∈ (kernelRun0_D c i arg1 harg1 arg2 harg2 arg3 harg3 arg4 harg4 arg5 harg5 arg6 harg6 arg7 harg7 arg8 harg8 hc0 hc1 hc2 hc3 x0 x1 x2 x3 xs2).1, y ∈ pc.1.set :=
  View.cover_of_tiledL (kernelRun0_D c i arg1 harg1 arg2 harg2 arg3 harg3 arg4 harg4 arg5 harg5 arg6 harg6 arg7 harg7 arg8 harg8 hc0 hc1 hc2 hc3 x0 x1 x2 x3 xs2).1 S128x128.size (by sl_kernel_rfl) y

/-- What case D leaves in the output block. -/
def out0_D_4 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (hc2 : cond0_2 i) (hc3 : ¬cond0_3 i)
    (x0 : Vec F S1024x2048 .bf16) (x1 : Vec F S1x2048x1024 .f32) (x2 : Vec F S1024x128 .f32) (x3 : Vec F S1024x128 .f32) (xs2 : Vec F S1024x1024 .f32) : Vec F S1024x1024 .bf16 :=
  VO0_4.read (Elt F) (VO0_4.writes (Elt F) VO0_4.junk (kernelRun0_D c i arg1 harg1 arg2 harg2 arg3 harg3 arg4 harg4 arg5 harg5 arg6 harg6 arg7 harg7 arg8 harg8 hc0 hc1 hc2 hc3 x0 x1 x2 x3 xs2).1)

/-- The stores of case D fill scratch 0. -/
theorem scover0_D_0 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (hc2 : cond0_2 i) (hc3 : ¬cond0_3 i)
    (x0 : Vec F S1024x2048 .bf16) (x1 : Vec F S1x2048x1024 .f32) (x2 : Vec F S1024x128 .f32) (x3 : Vec F S1024x128 .f32) (xs2 : Vec F S1024x1024 .f32) (y : S2048x1024.Idx) :
    ∃ pc ∈ (kernelRun0_D c i arg1 harg1 arg2 harg2 arg3 harg3 arg4 harg4 arg5 harg5 arg6 harg6 arg7 harg7 arg8 harg8 hc0 hc1 hc2 hc3 x0 x1 x2 x3 xs2).2.1, y ∈ pc.1.set :=
  View.cover_of_tiledL (kernelRun0_D c i arg1 harg1 arg2 harg2 arg3 harg3 arg4 harg4 arg5 harg5 arg6 harg6 arg7 harg7 arg8 harg8 hc0 hc1 hc2 hc3 x0 x1 x2 x3 xs2).2.1 S2048x1024.size (by sl_kernel_rfl) y

/-- What case D leaves in scratch 0. -/
def sout0_D_0 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (hc2 : cond0_2 i) (hc3 : ¬cond0_3 i)
    (x0 : Vec F S1024x2048 .bf16) (x1 : Vec F S1x2048x1024 .f32) (x2 : Vec F S1024x128 .f32) (x3 : Vec F S1024x128 .f32) (xs2 : Vec F S1024x1024 .f32) : Vec F S2048x1024 .bf16 :=
  VS0_0.read (Elt F) (VS0_0.writes (Elt F) VS0_0.junk (kernelRun0_D c i arg1 harg1 arg2 harg2 arg3 harg3 arg4 harg4 arg5 harg5 arg6 harg6 arg7 harg7 arg8 harg8 hc0 hc1 hc2 hc3 x0 x1 x2 x3 xs2).2.1)

/-- The stores of case D fill scratch 1. -/
theorem scover0_D_1 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (hc2 : cond0_2 i) (hc3 : ¬cond0_3 i)
    (x0 : Vec F S1024x2048 .bf16) (x1 : Vec F S1x2048x1024 .f32) (x2 : Vec F S1024x128 .f32) (x3 : Vec F S1024x128 .f32) (xs2 : Vec F S1024x1024 .f32) (y : S1024x1024.Idx) :
    ∃ pc ∈ (kernelRun0_D c i arg1 harg1 arg2 harg2 arg3 harg3 arg4 harg4 arg5 harg5 arg6 harg6 arg7 harg7 arg8 harg8 hc0 hc1 hc2 hc3 x0 x1 x2 x3 xs2).2.2.1, y ∈ pc.1.set :=
  View.cover_of_tiledL (kernelRun0_D c i arg1 harg1 arg2 harg2 arg3 harg3 arg4 harg4 arg5 harg5 arg6 harg6 arg7 harg7 arg8 harg8 hc0 hc1 hc2 hc3 x0 x1 x2 x3 xs2).2.2.1 S1024x256.size (by sl_kernel_rfl) y

/-- What case D leaves in scratch 1. -/
def sout0_D_1 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (hc2 : cond0_2 i) (hc3 : ¬cond0_3 i)
    (x0 : Vec F S1024x2048 .bf16) (x1 : Vec F S1x2048x1024 .f32) (x2 : Vec F S1024x128 .f32) (x3 : Vec F S1024x128 .f32) (xs2 : Vec F S1024x1024 .f32) : Vec F S1024x1024 .f32 :=
  VS0_1.read (Elt F) (VS0_1.writes (Elt F) VS0_1.junk (kernelRun0_D c i arg1 harg1 arg2 harg2 arg3 harg3 arg4 harg4 arg5 harg5 arg6 harg6 arg7 harg7 arg8 harg8 hc0 hc1 hc2 hc3 x0 x1 x2 x3 xs2).2.2.1)

/-- What case D leaves in scratch 2. -/
def sout0_D_2 (c : Dev nD) (i : grid0.Coords) (arg1 : Memref sig .tc .vmem S1024x2048 .bf16) (harg1 : arg1.IsWhole) (arg2 : Memref sig .tc .vmem S1x2048x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (hc2 : cond0_2 i) (hc3 : ¬cond0_3 i)
    (x0 : Vec F S1024x2048 .bf16) (x1 : Vec F S1x2048x1024 .f32) (x2 : Vec F S1024x128 .f32) (x3 : Vec F S1024x128 .f32) (xs2 : Vec F S1024x1024 .f32) : Vec F S1024x1024 .f32 := xs2

/-- What every grid point leaves in the output block and in the three scratch arrays. -/
def outsAt0 (c : Dev nD) : (n : ℕ) → n < cfg0.N → Vec F S1024x1024 .bf16 × Vec F S2048x1024 .bf16 × Vec F S1024x1024 .f32 × Vec F S1024x1024 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (by (try dsimp only); omega)) ((hcond0_1 ⟨0, hn⟩).mpr (Nat.zero_mod _)) ((hcond0_2 ⟨0, hn⟩).mpr (Nat.zero_mod _)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (by (try dsimp only); omega)) ((hcond0_1 ⟨0, hn⟩).mpr (Nat.zero_mod _)) ((hcond0_2 ⟨0, hn⟩).mpr (Nat.zero_mod _)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (by (try dsimp only); omega)) ((hcond0_1 ⟨0, hn⟩).mpr (Nat.zero_mod _)) ((hcond0_2 ⟨0, hn⟩).mpr (Nat.zero_mod _)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (by (try dsimp only); omega)) ((hcond0_1 ⟨0, hn⟩).mpr (Nat.zero_mod _)) ((hcond0_2 ⟨0, hn⟩).mpr (Nat.zero_mod _)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩))
  | n + 1, hn =>
    if h0 : ((n + 1) % 97 = 0 ∨ (n + 1) % 97 = 16 ∨ (n + 1) % 97 = 32 ∨ (n + 1) % 97 = 48 ∨ (n + 1) % 97 = 64 ∨ (n + 1) % 97 = 80) then
      if h1 : (n + 1) % 97 = 0 then
        if h2 : (n + 1) % 2 = 0 then
          if h3 : (n + 1) % 2 = 1 then
            False.elim (by have hN : n + 1 < 97 := lt_of_lt_of_eq hn (show cfg0.N = 97 from N_0); omega)
          else
            (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩))
        else
          False.elim (by have hN : n + 1 < 97 := lt_of_lt_of_eq hn (show cfg0.N = 97 from N_0); omega)
      else
        if h2 : (n + 1) % 2 = 0 then
          if h3 : (n + 1) % 2 = 1 then
            False.elim (by have hN : n + 1 < 97 := lt_of_lt_of_eq hn (show cfg0.N = 97 from N_0); omega)
          else
            (out0_D_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2, sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2)
        else
          False.elim (by have hN : n + 1 < 97 := lt_of_lt_of_eq hn (show cfg0.N = 97 from N_0); omega)
    else
      if h1 : (n + 1) % 97 = 0 then
        False.elim (by have hN : n + 1 < 97 := lt_of_lt_of_eq hn (show cfg0.N = 97 from N_0); omega)
      else
        if h2 : (n + 1) % 2 = 0 then
          if h3 : (n + 1) % 2 = 1 then
            False.elim (by have hN : n + 1 < 97 := lt_of_lt_of_eq hn (show cfg0.N = 97 from N_0); omega)
          else
            (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.2)
        else
          if h3 : (n + 1) % 2 = 1 then
            (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1)
          else
            False.elim (by have hN : n + 1 < 97 := lt_of_lt_of_eq hn (show cfg0.N = 97 from N_0); omega)

/-- At a point of case A these are that case's contents. -/
theorem outsAt0_A (c : Dev nD) (t : Fin cfg0.N) (h0 : (t.val % 97 = 0 ∨ t.val % 97 = 16 ∨ t.val % 97 = 32 ∨ t.val % 97 = 48 ∨ t.val % 97 = 64 ∨ t.val % 97 = 80)) (h1 : t.val % 97 = 0) (h2 : t.val % 2 = 0) (h3 : ¬t.val % 2 = 1) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t)) := by
  obtain ⟨n, hn⟩ := t
  cases n with
  | zero => exact rfl
  | succ n => exact (dif_pos h0).trans ((dif_pos h1).trans ((dif_pos h2).trans ((dif_neg h3).trans rfl)))

/-- At a point of case B these are that case's contents. -/
theorem outsAt0_B (c : Dev nD) (t : Fin cfg0.N) (h0 : ¬(t.val % 97 = 0 ∨ t.val % 97 = 16 ∨ t.val % 97 = 32 ∨ t.val % 97 = 48 ∨ t.val % 97 = 64 ∨ t.val % 97 = 80)) (h1 : ¬t.val % 97 = 0) (h2 : ¬t.val % 2 = 0) (h3 : t.val % 2 = 1) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1, sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1) := by
  obtain ⟨n, hn⟩ := t
  cases n with
  | zero => exact (by exfalso; (try dsimp only at h0); exact by omega)
  | succ n => exact (dif_neg h0).trans ((dif_neg h1).trans ((dif_neg h2).trans ((dif_pos h3).trans rfl)))

/-- At a point of case C these are that case's contents. -/
theorem outsAt0_C (c : Dev nD) (t : Fin cfg0.N) (h0 : ¬(t.val % 97 = 0 ∨ t.val % 97 = 16 ∨ t.val % 97 = 32 ∨ t.val % 97 = 48 ∨ t.val % 97 = 64 ∨ t.val % 97 = 80)) (h1 : ¬t.val % 97 = 0) (h2 : t.val % 2 = 0) (h3 : ¬t.val % 2 = 1) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.2) := by
  obtain ⟨n, hn⟩ := t
  cases n with
  | zero => exact (by exfalso; (try dsimp only at h0); exact by omega)
  | succ n => exact (dif_neg h0).trans ((dif_neg h1).trans ((dif_pos h2).trans ((dif_neg h3).trans rfl)))

/-- At a point of case D these are that case's contents. -/
theorem outsAt0_D (c : Dev nD) (t : Fin cfg0.N) (h0 : (t.val % 97 = 0 ∨ t.val % 97 = 16 ∨ t.val % 97 = 32 ∨ t.val % 97 = 48 ∨ t.val % 97 = 64 ∨ t.val % 97 = 80)) (h1 : ¬t.val % 97 = 0) (h2 : t.val % 2 = 0) (h3 : ¬t.val % 2 = 1) :
    outsAt0 m c t.val t.isLt = (out0_D_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.2.2, sout0_D_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.2.2, sout0_D_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.2.2, sout0_D_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.2.2) := by
  obtain ⟨n, hn⟩ := t
  cases n with
  | zero => exact (by exfalso; (try dsimp only at h1); exact absurd (Nat.zero_mod _) h1)
  | succ n => exact (dif_pos h0).trans ((dif_neg h1).trans ((dif_pos h2).trans ((dif_neg h3).trans rfl)))

/-- What holds between two grid points: the scratch arrays are as the point before left them. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-- The blocks that the windows hold point by point, and what holds between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What a grid point is given, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 16000000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 97 := lt_of_lt_of_eq t.isLt (show cfg0.N = 97 from N_0)
  by_cases h0 : (t.val % 97 = 0 ∨ t.val % 97 = 16 ∨ t.val % 97 = 32 ∨ t.val % 97 = 48 ∨ t.val % 97 = 64 ∨ t.val % 97 = 80)
  · by_cases h1 : t.val % 97 = 0
    · by_cases h2 : t.val % 2 = 0
      · by_cases h3 : t.val % 2 = 1
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4_A t ((hcond0_0 t).mpr h0) ((hcond0_1 t).mpr h1) ((hcond0_2 t).mpr h2) (fun h => h3 ((hcond0_3 t).mp h))], after0_4]
          by_cases hz : t.val = 0
          · rw [PhiS_castSucc m c t, PhiS_zero m c _ _ hz, PhiA0_eq]
            rw [outsAt0_A m c t h0 h1 h2 h3]
            unfold out0_A_4 sout0_A_0 sout0_A_1 sout0_A_2; (try dsimp only)
            iintro ⟨⟨⟨HS0, HS1, HS2⟩, Hg⟩, Ho, ⟨%d0, H0⟩, ⟨%d1, H1⟩, ⟨%d2, H2⟩, ⟨%d3, H3⟩, ⟨%d4, H4⟩⟩
            iapply ((kernelRun0_A c (grid0.coords t) _ _ _ _ _ _ _ _ _ _ _ _ _ _ _ _ ((hcond0_0 t).mpr h0) ((hcond0_1 t).mpr h1) ((hcond0_2 t).mpr h2) (fun h => h3 ((hcond0_3 t).mp h)) (iblk m c 0 t) (iblk m c 1 t) (iblk m c 2 t) (iblk m c 3 t)).2.2.2.2 Set.univ _)
            isplitl [H0]; · iexact H0
            isplitl [H1]; · iexact H1
            isplitl [H2]; · iexact H2
            isplitl [H3]; · iexact H3
            isplitl [H4]; · iexists _; iexact H4
            isplitl [HS0]; · iexact HS0
            isplitl [HS1]; · iexact HS1
            isplitl [HS2]; · iexact HS2
            iintro ⟨H0, H1, H2, H3, ⟨%e4, H4⟩, ⟨%es0, HS0⟩, ⟨%es1, HS1⟩, ⟨%es2, HS2⟩⟩
            isplitl [HS0 HS1 HS2 Hg]
            · isplitl [HS0 HS1 HS2]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _)
                unfold owns; iexists _; isplitr
                swap; · iexact HS2
                ipureintro; exact View.read_writes_of_cover _ _ _ _ _ (scover0_A_2 c _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            unfold owns; iexists _; isplitr
            swap; · iexact H4
            ipureintro; exact View.read_writes_of_cover _ _ _ _ _ (cover0_A_4 c _ _ _ _ _ _ _ _ _ _ _ _ _ _ _ _ _ _ _ _ _ _ _ _ _)
          · exfalso; have hN : t.val < 97 := lt_of_lt_of_eq t.isLt (show cfg0.N = 97 from N_0); omega
      · exfalso; omega
    · by_cases h2 : t.val % 2 = 0
      · by_cases h3 : t.val % 2 = 1
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4_D t ((hcond0_0 t).mpr h0) (fun h => h1 ((hcond0_1 t).mp h)) ((hcond0_2 t).mpr h2) (fun h => h3 ((hcond0_3 t).mp h))], after0_4]
          by_cases hz : t.val = 0
          · exfalso; have hN : t.val < 97 := lt_of_lt_of_eq t.isLt (show cfg0.N = 97 from N_0); omega
          · rw [PhiS_castSucc m c t, PhiS_pos m c _ _ hz]
            rw [outsAt0_D m c t h0 h1 h2 h3]
            unfold out0_D_4 sout0_D_0 sout0_D_1 sout0_D_2; (try dsimp only)
            iintro ⟨⟨⟨HS0, HS1, HS2⟩, Hg⟩, Ho, ⟨%d0, H0⟩, ⟨%d1, H1⟩, ⟨%d2, H2⟩, ⟨%d3, H3⟩, ⟨%d4, H4⟩⟩
            iapply ((kernelRun0_D c (grid0.coords t) _ _ _ _ _ _ _ _ _ _ _ _ _ _ _ _ ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) _).2.2.2.2 Set.univ _)
            isplitl [H0]; · iexact H0
            isplitl [H1]; · iexact H1
            isplitl [H2]; · iexact H2
            isplitl [H3]; · iexact H3
            isplitl [H4]; · iexists _; iexact H4
            isplitl [HS0]; · iexists _; iexact HS0
            isplitl [HS1]; · iexists _; iexact HS1
            isplitl [HS2]; · iexact HS2
            iintro ⟨H0, H1, H2, H3, ⟨%e4, H4⟩, ⟨%es0, HS0⟩, ⟨%es1, HS1⟩, HS2⟩
            isplitl [HS0 HS1 HS2 Hg]
            · isplitl [HS0 HS1 HS2]
              · isplitl [HS0]
                · unfold owns; iexists _; isplitr
                  swap; · iexact HS0
                  ipureintro; exact View.read_writes_of_cover _ _ _ _ _ (scover0_D_0 c _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_D_1 c _ _ _ _ _ _ _ _ _ _ _ _ _ _ _ _ _ _ _ _ _ _ _ _ _ _)
                iexact HS2
              iexact Hg
            isplitl [Ho]; · iexact Ho
            isplitl [H0]; · iexact H0
            isplitl [H1]; · iexact H1
            isplitl [H2]; · iexact H2
            isplitl [H3]; · iexact H3
            unfold owns; iexists _; isplitr
            swap; · iexact H4
            ipureintro; exact View.read_writes_of_cover _ _ _ _ _ (cover0_D_4 c _ _ _ _ _ _ _ _ _ _ _ _ _ _ _ _ _ _ _ _ _ _ _ _ _ _)
      · exfalso; omega
  · by_cases h1 : t.val % 97 = 0
    · exfalso; omega
    · by_cases h2 : t.val % 2 = 0
      · by_cases h3 : t.val % 2 = 1
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4_C t (fun h => h0 ((hcond0_0 t).mp h)) (fun h => h1 ((hcond0_1 t).mp h)) ((hcond0_2 t).mpr h2) (fun h => h3 ((hcond0_3 t).mp h))], after0_4]
          by_cases hz : t.val = 0
          · exfalso; have hN : t.val < 97 := lt_of_lt_of_eq t.isLt (show cfg0.N = 97 from N_0); omega
          · rw [PhiS_castSucc m c t, PhiS_pos m c _ _ hz]
            rw [outsAt0_C m c t h0 h1 h2 h3]
            unfold out0_C_4 sout0_C_0 sout0_C_1 sout0_C_2; (try dsimp only)
            iintro ⟨⟨⟨HS0, HS1, HS2⟩, Hg⟩, Ho, ⟨%d0, H0⟩, ⟨%d1, H1⟩, ⟨%d2, H2⟩, ⟨%d3, H3⟩, ⟨%d4, H4⟩⟩
            iapply ((kernelRun0_C c (grid0.coords t) _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) _ _).2.2.2.2 Set.univ _)
            isplitl [H0]; · iexact H0
            isplitl [H1]; · iexact H1
            isplitl [H2]; · iexact H2
            isplitl [H3]; · iexact H3
            isplitl [H4]; · iexists _; iexact H4
            isplitl [HS0]; · iexact HS0
            isplitl [HS1]; · iexists _; iexact HS1
            isplitl [HS2]; · iexact HS2
            iintro ⟨H0, H1, H2, H3, ⟨%e4, H4⟩, HS0, ⟨%es1, HS1⟩, HS2⟩
            isplitl [HS0 HS1 HS2 Hg]
            · isplitl [HS0 HS1 HS2]
              · isplitl [HS0]
                · iexact HS0
                isplitl [HS1]
                · unfold owns; iexists _; isplitr
                  swap; · iexact HS1
                  ipureintro; exact View.read_writes_of_cover _ _ _ _ _ (scover0_C_1 c _ _ _ _ _ _ _ _ _ _ _ _ _ _ _ _ _ _ _ _ _ _ _ _ _ _ _)
                iexact HS2
              iexact Hg
            isplitl [Ho]; · iexact Ho
            isplitl [H0]; · iexact H0
            isplitl [H1]; · iexact H1
            isplitl [H2]; · iexact H2
            isplitl [H3]; · iexact H3
            unfold owns; iexists _; isplitr
            swap; · iexact H4
            ipureintro; exact View.read_writes_of_cover _ _ _ _ _ (cover0_C_4 c _ _ _ _ _ _ _ _ _ _ _ _ _ _ _ _ _ _ _ _ _ _ _ _ _ _ _)
      · by_cases h3 : t.val % 2 = 1
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4_B t (fun h => h0 ((hcond0_0 t).mp h)) (fun h => h1 ((hcond0_1 t).mp h)) (fun h => h2 ((hcond0_2 t).mp h)) ((hcond0_3 t).mpr h3)], after0_4]
          by_cases hz : t.val = 0
          · exfalso; have hN : t.val < 97 := lt_of_lt_of_eq t.isLt (show cfg0.N = 97 from N_0); omega
          · rw [PhiS_castSucc m c t, PhiS_pos m c _ _ hz]
            rw [outsAt0_B m c t h0 h1 h2 h3]
            unfold out0_B_4 sout0_B_0 sout0_B_1 sout0_B_2; (try dsimp only)
            iintro ⟨⟨⟨HS0, HS1, HS2⟩, Hg⟩, Ho, ⟨%d0, H0⟩, ⟨%d1, H1⟩, ⟨%d2, H2⟩, ⟨%d3, H3⟩, ⟨%d4, H4⟩⟩
            iapply ((kernelRun0_B c (grid0.coords t) _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) _ _).2.2.2.2 Set.univ _)
            isplitl [H0]; · iexact H0
            isplitl [H1]; · iexact H1
            isplitl [H2]; · iexact H2
            isplitl [H3]; · iexact H3
            isplitl [H4]; · iexists _; iexact H4
            isplitl [HS0]; · iexact HS0
            isplitl [HS1]; · iexact HS1
            isplitl [HS2]; · iexists _; iexact HS2
            iintro ⟨H0, H1, H2, H3, ⟨%e4, H4⟩, HS0, HS1, ⟨%es2, HS2⟩⟩
            isplitl [HS0 HS1 HS2 Hg]
            · isplitl [HS0 HS1 HS2]
              · isplitl [HS0]
                · iexact HS0
                isplitl [HS1]
                · iexact HS1
                unfold owns; iexists _; isplitr
                swap; · iexact HS2
                ipureintro; exact View.read_writes_of_cover _ _ _ _ _ (scover0_B_2 c _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            unfold owns; iexists _; isplitr
            swap; · iexact H4
            ipureintro; exact View.read_writes_of_cover _ _ _ _ _ (cover0_B_4 c _ _ _ _ _ _ _ _ _ _ _ _ _ _ _ _ _ _ _ _ _ _ _ _ _ _ _)
        · exfalso; omega

theorem defs₀_row (t : Fin cfg0.N) :
    defs₀ (F := F) .tc cfg0.body (cfg0.bodyArgs t (cfg0.slots t)) = bodyAt0 t := by
  unfold defs₀; rw [Defs.onTc_tc]

/-- So the pipeline may run the body at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 97 := N_0; omega)
set_option backward.isDefEq.respectTransparency.types false in

/-- The program runs, ends with the pipeline's contents and leaves every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs and ends with the pipeline's contents. -/
theorem run_main : θ_run defs (onTc (τ := τ) (main (F := F))) (s₀ m ρ) (Pipeline.FramePost cfgs (dats m) 0 (V m)) :=
  (θ_run defs _ _).mono (fun _ h => h.1) (run_main_quiescent m ρ)

/-- The program keeps its arguments. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The program runs, keeps its arguments and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.MobaQkvIdeal.Gen

end
-- ==== Proof.Spin.lean ====
module

public import proofs.«01_k».proof.Proof.Proj
public import proofs.«01_k».proof.Proof.Gen.MobaQkvIdeal.Skeleton

@[expose] public section

set_option maxRecDepth 16384

noncomputable section

namespace Cert.Spin

open Idealize.ShloMosaic Idealize.ShloMosaic.TcCoe Cert.MobaQkvIdeal Cert.MobaQkvIdeal.Gen

/-- The scale of the queries. -/
def queryScale : EReal := Ideal.ofBits .f32 0x3E0293EE#32

/-- Column `n` of a row `D` of heads of 128 columns as the kernel turns it: against the column half a head away by the angles whose cosines and signed sines are `c` and `s`,
not turned at all in the values' blocks, and scaled in the queries' blocks. The word counts the blocks of columns. -/
def spun (w : BitVec 32) (D c s : ℕ → EReal) (n : ℕ) : EReal :=
  (D n * Scalar.select (Scalar.cmpi .sge w 4#32) 1 (c (n % 128)) + D (n / 128 * 128 + (n + 64) % 128) * Scalar.select (Scalar.cmpi .sge w 4#32) 0 (s (n % 128)))
    * Scalar.select (Scalar.cmpi .slt w 2#32) queryScale 1

/-- A block of products so turned. -/
def spunBlock (w : BitVec 32) (a : FVec Ideal S1024x1024 .f32) (ct st : FVec Ideal S1024x128 .f32) (y : S1024x1024.Idx) : EReal :=
  spun w (fun n => a (ix2 (y 0) ⟨n % 1024, Nat.mod_lt _ (by decide)⟩)) (fun e => ct (ix2 (y 0) ⟨e % 128, Nat.mod_lt _ (by decide)⟩))
    (fun e => st (ix2 (y 0) ⟨e % 128, Nat.mod_lt _ (by decide)⟩)) (y 1)

/-- The body's arithmetic on one head of 128 rows. -/
theorem head_at (w : BitVec 32) (C S T : FVec Ideal S128x128 .f32) (r e : Fin 128) :
    k0_pay1 (F := Ideal) (k0_pay4 w) (k0_pay5 w C) (k0_pay6 w S) T (ix2 r e)
      = ((T (ix2 r e) * Scalar.select (Scalar.cmpi .sge w 4#32) (1 : EReal) (C (ix2 r e))
          + T (ix2 r ⟨((e : ℕ) + 128 - 64) % 128, Nat.mod_lt _ (by decide)⟩) * Scalar.select (Scalar.cmpi .sge w 4#32) (0 : EReal) (S (ix2 r e)))
        * Scalar.select (Scalar.cmpi .slt w 2#32) queryScale 1 : EReal) := by
  pointwise [k0_pay1, k0_pay4, k0_pay5, k0_pay6]
  rfl

/-- A piece of a block, a head from row `o` and column `p` on. -/
theorem head_eq (w : BitVec 32) (o p : ℕ) (ho : o + 128 ≤ 1024) (hp : p + 128 ≤ 1024) (hp0 : p % 128 = 0) {C S T : FVec Ideal S128x128 .f32}
    {ct st : FVec Ideal S1024x128 .f32} {a : FVec Ideal S1024x1024 .f32} (hC : ∀ (r e : Fin 128), C (ix2 r e) = ct (ix2 ⟨o + r, by omega⟩ e))
    (hS : ∀ (r e : Fin 128), S (ix2 r e) = st (ix2 ⟨o + r, by omega⟩ e))
    (hT : ∀ (r e : Fin 128), T (ix2 r e) = a (ix2 ⟨o + r, by omega⟩ ⟨p + e, by omega⟩)) (x : S128x128.Idx) (y : S1024x1024.Idx)
    (h0 : (y 0 : ℕ) = o + (x 0 : ℕ)) (h1 : (y 1 : ℕ) = p + (x 1 : ℕ)) :
    k0_pay1 (F := Ideal) (k0_pay4 w) (k0_pay5 w C) (k0_pay6 w S) T x = spunBlock w a ct st y := by
  have hx0 : (x 0 : ℕ) < 128 := (x 0).isLt
  have hx1 : (x 1 : ℕ) < 128 := (x 1).isLt
  have hx : x = ix2 (x 0) (x 1) := by
    funext a
    match a with
    | ⟨0, _⟩ => rfl
    | ⟨1, _⟩ => rfl
  have e0 : (⟨o + (x 0 : ℕ), by omega⟩ : Fin 1024) = (y 0 : Fin 1024) := Fin.ext h0.symm
  refine (congrArg (k0_pay1 (F := Ideal) (k0_pay4 w) (k0_pay5 w C) (k0_pay6 w S) T) hx).trans ((head_at w C S T (x 0) (x 1)).trans ?_)
  have ec : ∀ (A : FVec Ideal S1024x128 .f32) (e e' : Fin 128), (e : ℕ) = e' → A (ix2 (⟨o + (x 0 : ℕ), by omega⟩ : Fin 1024) e) = A (ix2 (y 0) e') := fun A e e' he =>
    congrArg₂ (fun (R : Fin 1024) (E : Fin 128) => A (ix2 R E)) e0 (Fin.ext he)
  have ea : ∀ (e e' : Fin 1024), (e : ℕ) = e' → a (ix2 (⟨o + (x 0 : ℕ), by omega⟩ : Fin 1024) e) = a (ix2 (y 0) e') := fun e e' he =>
    congrArg₂ (fun (R E : Fin 1024) => a (ix2 R E)) e0 (Fin.ext he)
  unfold spunBlock spun
  refine congrArg (fun v : EReal => v * Scalar.select (Scalar.cmpi .slt w 2#32) queryScale 1) (congrArg₂ (fun u v : EReal => u + v)
    (congrArg₂ (fun u v : EReal => u * v) ((hT _ _).trans (ea _ _ ?_)) (congrArg (fun v : EReal => Scalar.select (Scalar.cmpi .sge w 4#32) 1 v) ((hC _ _).trans (ec ct _ _ ?_))))
    (congrArg₂ (fun u v : EReal => u * v) ((hT _ _).trans (ea _ _ ?_)) (congrArg (fun v : EReal => Scalar.select (Scalar.cmpi .sge w 4#32) 0 v) ((hS _ _).trans (ec st _ _ ?_)))))
  · show p + (x 1 : ℕ) = (y 1 : ℕ) % 1024
    omega
  · show (x 1 : ℕ) = (y 1 : ℕ) % 128 % 128
    omega
  · show p + ((x 1 : ℕ) + 128 - 64) % 128 = ((y 1 : ℕ) / 128 * 128 + ((y 1 : ℕ) + 64) % 128) % 1024
    omega
  · show (x 1 : ℕ) = (y 1 : ℕ) % 128 % 128
    omega

/-- Turning depends on the entries it reads. -/
theorem spun_congr {D D' c c' s s' : ℕ → EReal} (w : BitVec 32) (k n : ℕ) (hn : n < 1024) (hD : ∀ e, e < 1024 → D e = D' (1024 * k + e))
    (hc : ∀ e, e < 128 → c e = c' e) (hs : ∀ e, e < 128 → s e = s' e) : spun w D c s n = spun w D' c' s' (1024 * k + n) := by
  have e1 : (1024 * k + n) % 128 = n % 128 := by omega
  unfold spun
  rw [e1, hD n hn, hD (n / 128 * 128 + (n + 64) % 128) (by omega), hc _ (by omega), hs _ (by omega),
    show 1024 * k + (n / 128 * 128 + (n + 64) % 128) = (1024 * k + n) / 128 * 128 + (1024 * k + n + 64) % 128 by omega]

end Cert.Spin

end
-- ==== Proof.MobaQkvBlock.lean ====
module

public import proofs.«01_k».proof.Proof.Spin
public import proofs.«01_k».proof.Proof.MobaQkvIdealFrame

@[expose] public section

set_option maxRecDepth 16384
set_option maxHeartbeats 3000000

noncomputable section

namespace Cert.MobaQkvIdeal.Block

open Idealize.ShloMosaic Idealize.ShloMosaic.TcCoe Cert.MobaQkvIdeal Cert.MobaQkvIdeal.Gen Cert.Proj Cert.Spin

variable (m : (ℓ : Loc nD τ sig) → Buf (Elt Ideal) ℓ) (c : Dev nD)

/-- The block of columns whose result a point writes, as the body computes it from the point's coordinate. -/
def word (i : grid0.Coords) : BitVec 32 :=
  let arg0 : BitVec 32 := BitVec.ofNat 32 (i 0).val
  let v1 : BitVec 32 := Scalar.subi arg0 1#32
  let v2 : BitVec 32 := Scalar.maxsi v1 0#32
  let v3 : BitVec 32 := Scalar.divsi v2 16#32
  let v4 : BitVec 1 := Scalar.cmpi .sgt v2 0#32
  let v5 : BitVec 32 := Scalar.extui v4
  let v6 : BitVec 1 := Scalar.cmpi .slt v2 0#32
  let v7 : BitVec 32 := Scalar.extui v6
  let v8 : BitVec 32 := Scalar.subi v5 v7
  let v9 : BitVec 1 := Scalar.cmpi .sgt 16#32 0#32
  let v10 : BitVec 32 := Scalar.extui v9
  let v11 : BitVec 1 := Scalar.cmpi .slt 16#32 0#32
  let v12 : BitVec 32 := Scalar.extui v11
  let v13 : BitVec 32 := Scalar.subi v10 v12
  let v14 : BitVec 1 := Scalar.cmpi .ne v8 v13
  let v15 : BitVec 32 := Scalar.remsi v2 16#32
  let v16 : BitVec 1 := Scalar.cmpi .ne v15 0#32
  let v17 : BitVec 1 := Scalar.andi v14 v16
  let v18 : BitVec 32 := Scalar.subi v3 1#32
  let v19 : BitVec 32 := Scalar.select v17 v18 v3
  v19

/-- An odd point's result is the product that the point before left in the first accumulator, turned. -/
theorem out_B (t : Fin cfg0.N) (h0 : ¬(t.val % 97 = 0 ∨ t.val % 97 = 16 ∨ t.val % 97 = 32 ∨ t.val % 97 = 48 ∨ t.val % 97 = 64 ∨ t.val % 97 = 80)) (h1 : ¬t.val % 97 = 0) (h2 : ¬t.val % 2 = 0) (h3 : t.val % 2 = 1) (y : S1024x1024.Idx) :
    (outsAt0 m c t.val t.isLt).1 y
      = spunBlock (word (grid0.coords t)) (outsAt0 m c (t.val - 1) (Nat.lt_of_le_of_lt (Nat.sub_le _ _) t.isLt)).2.2.1 (iblk m c 2 t) (iblk m c 3 t) y := by
  rw [outsAt0_B m c t h0 h1 h2 h3]
  frame_open
  simp (disch := decide) only [↓ View.readCov_skip, ↓ View.readCov_fill]
  frame_out
  simp only [read_unread_whole]
  canon_tiles x p
  all_goals first
    | refine head_eq (word (grid0.coords t)) _ _ (by decide) (by decide) (by decide) ?_ ?_ ?_ x y p0 p1
    | refine head_eq (word (grid0.coords t)) _ 0 (by decide) (by decide) (by decide) ?_ ?_ ?_ x y p0 (p1.trans (Nat.zero_add _).symm)
    | refine head_eq (word (grid0.coords t)) 0 _ (by decide) (by decide) (by decide) ?_ ?_ ?_ x y (p0.trans (Nat.zero_add _).symm) p1
    | refine head_eq (word (grid0.coords t)) 0 0 (by decide) (by decide) (by decide) ?_ ?_ ?_ x y (p0.trans (Nat.zero_add _).symm) (p1.trans (Nat.zero_add _).symm)
  all_goals intros; pointwise

/-- An even point's result after the first is the product that the point before left in the second accumulator, turned. -/
theorem out_CD (t : Fin cfg0.N) (h1 : ¬t.val % 97 = 0) (h2 : t.val % 2 = 0) (h3 : ¬t.val % 2 = 1) (y : S1024x1024.Idx) :
    (outsAt0 m c t.val t.isLt).1 y
      = spunBlock (word (grid0.coords t)) (outsAt0 m c (t.val - 1) (Nat.lt_of_le_of_lt (Nat.sub_le _ _) t.isLt)).2.2.2 (iblk m c 2 t) (iblk m c 3 t) y := by
  by_cases h0 : (t.val % 97 = 0 ∨ t.val % 97 = 16 ∨ t.val % 97 = 32 ∨ t.val % 97 = 48 ∨ t.val % 97 = 64 ∨ t.val % 97 = 80)
  · rw [outsAt0_D m c t h0 h1 h2 h3]
    frame_open
    simp (disch := decide) only [↓ View.readCov_skip, ↓ View.readCov_fill]
    frame_out
    simp only [read_unread_whole]
    canon_tiles x p
    all_goals first
      | refine head_eq (word (grid0.coords t)) _ _ (by decide) (by decide) (by decide) ?_ ?_ ?_ x y p0 p1
      | refine head_eq (word (grid0.coords t)) _ 0 (by decide) (by decide) (by decide) ?_ ?_ ?_ x y p0 (p1.trans (Nat.zero_add _).symm)
      | refine head_eq (word (grid0.coords t)) 0 _ (by decide) (by decide) (by decide) ?_ ?_ ?_ x y (p0.trans (Nat.zero_add _).symm) p1
      | refine head_eq (word (grid0.coords t)) 0 0 (by decide) (by decide) (by decide) ?_ ?_ ?_ x y (p0.trans (Nat.zero_add _).symm) (p1.trans (Nat.zero_add _).symm)
    all_goals intros; pointwise
  · rw [outsAt0_C m c t h0 h1 h2 h3]
    frame_open
    simp (disch := decide) only [↓ View.readCov_skip, ↓ View.readCov_fill]
    frame_out
    simp only [read_unread_whole]
    canon_tiles x p
    all_goals first
      | refine head_eq (word (grid0.coords t)) _ _ (by decide) (by decide) (by decide) ?_ ?_ ?_ x y p0 p1
      | refine head_eq (word (grid0.coords t)) _ 0 (by decide) (by decide) (by decide) ?_ ?_ ?_ x y p0 (p1.trans (Nat.zero_add _).symm)
      | refine head_eq (word (grid0.coords t)) 0 _ (by decide) (by decide) (by decide) ?_ ?_ ?_ x y (p0.trans (Nat.zero_add _).symm) p1
      | refine head_eq (word (grid0.coords t)) 0 0 (by decide) (by decide) (by decide) ?_ ?_ ?_ x y (p0.trans (Nat.zero_add _).symm) (p1.trans (Nat.zero_add _).symm)
    all_goals intros; pointwise

/-- The body keeps the weights of its block. -/
theorem kept_eq (B : FVec Ideal S1x2048x1024 .f32) : k0_pay201 (F := Ideal) B = plain B := kept B

/-- A point with new columns keeps the weights of its block. -/
theorem weights_AD (t : Fin cfg0.N) (h0 : (t.val % 97 = 0 ∨ t.val % 97 = 16 ∨ t.val % 97 = 32 ∨ t.val % 97 = 48 ∨ t.val % 97 = 64 ∨ t.val % 97 = 80)) :
    (outsAt0 m c t.val t.isLt).2.1 = plain (iblk m c 1 t) := by
  have hN : t.val < 97 := t.isLt
  funext y
  by_cases h1 : t.val % 97 = 0
  · rw [outsAt0_A m c t h0 h1 (by omega) (by omega)]
    frame_open
    frame_out
    exact congrFun (kept _) y
  · rw [outsAt0_D m c t h0 h1 (by omega) (by omega)]
    frame_open
    frame_out
    exact congrFun (kept _) y

/-- The other points hold what they find. -/
theorem weights_BC (t : Fin cfg0.N) (h0 : ¬(t.val % 97 = 0 ∨ t.val % 97 = 16 ∨ t.val % 97 = 32 ∨ t.val % 97 = 48 ∨ t.val % 97 = 64 ∨ t.val % 97 = 80)) (h1 : ¬t.val % 97 = 0) :
    (outsAt0 m c t.val t.isLt).2.1 = (outsAt0 m c (t.val - 1) (Nat.lt_of_le_of_lt (Nat.sub_le _ _) t.isLt)).2.1 := by
  by_cases h : t.val % 2 = 0
  · rw [outsAt0_C m c t h0 h1 h (by omega)]
    frame_open
    rfl
  · rw [outsAt0_B m c t h0 h1 h (by omega)]
    frame_open
    rfl

/-- An even point's first accumulator is the product of its rows with the weights it holds. -/
theorem acc_even (t : Fin cfg0.N) (h : t.val % 2 = 0) (y : S1024x1024.Idx) :
    (outsAt0 m c t.val t.isLt).2.2.1 y = dotBlock (iblk m c 0 t) (outsAt0 m c t.val t.isLt).2.1 y := by
  by_cases h0 : (t.val % 97 = 0 ∨ t.val % 97 = 16 ∨ t.val % 97 = 32 ∨ t.val % 97 = 48 ∨ t.val % 97 = 64 ∨ t.val % 97 = 80)
  · by_cases h1 : t.val % 97 = 0
    · rw [weights_AD m c t h0, outsAt0_A m c t h0 h1 h (by omega)]
      frame_open
      simp (disch := decide) only [↓ View.readCov_skip, ↓ View.readCov_fill]
      frame_out
      canon_tiles x p
      all_goals first
        | refine dot_eq _ (by decide) ?_ x y p0 p1
        | refine dot_eq 0 (by decide) ?_ x y p0 (p1.trans (Nat.zero_add _).symm)
      all_goals intros; rw [kept_eq]; pointwise
    · rw [weights_AD m c t h0, outsAt0_D m c t h0 h1 h (by omega)]
      frame_open
      simp (disch := decide) only [↓ View.readCov_skip, ↓ View.readCov_fill]
      frame_out
      canon_tiles x p
      all_goals first
        | refine dot_eq _ (by decide) ?_ x y p0 p1
        | refine dot_eq 0 (by decide) ?_ x y p0 (p1.trans (Nat.zero_add _).symm)
      all_goals intros; rw [kept_eq]; pointwise
  · rw [weights_BC m c t h0 (by omega), outsAt0_C m c t h0 (by omega) h (by omega)]
    frame_open
    simp (disch := decide) only [↓ View.readCov_skip, ↓ View.readCov_fill]
    frame_out
    simp only [read_unread_whole]
    canon_tiles x p
    all_goals first
      | refine dot_eq _ (by decide) ?_ x y p0 p1
      | refine dot_eq 0 (by decide) ?_ x y p0 (p1.trans (Nat.zero_add _).symm)
    all_goals intros; pointwise

/-- So is an odd point's second. -/
theorem acc_odd (t : Fin cfg0.N) (h : t.val % 2 = 1) (y : S1024x1024.Idx) :
    (outsAt0 m c t.val t.isLt).2.2.2 y = dotBlock (iblk m c 0 t) (outsAt0 m c t.val t.isLt).2.1 y := by
  have hN : t.val < 97 := t.isLt
  rw [weights_BC m c t (by omega) (by omega), outsAt0_B m c t (by omega) (by omega) (by omega) h]
  frame_open
  simp (disch := decide) only [↓ View.readCov_skip, ↓ View.readCov_fill]
  frame_out
  simp only [read_unread_whole]
  canon_tiles x p
  all_goals first
    | refine dot_eq _ (by decide) ?_ x y p0 p1
    | refine dot_eq 0 (by decide) ?_ x y p0 (p1.trans (Nat.zero_add _).symm)
  all_goals intros; pointwise

end Cert.MobaQkvIdeal.Block

end
-- ==== Proof.SpinAt.lean ====
module

public import proofs.«01_k».proof.Proof.Spin

@[expose] public section

set_option maxRecDepth 16384

noncomputable section

namespace Cert.Spin

open Idealize.ShloMosaic Idealize.ShloMosaic.TcCoe

/-- Column `n` of a row `D` of heads of 128 columns, each turned by the angles whose cosines and sines are `c` and `s`. -/
def rotated (D c s : ℕ → EReal) (n : ℕ) : EReal := if n % 128 < 64 then D n * c (n % 64) - D (n + 64) * s (n % 64) else D (n - 64) * s (n % 64) + D n * c (n % 64)

/-- Column `n` of queries, keys and values side by side: the queries turned and scaled, the keys turned. -/
def qkv (D c s : ℕ → EReal) (n : ℕ) : EReal := if n < 2048 then rotated D c s n * queryScale else if n < 4096 then rotated D c s n else D n

/-- Comparing a block's word with the first block of the values. -/
theorem value_select (k : ℕ) (hk : k < 6) (a b : EReal) : Scalar.select (Scalar.cmpi .sge (BitVec.ofNat 32 k) 4#32) a b = if 4 ≤ k then a else b := by
  match k, hk with
  | 0, _ | 1, _ | 2, _ | 3, _ => exact (if_neg (by decide)).trans (if_neg (by decide)).symm
  | 4, _ | 5, _ => exact (if_pos (by decide)).trans (if_pos (by decide)).symm

/-- Comparing it with the first block of the keys. -/
theorem query_select (k : ℕ) (hk : k < 6) (a b : EReal) : Scalar.select (Scalar.cmpi .slt (BitVec.ofNat 32 k) 2#32) a b = if k < 2 then a else b := by
  match k, hk with
  | 0, _ | 1, _ => exact (if_pos (by decide)).trans (if_pos (by decide)).symm
  | 2, _ | 3, _ | 4, _ | 5, _ => exact (if_neg (by decide)).trans (if_neg (by decide)).symm

/-- Turning with signed sines. -/
theorem signed_turn (D c s c' s' : ℕ → EReal) (n : ℕ) (hc : c' (n % 128) = c (n % 64)) (hs : s' (n % 128) = if n % 128 < 64 then -s (n % 64) else s (n % 64)) :
    D n * c' (n % 128) + D (n / 128 * 128 + (n + 64) % 128) * s' (n % 128) = rotated D c s n := by
  unfold rotated
  rw [hc, hs]
  by_cases h : n % 128 < 64
  · rw [if_pos h, if_pos h, show n / 128 * 128 + (n + 64) % 128 = n + 64 by omega, mul_neg, sub_eq_add_neg]
  · rw [if_neg h, if_neg h, show n / 128 * 128 + (n + 64) % 128 = n - 64 by omega, add_comm]

/-- What the kernel does to a column of block `k` is what its part asks for. -/
theorem spun_eq (D c s c' s' : ℕ → EReal) (k n : ℕ) (hk : k < 6) (hn : n / 1024 = k) (hc : c' (n % 128) = c (n % 64))
    (hs : s' (n % 128) = if n % 128 < 64 then -s (n % 64) else s (n % 64)) : spun (BitVec.ofNat 32 k) D c' s' n = qkv D c s n := by
  unfold spun qkv
  rw [value_select k hk, value_select k hk, query_select k hk]
  by_cases h4 : 4 ≤ k
  · rw [if_pos h4, if_pos h4, if_neg (by omega), if_neg (by omega), if_neg (by omega), mul_zero, add_zero, mul_one, mul_one]
  · rw [if_neg h4, if_neg h4, signed_turn D c s c' s' n hc hs]
    by_cases h2 : k < 2
    · rw [if_pos h2, if_pos (by omega)]
    · rw [if_neg h2, if_neg (by omega), if_pos (by omega), mul_one]

end Cert.Spin

end
-- ==== Proof.MobaQkvValue.lean ====
module

public import proofs.«01_k».proof.Proof.MobaQkvBlock
public import proofs.«01_k».proof.Proof.SpinAt
public import proofs.«01_k».proof.Proof.Gen.MobaQkvRefIdeal.Run

@[expose] public section

set_option maxRecDepth 16384

noncomputable section

namespace Cert.MobaQkvIdeal.Final

open Idealize.ShloMosaic Idealize.ShloMosaic.TcCoe Cert.MobaQkvIdeal Cert.MobaQkvIdeal.Gen Cert.MobaQkvIdeal.Block Cert.Proj Cert.Spin

/-- The first layer's weights by their row and column. -/
def wf (w : FVec Ideal S2x2048x6144 .f32) (d : Fin 2048) (n : ℕ) : EReal := w (ix3 0 d ⟨n % 6144, Nat.mod_lt _ (by decide)⟩)

/-- The angle of every position and every column of a half. -/
def angles : FVec Ideal S8192x64 .f32 :=
  mulf (broadcastInDim S8192x64 ![0, 1] bcast_S8192x1_S8192x64_0_1 (broadcastInDim S8192x1 ![0] bcast_S8192_S8192x1_0 (sitofp .f32 (iotaInDim S8192 32 0))))
    (broadcastInDim S8192x64 ![0, 1] bcast_S1x64_S8192x64_0_1 (broadcastInDim S1x64 ![1] bcast_S64_S1x64_1
      (Host.powf (broadcastInDim S64 ![] bcast_S_S64 (constant S_ .f32 0x461C4000#32))
        (Host.divf (Host.negf (addf (broadcastInDim S64 ![] bcast_S_S64 (constant S_ .f32 0x00000000#32))
            (mulf (broadcastInDim S64 ![] bcast_S_S64 (constant S_ .f32 0x40000000#32)) (sitofp .f32 (iotaInDim S64 32 0)))))
          (broadcastInDim S64 ![] bcast_S_S64 (constant S_ .f32 0x43000000#32))))))

/-- The cosine for a row, which belongs to the position that remains of it in its batch, and a column of a half. -/
def cosine (R e : ℕ) : EReal := Host.cos (F := Ideal) angles (ix2 ⟨R % 8192, Nat.mod_lt _ (by decide)⟩ ⟨e % 64, Nat.mod_lt _ (by decide)⟩)
/-- The sine. -/
def sine (R e : ℕ) : EReal := Host.sin (F := Ideal) angles (ix2 ⟨R % 8192, Nat.mod_lt _ (by decide)⟩ ⟨e % 64, Nat.mod_lt _ (by decide)⟩)

/-- The kernel's tables: the cosines twice, the sines with their signs. -/
def cosTable : FVec Ideal S8192x128 .f32 :=
  concatenate S8192x128 1 [⟨S8192x64, Host.cos (F := Ideal) angles⟩, ⟨S8192x64, Host.cos (F := Ideal) angles⟩] concatenates_S8192x64_S8192x64_S8192x128_d1
@[inherit_doc cosTable] def sinTable : FVec Ideal S8192x128 .f32 :=
  concatenate S8192x128 1 [⟨S8192x64, Host.negf (Host.sin (F := Ideal) angles)⟩, ⟨S8192x64, Host.sin (F := Ideal) angles⟩] concatenates_S8192x64_S8192x64_S8192x128_d1

/-- Their entries for a row and a column of a head. -/
def cosines (R e : ℕ) : EReal := cosTable (ix2 ⟨R % 8192, Nat.mod_lt _ (by decide)⟩ ⟨e % 128, Nat.mod_lt _ (by decide)⟩)
@[inherit_doc cosines] def sines (R e : ℕ) : EReal := sinTable (ix2 ⟨R % 8192, Nat.mod_lt _ (by decide)⟩ ⟨e % 128, Nat.mod_lt _ (by decide)⟩)

theorem cosines_eq (R n : ℕ) : cosines R (n % 128) = cosine R (n % 64) := by
  unfold cosines cosine cosTable
  generalize (Host.cos (F := Ideal) angles : FVec Ideal S8192x64 .f32) = A
  pointwise
  by_cases h : n % 128 % 128 < 64
  · exact (dif_pos h).trans (congrArg (fun E : Fin 64 => A (ix2 _ E)) (Fin.ext (by show n % 128 % 128 = n % 64 % 64; omega)))
  · exact (dif_neg h).trans (congrArg (fun E : Fin 64 => A (ix2 _ E)) (Fin.ext (by show n % 128 % 128 - 64 = n % 64 % 64; omega)))

theorem sines_eq (R n : ℕ) : sines R (n % 128) = if n % 128 < 64 then -sine R (n % 64) else sine R (n % 64) := by
  unfold sines sine sinTable
  generalize (Host.sin (F := Ideal) angles : FVec Ideal S8192x64 .f32) = A
  pointwise
  have e1 : n % 128 % 128 = n % 128 := by omega
  by_cases h : n % 128 < 64
  · exact (dif_pos (show n % 128 % 128 < 64 by omega)).trans ((congrArg (fun E : Fin 64 => (-A (ix2 _ E) : EReal))
      (Fin.ext (by show n % 128 % 128 = n % 64 % 64; omega))).trans (if_pos h).symm)
  · exact (dif_neg (show ¬n % 128 % 128 < 64 by omega)).trans ((congrArg (fun E : Fin 64 => A (ix2 _ E))
      (Fin.ext (by show n % 128 % 128 - 64 = n % 64 % 64; omega))).trans (if_neg h).symm)

/-- The product of the rows with the first layer's weights: queries, keys and values side by side, the heads of the first two turned by their positions, the queries scaled. -/
def result (x : FVec Ideal S16384x2048 .bf16) (w : FVec Ideal S2x2048x6144 .f32) (j : S16384x6144.Idx) : EReal := qkv (dot x (wf w) (j 0)) (cosine (j 0)) (sine (j 0)) (j 1)

variable (m : (ℓ : Loc nD τ sig) → Buf (Elt Ideal) ℓ) (c : Dev nD)

/-- The block of every window at every grid point. -/
theorem idx : ∀ t : Fin cfg0.N, win0_0.index t = ![min t.val 95 % 16, 0] ∧ win0_1.index t = ![0, 0, min t.val 95 / 16]
    ∧ win0_2.index t = ![(t.val - 1) % 16 % 8, 0] ∧ win0_3.index t = ![(t.val - 1) % 16 % 8, 0] ∧ win0_4.index t = ![(t.val - 1) % 16, (t.val - 1) / 16] :=
  (by decide +kernel : ∀ t : Fin grid0.N, _)

/-- The rows and the weights that the program is given. -/
abbrev xa : FVec Ideal S16384x2048 .bf16 := m ((c.tc : Thread nD τ).loc main_arg0)
@[inherit_doc xa] abbrev wa : FVec Ideal S2x2048x6144 .f32 := m ((c.tc : Thread nD τ).loc main_arg1)

/-- A grid point's rows. -/
theorem blk_x (t : Fin cfg0.N) (hl : t.val + 1 < 97) (r : Fin 1024) (d : Fin 2048) :
    (iblk m c 0 t : FVec Ideal S1024x2048 .bf16) (ix2 r d) = xa m c (ix2 (row (1024 * (t.val % 16) + r)) d) := by
  have hm : min t.val 95 = t.val := by omega
  blk_ext [iblk, V, idx t, hm, row]
/-- A grid point's weights. -/
theorem blk_w (t : Fin cfg0.N) (hl : t.val + 1 < 97) : plain (iblk m c 1 t) = wBlock (wf (wa m c)) (t.val / 16) := by
  have hm : min t.val 95 = t.val := by omega
  funext (y : S2048x1024.Idx)
  idx_vars y
  unfold plain wBlock wf
  blk_ext [iblk, V, idx t, hm]

/-- The cosines of a grid point's rows. -/
theorem blk_c (t : Fin cfg0.N) (r : Fin 1024) (e : Fin 128) :
    (iblk m c 2 t : FVec Ideal S1024x128 .f32) (ix2 r e) = cosines (1024 * ((t.val - 1) % 16) + r) e := by
  have e0 : V m c main_v18 = cosTable := by entry_read; rfl
  unfold cosines
  blk_simp [iblk]
  rw [e0]
  generalize (cosTable : FVec Ideal S8192x128 .f32) = A
  blk_ext [idx t]

/-- The sines of a grid point's rows. -/
theorem blk_s (t : Fin cfg0.N) (r : Fin 1024) (e : Fin 128) :
    (iblk m c 3 t : FVec Ideal S1024x128 .f32) (ix2 r e) = sines (1024 * ((t.val - 1) % 16) + r) e := by
  have e0 : V m c main_v20 = sinTable := by entry_read; rfl
  unfold sines
  blk_simp [iblk]
  rw [e0]
  generalize (sinTable : FVec Ideal S8192x128 .f32) = A
  blk_ext [idx t]

/-- Every point but the last ends holding the weights of its columns. -/
theorem held (n : ℕ) (hn : n < 97) (hl : n + 1 < 97) : (outsAt0 m c n hn).2.1 = wBlock (wf (wa m c)) (n / 16) :=
  held_all (N := 97) (by decide) (fun n (hn : n < 97) => (outsAt0 m c n hn).2.1) (wBlock (wf (wa m c)))
    (fun n hn hz hl => (weights_AD m c ⟨n, hn⟩ (by have h97 : n % 97 = n := Nat.mod_eq_of_lt hn; show n % 97 = 0 ∨ n % 97 = 16 ∨ n % 97 = 32 ∨ n % 97 = 48 ∨ n % 97 = 64 ∨ n % 97 = 80; omega)).trans (blk_w m c ⟨n, hn⟩ hl))
    (fun n hn _ hz => by
      by_cases h0 : n = 0
      · subst h0; rfl
      · exact weights_BC m c ⟨n, hn⟩ (by have h97 : n % 97 = n := Nat.mod_eq_of_lt hn; show ¬(n % 97 = 0 ∨ n % 97 = 16 ∨ n % 97 = 32 ∨ n % 97 = 48 ∨ n % 97 = 64 ∨ n % 97 = 80); omega) (by have h97 : n % 97 = n := Nat.mod_eq_of_lt hn; show ¬n % 97 = 0; omega)) n hn hl

/-- An even point leaves its product in the first accumulator. -/
theorem left_even (t : Fin cfg0.N) (hl : t.val + 1 < 97) (h : t.val % 2 = 0) : Left (xa m c) (wf (wa m c)) t.val (outsAt0 m c t.val t.isLt).2.2.1 := fun r e =>
  (acc_even m c t h _).trans (by rw [held m c t.val t.isLt hl]; exact left_dot _ _ _ _ (blk_x m c t hl) r e)

/-- An odd point leaves it in the second. -/
theorem left_odd (t : Fin cfg0.N) (hl : t.val + 1 < 97) (h : t.val % 2 = 1) : Left (xa m c) (wf (wa m c)) t.val (outsAt0 m c t.val t.isLt).2.2.2 := fun r e =>
  (acc_odd m c t h _).trans (by rw [held m c t.val t.isLt hl]; exact left_dot _ _ _ _ (blk_x m c t hl) r e)

/-- The result of the arguments. -/
def G : S16384x6144.Idx → EReal := result (xa m c) (wa m c)

/-- The word of every point. -/
theorem word_eq : ∀ t : Fin cfg0.N, word (grid0.coords t) = BitVec.ofNat 32 ((t.val - 1) / 16) := (by decide +kernel : ∀ t : Fin grid0.N, _)

/-- A column of block `k`, turned as the body does, is the result's. -/
theorem spun_result (x : FVec Ideal S16384x2048 .bf16) (w : FVec Ideal S2x2048x6144 .f32) (k R n : ℕ) (hk : k < 6) (hn : n < 1024) {D c s : ℕ → EReal}
    (hD : ∀ e, e < 1024 → D e = dot x (wf w) R (1024 * k + e)) (hc : ∀ e, e < 128 → c e = cosines R e) (hs : ∀ e, e < 128 → s e = sines R e) :
    spun (BitVec.ofNat 32 k) D c s n = qkv (dot x (wf w) R) (cosine R) (sine R) (1024 * k + n) :=
  (spun_congr (BitVec.ofNat 32 k) k n hn hD hc hs).trans
    (spun_eq (dot x (wf w) R) (cosine R) (sine R) (cosines R) (sines R) k (1024 * k + n) hk (by omega) (cosines_eq R _) (sines_eq R _))

/-- A block of the product of the point before, turned as the body does, is a block of the result. -/
theorem spun_at (t : Fin cfg0.N) (a : FVec Ideal S1024x1024 .f32) (ha : Left (xa m c) (wf (wa m c)) (t.val - 1) a) (y : S1024x1024.Idx) (j : S16384x6144.Idx)
    (h0 : (j 0 : ℕ) = 1024 * ((t.val - 1) % 16) + (y 0 : ℕ)) (h1 : (j 1 : ℕ) = 1024 * ((t.val - 1) / 16) + (y 1 : ℕ)) :
    spunBlock (word (grid0.coords t)) a (iblk m c 2 t) (iblk m c 3 t) y = G m c j := by
  have hN : t.val < 97 := t.isLt
  have hy1 : (y 1 : ℕ) < 1024 := (y 1).isLt
  rw [word_eq t]
  refine (spun_result (xa m c) (wa m c) ((t.val - 1) / 16) (1024 * ((t.val - 1) % 16) + (y 0 : ℕ)) (y 1) (by omega) hy1 ?_ ?_ ?_).trans ?_
  · exact fun e he => (ha (y 0) _).trans (congrArg (fun E => dot (xa m c) (wf (wa m c)) _ (1024 * ((t.val - 1) / 16) + E)) (Nat.mod_eq_of_lt he))
  · exact fun e he => (blk_c m c t (y 0) _).trans (congrArg (cosines _) (Nat.mod_eq_of_lt he))
  · exact fun e he => (blk_s m c t (y 0) _).trans (congrArg (sines _) (Nat.mod_eq_of_lt he))
  exact congrArg₂ (fun R n : ℕ => qkv (dot (xa m c) (wf (wa m c)) R) (cosine R) (sine R) n) h0.symm h1.symm

/-- Every point after the first leaves a block of the result. -/
theorem out_eq (t : Fin cfg0.N) (ht : 1 ≤ t.val) (y : S1024x1024.Idx) (j : S16384x6144.Idx) (h0 : (j 0 : ℕ) = 1024 * ((t.val - 1) % 16) + (y 0 : ℕ))
    (h1 : (j 1 : ℕ) = 1024 * ((t.val - 1) / 16) + (y 1 : ℕ)) : (outsAt0 m c t.val t.isLt).1 y = G m c j := by
  have hN : t.val < 97 := t.isLt
  have hm : t.val % 97 = t.val := Nat.mod_eq_of_lt hN
  have hp : t.val - 1 < cfg0.N := Nat.lt_of_le_of_lt (Nat.sub_le _ _) t.isLt
  by_cases h : t.val % 2 = 0
  · refine (out_CD m c t (by omega) h (by omega) y).trans ?_
    exact spun_at m c t _ (left_odd m c ⟨t.val - 1, hp⟩ (by show t.val - 1 + 1 < 97; omega) (by show (t.val - 1) % 2 = 1; omega)) y j h0 h1
  · refine (out_B m c t (by omega) (by omega) h (by omega) y).trans ?_
    exact spun_at m c t _ (left_even m c ⟨t.val - 1, hp⟩ (by show t.val - 1 + 1 < 97; omega) (by show (t.val - 1) % 2 = 0; omega)) y j h0 h1

/-- The result's blocks are written back only after the first point. -/
theorem later : ∀ t : Fin cfg0.N, (cfg0.win 4).flush t = true → 1 ≤ t.val := (by decide +kernel : ∀ t : Fin grid0.N, (cfg0.win 4).flush t = true → 1 ≤ t.val)

/-- The kernel's array after the run is the result of its arguments. -/
theorem final : (dats m 0 c).arrAt 4 (cfgs 0).N = (G m c : FVec Ideal S16384x6144 .bf16) := by
  refine (dats m 0 c).arrAt_eq_of_covers 4 (G m c) (by decide +kernel) fun t hf y => ?_
  blk_simp
  rw [after0_4]
  refine out_eq m c t (later t hf) y _ ?_ ?_
  all_goals blk_simp [idx t]
  all_goals omega

end Cert.MobaQkvIdeal.Final

namespace Cert.MobaQkvRefIdeal.Final

open Idealize.ShloMosaic Idealize.ShloMosaic.TcCoe Cert.MobaQkvRefIdeal Cert.MobaQkvRefIdeal.Gen Cert.MobaQkvIdeal.Final Cert.Proj Cert.Spin

/-- The projection as the reference writes it, the columns by part, head and place. -/
def projected (x : FVec Ideal S16384x2048 .bf16) (w : FVec Ideal S2x2048x6144 .f32) : FVec Ideal S2x8192x3x16x128 .f32 :=
  shapeCast S2x8192x3x16x128 (Host.dotGeneral (F := Ideal) dot_S2x8192x2048_S2048x6144_S2x8192x6144_2_0_01_1_n_n none
    (shapeCast S2x8192x2048 (extf .f32 x bitsLt_bf16_f32) shapeCasts_S16384x2048_S2x8192x2048)
    (shapeCast S2048x6144 (extractStridedSlice S1x2048x6144 ![0, 0, 0] w slices_S2x2048x6144_S1x2048x6144_0_0_0) shapeCasts_S1x2048x6144_S2048x6144))
    shapeCasts_S2x8192x6144_S2x8192x3x16x128

theorem projected_at (x : FVec Ideal S16384x2048 .bf16) (w : FVec Ideal S2x2048x6144 .f32) (b : Fin 2) (s : Fin 8192) (i : Fin 3) (k : Fin 16) (e : Fin 128) :
    projected x w (ix5 b s i k e) = dot x (wf w) (8192 * b + s) (2048 * i + 128 * k + e) := by
  unfold projected dot wf row
  pointwise
  refine Finset.sum_congr rfl fun d _ => ?_
  exact congrArg₂ (fun (R : Fin 16384) (E : Fin 6144) => (x (ix2 R d) * w (ix3 0 d E) : EReal)) (Fin.ext (by dsimp only; omega)) (Fin.ext (by dsimp only; omega))

/-- The queries' heads, the keys' and the values'. -/
def queries (p : FVec Ideal S2x8192x3x16x128 .f32) : FVec Ideal S2x16x8192x128 .f32 :=
  transpose S2x16x8192x128 [0, 2, 1, 3] (shapeCast S2x8192x16x128 (extractStridedSlice S2x8192x1x16x128 ![0, 0, 0, 0, 0] p slices_S2x8192x3x16x128_S2x8192x1x16x128_0_0_0_0_0)
    shapeCasts_S2x8192x1x16x128_S2x8192x16x128) transposes_S2x8192x16x128_S2x16x8192x128_0_2_1_3
@[inherit_doc queries] def keys (p : FVec Ideal S2x8192x3x16x128 .f32) : FVec Ideal S2x16x8192x128 .f32 :=
  transpose S2x16x8192x128 [0, 2, 1, 3] (shapeCast S2x8192x16x128 (extractStridedSlice S2x8192x1x16x128 ![0, 0, 1, 0, 0] p slices_S2x8192x3x16x128_S2x8192x1x16x128_0_0_1_0_0)
    shapeCasts_S2x8192x1x16x128_S2x8192x16x128) transposes_S2x8192x16x128_S2x16x8192x128_0_2_1_3
@[inherit_doc queries] def values (p : FVec Ideal S2x8192x3x16x128 .f32) : FVec Ideal S2x16x8192x128 .f32 :=
  transpose S2x16x8192x128 [0, 2, 1, 3] (shapeCast S2x8192x16x128 (extractStridedSlice S2x8192x1x16x128 ![0, 0, 2, 0, 0] p slices_S2x8192x3x16x128_S2x8192x1x16x128_0_0_2_0_0)
    shapeCasts_S2x8192x1x16x128_S2x8192x16x128) transposes_S2x8192x16x128_S2x16x8192x128_0_2_1_3

theorem queries_at (p : FVec Ideal S2x8192x3x16x128 .f32) (b : Fin 2) (k : Fin 16) (s : Fin 8192) (e : Fin 128) : queries p (ix4 b k s e) = p (ix5 b s 0 k e) := by
  pointwise [queries]
theorem keys_at (p : FVec Ideal S2x8192x3x16x128 .f32) (b : Fin 2) (k : Fin 16) (s : Fin 8192) (e : Fin 128) : keys p (ix4 b k s e) = p (ix5 b s 1 k e) := by
  pointwise [keys]
theorem values_at (p : FVec Ideal S2x8192x3x16x128 .f32) (b : Fin 2) (k : Fin 16) (s : Fin 8192) (e : Fin 128) : values p (ix4 b k s e) = p (ix5 b s 2 k e) := by
  pointwise [values]

/-- A table for every batch and head. -/
def over (t : FVec Ideal S8192x64 .f32) : FVec Ideal S2x16x8192x64 .f32 :=
  broadcastInDim S2x16x8192x64 ![0, 1, 2, 3] bcast_S1x1x8192x64_S2x16x8192x64_0_1_2_3 (broadcastInDim S1x1x8192x64 ![2, 3] bcast_S8192x64_S1x1x8192x64_2_3 t)

/-- Every head turned. -/
def roped (h : FVec Ideal S2x16x8192x128 .f32) (cos sin : FVec Ideal S8192x64 .f32) : FVec Ideal S2x16x8192x128 .f32 :=
  concatenate S2x16x8192x128 3
    [⟨S2x16x8192x64, subf (mulf (extractStridedSlice S2x16x8192x64 ![0, 0, 0, 0] h slices_S2x16x8192x128_S2x16x8192x64_0_0_0_0) (over cos))
      (mulf (extractStridedSlice S2x16x8192x64 ![0, 0, 0, 64] h slices_S2x16x8192x128_S2x16x8192x64_0_0_0_64) (over sin))⟩,
     ⟨S2x16x8192x64, addf (mulf (extractStridedSlice S2x16x8192x64 ![0, 0, 0, 0] h slices_S2x16x8192x128_S2x16x8192x64_0_0_0_0) (over sin))
      (mulf (extractStridedSlice S2x16x8192x64 ![0, 0, 0, 64] h slices_S2x16x8192x128_S2x16x8192x64_0_0_0_64) (over cos))⟩]
    concatenates_S2x16x8192x64_S2x16x8192x64_S2x16x8192x128_d3

theorem roped_first (h : FVec Ideal S2x16x8192x128 .f32) (cos sin : FVec Ideal S8192x64 .f32) (b : Fin 2) (k : Fin 16) (s : Fin 8192) (e : Fin 128) (he : (e : ℕ) < 64) :
    roped h cos sin (ix4 b k s e) = (h (ix4 b k s e) * cos (ix2 s ⟨e, he⟩) - h (ix4 b k s ⟨64 + e, by omega⟩) * sin (ix2 s ⟨e, he⟩) : EReal) := by
  pointwise [roped, over, he]

theorem roped_second (h : FVec Ideal S2x16x8192x128 .f32) (cos sin : FVec Ideal S8192x64 .f32) (b : Fin 2) (k : Fin 16) (s : Fin 8192) (e : Fin 128) (he : ¬(e : ℕ) < 64) :
    roped h cos sin (ix4 b k s e)
      = (h (ix4 b k s ⟨e - 64, by omega⟩) * sin (ix2 s ⟨e - 64, by omega⟩) + h (ix4 b k s e) * cos (ix2 s ⟨e - 64, by omega⟩) : EReal) := by
  pointwise [roped, over, he]
  exact congrArg (fun E : Fin 128 => (h (ix4 b k s ⟨e - 64, by omega⟩) * sin (ix2 s ⟨e - 64, by omega⟩) + h (ix4 b k s E) * cos (ix2 s ⟨e - 64, by omega⟩) : EReal))
    (Fin.ext (by show 64 + ((e : ℕ) - 64) = e; omega))

/-- A turned head, given the products of its columns. -/
theorem roped_at (h : FVec Ideal S2x16x8192x128 .f32) (D : ℕ → EReal) (R n : ℕ) (b : Fin 2) (k : Fin 16) (s : Fin 8192) (e : Fin 128) (hR : R % 8192 = s) (hn : n % 128 = e)
    (hD : ∀ e' : Fin 128, h (ix4 b k s e') = D (n / 128 * 128 + e')) :
    roped h (Host.cos (F := Ideal) angles) (Host.sin (F := Ideal) angles) (ix4 b k s e) = rotated D (cosine R) (sine R) n := by
  have hd : ∀ (e' : Fin 128) (n' : ℕ), n' = n / 128 * 128 + e' → h (ix4 b k s e') = D n' := fun e' n' hn' => (hD e').trans (congrArg D hn'.symm)
  have hc : ∀ e' : Fin 64, (e' : ℕ) = n % 64 → (Host.cos (F := Ideal) angles : FVec Ideal S8192x64 .f32) (ix2 s e') = cosine R (n % 64) := fun e' he =>
    congrArg₂ (fun (S : Fin 8192) (E : Fin 64) => (Host.cos (F := Ideal) angles : FVec Ideal S8192x64 .f32) (ix2 S E)) (Fin.ext hR.symm) (Fin.ext (by show (e' : ℕ) = n % 64 % 64; omega))
  have hs : ∀ e' : Fin 64, (e' : ℕ) = n % 64 → (Host.sin (F := Ideal) angles : FVec Ideal S8192x64 .f32) (ix2 s e') = sine R (n % 64) := fun e' he =>
    congrArg₂ (fun (S : Fin 8192) (E : Fin 64) => (Host.sin (F := Ideal) angles : FVec Ideal S8192x64 .f32) (ix2 S E)) (Fin.ext hR.symm) (Fin.ext (by show (e' : ℕ) = n % 64 % 64; omega))
  unfold rotated
  by_cases he : (e : ℕ) < 64
  · rw [if_pos (by omega)]
    exact (roped_first _ _ _ b k s e he).trans (congrArg₂ (fun u v : EReal => u - v)
      (congrArg₂ (fun u v : EReal => u * v) (hd e _ (by omega)) (hc ⟨e, he⟩ (by show (e : ℕ) = n % 64; omega)))
      (congrArg₂ (fun u v : EReal => u * v) (hd ⟨64 + e, by omega⟩ _ (by show n + 64 = n / 128 * 128 + (64 + e); omega)) (hs ⟨e, he⟩ (by show (e : ℕ) = n % 64; omega))))
  · rw [if_neg (by omega)]
    exact (roped_second _ _ _ b k s e he).trans (congrArg₂ (fun u v : EReal => u + v)
      (congrArg₂ (fun u v : EReal => u * v) (hd ⟨e - 64, by omega⟩ _ (by show n - 64 = n / 128 * 128 + (e - 64); omega))
        (hs ⟨e - 64, by omega⟩ (by show (e : ℕ) - 64 = n % 64; omega)))
      (congrArg₂ (fun u v : EReal => u * v) (hd e _ (by omega)) (hc ⟨e - 64, by omega⟩ (by show (e : ℕ) - 64 = n % 64; omega))))

/-- Heads as rows of the heads' columns side by side. -/
def across (h : FVec Ideal S2x16x8192x128 .f32) : FVec Ideal S16384x2048 .bf16 :=
  truncf .bf16 (shapeCast S16384x2048 (transpose S2x8192x16x128 [0, 2, 1, 3] h transposes_S2x16x8192x128_S2x8192x16x128_0_2_1_3) shapeCasts_S2x8192x16x128_S16384x2048) bitsLt_bf16_f32

theorem across_at (h : FVec Ideal S2x16x8192x128 .f32) (R : Fin 16384) (n : Fin 2048) :
    across h (ix2 R n) = h (ix4 ⟨(R : ℕ) / 8192, by omega⟩ ⟨(n : ℕ) / 128, by omega⟩ ⟨(R : ℕ) % 8192, by omega⟩ ⟨(n : ℕ) % 128, by omega⟩) := by
  pointwise [across]

/-- The scaled queries. -/
def scaled (h : FVec Ideal S2x16x8192x128 .f32) : FVec Ideal S2x16x8192x128 .f32 :=
  mulf h (broadcastInDim S2x16x8192x128 ![] bcast_S_S2x16x8192x128 (constant S_ .f32 0x3E0293EE#32))

theorem scaled_at (h : FVec Ideal S2x16x8192x128 .f32) (b : Fin 2) (k : Fin 16) (s : Fin 8192) (e : Fin 128) : scaled h (ix4 b k s e) = (h (ix4 b k s e) * queryScale : EReal) := by
  pointwise [scaled, queryScale]

/-- The three parts of the result at a row and a column. -/
theorem query_part (x : FVec Ideal S16384x2048 .bf16) (w : FVec Ideal S2x2048x6144 .f32) (R : Fin 16384) (n : Fin 2048) (N : ℕ) (hN : N = n) :
    across (scaled (roped (queries (projected x w)) (Host.cos (F := Ideal) angles) (Host.sin (F := Ideal) angles))) (ix2 R n)
      = rotated (dot x (wf w) R) (cosine R) (sine R) N * queryScale := by
  refine (across_at _ R n).trans ((scaled_at _ _ _ _ _).trans (congrArg (fun v : EReal => v * queryScale) (roped_at _ _ R N _ _ _ _ rfl (by show N % 128 = (n : ℕ) % 128; omega) fun e' => ?_)))
  refine (queries_at _ _ _ _ _).trans ((projected_at x w _ _ _ _ _).trans (congrArg₂ (dot x (wf w)) ?_ ?_))
  · show 8192 * ((R : ℕ) / 8192) + (R : ℕ) % 8192 = R
    omega
  · show 2048 * 0 + 128 * ((n : ℕ) / 128) + (e' : ℕ) = N / 128 * 128 + e'
    omega

@[inherit_doc query_part] theorem key_part (x : FVec Ideal S16384x2048 .bf16) (w : FVec Ideal S2x2048x6144 .f32) (R : Fin 16384) (n : Fin 2048) (N : ℕ) (hN : N = n + 2048) :
    across (roped (keys (projected x w)) (Host.cos (F := Ideal) angles) (Host.sin (F := Ideal) angles)) (ix2 R n) = rotated (dot x (wf w) R) (cosine R) (sine R) N := by
  refine (across_at _ R n).trans (roped_at _ _ R N _ _ _ _ rfl (by show N % 128 = (n : ℕ) % 128; omega) fun e' => ?_)
  refine (keys_at _ _ _ _ _).trans ((projected_at x w _ _ _ _ _).trans (congrArg₂ (dot x (wf w)) ?_ ?_))
  · show 8192 * ((R : ℕ) / 8192) + (R : ℕ) % 8192 = R
    omega
  · show 2048 * 1 + 128 * ((n : ℕ) / 128) + (e' : ℕ) = N / 128 * 128 + e'
    omega

@[inherit_doc query_part] theorem value_part (x : FVec Ideal S16384x2048 .bf16) (w : FVec Ideal S2x2048x6144 .f32) (R : Fin 16384) (n : Fin 2048) (N : ℕ) (hN : N = n + 4096) :
    across (values (projected x w)) (ix2 R n) = dot x (wf w) R N := by
  refine (across_at _ R n).trans ((values_at _ _ _ _ _).trans ((projected_at x w _ _ _ _ _).trans (congrArg₂ (dot x (wf w)) ?_ ?_)))
  · show 8192 * ((R : ℕ) / 8192) + (R : ℕ) % 8192 = R
    omega
  · show 2048 * 2 + 128 * ((n : ℕ) / 128) + (n : ℕ) % 128 = N
    omega

variable (m : (ℓ : Loc nD τ sig) → Buf (Elt Ideal) ℓ) (c : Dev nD)

/-- The rows and the weights that the reference is given. -/
abbrev xr : FVec Ideal S16384x2048 .bf16 := m ((c.tc : Thread nD τ).loc main_arg0)
@[inherit_doc xr] abbrev wr : FVec Ideal S2x2048x6144 .f32 := m ((c.tc : Thread nD τ).loc main_arg1)

/-- The parts side by side. -/
def beside (a b d : FVec Ideal S16384x2048 .bf16) : FVec Ideal S16384x6144 .bf16 :=
  concatenate S16384x6144 1 [⟨S16384x2048, a⟩, ⟨S16384x2048, b⟩, ⟨S16384x2048, d⟩] concatenates_S16384x2048_S16384x2048_S16384x2048_S16384x6144_d1

/-- Three parts side by side are an array when each is. -/
theorem beside_eq (a b d : FVec Ideal S16384x2048 .bf16) (g : S16384x6144.Idx → EReal)
    (ha : ∀ (R : Fin 16384) (n : Fin 2048), a (ix2 R n) = g (ix2 R ⟨n, by omega⟩))
    (hb : ∀ (R : Fin 16384) (n : Fin 2048), b (ix2 R n) = g (ix2 R ⟨n + 2048, by omega⟩))
    (hd : ∀ (R : Fin 16384) (n : Fin 2048), d (ix2 R n) = g (ix2 R ⟨n + 4096, by omega⟩)) : beside a b d = (g : FVec Ideal S16384x6144 .bf16) := by
  funext (j : S16384x6144.Idx)
  idx_vars j
  pointwise [beside]
  by_cases h1 : (j1 : ℕ) < 2048
  · exact (dif_pos h1).trans (ha _ _)
  · refine (dif_neg h1).trans ?_
    by_cases h2 : (j1 : ℕ) - 2048 < 2048
    · exact (dif_pos h2).trans ((hb j0 ⟨(j1 : ℕ) - 2048, h2⟩).trans (congrArg (fun E : Fin 6144 => g (ix2 j0 E)) (Fin.ext (by show (j1 : ℕ) - 2048 + 2048 = j1; omega))))
    · exact (dif_neg h2).trans ((hd j0 ⟨(j1 : ℕ) - 2048 - 2048, by omega⟩).trans
        (congrArg (fun E : Fin 6144 => g (ix2 j0 E)) (Fin.ext (by show (j1 : ℕ) - 2048 - 2048 + 4096 = j1; omega))))

/-- The reference's result is the result of its arguments. -/
theorem final : Value.res_out0 m c = (result (xr m c) (wr m c) : FVec Ideal S16384x6144 .bf16) := by
  refine (show Value.res_out0 m c = beside
    (across (scaled (roped (queries (projected (xr m c) (wr m c))) (Host.cos (F := Ideal) angles) (Host.sin (F := Ideal) angles))))
    (across (roped (keys (projected (xr m c) (wr m c))) (Host.cos (F := Ideal) angles) (Host.sin (F := Ideal) angles)))
    (across (values (projected (xr m c) (wr m c)))) from rfl).trans (beside_eq _ _ _ _ ?_ ?_ ?_)
  · intro R n
    refine (query_part _ _ R n n rfl).trans ?_
    show _ = qkv (dot (xr m c) (wf (wr m c)) R) (cosine R) (sine R) ((n : ℕ))
    unfold qkv
    rw [if_pos n.isLt]
  · intro R n
    refine (key_part _ _ R n (n + 2048) rfl).trans ?_
    show _ = qkv (dot (xr m c) (wf (wr m c)) R) (cosine R) (sine R) ((n : ℕ) + 2048)
    unfold qkv
    rw [if_neg (by omega), if_pos (by omega)]
  · intro R n
    refine (value_part _ _ R n (n + 4096) rfl).trans ?_
    show _ = qkv (dot (xr m c) (wf (wr m c)) R) (cosine R) (sine R) ((n : ℕ) + 4096)
    unfold qkv
    rw [if_neg (by omega), if_neg (by omega)]

end Cert.MobaQkvRefIdeal.Final

end
-- ==== Proof.lean ====
module

public import proofs.«01_k».proof.Defs
public import proofs.«01_k».proof.Proof.Gen.Retention
public import proofs.«01_k».proof.Proof.Gen.Retention.Skeleton
public import proofs.«01_k».proof.Proof.Gen.Retention.Launch
public import proofs.«01_k».proof.Proof.Gen.Retention.Points
public import proofs.«01_k».proof.Proof.Gen.Retention.Frame
public import proofs.«01_k».proof.Proof.Gen.RetentionIdeal
public import proofs.«01_k».proof.Proof.Gen.RetentionIdeal.Skeleton
public import proofs.«01_k».proof.Proof.Gen.RetentionIdeal.Launch
public import proofs.«01_k».proof.Proof.Gen.RetentionIdeal.Points
public import proofs.«01_k».proof.Proof.Gen.RetentionIdeal.Frame
public import proofs.«01_k».proof.Proof.Gen.RetentionRefIdeal
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpRefIdeal
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownRefIdeal
public import proofs.«01_k».proof.Proof.Gen.RetentionIdeal.Value
public import proofs.«01_k».proof.Proof.Gen.FfnUpIdeal.Value
public import proofs.«01_k».proof.Proof.Gen.FfnDownIdeal.Value
public import proofs.«01_k».proof.Proof.Gen.RetentionRefIdeal.Step
public import proofs.«01_k».proof.Proof.Gen.FfnUpRefIdeal.Run
public import proofs.«01_k».proof.Proof.Gen.FfnDownRefIdeal.Run
public import proofs.«01_k».proof.Proof.RetValue
public import proofs.«01_k».proof.Proof.UpRef
public import proofs.«01_k».proof.Proof.DownValue
public import proofs.«01_k».proof.Proof.Gen.RetentionRefIdeal.Run
public import proofs.«01_k».proof.Proof.Gen.RetV
public import proofs.«01_k».proof.Proof.Gen.RetVIdeal
public import proofs.«01_k».proof.Proof.Gen.RetV.Skeleton
public import proofs.«01_k».proof.Proof.Gen.RetVIdeal.Skeleton
public import proofs.«01_k».proof.Proof.Gen.RetV.Launch
public import proofs.«01_k».proof.Proof.Gen.RetVIdeal.Launch
public import proofs.«01_k».proof.Proof.Gen.RetV.Points
public import proofs.«01_k».proof.Proof.Gen.RetVIdeal.Points
public import proofs.«01_k».proof.Proof.Gen.RetV.Frame
public import proofs.«01_k».proof.Proof.Gen.RetVIdeal.Frame
public import proofs.«01_k».proof.Proof.Gen.RetVRefIdeal
public import proofs.«01_k».proof.Proof.Gen.RetVRefIdeal.Run
public import proofs.«01_k».proof.Proof.RetVValue
public import proofs.«01_k».proof.Proof.Gen.RetGate
public import proofs.«01_k».proof.Proof.Gen.RetGateIdeal
public import proofs.«01_k».proof.Proof.Gen.RetGate.Skeleton
public import proofs.«01_k».proof.Proof.Gen.RetGateIdeal.Skeleton
public import proofs.«01_k».proof.Proof.Gen.RetGate.Launch
public import proofs.«01_k».proof.Proof.Gen.RetGateIdeal.Launch
public import proofs.«01_k».proof.Proof.Gen.RetGate.Points
public import proofs.«01_k».proof.Proof.Gen.RetGateIdeal.Points
public import proofs.«01_k».proof.Proof.Gen.RetGate.Frame
public import proofs.«01_k».proof.Proof.Gen.RetGateIdeal.Frame
public import proofs.«01_k».proof.Proof.Gen.RetGateRefIdeal
public import proofs.«01_k».proof.Proof.Gen.RetGateRefIdeal.Run
public import proofs.«01_k».proof.Proof.RetGateValue
public import proofs.«01_k».proof.Proof.Gen.RetQ
public import proofs.«01_k».proof.Proof.Gen.RetQIdeal
public import proofs.«01_k».proof.Proof.Gen.RetQ.Skeleton
public import proofs.«01_k».proof.Proof.Gen.RetQIdeal.Skeleton
public import proofs.«01_k».proof.Proof.Gen.RetQ.Launch
public import proofs.«01_k».proof.Proof.Gen.RetQIdeal.Launch
public import proofs.«01_k».proof.Proof.Gen.RetQ.Points
public import proofs.«01_k».proof.Proof.Gen.RetQIdeal.Points
public import proofs.«01_k».proof.Proof.Gen.RetQ.Frame
public import proofs.«01_k».proof.Proof.Gen.RetQIdeal.Frame
public import proofs.«01_k».proof.Proof.Gen.RetQRefIdeal
public import proofs.«01_k».proof.Proof.Gen.RetQRefIdeal.Run
public import proofs.«01_k».proof.Proof.Gen.RetK
public import proofs.«01_k».proof.Proof.Gen.RetKIdeal
public import proofs.«01_k».proof.Proof.Gen.RetK.Skeleton
public import proofs.«01_k».proof.Proof.Gen.RetKIdeal.Skeleton
public import proofs.«01_k».proof.Proof.Gen.RetK.Launch
public import proofs.«01_k».proof.Proof.Gen.RetKIdeal.Launch
public import proofs.«01_k».proof.Proof.Gen.RetK.Points
public import proofs.«01_k».proof.Proof.Gen.RetKIdeal.Points
public import proofs.«01_k».proof.Proof.Gen.RetK.Frame
public import proofs.«01_k».proof.Proof.Gen.RetKIdeal.Frame
public import proofs.«01_k».proof.Proof.Gen.RetKRefIdeal
public import proofs.«01_k».proof.Proof.Gen.RetKRefIdeal.Run
public import proofs.«01_k».proof.Proof.RetQValue
public import proofs.«01_k».proof.Proof.RetKValue
public import proofs.«01_k».proof.Proof.Gen.RetOut
public import proofs.«01_k».proof.Proof.Gen.RetOutIdeal
public import proofs.«01_k».proof.Proof.Gen.RetOut.Skeleton
public import proofs.«01_k».proof.Proof.Gen.RetOutIdeal.Skeleton
public import proofs.«01_k».proof.Proof.Gen.RetOut.Launch
public import proofs.«01_k».proof.Proof.Gen.RetOutIdeal.Launch
public import proofs.«01_k».proof.Proof.Gen.RetOut.Points
public import proofs.«01_k».proof.Proof.Gen.RetOutIdeal.Points
public import proofs.«01_k».proof.Proof.Gen.RetOut.Frame
public import proofs.«01_k».proof.Proof.Gen.RetOutIdeal.Frame
public import proofs.«01_k».proof.Proof.Gen.RetOutRefIdeal
public import proofs.«01_k».proof.Proof.Gen.RetOutRefIdeal.Run
public import proofs.«01_k».proof.Proof.Gen.MobaOut
public import proofs.«01_k».proof.Proof.Gen.MobaOutIdeal
public import proofs.«01_k».proof.Proof.Gen.MobaOut.Skeleton
public import proofs.«01_k».proof.Proof.Gen.MobaOutIdeal.Skeleton
public import proofs.«01_k».proof.Proof.Gen.MobaOut.Launch
public import proofs.«01_k».proof.Proof.Gen.MobaOutIdeal.Launch
public import proofs.«01_k».proof.Proof.Gen.MobaOut.Points
public import proofs.«01_k».proof.Proof.Gen.MobaOutIdeal.Points
public import proofs.«01_k».proof.Proof.Gen.MobaOut.Frame
public import proofs.«01_k».proof.Proof.Gen.MobaOutIdeal.Frame
public import proofs.«01_k».proof.Proof.Gen.MobaOutRefIdeal
public import proofs.«01_k».proof.Proof.Gen.MobaOutRefIdeal.Run
public import proofs.«01_k».proof.Proof.RetOutValue
public import proofs.«01_k».proof.Proof.MobaOutValue
public import proofs.«01_k».proof.Proof.Gen.MobaQkv
public import proofs.«01_k».proof.Proof.Gen.MobaQkv.Skeleton
public import proofs.«01_k».proof.Proof.Gen.MobaQkv.Launch
public import proofs.«01_k».proof.Proof.Gen.MobaQkv.Points
public import proofs.«01_k».proof.Proof.MobaQkvFrame
public import proofs.«01_k».proof.Proof.Gen.MobaQkvIdeal
public import proofs.«01_k».proof.Proof.Gen.MobaQkvIdeal.Skeleton
public import proofs.«01_k».proof.Proof.Gen.MobaQkvIdeal.Launch
public import proofs.«01_k».proof.Proof.Gen.MobaQkvIdeal.Points
public import proofs.«01_k».proof.Proof.MobaQkvIdealFrame
public import proofs.«01_k».proof.Proof.Gen.MobaQkvRefIdeal
public import proofs.«01_k».proof.Proof.Gen.MobaQkvRefIdeal.Run
public import Idealize.ShloMosaic.Adequacy
public import Idealize.ShloMosaic.Init
public import proofs.«01_k».proof.Proof.MobaQkvValue

@[expose] public section

noncomputable section

-- The frames also say that every semaphore counter ends at zero.

namespace Cert.Proof

open Idealize.ShloMosaic Idealize.SL.Sem Cert.Retention

set_option maxRecDepth 16384 in
/-- The retention's reference runs, keeps its arguments and leaves every counter at zero. -/
theorem frame_RetentionRefIdeal : Cert.quiescent_RetentionRefIdeal := fun m g _ =>
  (θ_run _ _ _).mono (fun r h => ⟨fun c => (h c).2, sem_eq_zero_of_no_sems (by decide) r.2⟩)
    (Cert.RetentionRefIdeal.Value.run m g)

set_option maxRecDepth 16384 in
/-- The reference of the feed-forward's first half runs, keeps its arguments and leaves every counter at zero. -/
theorem frame_FfnUpRefIdeal : Cert.quiescent_FfnUpRefIdeal := fun m g _ =>
  (θ_run _ _ _).mono (fun r h => ⟨fun c => (h c).2, sem_eq_zero_of_no_sems (by decide) r.2⟩)
    (Cert.FfnUpRefIdeal.Value.run m g)

set_option maxRecDepth 16384 in
/-- The reference of the product with residual and layer norm runs, keeps its arguments and leaves every counter at
    zero. -/
theorem frame_FfnDownRefIdeal : Cert.quiescent_FfnDownRefIdeal := fun m g _ =>
  (θ_run _ _ _).mono (fun r h => ⟨fun c => (h c).2.2, sem_eq_zero_of_no_sems (by decide) r.2⟩)
    (Cert.FfnDownRefIdeal.Value.run m g)

set_option maxRecDepth 16384 in
/-- The retention kernel and its reference end with the same result on the same arguments. -/
theorem algebraic_Retention : Cert.algebraic_RetentionIdeal_RetentionRefIdeal := by
  pair_intro
  · run_from Cert.RetentionIdeal.Gen.run_main m g
  · run_from Cert.RetentionRefIdeal.Value.run m' g'
    obtain ⟨h0, h1, h2, h3⟩ := hagree c
    rw [Cert.RetentionRefIdeal.Loop.final, Cert.RetentionIdeal.Final.final]
    unfold Cert.RetentionRefIdeal.Loop.qin Cert.RetentionRefIdeal.Loop.kin Cert.RetentionRefIdeal.Loop.vin
    rw [h0, h1, h2, h3]

set_option maxRecDepth 16384 in
/-- The up-projection with its convolution and gate, and its reference, end with the same result on the same arguments. -/
theorem algebraic_FfnUp : Cert.algebraic_FfnUpIdeal_FfnUpRefIdeal := by
  pair_intro
  · run_from Cert.FfnUpIdeal.Gen.run_main m g
  · run_from Cert.FfnUpRefIdeal.Value.run m' g'
    obtain ⟨h0, h1, h2, h3⟩ := hagree c
    refine (Cert.FfnUpRefIdeal.Final.final m' c).trans ?_
    rw [Cert.FfnUpIdeal.Final.final]
    unfold Cert.FfnUpIdeal.Final.G Cert.FfnUpIdeal.Final.xa Cert.FfnUpIdeal.Final.wa Cert.FfnUpIdeal.Final.cwa Cert.FfnUpIdeal.Final.cba
    rw [h0, h1, h2, h3]

set_option maxRecDepth 16384 in
/-- The down-projection with the residual and the layer norm, and its reference, end with the same results on the same arguments. -/
theorem algebraic_FfnDown : Cert.algebraic_FfnDownIdeal_FfnDownRefIdeal := by
  pair_intro
  · run_from Cert.FfnDownIdeal.Gen.run_main m g
  · run_from Cert.FfnDownRefIdeal.Value.run m' g'
    · exact (Cert.FfnDownRefIdeal.Final.final _ _ _ _ _).trans (Cert.FfnDownIdeal.Final.final5 m c).symm
    · exact (Cert.FfnDownRefIdeal.Final.final _ _ _ _ _).trans (Cert.FfnDownIdeal.Final.final6 m c).symm

set_option maxRecDepth 16384 in
/-- The reference of the retention's value projection runs, keeps its arguments and leaves every counter at zero. -/
theorem frame_RetVRefIdeal : Cert.quiescent_RetVRefIdeal := fun m g _ =>
  (θ_run _ _ _).mono (fun r h => ⟨fun c => (h c).2, sem_eq_zero_of_no_sems (by decide) r.2⟩)
    (Cert.RetVRefIdeal.Value.run m g)

set_option maxRecDepth 16384 in
/-- The reference of the retention's gate projection runs, keeps its arguments and leaves every counter at zero. -/
theorem frame_RetGateRefIdeal : Cert.quiescent_RetGateRefIdeal := fun m g _ =>
  (θ_run _ _ _).mono (fun r h => ⟨fun c => (h c).2, sem_eq_zero_of_no_sems (by decide) r.2⟩)
    (Cert.RetGateRefIdeal.Value.run m g)

set_option maxRecDepth 16384 in
/-- The retention's value projection and its reference end with the same result on the same arguments. -/
theorem algebraic_RetV : Cert.algebraic_RetVIdeal_RetVRefIdeal := by
  pair_intro
  · run_from Cert.RetVIdeal.Gen.run_main m g
  · run_from Cert.RetVRefIdeal.Value.run m' g'
    exact (Cert.RetVRefIdeal.Final.final _ _).trans (Cert.RetVIdeal.Final.final m c).symm

set_option maxRecDepth 16384 in
/-- The retention's gate projection and its reference end with the same result on the same arguments. -/
theorem algebraic_RetGate : Cert.algebraic_RetGateIdeal_RetGateRefIdeal := by
  pair_intro
  · run_from Cert.RetGateIdeal.Gen.run_main m g
  · run_from Cert.RetGateRefIdeal.Value.run m' g'
    exact (Cert.RetGateRefIdeal.Final.final _ _).trans (Cert.RetGateIdeal.Final.final m c).symm

set_option maxRecDepth 16384 in
/-- The reference of the retention's query projection runs, keeps its arguments and leaves every counter at zero. -/
theorem frame_RetQRefIdeal : Cert.quiescent_RetQRefIdeal := fun m g _ =>
  (θ_run _ _ _).mono (fun r h => ⟨fun c => (h c).2, sem_eq_zero_of_no_sems (by decide) r.2⟩)
    (Cert.RetQRefIdeal.Value.run m g)

set_option maxRecDepth 16384 in
/-- The reference of the retention's key projection runs, keeps its arguments and leaves every counter at zero. -/
theorem frame_RetKRefIdeal : Cert.quiescent_RetKRefIdeal := fun m g _ =>
  (θ_run _ _ _).mono (fun r h => ⟨fun c => (h c).2, sem_eq_zero_of_no_sems (by decide) r.2⟩)
    (Cert.RetKRefIdeal.Value.run m g)

set_option maxRecDepth 16384 in
/-- The retention's query projection and its reference end with the same result on the same arguments. -/
theorem algebraic_RetQ : Cert.algebraic_RetQIdeal_RetQRefIdeal := by
  pair_intro
  · run_from Cert.RetQIdeal.Gen.run_main m g
  · run_from Cert.RetQRefIdeal.Value.run m' g'
    obtain ⟨h0, h1⟩ := hagree c
    refine (Cert.RetQRefIdeal.Final.final m' c).trans ?_
    rw [Cert.RetQIdeal.Final.final]
    exact congrArg₂ Cert.RetQIdeal.Final.result h0 h1

set_option maxRecDepth 16384 in
/-- The retention's key projection and its reference end with the same result on the same arguments. -/
theorem algebraic_RetK : Cert.algebraic_RetKIdeal_RetKRefIdeal := by
  pair_intro
  · run_from Cert.RetKIdeal.Gen.run_main m g
  · run_from Cert.RetKRefIdeal.Value.run m' g'
    obtain ⟨h0, h1⟩ := hagree c
    refine (Cert.RetKRefIdeal.Final.final m' c).trans ?_
    rw [Cert.RetKIdeal.Final.final]
    exact congrArg₂ Cert.RetKIdeal.Final.result h0 h1

set_option maxRecDepth 16384 in
/-- The reference of the retention's output projection with its norm runs, keeps its arguments and leaves every counter at zero. -/
theorem frame_RetOutRefIdeal : Cert.quiescent_RetOutRefIdeal := fun m g _ =>
  (θ_run _ _ _).mono (fun r h => ⟨fun c => (h c).2.2, sem_eq_zero_of_no_sems (by decide) r.2⟩)
    (Cert.RetOutRefIdeal.Value.run m g)

set_option maxRecDepth 16384 in
/-- The retention's output projection with its norm and its reference end with the same two results on the same arguments. -/
theorem algebraic_RetOut : Cert.algebraic_RetOutIdeal_RetOutRefIdeal := by
  pair_intro
  · run_from Cert.RetOutIdeal.Gen.run_main m g
  · run_from Cert.RetOutRefIdeal.Value.run m' g'
    · exact (Cert.RetOutRefIdeal.Final.final _ _ _ _ _).trans (Cert.RetOutIdeal.Final.final5 m c).symm
    · exact (Cert.RetOutRefIdeal.Final.final _ _ _ _ _).trans (Cert.RetOutIdeal.Final.final6 m c).symm

set_option maxRecDepth 16384 in
/-- The reference of the attention's output projection with its norm runs, keeps its arguments and leaves every counter at zero. -/
theorem frame_MobaOutRefIdeal : Cert.quiescent_MobaOutRefIdeal := fun m g _ =>
  (θ_run _ _ _).mono (fun r h => ⟨fun c => (h c).2.2, sem_eq_zero_of_no_sems (by decide) r.2⟩)
    (Cert.MobaOutRefIdeal.Value.run m g)

set_option maxRecDepth 16384 in
/-- The attention's output projection with its norm and its reference end with the same two results on the same arguments. -/
theorem algebraic_MobaOut : Cert.algebraic_MobaOutIdeal_MobaOutRefIdeal := by
  pair_intro
  · run_from Cert.MobaOutIdeal.Gen.run_main m g
  · run_from Cert.MobaOutRefIdeal.Value.run m' g'
    · exact (Cert.MobaOutRefIdeal.Final.final _ _ _ _ _).trans (Cert.MobaOutIdeal.Final.final5 m c).symm
    · exact (Cert.MobaOutRefIdeal.Final.final _ _ _ _ _).trans (Cert.MobaOutIdeal.Final.final6 m c).symm

set_option maxRecDepth 16384 in
/-- The reference of the attention's query, key and value projection runs, keeps its arguments and leaves every counter at zero. -/
theorem frame_MobaQkvRefIdeal : Cert.quiescent_MobaQkvRefIdeal := fun m g _ =>
  (θ_run _ _ _).mono (fun r h => ⟨fun c => (h c).2, sem_eq_zero_of_no_sems (by decide) r.2⟩)
    (Cert.MobaQkvRefIdeal.Value.run m g)

set_option maxRecDepth 16384 in
/-- The attention's query, key and value projection and its reference end with the same result on the same arguments. -/
theorem algebraic_MobaQkv : Cert.algebraic_MobaQkvIdeal_MobaQkvRefIdeal := by
  pair_intro
  · run_from Cert.MobaQkvIdeal.Gen.run_main m g
  · run_from Cert.MobaQkvRefIdeal.Value.run m' g'
    obtain ⟨h0, h1⟩ := hagree c
    refine (Cert.MobaQkvRefIdeal.Final.final m' c).trans ?_
    rw [Cert.MobaQkvIdeal.Final.final]
    exact congrArg₂ Cert.MobaQkvIdeal.Final.result h0 h1

/-- All the claims. -/
theorem claim : Cert.Claim := ⟨Cert.Retention.Gen.facts, Cert.RetentionIdeal.Gen.facts, Cert.RetentionRefIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts,
  Cert.RetV.Gen.facts, Cert.RetVIdeal.Gen.facts, Cert.RetVRefIdeal.Gen.facts, Cert.RetGate.Gen.facts, Cert.RetGateIdeal.Gen.facts, Cert.RetGateRefIdeal.Gen.facts,
  Cert.RetQ.Gen.facts, Cert.RetQIdeal.Gen.facts, Cert.RetQRefIdeal.Gen.facts, Cert.RetK.Gen.facts, Cert.RetKIdeal.Gen.facts, Cert.RetKRefIdeal.Gen.facts,
  Cert.RetOut.Gen.facts, Cert.RetOutIdeal.Gen.facts, Cert.RetOutRefIdeal.Gen.facts, Cert.MobaOut.Gen.facts, Cert.MobaOutIdeal.Gen.facts, Cert.MobaOutRefIdeal.Gen.facts,
  Cert.MobaQkv.Gen.facts, Cert.MobaQkvIdeal.Gen.facts, Cert.MobaQkvRefIdeal.Gen.facts,
  fun m ρ _ => Cert.Retention.Gen.frame m ρ, fun m ρ _ => Cert.RetentionIdeal.Gen.frame m ρ, frame_RetentionRefIdeal,
  fun m ρ _ => Cert.FfnUp.Gen.frame m ρ, fun m ρ _ => Cert.FfnUpIdeal.Gen.frame m ρ, frame_FfnUpRefIdeal,
  fun m ρ _ => Cert.FfnDown.Gen.frame m ρ, fun m ρ _ => Cert.FfnDownIdeal.Gen.frame m ρ, frame_FfnDownRefIdeal,
  fun m ρ _ => Cert.RetV.Gen.frame m ρ, fun m ρ _ => Cert.RetVIdeal.Gen.frame m ρ, frame_RetVRefIdeal,
  fun m ρ _ => Cert.RetGate.Gen.frame m ρ, fun m ρ _ => Cert.RetGateIdeal.Gen.frame m ρ, frame_RetGateRefIdeal,
  fun m ρ _ => Cert.RetQ.Gen.frame m ρ, fun m ρ _ => Cert.RetQIdeal.Gen.frame m ρ, frame_RetQRefIdeal,
  fun m ρ _ => Cert.RetK.Gen.frame m ρ, fun m ρ _ => Cert.RetKIdeal.Gen.frame m ρ, frame_RetKRefIdeal,
  fun m ρ _ => Cert.RetOut.Gen.frame m ρ, fun m ρ _ => Cert.RetOutIdeal.Gen.frame m ρ, frame_RetOutRefIdeal,
  fun m ρ _ => Cert.MobaOut.Gen.frame m ρ, fun m ρ _ => Cert.MobaOutIdeal.Gen.frame m ρ, frame_MobaOutRefIdeal,
  fun m ρ _ => Cert.MobaQkv.Gen.frame m ρ, fun m ρ _ => Cert.MobaQkvIdeal.Gen.frame m ρ, frame_MobaQkvRefIdeal,
  trivial, algebraic_Retention, trivial, algebraic_FfnUp, trivial, algebraic_FfnDown,
  trivial, algebraic_RetV, trivial, algebraic_RetGate,
  trivial, algebraic_RetQ, trivial, algebraic_RetK,
  trivial, algebraic_RetOut, trivial, algebraic_MobaOut,
  trivial, algebraic_MobaQkv⟩

end Cert.Proof

end
